-- ==== Defs.lean ====
def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_scores_finite [hPre_scores_finite : Cert.Pre_scores_finite.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).1 = (fun _ => 1#1)
    ∧ (Cert.Pre_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).2.1 = (fun _ => 1#1)
    ∧ (Cert.Pre_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).2.2.1 = (fun _ => 1#1)
    ∧ (Cert.Pre_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).2.2.2.1 = (fun _ => 1#1)
    ∧ (Cert.Pre_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).2.2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_scores_finite [hPre_scores_finite : Cert.Pre_scores_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_scores_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))).1 = (fun _ => 1#1)
    ∧ (Cert.Pre_scores_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))).2.1 = (fun _ => 1#1)
    ∧ (Cert.Pre_scores_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))).2.2.1 = (fun _ => 1#1)
    ∧ (Cert.Pre_scores_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))).2.2.2.1 = (fun _ => 1#1)
    ∧ (Cert.Pre_scores_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))).2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_FfnUpCtx (m : (ℓ : Loc Cert.FfnUpCtx.nD Cert.FfnUpCtx.τ Cert.FfnUpCtx.sig) → Buf (Elt Bits) ℓ) : Prop :=
  True

def Pre_FfnUpCtxIdeal (m : (ℓ : Loc Cert.FfnUpCtxIdeal.nD Cert.FfnUpCtxIdeal.τ Cert.FfnUpCtxIdeal.sig) → Buf (Elt Ideal) ℓ) : Prop :=
  True

def Pre_UpCtxRefIdeal (m : (ℓ : Loc Cert.UpCtxRefIdeal.nD Cert.UpCtxRefIdeal.τ Cert.UpCtxRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_LastPrompt (m : (ℓ : Loc Cert.LastPrompt.nD Cert.LastPrompt.τ Cert.LastPrompt.sig) → Buf (Elt Bits) ℓ) : Prop :=
  True

def Pre_LastPromptIdeal (m : (ℓ : Loc Cert.LastPromptIdeal.nD Cert.LastPromptIdeal.τ Cert.LastPromptIdeal.sig) → Buf (Elt Ideal) ℓ) : Prop :=
  True

def Pre_LastPromptRefIdeal (m : (ℓ : Loc Cert.LastPromptRefIdeal.nD Cert.LastPromptRefIdeal.τ Cert.LastPromptRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_CastBr (m : (ℓ : Loc Cert.CastBr.nD Cert.CastBr.τ Cert.CastBr.sig) → Buf (Elt Bits) ℓ) : Prop :=
  True

def Pre_CastBrIdeal (m : (ℓ : Loc Cert.CastBrIdeal.nD Cert.CastBrIdeal.τ Cert.CastBrIdeal.sig) → Buf (Elt Ideal) ℓ) : Prop :=
  True

def Pre_CastBrRefIdeal (m : (ℓ : Loc Cert.CastBrRefIdeal.nD Cert.CastBrRefIdeal.τ Cert.CastBrRefIdeal.sig) → Buf (Elt Ideal) ℓ) : Prop :=
  True

def Pre_CastDown (m : (ℓ : Loc Cert.CastDown.nD Cert.CastDown.τ Cert.CastDown.sig) → Buf (Elt Bits) ℓ) : Prop :=
  True

def Pre_CastDownIdeal (m : (ℓ : Loc Cert.CastDownIdeal.nD Cert.CastDownIdeal.τ Cert.CastDownIdeal.sig) → Buf (Elt Ideal) ℓ) : Prop :=
  True

def Pre_CastDownRefIdeal (m : (ℓ : Loc Cert.CastDownRefIdeal.nD Cert.CastDownRefIdeal.τ Cert.CastDownRefIdeal.sig) → Buf (Elt Ideal) ℓ) : Prop :=
  True

def Pre_OpenPrompt (m : (ℓ : Loc Cert.OpenPrompt.nD Cert.OpenPrompt.τ Cert.OpenPrompt.sig) → Buf (Elt Bits) ℓ) : Prop :=
  True

def Pre_OpenPromptIdeal (m : (ℓ : Loc Cert.OpenPromptIdeal.nD Cert.OpenPromptIdeal.τ Cert.OpenPromptIdeal.sig) → Buf (Elt Ideal) ℓ) : Prop :=
  True

def Pre_OpenPromptRefIdeal (m : (ℓ : Loc Cert.OpenPromptRefIdeal.nD Cert.OpenPromptRefIdeal.τ Cert.OpenPromptRefIdeal.sig) → Buf (Elt Ideal) ℓ) : Prop :=
  True

def Pre_OpenSample (m : (ℓ : Loc Cert.OpenSample.nD Cert.OpenSample.τ Cert.OpenSample.sig) → Buf (Elt Bits) ℓ) : Prop :=
  True

def Pre_OpenSampleIdeal (m : (ℓ : Loc Cert.OpenSampleIdeal.nD Cert.OpenSampleIdeal.τ Cert.OpenSampleIdeal.sig) → Buf (Elt Ideal) ℓ) : Prop :=
  True

def Pre_OpenSampleRefIdeal (m : (ℓ : Loc Cert.OpenSampleRefIdeal.nD Cert.OpenSampleRefIdeal.τ Cert.OpenSampleRefIdeal.sig) → Buf (Elt Ideal) ℓ) : Prop :=
  True

def Pre_MidPrompt (m : (ℓ : Loc Cert.MidPrompt.nD Cert.MidPrompt.τ Cert.MidPrompt.sig) → Buf (Elt Bits) ℓ) : Prop :=
  True

def Pre_MidPromptIdeal (m : (ℓ : Loc Cert.MidPromptIdeal.nD Cert.MidPromptIdeal.τ Cert.MidPromptIdeal.sig) → Buf (Elt Ideal) ℓ) : Prop :=
  True

def Pre_MidPromptRefIdeal (m : (ℓ : Loc Cert.MidPromptRefIdeal.nD Cert.MidPromptRefIdeal.τ Cert.MidPromptRefIdeal.sig) → Buf (Elt Ideal) ℓ) : Prop :=
  True

def Pre_MidSample (m : (ℓ : Loc Cert.MidSample.nD Cert.MidSample.τ Cert.MidSample.sig) → Buf (Elt Bits) ℓ) : Prop :=
  True

def Pre_MidSampleIdeal (m : (ℓ : Loc Cert.MidSampleIdeal.nD Cert.MidSampleIdeal.τ Cert.MidSampleIdeal.sig) → Buf (Elt Ideal) ℓ) : Prop :=
  True

def Pre_MidSampleRefIdeal (m : (ℓ : Loc Cert.MidSampleRefIdeal.nD Cert.MidSampleRefIdeal.τ Cert.MidSampleRefIdeal.sig) → Buf (Elt Ideal) ℓ) : Prop :=
  True

def Pre_NextPrompt (m : (ℓ : Loc Cert.NextPrompt.nD Cert.NextPrompt.τ Cert.NextPrompt.sig) → Buf (Elt Bits) ℓ) : Prop :=
  True

def Pre_NextPromptIdeal (m : (ℓ : Loc Cert.NextPromptIdeal.nD Cert.NextPromptIdeal.τ Cert.NextPromptIdeal.sig) → Buf (Elt Ideal) ℓ) : Prop :=
  True

def Pre_NextPromptRefIdeal (m : (ℓ : Loc Cert.NextPromptRefIdeal.nD Cert.NextPromptRefIdeal.τ Cert.NextPromptRefIdeal.sig) → Buf (Elt Ideal) ℓ) : Prop :=
  True

def Pre_NextSample (m : (ℓ : Loc Cert.NextSample.nD Cert.NextSample.τ Cert.NextSample.sig) → Buf (Elt Bits) ℓ) : Prop :=
  True

def Pre_NextSampleIdeal (m : (ℓ : Loc Cert.NextSampleIdeal.nD Cert.NextSampleIdeal.τ Cert.NextSampleIdeal.sig) → Buf (Elt Ideal) ℓ) : Prop :=
  True

def Pre_NextSampleRefIdeal (m : (ℓ : Loc Cert.NextSampleRefIdeal.nD Cert.NextSampleRefIdeal.τ Cert.NextSampleRefIdeal.sig) → Buf (Elt Ideal) ℓ) : Prop :=
  True

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1)
      ∧ r.2.mem ((c.tc : Thread Cert.CtxAttn.nD Cert.CtxAttn.τ).loc Cert.CtxAttn.main_arg2) = m ((c.tc : Thread Cert.CtxAttn.nD Cert.CtxAttn.τ).loc Cert.CtxAttn.main_arg2)
      ∧ r.2.mem ((c.tc : Thread Cert.CtxAttn.nD Cert.CtxAttn.τ).loc Cert.CtxAttn.main_arg3) = m ((c.tc : Thread Cert.CtxAttn.nD Cert.CtxAttn.τ).loc Cert.CtxAttn.main_arg3))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3))
      ∧ r.2.sem = fun _ => 0)

def quiescent_CtxAttnIdeal_pre_scores_finite [hCtxAttnIdeal : Cert.CtxAttnIdeal.Facts] [hPre_scores_finite : Cert.Pre_scores_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_scores_finite m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_CtxRefIdeal_pre_scores_finite [hCtxRefIdeal : Cert.CtxRefIdeal.Facts] [hPre_scores_finite : Cert.Pre_scores_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_scores_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_FfnUpCtx [hFfnUpCtx : Cert.FfnUpCtx.Facts] : Prop :=
  ∀ (m : (ℓ : Loc Cert.FfnUpCtx.nD Cert.FfnUpCtx.τ Cert.FfnUpCtx.sig) → Buf (Elt Bits) ℓ) (g : Dev Cert.FfnUpCtx.nD → PrngReg), Pre_FfnUpCtx m →
    θ_run (Cert.FfnUpCtx.defs (F := Bits)) (onTc (τ := Cert.FfnUpCtx.τ) (Cert.FfnUpCtx.main (F := Bits))) ⟨m, fun _ => 0, g⟩ (fun r => (∀ c : Dev Cert.FfnUpCtx.nD,
      r.2.mem ((c.tc : Thread Cert.FfnUpCtx.nD Cert.FfnUpCtx.τ).loc Cert.FfnUpCtx.main_arg0) = m ((c.tc : Thread Cert.FfnUpCtx.nD Cert.FfnUpCtx.τ).loc Cert.FfnUpCtx.main_arg0)
      ∧ r.2.mem ((c.tc : Thread Cert.FfnUpCtx.nD Cert.FfnUpCtx.τ).loc Cert.FfnUpCtx.main_arg1) = m ((c.tc : Thread Cert.FfnUpCtx.nD Cert.FfnUpCtx.τ).loc Cert.FfnUpCtx.main_arg1)
      ∧ r.2.mem ((c.tc : Thread Cert.FfnUpCtx.nD Cert.FfnUpCtx.τ).loc Cert.FfnUpCtx.main_arg2) = m ((c.tc : Thread Cert.FfnUpCtx.nD Cert.FfnUpCtx.τ).loc Cert.FfnUpCtx.main_arg2)
      ∧ r.2.mem ((c.tc : Thread Cert.FfnUpCtx.nD Cert.FfnUpCtx.τ).loc Cert.FfnUpCtx.main_arg3) = m ((c.tc : Thread Cert.FfnUpCtx.nD Cert.FfnUpCtx.τ).loc Cert.FfnUpCtx.main_arg3))
      ∧ r.2.sem = fun _ => 0)

def quiescent_FfnUpCtxIdeal [hFfnUpCtxIdeal : Cert.FfnUpCtxIdeal.Facts] : Prop :=
  ∀ (m : (ℓ : Loc Cert.FfnUpCtxIdeal.nD Cert.FfnUpCtxIdeal.τ Cert.FfnUpCtxIdeal.sig) → Buf (Elt Ideal) ℓ) (g : Dev Cert.FfnUpCtxIdeal.nD → PrngReg), Pre_FfnUpCtxIdeal m →
    θ_run (Cert.FfnUpCtxIdeal.defs (F := Ideal)) (onTc (τ := Cert.FfnUpCtxIdeal.τ) (Cert.FfnUpCtxIdeal.main (F := Ideal))) ⟨m, fun _ => 0, g⟩ (fun r => (∀ c : Dev Cert.FfnUpCtxIdeal.nD,
      r.2.mem ((c.tc : Thread Cert.FfnUpCtxIdeal.nD Cert.FfnUpCtxIdeal.τ).loc Cert.FfnUpCtxIdeal.main_arg0) = m ((c.tc : Thread Cert.FfnUpCtxIdeal.nD Cert.FfnUpCtxIdeal.τ).loc Cert.FfnUpCtxIdeal.main_arg0)
      ∧ r.2.mem ((c.tc : Thread Cert.FfnUpCtxIdeal.nD Cert.FfnUpCtxIdeal.τ).loc Cert.FfnUpCtxIdeal.main_arg1) = m ((c.tc : Thread Cert.FfnUpCtxIdeal.nD Cert.FfnUpCtxIdeal.τ).loc Cert.FfnUpCtxIdeal.main_arg1)
      ∧ r.2.mem ((c.tc : Thread Cert.FfnUpCtxIdeal.nD Cert.FfnUpCtxIdeal.τ).loc Cert.FfnUpCtxIdeal.main_arg2) = m ((c.tc : Thread Cert.FfnUpCtxIdeal.nD Cert.FfnUpCtxIdeal.τ).loc Cert.FfnUpCtxIdeal.main_arg2)
      ∧ r.2.mem ((c.tc : Thread Cert.FfnUpCtxIdeal.nD Cert.FfnUpCtxIdeal.τ).loc Cert.FfnUpCtxIdeal.main_arg3) = m ((c.tc : Thread Cert.FfnUpCtxIdeal.nD Cert.FfnUpCtxIdeal.τ).loc Cert.FfnUpCtxIdeal.main_arg3))
      ∧ r.2.sem = fun _ => 0)

def quiescent_UpCtxRefIdeal [hUpCtxRefIdeal : Cert.UpCtxRefIdeal.Facts] : Prop :=
  ∀ (m : (ℓ : Loc Cert.UpCtxRefIdeal.nD Cert.UpCtxRefIdeal.τ Cert.UpCtxRefIdeal.sig) → Buf (Elt Ideal) ℓ) (g : Dev Cert.UpCtxRefIdeal.nD → PrngReg), Pre_UpCtxRefIdeal m →
    θ_run (Cert.UpCtxRefIdeal.defs (F := Ideal)) (onTc (τ := Cert.UpCtxRefIdeal.τ) (Cert.UpCtxRefIdeal.main (F := Ideal))) ⟨m, fun _ => 0, g⟩ (fun r => (∀ c : Dev Cert.UpCtxRefIdeal.nD,
      r.2.mem ((c.tc : Thread Cert.UpCtxRefIdeal.nD Cert.UpCtxRefIdeal.τ).loc Cert.UpCtxRefIdeal.main_arg0) = m ((c.tc : Thread Cert.UpCtxRefIdeal.nD Cert.UpCtxRefIdeal.τ).loc Cert.UpCtxRefIdeal.main_arg0)
      ∧ r.2.mem ((c.tc : Thread Cert.UpCtxRefIdeal.nD Cert.UpCtxRefIdeal.τ).loc Cert.UpCtxRefIdeal.main_arg1) = m ((c.tc : Thread Cert.UpCtxRefIdeal.nD Cert.UpCtxRefIdeal.τ).loc Cert.UpCtxRefIdeal.main_arg1)
      ∧ r.2.mem ((c.tc : Thread Cert.UpCtxRefIdeal.nD Cert.UpCtxRefIdeal.τ).loc Cert.UpCtxRefIdeal.main_arg2) = m ((c.tc : Thread Cert.UpCtxRefIdeal.nD Cert.UpCtxRefIdeal.τ).loc Cert.UpCtxRefIdeal.main_arg2)
      ∧ r.2.mem ((c.tc : Thread Cert.UpCtxRefIdeal.nD Cert.UpCtxRefIdeal.τ).loc Cert.UpCtxRefIdeal.main_arg3) = m ((c.tc : Thread Cert.UpCtxRefIdeal.nD Cert.UpCtxRefIdeal.τ).loc Cert.UpCtxRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_LastPrompt [hLastPrompt : Cert.LastPrompt.Facts] : Prop :=
  ∀ (m : (ℓ : Loc Cert.LastPrompt.nD Cert.LastPrompt.τ Cert.LastPrompt.sig) → Buf (Elt Bits) ℓ) (g : Dev Cert.LastPrompt.nD → PrngReg), Pre_LastPrompt m →
    θ_run (Cert.LastPrompt.defs (F := Bits)) (onTc (τ := Cert.LastPrompt.τ) (Cert.LastPrompt.main (F := Bits))) ⟨m, fun _ => 0, g⟩ (fun r => (∀ c : Dev Cert.LastPrompt.nD,
      r.2.mem ((c.tc : Thread Cert.LastPrompt.nD Cert.LastPrompt.τ).loc Cert.LastPrompt.main_arg0) = m ((c.tc : Thread Cert.LastPrompt.nD Cert.LastPrompt.τ).loc Cert.LastPrompt.main_arg0)
      ∧ r.2.mem ((c.tc : Thread Cert.LastPrompt.nD Cert.LastPrompt.τ).loc Cert.LastPrompt.main_arg1) = m ((c.tc : Thread Cert.LastPrompt.nD Cert.LastPrompt.τ).loc Cert.LastPrompt.main_arg1)
      ∧ r.2.mem ((c.tc : Thread Cert.LastPrompt.nD Cert.LastPrompt.τ).loc Cert.LastPrompt.main_arg2) = m ((c.tc : Thread Cert.LastPrompt.nD Cert.LastPrompt.τ).loc Cert.LastPrompt.main_arg2)
      ∧ r.2.mem ((c.tc : Thread Cert.LastPrompt.nD Cert.LastPrompt.τ).loc Cert.LastPrompt.main_arg3) = m ((c.tc : Thread Cert.LastPrompt.nD Cert.LastPrompt.τ).loc Cert.LastPrompt.main_arg3)
      ∧ r.2.mem ((c.tc : Thread Cert.LastPrompt.nD Cert.LastPrompt.τ).loc Cert.LastPrompt.main_arg4) = m ((c.tc : Thread Cert.LastPrompt.nD Cert.LastPrompt.τ).loc Cert.LastPrompt.main_arg4))
      ∧ r.2.sem = fun _ => 0)

def quiescent_LastPromptIdeal [hLastPromptIdeal : Cert.LastPromptIdeal.Facts] : Prop :=
  ∀ (m : (ℓ : Loc Cert.LastPromptIdeal.nD Cert.LastPromptIdeal.τ Cert.LastPromptIdeal.sig) → Buf (Elt Ideal) ℓ) (g : Dev Cert.LastPromptIdeal.nD → PrngReg), Pre_LastPromptIdeal m →
    θ_run (Cert.LastPromptIdeal.defs (F := Ideal)) (onTc (τ := Cert.LastPromptIdeal.τ) (Cert.LastPromptIdeal.main (F := Ideal))) ⟨m, fun _ => 0, g⟩ (fun r => (∀ c : Dev Cert.LastPromptIdeal.nD,
      r.2.mem ((c.tc : Thread Cert.LastPromptIdeal.nD Cert.LastPromptIdeal.τ).loc Cert.LastPromptIdeal.main_arg0) = m ((c.tc : Thread Cert.LastPromptIdeal.nD Cert.LastPromptIdeal.τ).loc Cert.LastPromptIdeal.main_arg0)
      ∧ r.2.mem ((c.tc : Thread Cert.LastPromptIdeal.nD Cert.LastPromptIdeal.τ).loc Cert.LastPromptIdeal.main_arg1) = m ((c.tc : Thread Cert.LastPromptIdeal.nD Cert.LastPromptIdeal.τ).loc Cert.LastPromptIdeal.main_arg1)
      ∧ r.2.mem ((c.tc : Thread Cert.LastPromptIdeal.nD Cert.LastPromptIdeal.τ).loc Cert.LastPromptIdeal.main_arg2) = m ((c.tc : Thread Cert.LastPromptIdeal.nD Cert.LastPromptIdeal.τ).loc Cert.LastPromptIdeal.main_arg2)
      ∧ r.2.mem ((c.tc : Thread Cert.LastPromptIdeal.nD Cert.LastPromptIdeal.τ).loc Cert.LastPromptIdeal.main_arg3) = m ((c.tc : Thread Cert.LastPromptIdeal.nD Cert.LastPromptIdeal.τ).loc Cert.LastPromptIdeal.main_arg3)
      ∧ r.2.mem ((c.tc : Thread Cert.LastPromptIdeal.nD Cert.LastPromptIdeal.τ).loc Cert.LastPromptIdeal.main_arg4) = m ((c.tc : Thread Cert.LastPromptIdeal.nD Cert.LastPromptIdeal.τ).loc Cert.LastPromptIdeal.main_arg4))
      ∧ r.2.sem = fun _ => 0)

def quiescent_LastPromptRefIdeal [hLastPromptRefIdeal : Cert.LastPromptRefIdeal.Facts] : Prop :=
  ∀ (m : (ℓ : Loc Cert.LastPromptRefIdeal.nD Cert.LastPromptRefIdeal.τ Cert.LastPromptRefIdeal.sig) → Buf (Elt Ideal) ℓ) (g : Dev Cert.LastPromptRefIdeal.nD → PrngReg), Pre_LastPromptRefIdeal m →
    θ_run (Cert.LastPromptRefIdeal.defs (F := Ideal)) (onTc (τ := Cert.LastPromptRefIdeal.τ) (Cert.LastPromptRefIdeal.main (F := Ideal))) ⟨m, fun _ => 0, g⟩ (fun r => (∀ c : Dev Cert.LastPromptRefIdeal.nD,
      r.2.mem ((c.tc : Thread Cert.LastPromptRefIdeal.nD Cert.LastPromptRefIdeal.τ).loc Cert.LastPromptRefIdeal.main_arg0) = m ((c.tc : Thread Cert.LastPromptRefIdeal.nD Cert.LastPromptRefIdeal.τ).loc Cert.LastPromptRefIdeal.main_arg0)
      ∧ r.2.mem ((c.tc : Thread Cert.LastPromptRefIdeal.nD Cert.LastPromptRefIdeal.τ).loc Cert.LastPromptRefIdeal.main_arg1) = m ((c.tc : Thread Cert.LastPromptRefIdeal.nD Cert.LastPromptRefIdeal.τ).loc Cert.LastPromptRefIdeal.main_arg1)
      ∧ r.2.mem ((c.tc : Thread Cert.LastPromptRefIdeal.nD Cert.LastPromptRefIdeal.τ).loc Cert.LastPromptRefIdeal.main_arg2) = m ((c.tc : Thread Cert.LastPromptRefIdeal.nD Cert.LastPromptRefIdeal.τ).loc Cert.LastPromptRefIdeal.main_arg2)
      ∧ r.2.mem ((c.tc : Thread Cert.LastPromptRefIdeal.nD Cert.LastPromptRefIdeal.τ).loc Cert.LastPromptRefIdeal.main_arg3) = m ((c.tc : Thread Cert.LastPromptRefIdeal.nD Cert.LastPromptRefIdeal.τ).loc Cert.LastPromptRefIdeal.main_arg3)
      ∧ r.2.mem ((c.tc : Thread Cert.LastPromptRefIdeal.nD Cert.LastPromptRefIdeal.τ).loc Cert.LastPromptRefIdeal.main_arg4) = m ((c.tc : Thread Cert.LastPromptRefIdeal.nD Cert.LastPromptRefIdeal.τ).loc Cert.LastPromptRefIdeal.main_arg4))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2)
      ∧ r.2.mem ((c.tc : Thread Cert.LastSampleRefIdeal.nD Cert.LastSampleRefIdeal.τ).loc Cert.LastSampleRefIdeal.main_arg3) = m ((c.tc : Thread Cert.LastSampleRefIdeal.nD Cert.LastSampleRefIdeal.τ).loc Cert.LastSampleRefIdeal.main_arg3)
      ∧ r.2.mem ((c.tc : Thread Cert.LastSampleRefIdeal.nD Cert.LastSampleRefIdeal.τ).loc Cert.LastSampleRefIdeal.main_arg4) = m ((c.tc : Thread Cert.LastSampleRefIdeal.nD Cert.LastSampleRefIdeal.τ).loc Cert.LastSampleRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_CastBr [hCastBr : Cert.CastBr.Facts] : Prop :=
  ∀ (m : (ℓ : Loc Cert.CastBr.nD Cert.CastBr.τ Cert.CastBr.sig) → Buf (Elt Bits) ℓ) (g : Dev Cert.CastBr.nD → PrngReg), Pre_CastBr m →
    θ_run (Cert.CastBr.defs (F := Bits)) (onTc (τ := Cert.CastBr.τ) (Cert.CastBr.main (F := Bits))) ⟨m, fun _ => 0, g⟩ (fun r => (∀ c : Dev Cert.CastBr.nD,
      r.2.mem ((c.tc : Thread Cert.CastBr.nD Cert.CastBr.τ).loc Cert.CastBr.main_arg0) = m ((c.tc : Thread Cert.CastBr.nD Cert.CastBr.τ).loc Cert.CastBr.main_arg0))
      ∧ r.2.sem = fun _ => 0)

def quiescent_CastBrIdeal [hCastBrIdeal : Cert.CastBrIdeal.Facts] : Prop :=
  ∀ (m : (ℓ : Loc Cert.CastBrIdeal.nD Cert.CastBrIdeal.τ Cert.CastBrIdeal.sig) → Buf (Elt Ideal) ℓ) (g : Dev Cert.CastBrIdeal.nD → PrngReg), Pre_CastBrIdeal m →
    θ_run (Cert.CastBrIdeal.defs (F := Ideal)) (onTc (τ := Cert.CastBrIdeal.τ) (Cert.CastBrIdeal.main (F := Ideal))) ⟨m, fun _ => 0, g⟩ (fun r => (∀ c : Dev Cert.CastBrIdeal.nD,
      r.2.mem ((c.tc : Thread Cert.CastBrIdeal.nD Cert.CastBrIdeal.τ).loc Cert.CastBrIdeal.main_arg0) = m ((c.tc : Thread Cert.CastBrIdeal.nD Cert.CastBrIdeal.τ).loc Cert.CastBrIdeal.main_arg0))
      ∧ r.2.sem = fun _ => 0)

def quiescent_CastBrRefIdeal [hCastBrRefIdeal : Cert.CastBrRefIdeal.Facts] : Prop :=
  ∀ (m : (ℓ : Loc Cert.CastBrRefIdeal.nD Cert.CastBrRefIdeal.τ Cert.CastBrRefIdeal.sig) → Buf (Elt Ideal) ℓ) (g : Dev Cert.CastBrRefIdeal.nD → PrngReg), Pre_CastBrRefIdeal m →
    θ_run (Cert.CastBrRefIdeal.defs (F := Ideal)) (onTc (τ := Cert.CastBrRefIdeal.τ) (Cert.CastBrRefIdeal.main (F := Ideal))) ⟨m, fun _ => 0, g⟩ (fun r => (∀ c : Dev Cert.CastBrRefIdeal.nD,
      r.2.mem ((c.tc : Thread Cert.CastBrRefIdeal.nD Cert.CastBrRefIdeal.τ).loc Cert.CastBrRefIdeal.main_arg0) = m ((c.tc : Thread Cert.CastBrRefIdeal.nD Cert.CastBrRefIdeal.τ).loc Cert.CastBrRefIdeal.main_arg0))
      ∧ r.2.sem = fun _ => 0)

def quiescent_CastDown [hCastDown : Cert.CastDown.Facts] : Prop :=
  ∀ (m : (ℓ : Loc Cert.CastDown.nD Cert.CastDown.τ Cert.CastDown.sig) → Buf (Elt Bits) ℓ) (g : Dev Cert.CastDown.nD → PrngReg), Pre_CastDown m →
    θ_run (Cert.CastDown.defs (F := Bits)) (onTc (τ := Cert.CastDown.τ) (Cert.CastDown.main (F := Bits))) ⟨m, fun _ => 0, g⟩ (fun r => (∀ c : Dev Cert.CastDown.nD,
      r.2.mem ((c.tc : Thread Cert.CastDown.nD Cert.CastDown.τ).loc Cert.CastDown.main_arg0) = m ((c.tc : Thread Cert.CastDown.nD Cert.CastDown.τ).loc Cert.CastDown.main_arg0))
      ∧ r.2.sem = fun _ => 0)

def quiescent_CastDownIdeal [hCastDownIdeal : Cert.CastDownIdeal.Facts] : Prop :=
  ∀ (m : (ℓ : Loc Cert.CastDownIdeal.nD Cert.CastDownIdeal.τ Cert.CastDownIdeal.sig) → Buf (Elt Ideal) ℓ) (g : Dev Cert.CastDownIdeal.nD → PrngReg), Pre_CastDownIdeal m →
    θ_run (Cert.CastDownIdeal.defs (F := Ideal)) (onTc (τ := Cert.CastDownIdeal.τ) (Cert.CastDownIdeal.main (F := Ideal))) ⟨m, fun _ => 0, g⟩ (fun r => (∀ c : Dev Cert.CastDownIdeal.nD,
      r.2.mem ((c.tc : Thread Cert.CastDownIdeal.nD Cert.CastDownIdeal.τ).loc Cert.CastDownIdeal.main_arg0) = m ((c.tc : Thread Cert.CastDownIdeal.nD Cert.CastDownIdeal.τ).loc Cert.CastDownIdeal.main_arg0))
      ∧ r.2.sem = fun _ => 0)

def quiescent_CastDownRefIdeal [hCastDownRefIdeal : Cert.CastDownRefIdeal.Facts] : Prop :=
  ∀ (m : (ℓ : Loc Cert.CastDownRefIdeal.nD Cert.CastDownRefIdeal.τ Cert.CastDownRefIdeal.sig) → Buf (Elt Ideal) ℓ) (g : Dev Cert.CastDownRefIdeal.nD → PrngReg), Pre_CastDownRefIdeal m →
    θ_run (Cert.CastDownRefIdeal.defs (F := Ideal)) (onTc (τ := Cert.CastDownRefIdeal.τ) (Cert.CastDownRefIdeal.main (F := Ideal))) ⟨m, fun _ => 0, g⟩ (fun r => (∀ c : Dev Cert.CastDownRefIdeal.nD,
      r.2.mem ((c.tc : Thread Cert.CastDownRefIdeal.nD Cert.CastDownRefIdeal.τ).loc Cert.CastDownRefIdeal.main_arg0) = m ((c.tc : Thread Cert.CastDownRefIdeal.nD Cert.CastDownRefIdeal.τ).loc Cert.CastDownRefIdeal.main_arg0))
      ∧ r.2.sem = fun _ => 0)

def quiescent_OpenPrompt [hOpenPrompt : Cert.OpenPrompt.Facts] : Prop :=
  ∀ (m : (ℓ : Loc Cert.OpenPrompt.nD Cert.OpenPrompt.τ Cert.OpenPrompt.sig) → Buf (Elt Bits) ℓ) (g : Dev Cert.OpenPrompt.nD → PrngReg), Pre_OpenPrompt m →
    θ_run (Cert.OpenPrompt.defs (F := Bits)) (onTc (τ := Cert.OpenPrompt.τ) (Cert.OpenPrompt.main (F := Bits))) ⟨m, fun _ => 0, g⟩ (fun r => (∀ c : Dev Cert.OpenPrompt.nD,
      r.2.mem ((c.tc : Thread Cert.OpenPrompt.nD Cert.OpenPrompt.τ).loc Cert.OpenPrompt.main_arg0) = m ((c.tc : Thread Cert.OpenPrompt.nD Cert.OpenPrompt.τ).loc Cert.OpenPrompt.main_arg0)
      ∧ r.2.mem ((c.tc : Thread Cert.OpenPrompt.nD Cert.OpenPrompt.τ).loc Cert.OpenPrompt.main_arg1) = m ((c.tc : Thread Cert.OpenPrompt.nD Cert.OpenPrompt.τ).loc Cert.OpenPrompt.main_arg1))
      ∧ r.2.sem = fun _ => 0)

def quiescent_OpenPromptIdeal [hOpenPromptIdeal : Cert.OpenPromptIdeal.Facts] : Prop :=
  ∀ (m : (ℓ : Loc Cert.OpenPromptIdeal.nD Cert.OpenPromptIdeal.τ Cert.OpenPromptIdeal.sig) → Buf (Elt Ideal) ℓ) (g : Dev Cert.OpenPromptIdeal.nD → PrngReg), Pre_OpenPromptIdeal m →
    θ_run (Cert.OpenPromptIdeal.defs (F := Ideal)) (onTc (τ := Cert.OpenPromptIdeal.τ) (Cert.OpenPromptIdeal.main (F := Ideal))) ⟨m, fun _ => 0, g⟩ (fun r => (∀ c : Dev Cert.OpenPromptIdeal.nD,
      r.2.mem ((c.tc : Thread Cert.OpenPromptIdeal.nD Cert.OpenPromptIdeal.τ).loc Cert.OpenPromptIdeal.main_arg0) = m ((c.tc : Thread Cert.OpenPromptIdeal.nD Cert.OpenPromptIdeal.τ).loc Cert.OpenPromptIdeal.main_arg0)
      ∧ r.2.mem ((c.tc : Thread Cert.OpenPromptIdeal.nD Cert.OpenPromptIdeal.τ).loc Cert.OpenPromptIdeal.main_arg1) = m ((c.tc : Thread Cert.OpenPromptIdeal.nD Cert.OpenPromptIdeal.τ).loc Cert.OpenPromptIdeal.main_arg1))
      ∧ r.2.sem = fun _ => 0)

def quiescent_OpenPromptRefIdeal [hOpenPromptRefIdeal : Cert.OpenPromptRefIdeal.Facts] : Prop :=
  ∀ (m : (ℓ : Loc Cert.OpenPromptRefIdeal.nD Cert.OpenPromptRefIdeal.τ Cert.OpenPromptRefIdeal.sig) → Buf (Elt Ideal) ℓ) (g : Dev Cert.OpenPromptRefIdeal.nD → PrngReg), Pre_OpenPromptRefIdeal m →
    θ_run (Cert.OpenPromptRefIdeal.defs (F := Ideal)) (onTc (τ := Cert.OpenPromptRefIdeal.τ) (Cert.OpenPromptRefIdeal.main (F := Ideal))) ⟨m, fun _ => 0, g⟩ (fun r => (∀ c : Dev Cert.OpenPromptRefIdeal.nD,
      r.2.mem ((c.tc : Thread Cert.OpenPromptRefIdeal.nD Cert.OpenPromptRefIdeal.τ).loc Cert.OpenPromptRefIdeal.main_arg0) = m ((c.tc : Thread Cert.OpenPromptRefIdeal.nD Cert.OpenPromptRefIdeal.τ).loc Cert.OpenPromptRefIdeal.main_arg0)
      ∧ r.2.mem ((c.tc : Thread Cert.OpenPromptRefIdeal.nD Cert.OpenPromptRefIdeal.τ).loc Cert.OpenPromptRefIdeal.main_arg1) = m ((c.tc : Thread Cert.OpenPromptRefIdeal.nD Cert.OpenPromptRefIdeal.τ).loc Cert.OpenPromptRefIdeal.main_arg1))
      ∧ r.2.sem = fun _ => 0)

def quiescent_OpenSample [hOpenSample : Cert.OpenSample.Facts] : Prop :=
  ∀ (m : (ℓ : Loc Cert.OpenSample.nD Cert.OpenSample.τ Cert.OpenSample.sig) → Buf (Elt Bits) ℓ) (g : Dev Cert.OpenSample.nD → PrngReg), Pre_OpenSample m →
    θ_run (Cert.OpenSample.defs (F := Bits)) (onTc (τ := Cert.OpenSample.τ) (Cert.OpenSample.main (F := Bits))) ⟨m, fun _ => 0, g⟩ (fun r => (∀ c : Dev Cert.OpenSample.nD,
      r.2.mem ((c.tc : Thread Cert.OpenSample.nD Cert.OpenSample.τ).loc Cert.OpenSample.main_arg0) = m ((c.tc : Thread Cert.OpenSample.nD Cert.OpenSample.τ).loc Cert.OpenSample.main_arg0)
      ∧ r.2.mem ((c.tc : Thread Cert.OpenSample.nD Cert.OpenSample.τ).loc Cert.OpenSample.main_arg1) = m ((c.tc : Thread Cert.OpenSample.nD Cert.OpenSample.τ).loc Cert.OpenSample.main_arg1))
      ∧ r.2.sem = fun _ => 0)

def quiescent_OpenSampleIdeal [hOpenSampleIdeal : Cert.OpenSampleIdeal.Facts] : Prop :=
  ∀ (m : (ℓ : Loc Cert.OpenSampleIdeal.nD Cert.OpenSampleIdeal.τ Cert.OpenSampleIdeal.sig) → Buf (Elt Ideal) ℓ) (g : Dev Cert.OpenSampleIdeal.nD → PrngReg), Pre_OpenSampleIdeal m →
    θ_run (Cert.OpenSampleIdeal.defs (F := Ideal)) (onTc (τ := Cert.OpenSampleIdeal.τ) (Cert.OpenSampleIdeal.main (F := Ideal))) ⟨m, fun _ => 0, g⟩ (fun r => (∀ c : Dev Cert.OpenSampleIdeal.nD,
      r.2.mem ((c.tc : Thread Cert.OpenSampleIdeal.nD Cert.OpenSampleIdeal.τ).loc Cert.OpenSampleIdeal.main_arg0) = m ((c.tc : Thread Cert.OpenSampleIdeal.nD Cert.OpenSampleIdeal.τ).loc Cert.OpenSampleIdeal.main_arg0)
      ∧ r.2.mem ((c.tc : Thread Cert.OpenSampleIdeal.nD Cert.OpenSampleIdeal.τ).loc Cert.OpenSampleIdeal.main_arg1) = m ((c.tc : Thread Cert.OpenSampleIdeal.nD Cert.OpenSampleIdeal.τ).loc Cert.OpenSampleIdeal.main_arg1))
      ∧ r.2.sem = fun _ => 0)

def quiescent_OpenSampleRefIdeal [hOpenSampleRefIdeal : Cert.OpenSampleRefIdeal.Facts] : Prop :=
  ∀ (m : (ℓ : Loc Cert.OpenSampleRefIdeal.nD Cert.OpenSampleRefIdeal.τ Cert.OpenSampleRefIdeal.sig) → Buf (Elt Ideal) ℓ) (g : Dev Cert.OpenSampleRefIdeal.nD → PrngReg), Pre_OpenSampleRefIdeal m →
    θ_run (Cert.OpenSampleRefIdeal.defs (F := Ideal)) (onTc (τ := Cert.OpenSampleRefIdeal.τ) (Cert.OpenSampleRefIdeal.main (F := Ideal))) ⟨m, fun _ => 0, g⟩ (fun r => (∀ c : Dev Cert.OpenSampleRefIdeal.nD,
      r.2.mem ((c.tc : Thread Cert.OpenSampleRefIdeal.nD Cert.OpenSampleRefIdeal.τ).loc Cert.OpenSampleRefIdeal.main_arg0) = m ((c.tc : Thread Cert.OpenSampleRefIdeal.nD Cert.OpenSampleRefIdeal.τ).loc Cert.OpenSampleRefIdeal.main_arg0)
      ∧ r.2.mem ((c.tc : Thread Cert.OpenSampleRefIdeal.nD Cert.OpenSampleRefIdeal.τ).loc Cert.OpenSampleRefIdeal.main_arg1) = m ((c.tc : Thread Cert.OpenSampleRefIdeal.nD Cert.OpenSampleRefIdeal.τ).loc Cert.OpenSampleRefIdeal.main_arg1))
      ∧ r.2.sem = fun _ => 0)

def quiescent_MidPrompt [hMidPrompt : Cert.MidPrompt.Facts] : Prop :=
  ∀ (m : (ℓ : Loc Cert.MidPrompt.nD Cert.MidPrompt.τ Cert.MidPrompt.sig) → Buf (Elt Bits) ℓ) (g : Dev Cert.MidPrompt.nD → PrngReg), Pre_MidPrompt m →
    θ_run (Cert.MidPrompt.defs (F := Bits)) (onTc (τ := Cert.MidPrompt.τ) (Cert.MidPrompt.main (F := Bits))) ⟨m, fun _ => 0, g⟩ (fun r => (∀ c : Dev Cert.MidPrompt.nD,
      r.2.mem ((c.tc : Thread Cert.MidPrompt.nD Cert.MidPrompt.τ).loc Cert.MidPrompt.main_arg0) = m ((c.tc : Thread Cert.MidPrompt.nD Cert.MidPrompt.τ).loc Cert.MidPrompt.main_arg0)
      ∧ r.2.mem ((c.tc : Thread Cert.MidPrompt.nD Cert.MidPrompt.τ).loc Cert.MidPrompt.main_arg1) = m ((c.tc : Thread Cert.MidPrompt.nD Cert.MidPrompt.τ).loc Cert.MidPrompt.main_arg1)
      ∧ r.2.mem ((c.tc : Thread Cert.MidPrompt.nD Cert.MidPrompt.τ).loc Cert.MidPrompt.main_arg2) = m ((c.tc : Thread Cert.MidPrompt.nD Cert.MidPrompt.τ).loc Cert.MidPrompt.main_arg2)
      ∧ r.2.mem ((c.tc : Thread Cert.MidPrompt.nD Cert.MidPrompt.τ).loc Cert.MidPrompt.main_arg3) = m ((c.tc : Thread Cert.MidPrompt.nD Cert.MidPrompt.τ).loc Cert.MidPrompt.main_arg3)
      ∧ r.2.mem ((c.tc : Thread Cert.MidPrompt.nD Cert.MidPrompt.τ).loc Cert.MidPrompt.main_arg4) = m ((c.tc : Thread Cert.MidPrompt.nD Cert.MidPrompt.τ).loc Cert.MidPrompt.main_arg4))
      ∧ r.2.sem = fun _ => 0)

def quiescent_MidPromptIdeal [hMidPromptIdeal : Cert.MidPromptIdeal.Facts] : Prop :=
  ∀ (m : (ℓ : Loc Cert.MidPromptIdeal.nD Cert.MidPromptIdeal.τ Cert.MidPromptIdeal.sig) → Buf (Elt Ideal) ℓ) (g : Dev Cert.MidPromptIdeal.nD → PrngReg), Pre_MidPromptIdeal m →
    θ_run (Cert.MidPromptIdeal.defs (F := Ideal)) (onTc (τ := Cert.MidPromptIdeal.τ) (Cert.MidPromptIdeal.main (F := Ideal))) ⟨m, fun _ => 0, g⟩ (fun r => (∀ c : Dev Cert.MidPromptIdeal.nD,
      r.2.mem ((c.tc : Thread Cert.MidPromptIdeal.nD Cert.MidPromptIdeal.τ).loc Cert.MidPromptIdeal.main_arg0) = m ((c.tc : Thread Cert.MidPromptIdeal.nD Cert.MidPromptIdeal.τ).loc Cert.MidPromptIdeal.main_arg0)
      ∧ r.2.mem ((c.tc : Thread Cert.MidPromptIdeal.nD Cert.MidPromptIdeal.τ).loc Cert.MidPromptIdeal.main_arg1) = m ((c.tc : Thread Cert.MidPromptIdeal.nD Cert.MidPromptIdeal.τ).loc Cert.MidPromptIdeal.main_arg1)
      ∧ r.2.mem ((c.tc : Thread Cert.MidPromptIdeal.nD Cert.MidPromptIdeal.τ).loc Cert.MidPromptIdeal.main_arg2) = m ((c.tc : Thread Cert.MidPromptIdeal.nD Cert.MidPromptIdeal.τ).loc Cert.MidPromptIdeal.main_arg2)
      ∧ r.2.mem ((c.tc : Thread Cert.MidPromptIdeal.nD Cert.MidPromptIdeal.τ).loc Cert.MidPromptIdeal.main_arg3) = m ((c.tc : Thread Cert.MidPromptIdeal.nD Cert.MidPromptIdeal.τ).loc Cert.MidPromptIdeal.main_arg3)
      ∧ r.2.mem ((c.tc : Thread Cert.MidPromptIdeal.nD Cert.MidPromptIdeal.τ).loc Cert.MidPromptIdeal.main_arg4) = m ((c.tc : Thread Cert.MidPromptIdeal.nD Cert.MidPromptIdeal.τ).loc Cert.MidPromptIdeal.main_arg4))
      ∧ r.2.sem = fun _ => 0)

def quiescent_MidPromptRefIdeal [hMidPromptRefIdeal : Cert.MidPromptRefIdeal.Facts] : Prop :=
  ∀ (m : (ℓ : Loc Cert.MidPromptRefIdeal.nD Cert.MidPromptRefIdeal.τ Cert.MidPromptRefIdeal.sig) → Buf (Elt Ideal) ℓ) (g : Dev Cert.MidPromptRefIdeal.nD → PrngReg), Pre_MidPromptRefIdeal m →
    θ_run (Cert.MidPromptRefIdeal.defs (F := Ideal)) (onTc (τ := Cert.MidPromptRefIdeal.τ) (Cert.MidPromptRefIdeal.main (F := Ideal))) ⟨m, fun _ => 0, g⟩ (fun r => (∀ c : Dev Cert.MidPromptRefIdeal.nD,
      r.2.mem ((c.tc : Thread Cert.MidPromptRefIdeal.nD Cert.MidPromptRefIdeal.τ).loc Cert.MidPromptRefIdeal.main_arg0) = m ((c.tc : Thread Cert.MidPromptRefIdeal.nD Cert.MidPromptRefIdeal.τ).loc Cert.MidPromptRefIdeal.main_arg0)
      ∧ r.2.mem ((c.tc : Thread Cert.MidPromptRefIdeal.nD Cert.MidPromptRefIdeal.τ).loc Cert.MidPromptRefIdeal.main_arg1) = m ((c.tc : Thread Cert.MidPromptRefIdeal.nD Cert.MidPromptRefIdeal.τ).loc Cert.MidPromptRefIdeal.main_arg1)
      ∧ r.2.mem ((c.tc : Thread Cert.MidPromptRefIdeal.nD Cert.MidPromptRefIdeal.τ).loc Cert.MidPromptRefIdeal.main_arg2) = m ((c.tc : Thread Cert.MidPromptRefIdeal.nD Cert.MidPromptRefIdeal.τ).loc Cert.MidPromptRefIdeal.main_arg2)
      ∧ r.2.mem ((c.tc : Thread Cert.MidPromptRefIdeal.nD Cert.MidPromptRefIdeal.τ).loc Cert.MidPromptRefIdeal.main_arg3) = m ((c.tc : Thread Cert.MidPromptRefIdeal.nD Cert.MidPromptRefIdeal.τ).loc Cert.MidPromptRefIdeal.main_arg3)
      ∧ r.2.mem ((c.tc : Thread Cert.MidPromptRefIdeal.nD Cert.MidPromptRefIdeal.τ).loc Cert.MidPromptRefIdeal.main_arg4) = m ((c.tc : Thread Cert.MidPromptRefIdeal.nD Cert.MidPromptRefIdeal.τ).loc Cert.MidPromptRefIdeal.main_arg4))
      ∧ r.2.sem = fun _ => 0)

def quiescent_MidSample [hMidSample : Cert.MidSample.Facts] : Prop :=
  ∀ (m : (ℓ : Loc Cert.MidSample.nD Cert.MidSample.τ Cert.MidSample.sig) → Buf (Elt Bits) ℓ) (g : Dev Cert.MidSample.nD → PrngReg), Pre_MidSample m →
    θ_run (Cert.MidSample.defs (F := Bits)) (onTc (τ := Cert.MidSample.τ) (Cert.MidSample.main (F := Bits))) ⟨m, fun _ => 0, g⟩ (fun r => (∀ c : Dev Cert.MidSample.nD,
      r.2.mem ((c.tc : Thread Cert.MidSample.nD Cert.MidSample.τ).loc Cert.MidSample.main_arg0) = m ((c.tc : Thread Cert.MidSample.nD Cert.MidSample.τ).loc Cert.MidSample.main_arg0)
      ∧ r.2.mem ((c.tc : Thread Cert.MidSample.nD Cert.MidSample.τ).loc Cert.MidSample.main_arg1) = m ((c.tc : Thread Cert.MidSample.nD Cert.MidSample.τ).loc Cert.MidSample.main_arg1)
      ∧ r.2.mem ((c.tc : Thread Cert.MidSample.nD Cert.MidSample.τ).loc Cert.MidSample.main_arg2) = m ((c.tc : Thread Cert.MidSample.nD Cert.MidSample.τ).loc Cert.MidSample.main_arg2)
      ∧ r.2.mem ((c.tc : Thread Cert.MidSample.nD Cert.MidSample.τ).loc Cert.MidSample.main_arg3) = m ((c.tc : Thread Cert.MidSample.nD Cert.MidSample.τ).loc Cert.MidSample.main_arg3)
      ∧ r.2.mem ((c.tc : Thread Cert.MidSample.nD Cert.MidSample.τ).loc Cert.MidSample.main_arg4) = m ((c.tc : Thread Cert.MidSample.nD Cert.MidSample.τ).loc Cert.MidSample.main_arg4))
      ∧ r.2.sem = fun _ => 0)

def quiescent_MidSampleIdeal [hMidSampleIdeal : Cert.MidSampleIdeal.Facts] : Prop :=
  ∀ (m : (ℓ : Loc Cert.MidSampleIdeal.nD Cert.MidSampleIdeal.τ Cert.MidSampleIdeal.sig) → Buf (Elt Ideal) ℓ) (g : Dev Cert.MidSampleIdeal.nD → PrngReg), Pre_MidSampleIdeal m →
    θ_run (Cert.MidSampleIdeal.defs (F := Ideal)) (onTc (τ := Cert.MidSampleIdeal.τ) (Cert.MidSampleIdeal.main (F := Ideal))) ⟨m, fun _ => 0, g⟩ (fun r => (∀ c : Dev Cert.MidSampleIdeal.nD,
      r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
      ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
      ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
      ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
      ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4))
      ∧ r.2.sem = fun _ => 0)

def quiescent_MidSampleRefIdeal [hMidSampleRefIdeal : Cert.MidSampleRefIdeal.Facts] : Prop :=
  ∀ (m : (ℓ : Loc Cert.MidSampleRefIdeal.nD Cert.MidSampleRefIdeal.τ Cert.MidSampleRefIdeal.sig) → Buf (Elt Ideal) ℓ) (g : Dev Cert.MidSampleRefIdeal.nD → PrngReg), Pre_MidSampleRefIdeal m →
    θ_run (Cert.MidSampleRefIdeal.defs (F := Ideal)) (onTc (τ := Cert.MidSampleRefIdeal.τ) (Cert.MidSampleRefIdeal.main (F := Ideal))) ⟨m, fun _ => 0, g⟩ (fun r => (∀ c : Dev Cert.MidSampleRefIdeal.nD,
      r.2.mem ((c.tc : Thread Cert.MidSampleRefIdeal.nD Cert.MidSampleRefIdeal.τ).loc Cert.MidSampleRefIdeal.main_arg0) = m ((c.tc : Thread Cert.MidSampleRefIdeal.nD Cert.MidSampleRefIdeal.τ).loc Cert.MidSampleRefIdeal.main_arg0)
      ∧ r.2.mem ((c.tc : Thread Cert.MidSampleRefIdeal.nD Cert.MidSampleRefIdeal.τ).loc Cert.MidSampleRefIdeal.main_arg1) = m ((c.tc : Thread Cert.MidSampleRefIdeal.nD Cert.MidSampleRefIdeal.τ).loc Cert.MidSampleRefIdeal.main_arg1)
      ∧ r.2.mem ((c.tc : Thread Cert.MidSampleRefIdeal.nD Cert.MidSampleRefIdeal.τ).loc Cert.MidSampleRefIdeal.main_arg2) = m ((c.tc : Thread Cert.MidSampleRefIdeal.nD Cert.MidSampleRefIdeal.τ).loc Cert.MidSampleRefIdeal.main_arg2)
      ∧ r.2.mem ((c.tc : Thread Cert.MidSampleRefIdeal.nD Cert.MidSampleRefIdeal.τ).loc Cert.MidSampleRefIdeal.main_arg3) = m ((c.tc : Thread Cert.MidSampleRefIdeal.nD Cert.MidSampleRefIdeal.τ).loc Cert.MidSampleRefIdeal.main_arg3)
      ∧ r.2.mem ((c.tc : Thread Cert.MidSampleRefIdeal.nD Cert.MidSampleRefIdeal.τ).loc Cert.MidSampleRefIdeal.main_arg4) = m ((c.tc : Thread Cert.MidSampleRefIdeal.nD Cert.MidSampleRefIdeal.τ).loc Cert.MidSampleRefIdeal.main_arg4))
      ∧ r.2.sem = fun _ => 0)

def quiescent_NextPrompt [hNextPrompt : Cert.NextPrompt.Facts] : Prop :=
  ∀ (m : (ℓ : Loc Cert.NextPrompt.nD Cert.NextPrompt.τ Cert.NextPrompt.sig) → Buf (Elt Bits) ℓ) (g : Dev Cert.NextPrompt.nD → PrngReg), Pre_NextPrompt m →
    θ_run (Cert.NextPrompt.defs (F := Bits)) (onTc (τ := Cert.NextPrompt.τ) (Cert.NextPrompt.main (F := Bits))) ⟨m, fun _ => 0, g⟩ (fun r => (∀ c : Dev Cert.NextPrompt.nD,
      r.2.mem ((c.tc : Thread Cert.NextPrompt.nD Cert.NextPrompt.τ).loc Cert.NextPrompt.main_arg0) = m ((c.tc : Thread Cert.NextPrompt.nD Cert.NextPrompt.τ).loc Cert.NextPrompt.main_arg0)
      ∧ r.2.mem ((c.tc : Thread Cert.NextPrompt.nD Cert.NextPrompt.τ).loc Cert.NextPrompt.main_arg1) = m ((c.tc : Thread Cert.NextPrompt.nD Cert.NextPrompt.τ).loc Cert.NextPrompt.main_arg1)
      ∧ r.2.mem ((c.tc : Thread Cert.NextPrompt.nD Cert.NextPrompt.τ).loc Cert.NextPrompt.main_arg2) = m ((c.tc : Thread Cert.NextPrompt.nD Cert.NextPrompt.τ).loc Cert.NextPrompt.main_arg2)
      ∧ r.2.mem ((c.tc : Thread Cert.NextPrompt.nD Cert.NextPrompt.τ).loc Cert.NextPrompt.main_arg3) = m ((c.tc : Thread Cert.NextPrompt.nD Cert.NextPrompt.τ).loc Cert.NextPrompt.main_arg3)
      ∧ r.2.mem ((c.tc : Thread Cert.NextPrompt.nD Cert.NextPrompt.τ).loc Cert.NextPrompt.main_arg4) = m ((c.tc : Thread Cert.NextPrompt.nD Cert.NextPrompt.τ).loc Cert.NextPrompt.main_arg4))
      ∧ r.2.sem = fun _ => 0)

def quiescent_NextPromptIdeal [hNextPromptIdeal : Cert.NextPromptIdeal.Facts] : Prop :=
  ∀ (m : (ℓ : Loc Cert.NextPromptIdeal.nD Cert.NextPromptIdeal.τ Cert.NextPromptIdeal.sig) → Buf (Elt Ideal) ℓ) (g : Dev Cert.NextPromptIdeal.nD → PrngReg), Pre_NextPromptIdeal m →
    θ_run (Cert.NextPromptIdeal.defs (F := Ideal)) (onTc (τ := Cert.NextPromptIdeal.τ) (Cert.NextPromptIdeal.main (F := Ideal))) ⟨m, fun _ => 0, g⟩ (fun r => (∀ c : Dev Cert.NextPromptIdeal.nD,
      r.2.mem ((c.tc : Thread Cert.NextPromptIdeal.nD Cert.NextPromptIdeal.τ).loc Cert.NextPromptIdeal.main_arg0) = m ((c.tc : Thread Cert.NextPromptIdeal.nD Cert.NextPromptIdeal.τ).loc Cert.NextPromptIdeal.main_arg0)
      ∧ r.2.mem ((c.tc : Thread Cert.NextPromptIdeal.nD Cert.NextPromptIdeal.τ).loc Cert.NextPromptIdeal.main_arg1) = m ((c.tc : Thread Cert.NextPromptIdeal.nD Cert.NextPromptIdeal.τ).loc Cert.NextPromptIdeal.main_arg1)
      ∧ r.2.mem ((c.tc : Thread Cert.NextPromptIdeal.nD Cert.NextPromptIdeal.τ).loc Cert.NextPromptIdeal.main_arg2) = m ((c.tc : Thread Cert.NextPromptIdeal.nD Cert.NextPromptIdeal.τ).loc Cert.NextPromptIdeal.main_arg2)
      ∧ r.2.mem ((c.tc : Thread Cert.NextPromptIdeal.nD Cert.NextPromptIdeal.τ).loc Cert.NextPromptIdeal.main_arg3) = m ((c.tc : Thread Cert.NextPromptIdeal.nD Cert.NextPromptIdeal.τ).loc Cert.NextPromptIdeal.main_arg3)
      ∧ r.2.mem ((c.tc : Thread Cert.NextPromptIdeal.nD Cert.NextPromptIdeal.τ).loc Cert.NextPromptIdeal.main_arg4) = m ((c.tc : Thread Cert.NextPromptIdeal.nD Cert.NextPromptIdeal.τ).loc Cert.NextPromptIdeal.main_arg4))
      ∧ r.2.sem = fun _ => 0)

def quiescent_NextPromptRefIdeal [hNextPromptRefIdeal : Cert.NextPromptRefIdeal.Facts] : Prop :=
  ∀ (m : (ℓ : Loc Cert.NextPromptRefIdeal.nD Cert.NextPromptRefIdeal.τ Cert.NextPromptRefIdeal.sig) → Buf (Elt Ideal) ℓ) (g : Dev Cert.NextPromptRefIdeal.nD → PrngReg), Pre_NextPromptRefIdeal m →
    θ_run (Cert.NextPromptRefIdeal.defs (F := Ideal)) (onTc (τ := Cert.NextPromptRefIdeal.τ) (Cert.NextPromptRefIdeal.main (F := Ideal))) ⟨m, fun _ => 0, g⟩ (fun r => (∀ c : Dev Cert.NextPromptRefIdeal.nD,
      r.2.mem ((c.tc : Thread Cert.NextPromptRefIdeal.nD Cert.NextPromptRefIdeal.τ).loc Cert.NextPromptRefIdeal.main_arg0) = m ((c.tc : Thread Cert.NextPromptRefIdeal.nD Cert.NextPromptRefIdeal.τ).loc Cert.NextPromptRefIdeal.main_arg0)
      ∧ r.2.mem ((c.tc : Thread Cert.NextPromptRefIdeal.nD Cert.NextPromptRefIdeal.τ).loc Cert.NextPromptRefIdeal.main_arg1) = m ((c.tc : Thread Cert.NextPromptRefIdeal.nD Cert.NextPromptRefIdeal.τ).loc Cert.NextPromptRefIdeal.main_arg1)
      ∧ r.2.mem ((c.tc : Thread Cert.NextPromptRefIdeal.nD Cert.NextPromptRefIdeal.τ).loc Cert.NextPromptRefIdeal.main_arg2) = m ((c.tc : Thread Cert.NextPromptRefIdeal.nD Cert.NextPromptRefIdeal.τ).loc Cert.NextPromptRefIdeal.main_arg2)
      ∧ r.2.mem ((c.tc : Thread Cert.NextPromptRefIdeal.nD Cert.NextPromptRefIdeal.τ).loc Cert.NextPromptRefIdeal.main_arg3) = m ((c.tc : Thread Cert.NextPromptRefIdeal.nD Cert.NextPromptRefIdeal.τ).loc Cert.NextPromptRefIdeal.main_arg3)
      ∧ r.2.mem ((c.tc : Thread Cert.NextPromptRefIdeal.nD Cert.NextPromptRefIdeal.τ).loc Cert.NextPromptRefIdeal.main_arg4) = m ((c.tc : Thread Cert.NextPromptRefIdeal.nD Cert.NextPromptRefIdeal.τ).loc Cert.NextPromptRefIdeal.main_arg4))
      ∧ r.2.sem = fun _ => 0)

def quiescent_NextSample [hNextSample : Cert.NextSample.Facts] : Prop :=
  ∀ (m : (ℓ : Loc Cert.NextSample.nD Cert.NextSample.τ Cert.NextSample.sig) → Buf (Elt Bits) ℓ) (g : Dev Cert.NextSample.nD → PrngReg), Pre_NextSample m →
    θ_run (Cert.NextSample.defs (F := Bits)) (onTc (τ := Cert.NextSample.τ) (Cert.NextSample.main (F := Bits))) ⟨m, fun _ => 0, g⟩ (fun r => (∀ c : Dev Cert.NextSample.nD,
      r.2.mem ((c.tc : Thread Cert.NextSample.nD Cert.NextSample.τ).loc Cert.NextSample.main_arg0) = m ((c.tc : Thread Cert.NextSample.nD Cert.NextSample.τ).loc Cert.NextSample.main_arg0)
      ∧ r.2.mem ((c.tc : Thread Cert.NextSample.nD Cert.NextSample.τ).loc Cert.NextSample.main_arg1) = m ((c.tc : Thread Cert.NextSample.nD Cert.NextSample.τ).loc Cert.NextSample.main_arg1)
      ∧ r.2.mem ((c.tc : Thread Cert.NextSample.nD Cert.NextSample.τ).loc Cert.NextSample.main_arg2) = m ((c.tc : Thread Cert.NextSample.nD Cert.NextSample.τ).loc Cert.NextSample.main_arg2)
      ∧ r.2.mem ((c.tc : Thread Cert.NextSample.nD Cert.NextSample.τ).loc Cert.NextSample.main_arg3) = m ((c.tc : Thread Cert.NextSample.nD Cert.NextSample.τ).loc Cert.NextSample.main_arg3)
      ∧ r.2.mem ((c.tc : Thread Cert.NextSample.nD Cert.NextSample.τ).loc Cert.NextSample.main_arg4) = m ((c.tc : Thread Cert.NextSample.nD Cert.NextSample.τ).loc Cert.NextSample.main_arg4))
      ∧ r.2.sem = fun _ => 0)

def quiescent_NextSampleIdeal [hNextSampleIdeal : Cert.NextSampleIdeal.Facts] : Prop :=
  ∀ (m : (ℓ : Loc Cert.NextSampleIdeal.nD Cert.NextSampleIdeal.τ Cert.NextSampleIdeal.sig) → Buf (Elt Ideal) ℓ) (g : Dev Cert.NextSampleIdeal.nD → PrngReg), Pre_NextSampleIdeal m →
    θ_run (Cert.NextSampleIdeal.defs (F := Ideal)) (onTc (τ := Cert.NextSampleIdeal.τ) (Cert.NextSampleIdeal.main (F := Ideal))) ⟨m, fun _ => 0, g⟩ (fun r => (∀ c : Dev Cert.NextSampleIdeal.nD,
      r.2.mem ((c.tc : Thread Cert.NextSampleIdeal.nD Cert.NextSampleIdeal.τ).loc Cert.NextSampleIdeal.main_arg0) = m ((c.tc : Thread Cert.NextSampleIdeal.nD Cert.NextSampleIdeal.τ).loc Cert.NextSampleIdeal.main_arg0)
      ∧ r.2.mem ((c.tc : Thread Cert.NextSampleIdeal.nD Cert.NextSampleIdeal.τ).loc Cert.NextSampleIdeal.main_arg1) = m ((c.tc : Thread Cert.NextSampleIdeal.nD Cert.NextSampleIdeal.τ).loc Cert.NextSampleIdeal.main_arg1)
      ∧ r.2.mem ((c.tc : Thread Cert.NextSampleIdeal.nD Cert.NextSampleIdeal.τ).loc Cert.NextSampleIdeal.main_arg2) = m ((c.tc : Thread Cert.NextSampleIdeal.nD Cert.NextSampleIdeal.τ).loc Cert.NextSampleIdeal.main_arg2)
      ∧ r.2.mem ((c.tc : Thread Cert.NextSampleIdeal.nD Cert.NextSampleIdeal.τ).loc Cert.NextSampleIdeal.main_arg3) = m ((c.tc : Thread Cert.NextSampleIdeal.nD Cert.NextSampleIdeal.τ).loc Cert.NextSampleIdeal.main_arg3)
      ∧ r.2.mem ((c.tc : Thread Cert.NextSampleIdeal.nD Cert.NextSampleIdeal.τ).loc Cert.NextSampleIdeal.main_arg4) = m ((c.tc : Thread Cert.NextSampleIdeal.nD Cert.NextSampleIdeal.τ).loc Cert.NextSampleIdeal.main_arg4))
      ∧ r.2.sem = fun _ => 0)

def quiescent_NextSampleRefIdeal [hNextSampleRefIdeal : Cert.NextSampleRefIdeal.Facts] : Prop :=
  ∀ (m : (ℓ : Loc Cert.NextSampleRefIdeal.nD Cert.NextSampleRefIdeal.τ Cert.NextSampleRefIdeal.sig) → Buf (Elt Ideal) ℓ) (g : Dev Cert.NextSampleRefIdeal.nD → PrngReg), Pre_NextSampleRefIdeal m →
    θ_run (Cert.NextSampleRefIdeal.defs (F := Ideal)) (onTc (τ := Cert.NextSampleRefIdeal.τ) (Cert.NextSampleRefIdeal.main (F := Ideal))) ⟨m, fun _ => 0, g⟩ (fun r => (∀ c : Dev Cert.NextSampleRefIdeal.nD,
      r.2.mem ((c.tc : Thread Cert.NextSampleRefIdeal.nD Cert.NextSampleRefIdeal.τ).loc Cert.NextSampleRefIdeal.main_arg0) = m ((c.tc : Thread Cert.NextSampleRefIdeal.nD Cert.NextSampleRefIdeal.τ).loc Cert.NextSampleRefIdeal.main_arg0)
      ∧ r.2.mem ((c.tc : Thread Cert.NextSampleRefIdeal.nD Cert.NextSampleRefIdeal.τ).loc Cert.NextSampleRefIdeal.main_arg1) = m ((c.tc : Thread Cert.NextSampleRefIdeal.nD Cert.NextSampleRefIdeal.τ).loc Cert.NextSampleRefIdeal.main_arg1)
      ∧ r.2.mem ((c.tc : Thread Cert.NextSampleRefIdeal.nD Cert.NextSampleRefIdeal.τ).loc Cert.NextSampleRefIdeal.main_arg2) = m ((c.tc : Thread Cert.NextSampleRefIdeal.nD Cert.NextSampleRefIdeal.τ).loc Cert.NextSampleRefIdeal.main_arg2)
      ∧ r.2.mem ((c.tc : Thread Cert.NextSampleRefIdeal.nD Cert.NextSampleRefIdeal.τ).loc Cert.NextSampleRefIdeal.main_arg3) = m ((c.tc : Thread Cert.NextSampleRefIdeal.nD Cert.NextSampleRefIdeal.τ).loc Cert.NextSampleRefIdeal.main_arg3)
      ∧ r.2.mem ((c.tc : Thread Cert.NextSampleRefIdeal.nD Cert.NextSampleRefIdeal.τ).loc Cert.NextSampleRefIdeal.main_arg4) = m ((c.tc : Thread Cert.NextSampleRefIdeal.nD Cert.NextSampleRefIdeal.τ).loc Cert.NextSampleRefIdeal.main_arg4))
      ∧ r.2.sem = fun _ => 0)

def preserves_CtxAttn_CtxAttnIdeal : Prop :=
  True

def algebraic_CtxAttnIdeal_CtxRefIdeal_pre_scores_finite [hCtxAttnIdeal : Cert.CtxAttnIdeal.Facts] [hCtxRefIdeal : Cert.CtxRefIdeal.Facts] [hPre_scores_finite : Cert.Pre_scores_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxAttnIdeal_scores_finite m →
    (∀ c : Dev Cert.CtxAttnIdeal.nD,
      m' ((c.tc : Thread Cert.CtxRefIdeal.nD Cert.CtxRefIdeal.τ).loc Cert.CtxRefIdeal.main_arg0) = m ((c.tc : Thread Cert.CtxAttnIdeal.nD Cert.CtxAttnIdeal.τ).loc Cert.CtxAttnIdeal.main_arg0)
      ∧ m' ((c.tc : Thread Cert.CtxRefIdeal.nD Cert.CtxRefIdeal.τ).loc Cert.CtxRefIdeal.main_arg1) = m ((c.tc : Thread Cert.CtxAttnIdeal.nD Cert.CtxAttnIdeal.τ).loc Cert.CtxAttnIdeal.main_arg1)
      ∧ m' ((c.tc : Thread Cert.CtxRefIdeal.nD Cert.CtxRefIdeal.τ).loc Cert.CtxRefIdeal.main_arg2) = m ((c.tc : Thread Cert.CtxAttnIdeal.nD Cert.CtxAttnIdeal.τ).loc Cert.CtxAttnIdeal.main_arg2)
      ∧ m' ((c.tc : Thread Cert.CtxRefIdeal.nD Cert.CtxRefIdeal.τ).loc Cert.CtxRefIdeal.main_arg3) = m ((c.tc : Thread Cert.CtxAttnIdeal.nD Cert.CtxAttnIdeal.τ).loc Cert.CtxAttnIdeal.main_arg3)) →
    ∃ (v0 : (c : Dev Cert.CtxAttnIdeal.nD) → Buf (Elt Ideal) ((c.tc : Thread Cert.CtxAttnIdeal.nD Cert.CtxAttnIdeal.τ).loc Cert.CtxAttnIdeal.main_v2_0)) (v1 : (c : Dev Cert.CtxAttnIdeal.nD) → Buf (Elt Ideal) ((c.tc : Thread Cert.CtxAttnIdeal.nD Cert.CtxAttnIdeal.τ).loc Cert.CtxAttnIdeal.main_v2_1)) (v2 : (c : Dev Cert.CtxAttnIdeal.nD) → Buf (Elt Ideal) ((c.tc : Thread Cert.CtxAttnIdeal.nD Cert.CtxAttnIdeal.τ).loc Cert.CtxAttnIdeal.main_v2_2)) (v3 : (c : Dev Cert.CtxAttnIdeal.nD) → Buf (Elt Ideal) ((c.tc : Thread Cert.CtxAttnIdeal.nD Cert.CtxAttnIdeal.τ).loc Cert.CtxAttnIdeal.main_v2_3)) (v4 : (c : Dev Cert.CtxAttnIdeal.nD) → Buf (Elt Ideal) ((c.tc : Thread Cert.CtxAttnIdeal.nD Cert.CtxAttnIdeal.τ).loc Cert.CtxAttnIdeal.main_v2_4)) (v5 : (c : Dev Cert.CtxAttnIdeal.nD) → Buf (Elt Ideal) ((c.tc : Thread Cert.CtxAttnIdeal.nD Cert.CtxAttnIdeal.τ).loc Cert.CtxAttnIdeal.main_v2_5)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v2_0) = v0 c
          ∧ r.2.mem ((c.tc : Thread Cert.CtxAttnIdeal.nD Cert.CtxAttnIdeal.τ).loc Cert.CtxAttnIdeal.main_v2_1) = v1 c
          ∧ r.2.mem ((c.tc : Thread Cert.CtxAttnIdeal.nD Cert.CtxAttnIdeal.τ).loc Cert.CtxAttnIdeal.main_v2_2) = v2 c
          ∧ r.2.mem ((c.tc : Thread Cert.CtxAttnIdeal.nD Cert.CtxAttnIdeal.τ).loc Cert.CtxAttnIdeal.main_v2_3) = v3 c
          ∧ r.2.mem ((c.tc : Thread Cert.CtxAttnIdeal.nD Cert.CtxAttnIdeal.τ).loc Cert.CtxAttnIdeal.main_v2_4) = v4 c
          ∧ r.2.mem ((c.tc : Thread Cert.CtxAttnIdeal.nD Cert.CtxAttnIdeal.τ).loc Cert.CtxAttnIdeal.main_v2_5) = v5 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
          ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
          ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
          ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v85) = v0 c
          ∧ r.2.mem ((c.tc : Thread Cert.CtxRefIdeal.nD Cert.CtxRefIdeal.τ).loc Cert.CtxRefIdeal.main_v86) = v1 c
          ∧ r.2.mem ((c.tc : Thread Cert.CtxRefIdeal.nD Cert.CtxRefIdeal.τ).loc Cert.CtxRefIdeal.main_v81) = v2 c
          ∧ r.2.mem ((c.tc : Thread Cert.CtxRefIdeal.nD Cert.CtxRefIdeal.τ).loc Cert.CtxRefIdeal.main_v82) = v3 c
          ∧ r.2.mem ((c.tc : Thread Cert.CtxRefIdeal.nD Cert.CtxRefIdeal.τ).loc Cert.CtxRefIdeal.main_v83) = v4 c
          ∧ r.2.mem ((c.tc : Thread Cert.CtxRefIdeal.nD Cert.CtxRefIdeal.τ).loc Cert.CtxRefIdeal.main_v84) = v5 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v8) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_FfnDown_FfnDownIdeal : Prop :=
  True

def algebraic_FfnDownIdeal_DownRefIdeal [hFfnDownIdeal : Cert.FfnDownIdeal.Facts] [hDownRefIdeal : Cert.DownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_FfnDownIdeal m →
    (∀ c : Dev Cert.FfnDownIdeal.nD,
      m' ((c.tc : Thread Cert.DownRefIdeal.nD Cert.DownRefIdeal.τ).loc Cert.DownRefIdeal.main_arg0) = m ((c.tc : Thread Cert.FfnDownIdeal.nD Cert.FfnDownIdeal.τ).loc Cert.FfnDownIdeal.main_arg0)
      ∧ m' ((c.tc : Thread Cert.DownRefIdeal.nD Cert.DownRefIdeal.τ).loc Cert.DownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_FfnUp_FfnUpIdeal : Prop :=
  True

def algebraic_FfnUpIdeal_UpRefIdeal [hFfnUpIdeal : Cert.FfnUpIdeal.Facts] [hUpRefIdeal : Cert.UpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_FfnUpIdeal m →
    (∀ c : Dev Cert.FfnUpIdeal.nD,
      m' ((c.tc : Thread Cert.UpRefIdeal.nD Cert.UpRefIdeal.τ).loc Cert.UpRefIdeal.main_arg0) = m ((c.tc : Thread Cert.FfnUpIdeal.nD Cert.FfnUpIdeal.τ).loc Cert.FfnUpIdeal.main_arg0)
      ∧ m' ((c.tc : Thread Cert.UpRefIdeal.nD Cert.UpRefIdeal.τ).loc Cert.UpRefIdeal.main_arg1) = m ((c.tc : Thread Cert.FfnUpIdeal.nD Cert.FfnUpIdeal.τ).loc Cert.FfnUpIdeal.main_arg1)
      ∧ m' ((c.tc : Thread Cert.UpRefIdeal.nD Cert.UpRefIdeal.τ).loc Cert.UpRefIdeal.main_arg2) = m ((c.tc : Thread Cert.FfnUpIdeal.nD Cert.FfnUpIdeal.τ).loc Cert.FfnUpIdeal.main_arg2)
      ∧ m' ((c.tc : Thread Cert.UpRefIdeal.nD Cert.UpRefIdeal.τ).loc Cert.UpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v42) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_FfnUpCtx_FfnUpCtxIdeal : Prop :=
  True

def algebraic_FfnUpCtxIdeal_UpCtxRefIdeal [hFfnUpCtxIdeal : Cert.FfnUpCtxIdeal.Facts] [hUpCtxRefIdeal : Cert.UpCtxRefIdeal.Facts] : Prop :=
  ∀ (m : (ℓ : Loc Cert.FfnUpCtxIdeal.nD Cert.FfnUpCtxIdeal.τ Cert.FfnUpCtxIdeal.sig) → Buf (Elt Ideal) ℓ) (g : Dev Cert.FfnUpCtxIdeal.nD → PrngReg)
    (m' : (ℓ : Loc Cert.UpCtxRefIdeal.nD Cert.UpCtxRefIdeal.τ Cert.UpCtxRefIdeal.sig) → Buf (Elt Ideal) ℓ) (g' : Dev Cert.UpCtxRefIdeal.nD → PrngReg), Pre_FfnUpCtxIdeal m →
    (∀ c : Dev Cert.FfnUpCtxIdeal.nD,
      m' ((c.tc : Thread Cert.UpCtxRefIdeal.nD Cert.UpCtxRefIdeal.τ).loc Cert.UpCtxRefIdeal.main_arg0) = m ((c.tc : Thread Cert.FfnUpCtxIdeal.nD Cert.FfnUpCtxIdeal.τ).loc Cert.FfnUpCtxIdeal.main_arg0)
      ∧ m' ((c.tc : Thread Cert.UpCtxRefIdeal.nD Cert.UpCtxRefIdeal.τ).loc Cert.UpCtxRefIdeal.main_arg1) = m ((c.tc : Thread Cert.FfnUpCtxIdeal.nD Cert.FfnUpCtxIdeal.τ).loc Cert.FfnUpCtxIdeal.main_arg1)
      ∧ m' ((c.tc : Thread Cert.UpCtxRefIdeal.nD Cert.UpCtxRefIdeal.τ).loc Cert.UpCtxRefIdeal.main_arg2) = m ((c.tc : Thread Cert.FfnUpCtxIdeal.nD Cert.FfnUpCtxIdeal.τ).loc Cert.FfnUpCtxIdeal.main_arg2)
      ∧ m' ((c.tc : Thread Cert.UpCtxRefIdeal.nD Cert.UpCtxRefIdeal.τ).loc Cert.UpCtxRefIdeal.main_arg3) = m ((c.tc : Thread Cert.FfnUpCtxIdeal.nD Cert.FfnUpCtxIdeal.τ).loc Cert.FfnUpCtxIdeal.main_arg3)) →
    ∃ (v0 : (c : Dev Cert.FfnUpCtxIdeal.nD) → Buf (Elt Ideal) ((c.tc : Thread Cert.FfnUpCtxIdeal.nD Cert.FfnUpCtxIdeal.τ).loc Cert.FfnUpCtxIdeal.main_v1)),
      θ_run (Cert.FfnUpCtxIdeal.defs (F := Ideal)) (onTc (τ := Cert.FfnUpCtxIdeal.τ) (Cert.FfnUpCtxIdeal.main (F := Ideal))) ⟨m, fun _ => 0, g⟩ (fun r => ∀ c : Dev Cert.FfnUpCtxIdeal.nD,
          r.2.mem ((c.tc : Thread Cert.FfnUpCtxIdeal.nD Cert.FfnUpCtxIdeal.τ).loc Cert.FfnUpCtxIdeal.main_v1) = v0 c
          ∧ r.2.mem ((c.tc : Thread Cert.FfnUpCtxIdeal.nD Cert.FfnUpCtxIdeal.τ).loc Cert.FfnUpCtxIdeal.main_arg0) = m ((c.tc : Thread Cert.FfnUpCtxIdeal.nD Cert.FfnUpCtxIdeal.τ).loc Cert.FfnUpCtxIdeal.main_arg0)
          ∧ r.2.mem ((c.tc : Thread Cert.FfnUpCtxIdeal.nD Cert.FfnUpCtxIdeal.τ).loc Cert.FfnUpCtxIdeal.main_arg1) = m ((c.tc : Thread Cert.FfnUpCtxIdeal.nD Cert.FfnUpCtxIdeal.τ).loc Cert.FfnUpCtxIdeal.main_arg1)
          ∧ r.2.mem ((c.tc : Thread Cert.FfnUpCtxIdeal.nD Cert.FfnUpCtxIdeal.τ).loc Cert.FfnUpCtxIdeal.main_arg2) = m ((c.tc : Thread Cert.FfnUpCtxIdeal.nD Cert.FfnUpCtxIdeal.τ).loc Cert.FfnUpCtxIdeal.main_arg2)
          ∧ r.2.mem ((c.tc : Thread Cert.FfnUpCtxIdeal.nD Cert.FfnUpCtxIdeal.τ).loc Cert.FfnUpCtxIdeal.main_arg3) = m ((c.tc : Thread Cert.FfnUpCtxIdeal.nD Cert.FfnUpCtxIdeal.τ).loc Cert.FfnUpCtxIdeal.main_arg3))
      ∧ θ_run (Cert.UpCtxRefIdeal.defs (F := Ideal)) (onTc (τ := Cert.UpCtxRefIdeal.τ) (Cert.UpCtxRefIdeal.main (F := Ideal))) ⟨m', fun _ => 0, g'⟩ (fun r => ∀ c : Dev Cert.UpCtxRefIdeal.nD,
          r.2.mem ((c.tc : Thread Cert.UpCtxRefIdeal.nD Cert.UpCtxRefIdeal.τ).loc Cert.UpCtxRefIdeal.main_v42) = v0 c
          ∧ r.2.mem ((c.tc : Thread Cert.UpCtxRefIdeal.nD Cert.UpCtxRefIdeal.τ).loc Cert.UpCtxRefIdeal.main_arg0) = m' ((c.tc : Thread Cert.UpCtxRefIdeal.nD Cert.UpCtxRefIdeal.τ).loc Cert.UpCtxRefIdeal.main_arg0)
          ∧ r.2.mem ((c.tc : Thread Cert.UpCtxRefIdeal.nD Cert.UpCtxRefIdeal.τ).loc Cert.UpCtxRefIdeal.main_arg1) = m' ((c.tc : Thread Cert.UpCtxRefIdeal.nD Cert.UpCtxRefIdeal.τ).loc Cert.UpCtxRefIdeal.main_arg1)
          ∧ r.2.mem ((c.tc : Thread Cert.UpCtxRefIdeal.nD Cert.UpCtxRefIdeal.τ).loc Cert.UpCtxRefIdeal.main_arg2) = m' ((c.tc : Thread Cert.UpCtxRefIdeal.nD Cert.UpCtxRefIdeal.τ).loc Cert.UpCtxRefIdeal.main_arg2)
          ∧ r.2.mem ((c.tc : Thread Cert.UpCtxRefIdeal.nD Cert.UpCtxRefIdeal.τ).loc Cert.UpCtxRefIdeal.main_arg3) = m' ((c.tc : Thread Cert.UpCtxRefIdeal.nD Cert.UpCtxRefIdeal.τ).loc Cert.UpCtxRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_LastPrompt_LastPromptIdeal : Prop :=
  True

def algebraic_LastPromptIdeal_LastPromptRefIdeal [hLastPromptIdeal : Cert.LastPromptIdeal.Facts] [hLastPromptRefIdeal : Cert.LastPromptRefIdeal.Facts] : Prop :=
  ∀ (m : (ℓ : Loc Cert.LastPromptIdeal.nD Cert.LastPromptIdeal.τ Cert.LastPromptIdeal.sig) → Buf (Elt Ideal) ℓ) (g : Dev Cert.LastPromptIdeal.nD → PrngReg)
    (m' : (ℓ : Loc Cert.LastPromptRefIdeal.nD Cert.LastPromptRefIdeal.τ Cert.LastPromptRefIdeal.sig) → Buf (Elt Ideal) ℓ) (g' : Dev Cert.LastPromptRefIdeal.nD → PrngReg), Pre_LastPromptIdeal m →
    (∀ c : Dev Cert.LastPromptIdeal.nD,
      m' ((c.tc : Thread Cert.LastPromptRefIdeal.nD Cert.LastPromptRefIdeal.τ).loc Cert.LastPromptRefIdeal.main_arg0) = m ((c.tc : Thread Cert.LastPromptIdeal.nD Cert.LastPromptIdeal.τ).loc Cert.LastPromptIdeal.main_arg0)
      ∧ m' ((c.tc : Thread Cert.LastPromptRefIdeal.nD Cert.LastPromptRefIdeal.τ).loc Cert.LastPromptRefIdeal.main_arg1) = m ((c.tc : Thread Cert.LastPromptIdeal.nD Cert.LastPromptIdeal.τ).loc Cert.LastPromptIdeal.main_arg1)
      ∧ m' ((c.tc : Thread Cert.LastPromptRefIdeal.nD Cert.LastPromptRefIdeal.τ).loc Cert.LastPromptRefIdeal.main_arg2) = m ((c.tc : Thread Cert.LastPromptIdeal.nD Cert.LastPromptIdeal.τ).loc Cert.LastPromptIdeal.main_arg2)
      ∧ m' ((c.tc : Thread Cert.LastPromptRefIdeal.nD Cert.LastPromptRefIdeal.τ).loc Cert.LastPromptRefIdeal.main_arg3) = m ((c.tc : Thread Cert.LastPromptIdeal.nD Cert.LastPromptIdeal.τ).loc Cert.LastPromptIdeal.main_arg3)
      ∧ m' ((c.tc : Thread Cert.LastPromptRefIdeal.nD Cert.LastPromptRefIdeal.τ).loc Cert.LastPromptRefIdeal.main_arg4) = m ((c.tc : Thread Cert.LastPromptIdeal.nD Cert.LastPromptIdeal.τ).loc Cert.LastPromptIdeal.main_arg4)) →
    ∃ (v0 : (c : Dev Cert.LastPromptIdeal.nD) → Buf (Elt Ideal) ((c.tc : Thread Cert.LastPromptIdeal.nD Cert.LastPromptIdeal.τ).loc Cert.LastPromptIdeal.main_v11)),
      θ_run (Cert.LastPromptIdeal.defs (F := Ideal)) (onTc (τ := Cert.LastPromptIdeal.τ) (Cert.LastPromptIdeal.main (F := Ideal))) ⟨m, fun _ => 0, g⟩ (fun r => ∀ c : Dev Cert.LastPromptIdeal.nD,
          r.2.mem ((c.tc : Thread Cert.LastPromptIdeal.nD Cert.LastPromptIdeal.τ).loc Cert.LastPromptIdeal.main_v11) = v0 c
          ∧ r.2.mem ((c.tc : Thread Cert.LastPromptIdeal.nD Cert.LastPromptIdeal.τ).loc Cert.LastPromptIdeal.main_arg0) = m ((c.tc : Thread Cert.LastPromptIdeal.nD Cert.LastPromptIdeal.τ).loc Cert.LastPromptIdeal.main_arg0)
          ∧ r.2.mem ((c.tc : Thread Cert.LastPromptIdeal.nD Cert.LastPromptIdeal.τ).loc Cert.LastPromptIdeal.main_arg1) = m ((c.tc : Thread Cert.LastPromptIdeal.nD Cert.LastPromptIdeal.τ).loc Cert.LastPromptIdeal.main_arg1)
          ∧ r.2.mem ((c.tc : Thread Cert.LastPromptIdeal.nD Cert.LastPromptIdeal.τ).loc Cert.LastPromptIdeal.main_arg2) = m ((c.tc : Thread Cert.LastPromptIdeal.nD Cert.LastPromptIdeal.τ).loc Cert.LastPromptIdeal.main_arg2)
          ∧ r.2.mem ((c.tc : Thread Cert.LastPromptIdeal.nD Cert.LastPromptIdeal.τ).loc Cert.LastPromptIdeal.main_arg3) = m ((c.tc : Thread Cert.LastPromptIdeal.nD Cert.LastPromptIdeal.τ).loc Cert.LastPromptIdeal.main_arg3)
          ∧ r.2.mem ((c.tc : Thread Cert.LastPromptIdeal.nD Cert.LastPromptIdeal.τ).loc Cert.LastPromptIdeal.main_arg4) = m ((c.tc : Thread Cert.LastPromptIdeal.nD Cert.LastPromptIdeal.τ).loc Cert.LastPromptIdeal.main_arg4))
      ∧ θ_run (Cert.LastPromptRefIdeal.defs (F := Ideal)) (onTc (τ := Cert.LastPromptRefIdeal.τ) (Cert.LastPromptRefIdeal.main (F := Ideal))) ⟨m', fun _ => 0, g'⟩ (fun r => ∀ c : Dev Cert.LastPromptRefIdeal.nD,
          r.2.mem ((c.tc : Thread Cert.LastPromptRefIdeal.nD Cert.LastPromptRefIdeal.τ).loc Cert.LastPromptRefIdeal.main_v47) = v0 c
          ∧ r.2.mem ((c.tc : Thread Cert.LastPromptRefIdeal.nD Cert.LastPromptRefIdeal.τ).loc Cert.LastPromptRefIdeal.main_arg0) = m' ((c.tc : Thread Cert.LastPromptRefIdeal.nD Cert.LastPromptRefIdeal.τ).loc Cert.LastPromptRefIdeal.main_arg0)
          ∧ r.2.mem ((c.tc : Thread Cert.LastPromptRefIdeal.nD Cert.LastPromptRefIdeal.τ).loc Cert.LastPromptRefIdeal.main_arg1) = m' ((c.tc : Thread Cert.LastPromptRefIdeal.nD Cert.LastPromptRefIdeal.τ).loc Cert.LastPromptRefIdeal.main_arg1)
          ∧ r.2.mem ((c.tc : Thread Cert.LastPromptRefIdeal.nD Cert.LastPromptRefIdeal.τ).loc Cert.LastPromptRefIdeal.main_arg2) = m' ((c.tc : Thread Cert.LastPromptRefIdeal.nD Cert.LastPromptRefIdeal.τ).loc Cert.LastPromptRefIdeal.main_arg2)
          ∧ r.2.mem ((c.tc : Thread Cert.LastPromptRefIdeal.nD Cert.LastPromptRefIdeal.τ).loc Cert.LastPromptRefIdeal.main_arg3) = m' ((c.tc : Thread Cert.LastPromptRefIdeal.nD Cert.LastPromptRefIdeal.τ).loc Cert.LastPromptRefIdeal.main_arg3)
          ∧ r.2.mem ((c.tc : Thread Cert.LastPromptRefIdeal.nD Cert.LastPromptRefIdeal.τ).loc Cert.LastPromptRefIdeal.main_arg4) = m' ((c.tc : Thread Cert.LastPromptRefIdeal.nD Cert.LastPromptRefIdeal.τ).loc Cert.LastPromptRefIdeal.main_arg4))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)
      ∧ m' ((c.tc : Thread Cert.LastSampleRefIdeal.nD Cert.LastSampleRefIdeal.τ).loc Cert.LastSampleRefIdeal.main_arg3) = m ((c.tc : Thread Cert.LastSampleIdeal.nD Cert.LastSampleIdeal.τ).loc Cert.LastSampleIdeal.main_arg3)
      ∧ m' ((c.tc : Thread Cert.LastSampleRefIdeal.nD Cert.LastSampleRefIdeal.τ).loc Cert.LastSampleRefIdeal.main_arg4) = m ((c.tc : Thread Cert.LastSampleIdeal.nD Cert.LastSampleIdeal.τ).loc Cert.LastSampleIdeal.main_arg4)) →
    ∃ (v0 : (c : Dev Cert.LastSampleIdeal.nD) → Buf (Elt Ideal) ((c.tc : Thread Cert.LastSampleIdeal.nD Cert.LastSampleIdeal.τ).loc Cert.LastSampleIdeal.main_v11)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v11) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v47) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2)
          ∧ r.2.mem ((c.tc : Thread Cert.LastSampleRefIdeal.nD Cert.LastSampleRefIdeal.τ).loc Cert.LastSampleRefIdeal.main_arg3) = m' ((c.tc : Thread Cert.LastSampleRefIdeal.nD Cert.LastSampleRefIdeal.τ).loc Cert.LastSampleRefIdeal.main_arg3)
          ∧ r.2.mem ((c.tc : Thread Cert.LastSampleRefIdeal.nD Cert.LastSampleRefIdeal.τ).loc Cert.LastSampleRefIdeal.main_arg4) = m' ((c.tc : Thread Cert.LastSampleRefIdeal.nD Cert.LastSampleRefIdeal.τ).loc Cert.LastSampleRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_CastBr_CastBrIdeal : Prop :=
  True

def algebraic_CastBrIdeal_CastBrRefIdeal [hCastBrIdeal : Cert.CastBrIdeal.Facts] [hCastBrRefIdeal : Cert.CastBrRefIdeal.Facts] : Prop :=
  ∀ (m : (ℓ : Loc Cert.CastBrIdeal.nD Cert.CastBrIdeal.τ Cert.CastBrIdeal.sig) → Buf (Elt Ideal) ℓ) (g : Dev Cert.CastBrIdeal.nD → PrngReg)
    (m' : (ℓ : Loc Cert.CastBrRefIdeal.nD Cert.CastBrRefIdeal.τ Cert.CastBrRefIdeal.sig) → Buf (Elt Ideal) ℓ) (g' : Dev Cert.CastBrRefIdeal.nD → PrngReg), Pre_CastBrIdeal m →
    (∀ c : Dev Cert.CastBrIdeal.nD,
      m' ((c.tc : Thread Cert.CastBrRefIdeal.nD Cert.CastBrRefIdeal.τ).loc Cert.CastBrRefIdeal.main_arg0) = m ((c.tc : Thread Cert.CastBrIdeal.nD Cert.CastBrIdeal.τ).loc Cert.CastBrIdeal.main_arg0)) →
    ∃ (v0 : (c : Dev Cert.CastBrIdeal.nD) → Buf (Elt Ideal) ((c.tc : Thread Cert.CastBrIdeal.nD Cert.CastBrIdeal.τ).loc Cert.CastBrIdeal.main_v1)),
      θ_run (Cert.CastBrIdeal.defs (F := Ideal)) (onTc (τ := Cert.CastBrIdeal.τ) (Cert.CastBrIdeal.main (F := Ideal))) ⟨m, fun _ => 0, g⟩ (fun r => ∀ c : Dev Cert.CastBrIdeal.nD,
          r.2.mem ((c.tc : Thread Cert.CastBrIdeal.nD Cert.CastBrIdeal.τ).loc Cert.CastBrIdeal.main_v1) = v0 c
          ∧ r.2.mem ((c.tc : Thread Cert.CastBrIdeal.nD Cert.CastBrIdeal.τ).loc Cert.CastBrIdeal.main_arg0) = m ((c.tc : Thread Cert.CastBrIdeal.nD Cert.CastBrIdeal.τ).loc Cert.CastBrIdeal.main_arg0))
      ∧ θ_run (Cert.CastBrRefIdeal.defs (F := Ideal)) (onTc (τ := Cert.CastBrRefIdeal.τ) (Cert.CastBrRefIdeal.main (F := Ideal))) ⟨m', fun _ => 0, g'⟩ (fun r => ∀ c : Dev Cert.CastBrRefIdeal.nD,
          r.2.mem ((c.tc : Thread Cert.CastBrRefIdeal.nD Cert.CastBrRefIdeal.τ).loc Cert.CastBrRefIdeal.main_v3) = v0 c
          ∧ r.2.mem ((c.tc : Thread Cert.CastBrRefIdeal.nD Cert.CastBrRefIdeal.τ).loc Cert.CastBrRefIdeal.main_arg0) = m' ((c.tc : Thread Cert.CastBrRefIdeal.nD Cert.CastBrRefIdeal.τ).loc Cert.CastBrRefIdeal.main_arg0))

def preserves_CastDown_CastDownIdeal : Prop :=
  True

def algebraic_CastDownIdeal_CastDownRefIdeal [hCastDownIdeal : Cert.CastDownIdeal.Facts] [hCastDownRefIdeal : Cert.CastDownRefIdeal.Facts] : Prop :=
  ∀ (m : (ℓ : Loc Cert.CastDownIdeal.nD Cert.CastDownIdeal.τ Cert.CastDownIdeal.sig) → Buf (Elt Ideal) ℓ) (g : Dev Cert.CastDownIdeal.nD → PrngReg)
    (m' : (ℓ : Loc Cert.CastDownRefIdeal.nD Cert.CastDownRefIdeal.τ Cert.CastDownRefIdeal.sig) → Buf (Elt Ideal) ℓ) (g' : Dev Cert.CastDownRefIdeal.nD → PrngReg), Pre_CastDownIdeal m →
    (∀ c : Dev Cert.CastDownIdeal.nD,
      m' ((c.tc : Thread Cert.CastDownRefIdeal.nD Cert.CastDownRefIdeal.τ).loc Cert.CastDownRefIdeal.main_arg0) = m ((c.tc : Thread Cert.CastDownIdeal.nD Cert.CastDownIdeal.τ).loc Cert.CastDownIdeal.main_arg0)) →
    ∃ (v0 : (c : Dev Cert.CastDownIdeal.nD) → Buf (Elt Ideal) ((c.tc : Thread Cert.CastDownIdeal.nD Cert.CastDownIdeal.τ).loc Cert.CastDownIdeal.main_v0)),
      θ_run (Cert.CastDownIdeal.defs (F := Ideal)) (onTc (τ := Cert.CastDownIdeal.τ) (Cert.CastDownIdeal.main (F := Ideal))) ⟨m, fun _ => 0, g⟩ (fun r => ∀ c : Dev Cert.CastDownIdeal.nD,
          r.2.mem ((c.tc : Thread Cert.CastDownIdeal.nD Cert.CastDownIdeal.τ).loc Cert.CastDownIdeal.main_v0) = v0 c
          ∧ r.2.mem ((c.tc : Thread Cert.CastDownIdeal.nD Cert.CastDownIdeal.τ).loc Cert.CastDownIdeal.main_arg0) = m ((c.tc : Thread Cert.CastDownIdeal.nD Cert.CastDownIdeal.τ).loc Cert.CastDownIdeal.main_arg0))
      ∧ θ_run (Cert.CastDownRefIdeal.defs (F := Ideal)) (onTc (τ := Cert.CastDownRefIdeal.τ) (Cert.CastDownRefIdeal.main (F := Ideal))) ⟨m', fun _ => 0, g'⟩ (fun r => ∀ c : Dev Cert.CastDownRefIdeal.nD,
          r.2.mem ((c.tc : Thread Cert.CastDownRefIdeal.nD Cert.CastDownRefIdeal.τ).loc Cert.CastDownRefIdeal.main_v2) = v0 c
          ∧ r.2.mem ((c.tc : Thread Cert.CastDownRefIdeal.nD Cert.CastDownRefIdeal.τ).loc Cert.CastDownRefIdeal.main_arg0) = m' ((c.tc : Thread Cert.CastDownRefIdeal.nD Cert.CastDownRefIdeal.τ).loc Cert.CastDownRefIdeal.main_arg0))

def preserves_OpenPrompt_OpenPromptIdeal : Prop :=
  True

def algebraic_OpenPromptIdeal_OpenPromptRefIdeal [hOpenPromptIdeal : Cert.OpenPromptIdeal.Facts] [hOpenPromptRefIdeal : Cert.OpenPromptRefIdeal.Facts] : Prop :=
  ∀ (m : (ℓ : Loc Cert.OpenPromptIdeal.nD Cert.OpenPromptIdeal.τ Cert.OpenPromptIdeal.sig) → Buf (Elt Ideal) ℓ) (g : Dev Cert.OpenPromptIdeal.nD → PrngReg)
    (m' : (ℓ : Loc Cert.OpenPromptRefIdeal.nD Cert.OpenPromptRefIdeal.τ Cert.OpenPromptRefIdeal.sig) → Buf (Elt Ideal) ℓ) (g' : Dev Cert.OpenPromptRefIdeal.nD → PrngReg), Pre_OpenPromptIdeal m →
    (∀ c : Dev Cert.OpenPromptIdeal.nD,
      m' ((c.tc : Thread Cert.OpenPromptRefIdeal.nD Cert.OpenPromptRefIdeal.τ).loc Cert.OpenPromptRefIdeal.main_arg0) = m ((c.tc : Thread Cert.OpenPromptIdeal.nD Cert.OpenPromptIdeal.τ).loc Cert.OpenPromptIdeal.main_arg0)
      ∧ m' ((c.tc : Thread Cert.OpenPromptRefIdeal.nD Cert.OpenPromptRefIdeal.τ).loc Cert.OpenPromptRefIdeal.main_arg1) = m ((c.tc : Thread Cert.OpenPromptIdeal.nD Cert.OpenPromptIdeal.τ).loc Cert.OpenPromptIdeal.main_arg1)) →
    ∃ (v0 : (c : Dev Cert.OpenPromptIdeal.nD) → Buf (Elt Ideal) ((c.tc : Thread Cert.OpenPromptIdeal.nD Cert.OpenPromptIdeal.τ).loc Cert.OpenPromptIdeal.main_v3)),
      θ_run (Cert.OpenPromptIdeal.defs (F := Ideal)) (onTc (τ := Cert.OpenPromptIdeal.τ) (Cert.OpenPromptIdeal.main (F := Ideal))) ⟨m, fun _ => 0, g⟩ (fun r => ∀ c : Dev Cert.OpenPromptIdeal.nD,
          r.2.mem ((c.tc : Thread Cert.OpenPromptIdeal.nD Cert.OpenPromptIdeal.τ).loc Cert.OpenPromptIdeal.main_v3) = v0 c
          ∧ r.2.mem ((c.tc : Thread Cert.OpenPromptIdeal.nD Cert.OpenPromptIdeal.τ).loc Cert.OpenPromptIdeal.main_arg0) = m ((c.tc : Thread Cert.OpenPromptIdeal.nD Cert.OpenPromptIdeal.τ).loc Cert.OpenPromptIdeal.main_arg0)
          ∧ r.2.mem ((c.tc : Thread Cert.OpenPromptIdeal.nD Cert.OpenPromptIdeal.τ).loc Cert.OpenPromptIdeal.main_arg1) = m ((c.tc : Thread Cert.OpenPromptIdeal.nD Cert.OpenPromptIdeal.τ).loc Cert.OpenPromptIdeal.main_arg1))
      ∧ θ_run (Cert.OpenPromptRefIdeal.defs (F := Ideal)) (onTc (τ := Cert.OpenPromptRefIdeal.τ) (Cert.OpenPromptRefIdeal.main (F := Ideal))) ⟨m', fun _ => 0, g'⟩ (fun r => ∀ c : Dev Cert.OpenPromptRefIdeal.nD,
          r.2.mem ((c.tc : Thread Cert.OpenPromptRefIdeal.nD Cert.OpenPromptRefIdeal.τ).loc Cert.OpenPromptRefIdeal.main_v38) = v0 c
          ∧ r.2.mem ((c.tc : Thread Cert.OpenPromptRefIdeal.nD Cert.OpenPromptRefIdeal.τ).loc Cert.OpenPromptRefIdeal.main_arg0) = m' ((c.tc : Thread Cert.OpenPromptRefIdeal.nD Cert.OpenPromptRefIdeal.τ).loc Cert.OpenPromptRefIdeal.main_arg0)
          ∧ r.2.mem ((c.tc : Thread Cert.OpenPromptRefIdeal.nD Cert.OpenPromptRefIdeal.τ).loc Cert.OpenPromptRefIdeal.main_arg1) = m' ((c.tc : Thread Cert.OpenPromptRefIdeal.nD Cert.OpenPromptRefIdeal.τ).loc Cert.OpenPromptRefIdeal.main_arg1))

def preserves_OpenSample_OpenSampleIdeal : Prop :=
  True

def algebraic_OpenSampleIdeal_OpenSampleRefIdeal [hOpenSampleIdeal : Cert.OpenSampleIdeal.Facts] [hOpenSampleRefIdeal : Cert.OpenSampleRefIdeal.Facts] : Prop :=
  ∀ (m : (ℓ : Loc Cert.OpenSampleIdeal.nD Cert.OpenSampleIdeal.τ Cert.OpenSampleIdeal.sig) → Buf (Elt Ideal) ℓ) (g : Dev Cert.OpenSampleIdeal.nD → PrngReg)
    (m' : (ℓ : Loc Cert.OpenSampleRefIdeal.nD Cert.OpenSampleRefIdeal.τ Cert.OpenSampleRefIdeal.sig) → Buf (Elt Ideal) ℓ) (g' : Dev Cert.OpenSampleRefIdeal.nD → PrngReg), Pre_OpenSampleIdeal m →
    (∀ c : Dev Cert.OpenSampleIdeal.nD,
      m' ((c.tc : Thread Cert.OpenSampleRefIdeal.nD Cert.OpenSampleRefIdeal.τ).loc Cert.OpenSampleRefIdeal.main_arg0) = m ((c.tc : Thread Cert.OpenSampleIdeal.nD Cert.OpenSampleIdeal.τ).loc Cert.OpenSampleIdeal.main_arg0)
      ∧ m' ((c.tc : Thread Cert.OpenSampleRefIdeal.nD Cert.OpenSampleRefIdeal.τ).loc Cert.OpenSampleRefIdeal.main_arg1) = m ((c.tc : Thread Cert.OpenSampleIdeal.nD Cert.OpenSampleIdeal.τ).loc Cert.OpenSampleIdeal.main_arg1)) →
    ∃ (v0 : (c : Dev Cert.OpenSampleIdeal.nD) → Buf (Elt Ideal) ((c.tc : Thread Cert.OpenSampleIdeal.nD Cert.OpenSampleIdeal.τ).loc Cert.OpenSampleIdeal.main_v3)),
      θ_run (Cert.OpenSampleIdeal.defs (F := Ideal)) (onTc (τ := Cert.OpenSampleIdeal.τ) (Cert.OpenSampleIdeal.main (F := Ideal))) ⟨m, fun _ => 0, g⟩ (fun r => ∀ c : Dev Cert.OpenSampleIdeal.nD,
          r.2.mem ((c.tc : Thread Cert.OpenSampleIdeal.nD Cert.OpenSampleIdeal.τ).loc Cert.OpenSampleIdeal.main_v3) = v0 c
          ∧ r.2.mem ((c.tc : Thread Cert.OpenSampleIdeal.nD Cert.OpenSampleIdeal.τ).loc Cert.OpenSampleIdeal.main_arg0) = m ((c.tc : Thread Cert.OpenSampleIdeal.nD Cert.OpenSampleIdeal.τ).loc Cert.OpenSampleIdeal.main_arg0)
          ∧ r.2.mem ((c.tc : Thread Cert.OpenSampleIdeal.nD Cert.OpenSampleIdeal.τ).loc Cert.OpenSampleIdeal.main_arg1) = m ((c.tc : Thread Cert.OpenSampleIdeal.nD Cert.OpenSampleIdeal.τ).loc Cert.OpenSampleIdeal.main_arg1))
      ∧ θ_run (Cert.OpenSampleRefIdeal.defs (F := Ideal)) (onTc (τ := Cert.OpenSampleRefIdeal.τ) (Cert.OpenSampleRefIdeal.main (F := Ideal))) ⟨m', fun _ => 0, g'⟩ (fun r => ∀ c : Dev Cert.OpenSampleRefIdeal.nD,
          r.2.mem ((c.tc : Thread Cert.OpenSampleRefIdeal.nD Cert.OpenSampleRefIdeal.τ).loc Cert.OpenSampleRefIdeal.main_v38) = v0 c
          ∧ r.2.mem ((c.tc : Thread Cert.OpenSampleRefIdeal.nD Cert.OpenSampleRefIdeal.τ).loc Cert.OpenSampleRefIdeal.main_arg0) = m' ((c.tc : Thread Cert.OpenSampleRefIdeal.nD Cert.OpenSampleRefIdeal.τ).loc Cert.OpenSampleRefIdeal.main_arg0)
          ∧ r.2.mem ((c.tc : Thread Cert.OpenSampleRefIdeal.nD Cert.OpenSampleRefIdeal.τ).loc Cert.OpenSampleRefIdeal.main_arg1) = m' ((c.tc : Thread Cert.OpenSampleRefIdeal.nD Cert.OpenSampleRefIdeal.τ).loc Cert.OpenSampleRefIdeal.main_arg1))

def preserves_MidPrompt_MidPromptIdeal : Prop :=
  True

def algebraic_MidPromptIdeal_MidPromptRefIdeal [hMidPromptIdeal : Cert.MidPromptIdeal.Facts] [hMidPromptRefIdeal : Cert.MidPromptRefIdeal.Facts] : Prop :=
  ∀ (m : (ℓ : Loc Cert.MidPromptIdeal.nD Cert.MidPromptIdeal.τ Cert.MidPromptIdeal.sig) → Buf (Elt Ideal) ℓ) (g : Dev Cert.MidPromptIdeal.nD → PrngReg)
    (m' : (ℓ : Loc Cert.MidPromptRefIdeal.nD Cert.MidPromptRefIdeal.τ Cert.MidPromptRefIdeal.sig) → Buf (Elt Ideal) ℓ) (g' : Dev Cert.MidPromptRefIdeal.nD → PrngReg), Pre_MidPromptIdeal m →
    (∀ c : Dev Cert.MidPromptIdeal.nD,
      m' ((c.tc : Thread Cert.MidPromptRefIdeal.nD Cert.MidPromptRefIdeal.τ).loc Cert.MidPromptRefIdeal.main_arg0) = m ((c.tc : Thread Cert.MidPromptIdeal.nD Cert.MidPromptIdeal.τ).loc Cert.MidPromptIdeal.main_arg0)
      ∧ m' ((c.tc : Thread Cert.MidPromptRefIdeal.nD Cert.MidPromptRefIdeal.τ).loc Cert.MidPromptRefIdeal.main_arg1) = m ((c.tc : Thread Cert.MidPromptIdeal.nD Cert.MidPromptIdeal.τ).loc Cert.MidPromptIdeal.main_arg1)
      ∧ m' ((c.tc : Thread Cert.MidPromptRefIdeal.nD Cert.MidPromptRefIdeal.τ).loc Cert.MidPromptRefIdeal.main_arg2) = m ((c.tc : Thread Cert.MidPromptIdeal.nD Cert.MidPromptIdeal.τ).loc Cert.MidPromptIdeal.main_arg2)
      ∧ m' ((c.tc : Thread Cert.MidPromptRefIdeal.nD Cert.MidPromptRefIdeal.τ).loc Cert.MidPromptRefIdeal.main_arg3) = m ((c.tc : Thread Cert.MidPromptIdeal.nD Cert.MidPromptIdeal.τ).loc Cert.MidPromptIdeal.main_arg3)
      ∧ m' ((c.tc : Thread Cert.MidPromptRefIdeal.nD Cert.MidPromptRefIdeal.τ).loc Cert.MidPromptRefIdeal.main_arg4) = m ((c.tc : Thread Cert.MidPromptIdeal.nD Cert.MidPromptIdeal.τ).loc Cert.MidPromptIdeal.main_arg4)) →
    ∃ (v0 : (c : Dev Cert.MidPromptIdeal.nD) → Buf (Elt Ideal) ((c.tc : Thread Cert.MidPromptIdeal.nD Cert.MidPromptIdeal.τ).loc Cert.MidPromptIdeal.main_v11_0)) (v1 : (c : Dev Cert.MidPromptIdeal.nD) → Buf (Elt Ideal) ((c.tc : Thread Cert.MidPromptIdeal.nD Cert.MidPromptIdeal.τ).loc Cert.MidPromptIdeal.main_v11_1)),
      θ_run (Cert.MidPromptIdeal.defs (F := Ideal)) (onTc (τ := Cert.MidPromptIdeal.τ) (Cert.MidPromptIdeal.main (F := Ideal))) ⟨m, fun _ => 0, g⟩ (fun r => ∀ c : Dev Cert.MidPromptIdeal.nD,
          r.2.mem ((c.tc : Thread Cert.MidPromptIdeal.nD Cert.MidPromptIdeal.τ).loc Cert.MidPromptIdeal.main_v11_0) = v0 c
          ∧ r.2.mem ((c.tc : Thread Cert.MidPromptIdeal.nD Cert.MidPromptIdeal.τ).loc Cert.MidPromptIdeal.main_v11_1) = v1 c
          ∧ r.2.mem ((c.tc : Thread Cert.MidPromptIdeal.nD Cert.MidPromptIdeal.τ).loc Cert.MidPromptIdeal.main_arg0) = m ((c.tc : Thread Cert.MidPromptIdeal.nD Cert.MidPromptIdeal.τ).loc Cert.MidPromptIdeal.main_arg0)
          ∧ r.2.mem ((c.tc : Thread Cert.MidPromptIdeal.nD Cert.MidPromptIdeal.τ).loc Cert.MidPromptIdeal.main_arg1) = m ((c.tc : Thread Cert.MidPromptIdeal.nD Cert.MidPromptIdeal.τ).loc Cert.MidPromptIdeal.main_arg1)
          ∧ r.2.mem ((c.tc : Thread Cert.MidPromptIdeal.nD Cert.MidPromptIdeal.τ).loc Cert.MidPromptIdeal.main_arg2) = m ((c.tc : Thread Cert.MidPromptIdeal.nD Cert.MidPromptIdeal.τ).loc Cert.MidPromptIdeal.main_arg2)
          ∧ r.2.mem ((c.tc : Thread Cert.MidPromptIdeal.nD Cert.MidPromptIdeal.τ).loc Cert.MidPromptIdeal.main_arg3) = m ((c.tc : Thread Cert.MidPromptIdeal.nD Cert.MidPromptIdeal.τ).loc Cert.MidPromptIdeal.main_arg3)
          ∧ r.2.mem ((c.tc : Thread Cert.MidPromptIdeal.nD Cert.MidPromptIdeal.τ).loc Cert.MidPromptIdeal.main_arg4) = m ((c.tc : Thread Cert.MidPromptIdeal.nD Cert.MidPromptIdeal.τ).loc Cert.MidPromptIdeal.main_arg4))
      ∧ θ_run (Cert.MidPromptRefIdeal.defs (F := Ideal)) (onTc (τ := Cert.MidPromptRefIdeal.τ) (Cert.MidPromptRefIdeal.main (F := Ideal))) ⟨m', fun _ => 0, g'⟩ (fun r => ∀ c : Dev Cert.MidPromptRefIdeal.nD,
          r.2.mem ((c.tc : Thread Cert.MidPromptRefIdeal.nD Cert.MidPromptRefIdeal.τ).loc Cert.MidPromptRefIdeal.main_v74) = v0 c
          ∧ r.2.mem ((c.tc : Thread Cert.MidPromptRefIdeal.nD Cert.MidPromptRefIdeal.τ).loc Cert.MidPromptRefIdeal.main_v76) = v1 c
          ∧ r.2.mem ((c.tc : Thread Cert.MidPromptRefIdeal.nD Cert.MidPromptRefIdeal.τ).loc Cert.MidPromptRefIdeal.main_arg0) = m' ((c.tc : Thread Cert.MidPromptRefIdeal.nD Cert.MidPromptRefIdeal.τ).loc Cert.MidPromptRefIdeal.main_arg0)
          ∧ r.2.mem ((c.tc : Thread Cert.MidPromptRefIdeal.nD Cert.MidPromptRefIdeal.τ).loc Cert.MidPromptRefIdeal.main_arg1) = m' ((c.tc : Thread Cert.MidPromptRefIdeal.nD Cert.MidPromptRefIdeal.τ).loc Cert.MidPromptRefIdeal.main_arg1)
          ∧ r.2.mem ((c.tc : Thread Cert.MidPromptRefIdeal.nD Cert.MidPromptRefIdeal.τ).loc Cert.MidPromptRefIdeal.main_arg2) = m' ((c.tc : Thread Cert.MidPromptRefIdeal.nD Cert.MidPromptRefIdeal.τ).loc Cert.MidPromptRefIdeal.main_arg2)
          ∧ r.2.mem ((c.tc : Thread Cert.MidPromptRefIdeal.nD Cert.MidPromptRefIdeal.τ).loc Cert.MidPromptRefIdeal.main_arg3) = m' ((c.tc : Thread Cert.MidPromptRefIdeal.nD Cert.MidPromptRefIdeal.τ).loc Cert.MidPromptRefIdeal.main_arg3)
          ∧ r.2.mem ((c.tc : Thread Cert.MidPromptRefIdeal.nD Cert.MidPromptRefIdeal.τ).loc Cert.MidPromptRefIdeal.main_arg4) = m' ((c.tc : Thread Cert.MidPromptRefIdeal.nD Cert.MidPromptRefIdeal.τ).loc Cert.MidPromptRefIdeal.main_arg4))

def preserves_MidSample_MidSampleIdeal : Prop :=
  True

def algebraic_MidSampleIdeal_MidSampleRefIdeal [hMidSampleIdeal : Cert.MidSampleIdeal.Facts] [hMidSampleRefIdeal : Cert.MidSampleRefIdeal.Facts] : Prop :=
  ∀ (m : (ℓ : Loc Cert.MidSampleIdeal.nD Cert.MidSampleIdeal.τ Cert.MidSampleIdeal.sig) → Buf (Elt Ideal) ℓ) (g : Dev Cert.MidSampleIdeal.nD → PrngReg)
    (m' : (ℓ : Loc Cert.MidSampleRefIdeal.nD Cert.MidSampleRefIdeal.τ Cert.MidSampleRefIdeal.sig) → Buf (Elt Ideal) ℓ) (g' : Dev Cert.MidSampleRefIdeal.nD → PrngReg), Pre_MidSampleIdeal m →
    (∀ c : Dev Cert.MidSampleIdeal.nD,
      m' ((c.tc : Thread Cert.MidSampleRefIdeal.nD Cert.MidSampleRefIdeal.τ).loc Cert.MidSampleRefIdeal.main_arg0) = m ((c.tc : Thread Cert.MidSampleIdeal.nD Cert.MidSampleIdeal.τ).loc Cert.MidSampleIdeal.main_arg0)
      ∧ m' ((c.tc : Thread Cert.MidSampleRefIdeal.nD Cert.MidSampleRefIdeal.τ).loc Cert.MidSampleRefIdeal.main_arg1) = m ((c.tc : Thread Cert.MidSampleIdeal.nD Cert.MidSampleIdeal.τ).loc Cert.MidSampleIdeal.main_arg1)
      ∧ m' ((c.tc : Thread Cert.MidSampleRefIdeal.nD Cert.MidSampleRefIdeal.τ).loc Cert.MidSampleRefIdeal.main_arg2) = m ((c.tc : Thread Cert.MidSampleIdeal.nD Cert.MidSampleIdeal.τ).loc Cert.MidSampleIdeal.main_arg2)
      ∧ m' ((c.tc : Thread Cert.MidSampleRefIdeal.nD Cert.MidSampleRefIdeal.τ).loc Cert.MidSampleRefIdeal.main_arg3) = m ((c.tc : Thread Cert.MidSampleIdeal.nD Cert.MidSampleIdeal.τ).loc Cert.MidSampleIdeal.main_arg3)
      ∧ m' ((c.tc : Thread Cert.MidSampleRefIdeal.nD Cert.MidSampleRefIdeal.τ).loc Cert.MidSampleRefIdeal.main_arg4) = m ((c.tc : Thread Cert.MidSampleIdeal.nD Cert.MidSampleIdeal.τ).loc Cert.MidSampleIdeal.main_arg4)) →
    ∃ (v0 : (c : Dev Cert.MidSampleIdeal.nD) → Buf (Elt Ideal) ((c.tc : Thread Cert.MidSampleIdeal.nD Cert.MidSampleIdeal.τ).loc Cert.MidSampleIdeal.main_v11_0)) (v1 : (c : Dev Cert.MidSampleIdeal.nD) → Buf (Elt Ideal) ((c.tc : Thread Cert.MidSampleIdeal.nD Cert.MidSampleIdeal.τ).loc Cert.MidSampleIdeal.main_v11_1)),
      θ_run (Cert.MidSampleIdeal.defs (F := Ideal)) (onTc (τ := Cert.MidSampleIdeal.τ) (Cert.MidSampleIdeal.main (F := Ideal))) ⟨m, fun _ => 0, g⟩ (fun r => ∀ c : Dev Cert.MidSampleIdeal.nD,
          r.2.mem ((c.tc : Thread Cert.MidSampleIdeal.nD Cert.MidSampleIdeal.τ).loc Cert.MidSampleIdeal.main_v11_0) = v0 c
          ∧ r.2.mem ((c.tc : Thread Cert.MidSampleIdeal.nD Cert.MidSampleIdeal.τ).loc Cert.MidSampleIdeal.main_v11_1) = v1 c
          ∧ r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
          ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
          ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
          ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
          ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4))
      ∧ θ_run (Cert.MidSampleRefIdeal.defs (F := Ideal)) (onTc (τ := Cert.MidSampleRefIdeal.τ) (Cert.MidSampleRefIdeal.main (F := Ideal))) ⟨m', fun _ => 0, g'⟩ (fun r => ∀ c : Dev Cert.MidSampleRefIdeal.nD,
          r.2.mem ((c.tc : Thread Cert.MidSampleRefIdeal.nD Cert.MidSampleRefIdeal.τ).loc Cert.MidSampleRefIdeal.main_v74) = v0 c
          ∧ r.2.mem ((c.tc : Thread Cert.MidSampleRefIdeal.nD Cert.MidSampleRefIdeal.τ).loc Cert.MidSampleRefIdeal.main_v76) = v1 c
          ∧ r.2.mem ((c.tc : Thread Cert.MidSampleRefIdeal.nD Cert.MidSampleRefIdeal.τ).loc Cert.MidSampleRefIdeal.main_arg0) = m' ((c.tc : Thread Cert.MidSampleRefIdeal.nD Cert.MidSampleRefIdeal.τ).loc Cert.MidSampleRefIdeal.main_arg0)
          ∧ r.2.mem ((c.tc : Thread Cert.MidSampleRefIdeal.nD Cert.MidSampleRefIdeal.τ).loc Cert.MidSampleRefIdeal.main_arg1) = m' ((c.tc : Thread Cert.MidSampleRefIdeal.nD Cert.MidSampleRefIdeal.τ).loc Cert.MidSampleRefIdeal.main_arg1)
          ∧ r.2.mem ((c.tc : Thread Cert.MidSampleRefIdeal.nD Cert.MidSampleRefIdeal.τ).loc Cert.MidSampleRefIdeal.main_arg2) = m' ((c.tc : Thread Cert.MidSampleRefIdeal.nD Cert.MidSampleRefIdeal.τ).loc Cert.MidSampleRefIdeal.main_arg2)
          ∧ r.2.mem ((c.tc : Thread Cert.MidSampleRefIdeal.nD Cert.MidSampleRefIdeal.τ).loc Cert.MidSampleRefIdeal.main_arg3) = m' ((c.tc : Thread Cert.MidSampleRefIdeal.nD Cert.MidSampleRefIdeal.τ).loc Cert.MidSampleRefIdeal.main_arg3)
          ∧ r.2.mem ((c.tc : Thread Cert.MidSampleRefIdeal.nD Cert.MidSampleRefIdeal.τ).loc Cert.MidSampleRefIdeal.main_arg4) = m' ((c.tc : Thread Cert.MidSampleRefIdeal.nD Cert.MidSampleRefIdeal.τ).loc Cert.MidSampleRefIdeal.main_arg4))

def preserves_NextPrompt_NextPromptIdeal : Prop :=
  True

def algebraic_NextPromptIdeal_NextPromptRefIdeal [hNextPromptIdeal : Cert.NextPromptIdeal.Facts] [hNextPromptRefIdeal : Cert.NextPromptRefIdeal.Facts] : Prop :=
  ∀ (m : (ℓ : Loc Cert.NextPromptIdeal.nD Cert.NextPromptIdeal.τ Cert.NextPromptIdeal.sig) → Buf (Elt Ideal) ℓ) (g : Dev Cert.NextPromptIdeal.nD → PrngReg)
    (m' : (ℓ : Loc Cert.NextPromptRefIdeal.nD Cert.NextPromptRefIdeal.τ Cert.NextPromptRefIdeal.sig) → Buf (Elt Ideal) ℓ) (g' : Dev Cert.NextPromptRefIdeal.nD → PrngReg), Pre_NextPromptIdeal m →
    (∀ c : Dev Cert.NextPromptIdeal.nD,
      m' ((c.tc : Thread Cert.NextPromptRefIdeal.nD Cert.NextPromptRefIdeal.τ).loc Cert.NextPromptRefIdeal.main_arg0) = m ((c.tc : Thread Cert.NextPromptIdeal.nD Cert.NextPromptIdeal.τ).loc Cert.NextPromptIdeal.main_arg0)
      ∧ m' ((c.tc : Thread Cert.NextPromptRefIdeal.nD Cert.NextPromptRefIdeal.τ).loc Cert.NextPromptRefIdeal.main_arg1) = m ((c.tc : Thread Cert.NextPromptIdeal.nD Cert.NextPromptIdeal.τ).loc Cert.NextPromptIdeal.main_arg1)
      ∧ m' ((c.tc : Thread Cert.NextPromptRefIdeal.nD Cert.NextPromptRefIdeal.τ).loc Cert.NextPromptRefIdeal.main_arg2) = m ((c.tc : Thread Cert.NextPromptIdeal.nD Cert.NextPromptIdeal.τ).loc Cert.NextPromptIdeal.main_arg2)
      ∧ m' ((c.tc : Thread Cert.NextPromptRefIdeal.nD Cert.NextPromptRefIdeal.τ).loc Cert.NextPromptRefIdeal.main_arg3) = m ((c.tc : Thread Cert.NextPromptIdeal.nD Cert.NextPromptIdeal.τ).loc Cert.NextPromptIdeal.main_arg3)
      ∧ m' ((c.tc : Thread Cert.NextPromptRefIdeal.nD Cert.NextPromptRefIdeal.τ).loc Cert.NextPromptRefIdeal.main_arg4) = m ((c.tc : Thread Cert.NextPromptIdeal.nD Cert.NextPromptIdeal.τ).loc Cert.NextPromptIdeal.main_arg4)) →
    ∃ (v0 : (c : Dev Cert.NextPromptIdeal.nD) → Buf (Elt Ideal) ((c.tc : Thread Cert.NextPromptIdeal.nD Cert.NextPromptIdeal.τ).loc Cert.NextPromptIdeal.main_v14_0)) (v1 : (c : Dev Cert.NextPromptIdeal.nD) → Buf (Elt Ideal) ((c.tc : Thread Cert.NextPromptIdeal.nD Cert.NextPromptIdeal.τ).loc Cert.NextPromptIdeal.main_v14_1)),
      θ_run (Cert.NextPromptIdeal.defs (F := Ideal)) (onTc (τ := Cert.NextPromptIdeal.τ) (Cert.NextPromptIdeal.main (F := Ideal))) ⟨m, fun _ => 0, g⟩ (fun r => ∀ c : Dev Cert.NextPromptIdeal.nD,
          r.2.mem ((c.tc : Thread Cert.NextPromptIdeal.nD Cert.NextPromptIdeal.τ).loc Cert.NextPromptIdeal.main_v14_0) = v0 c
          ∧ r.2.mem ((c.tc : Thread Cert.NextPromptIdeal.nD Cert.NextPromptIdeal.τ).loc Cert.NextPromptIdeal.main_v14_1) = v1 c
          ∧ r.2.mem ((c.tc : Thread Cert.NextPromptIdeal.nD Cert.NextPromptIdeal.τ).loc Cert.NextPromptIdeal.main_arg0) = m ((c.tc : Thread Cert.NextPromptIdeal.nD Cert.NextPromptIdeal.τ).loc Cert.NextPromptIdeal.main_arg0)
          ∧ r.2.mem ((c.tc : Thread Cert.NextPromptIdeal.nD Cert.NextPromptIdeal.τ).loc Cert.NextPromptIdeal.main_arg1) = m ((c.tc : Thread Cert.NextPromptIdeal.nD Cert.NextPromptIdeal.τ).loc Cert.NextPromptIdeal.main_arg1)
          ∧ r.2.mem ((c.tc : Thread Cert.NextPromptIdeal.nD Cert.NextPromptIdeal.τ).loc Cert.NextPromptIdeal.main_arg2) = m ((c.tc : Thread Cert.NextPromptIdeal.nD Cert.NextPromptIdeal.τ).loc Cert.NextPromptIdeal.main_arg2)
          ∧ r.2.mem ((c.tc : Thread Cert.NextPromptIdeal.nD Cert.NextPromptIdeal.τ).loc Cert.NextPromptIdeal.main_arg3) = m ((c.tc : Thread Cert.NextPromptIdeal.nD Cert.NextPromptIdeal.τ).loc Cert.NextPromptIdeal.main_arg3)
          ∧ r.2.mem ((c.tc : Thread Cert.NextPromptIdeal.nD Cert.NextPromptIdeal.τ).loc Cert.NextPromptIdeal.main_arg4) = m ((c.tc : Thread Cert.NextPromptIdeal.nD Cert.NextPromptIdeal.τ).loc Cert.NextPromptIdeal.main_arg4))
      ∧ θ_run (Cert.NextPromptRefIdeal.defs (F := Ideal)) (onTc (τ := Cert.NextPromptRefIdeal.τ) (Cert.NextPromptRefIdeal.main (F := Ideal))) ⟨m', fun _ => 0, g'⟩ (fun r => ∀ c : Dev Cert.NextPromptRefIdeal.nD,
          r.2.mem ((c.tc : Thread Cert.NextPromptRefIdeal.nD Cert.NextPromptRefIdeal.τ).loc Cert.NextPromptRefIdeal.main_v83) = v0 c
          ∧ r.2.mem ((c.tc : Thread Cert.NextPromptRefIdeal.nD Cert.NextPromptRefIdeal.τ).loc Cert.NextPromptRefIdeal.main_v85) = v1 c
          ∧ r.2.mem ((c.tc : Thread Cert.NextPromptRefIdeal.nD Cert.NextPromptRefIdeal.τ).loc Cert.NextPromptRefIdeal.main_arg0) = m' ((c.tc : Thread Cert.NextPromptRefIdeal.nD Cert.NextPromptRefIdeal.τ).loc Cert.NextPromptRefIdeal.main_arg0)
          ∧ r.2.mem ((c.tc : Thread Cert.NextPromptRefIdeal.nD Cert.NextPromptRefIdeal.τ).loc Cert.NextPromptRefIdeal.main_arg1) = m' ((c.tc : Thread Cert.NextPromptRefIdeal.nD Cert.NextPromptRefIdeal.τ).loc Cert.NextPromptRefIdeal.main_arg1)
          ∧ r.2.mem ((c.tc : Thread Cert.NextPromptRefIdeal.nD Cert.NextPromptRefIdeal.τ).loc Cert.NextPromptRefIdeal.main_arg2) = m' ((c.tc : Thread Cert.NextPromptRefIdeal.nD Cert.NextPromptRefIdeal.τ).loc Cert.NextPromptRefIdeal.main_arg2)
          ∧ r.2.mem ((c.tc : Thread Cert.NextPromptRefIdeal.nD Cert.NextPromptRefIdeal.τ).loc Cert.NextPromptRefIdeal.main_arg3) = m' ((c.tc : Thread Cert.NextPromptRefIdeal.nD Cert.NextPromptRefIdeal.τ).loc Cert.NextPromptRefIdeal.main_arg3)
          ∧ r.2.mem ((c.tc : Thread Cert.NextPromptRefIdeal.nD Cert.NextPromptRefIdeal.τ).loc Cert.NextPromptRefIdeal.main_arg4) = m' ((c.tc : Thread Cert.NextPromptRefIdeal.nD Cert.NextPromptRefIdeal.τ).loc Cert.NextPromptRefIdeal.main_arg4))

def preserves_NextSample_NextSampleIdeal : Prop :=
  True

def algebraic_NextSampleIdeal_NextSampleRefIdeal [hNextSampleIdeal : Cert.NextSampleIdeal.Facts] [hNextSampleRefIdeal : Cert.NextSampleRefIdeal.Facts] : Prop :=
  ∀ (m : (ℓ : Loc Cert.NextSampleIdeal.nD Cert.NextSampleIdeal.τ Cert.NextSampleIdeal.sig) → Buf (Elt Ideal) ℓ) (g : Dev Cert.NextSampleIdeal.nD → PrngReg)
    (m' : (ℓ : Loc Cert.NextSampleRefIdeal.nD Cert.NextSampleRefIdeal.τ Cert.NextSampleRefIdeal.sig) → Buf (Elt Ideal) ℓ) (g' : Dev Cert.NextSampleRefIdeal.nD → PrngReg), Pre_NextSampleIdeal m →
    (∀ c : Dev Cert.NextSampleIdeal.nD,
      m' ((c.tc : Thread Cert.NextSampleRefIdeal.nD Cert.NextSampleRefIdeal.τ).loc Cert.NextSampleRefIdeal.main_arg0) = m ((c.tc : Thread Cert.NextSampleIdeal.nD Cert.NextSampleIdeal.τ).loc Cert.NextSampleIdeal.main_arg0)
      ∧ m' ((c.tc : Thread Cert.NextSampleRefIdeal.nD Cert.NextSampleRefIdeal.τ).loc Cert.NextSampleRefIdeal.main_arg1) = m ((c.tc : Thread Cert.NextSampleIdeal.nD Cert.NextSampleIdeal.τ).loc Cert.NextSampleIdeal.main_arg1)
      ∧ m' ((c.tc : Thread Cert.NextSampleRefIdeal.nD Cert.NextSampleRefIdeal.τ).loc Cert.NextSampleRefIdeal.main_arg2) = m ((c.tc : Thread Cert.NextSampleIdeal.nD Cert.NextSampleIdeal.τ).loc Cert.NextSampleIdeal.main_arg2)
      ∧ m' ((c.tc : Thread Cert.NextSampleRefIdeal.nD Cert.NextSampleRefIdeal.τ).loc Cert.NextSampleRefIdeal.main_arg3) = m ((c.tc : Thread Cert.NextSampleIdeal.nD Cert.NextSampleIdeal.τ).loc Cert.NextSampleIdeal.main_arg3)
      ∧ m' ((c.tc : Thread Cert.NextSampleRefIdeal.nD Cert.NextSampleRefIdeal.τ).loc Cert.NextSampleRefIdeal.main_arg4) = m ((c.tc : Thread Cert.NextSampleIdeal.nD Cert.NextSampleIdeal.τ).loc Cert.NextSampleIdeal.main_arg4)) →
    ∃ (v0 : (c : Dev Cert.NextSampleIdeal.nD) → Buf (Elt Ideal) ((c.tc : Thread Cert.NextSampleIdeal.nD Cert.NextSampleIdeal.τ).loc Cert.NextSampleIdeal.main_v14_0)) (v1 : (c : Dev Cert.NextSampleIdeal.nD) → Buf (Elt Ideal) ((c.tc : Thread Cert.NextSampleIdeal.nD Cert.NextSampleIdeal.τ).loc Cert.NextSampleIdeal.main_v14_1)),
      θ_run (Cert.NextSampleIdeal.defs (F := Ideal)) (onTc (τ := Cert.NextSampleIdeal.τ) (Cert.NextSampleIdeal.main (F := Ideal))) ⟨m, fun _ => 0, g⟩ (fun r => ∀ c : Dev Cert.NextSampleIdeal.nD,
          r.2.mem ((c.tc : Thread Cert.NextSampleIdeal.nD Cert.NextSampleIdeal.τ).loc Cert.NextSampleIdeal.main_v14_0) = v0 c
          ∧ r.2.mem ((c.tc : Thread Cert.NextSampleIdeal.nD Cert.NextSampleIdeal.τ).loc Cert.NextSampleIdeal.main_v14_1) = v1 c
          ∧ r.2.mem ((c.tc : Thread Cert.NextSampleIdeal.nD Cert.NextSampleIdeal.τ).loc Cert.NextSampleIdeal.main_arg0) = m ((c.tc : Thread Cert.NextSampleIdeal.nD Cert.NextSampleIdeal.τ).loc Cert.NextSampleIdeal.main_arg0)
          ∧ r.2.mem ((c.tc : Thread Cert.NextSampleIdeal.nD Cert.NextSampleIdeal.τ).loc Cert.NextSampleIdeal.main_arg1) = m ((c.tc : Thread Cert.NextSampleIdeal.nD Cert.NextSampleIdeal.τ).loc Cert.NextSampleIdeal.main_arg1)
          ∧ r.2.mem ((c.tc : Thread Cert.NextSampleIdeal.nD Cert.NextSampleIdeal.τ).loc Cert.NextSampleIdeal.main_arg2) = m ((c.tc : Thread Cert.NextSampleIdeal.nD Cert.NextSampleIdeal.τ).loc Cert.NextSampleIdeal.main_arg2)
          ∧ r.2.mem ((c.tc : Thread Cert.NextSampleIdeal.nD Cert.NextSampleIdeal.τ).loc Cert.NextSampleIdeal.main_arg3) = m ((c.tc : Thread Cert.NextSampleIdeal.nD Cert.NextSampleIdeal.τ).loc Cert.NextSampleIdeal.main_arg3)
          ∧ r.2.mem ((c.tc : Thread Cert.NextSampleIdeal.nD Cert.NextSampleIdeal.τ).loc Cert.NextSampleIdeal.main_arg4) = m ((c.tc : Thread Cert.NextSampleIdeal.nD Cert.NextSampleIdeal.τ).loc Cert.NextSampleIdeal.main_arg4))
      ∧ θ_run (Cert.NextSampleRefIdeal.defs (F := Ideal)) (onTc (τ := Cert.NextSampleRefIdeal.τ) (Cert.NextSampleRefIdeal.main (F := Ideal))) ⟨m', fun _ => 0, g'⟩ (fun r => ∀ c : Dev Cert.NextSampleRefIdeal.nD,
          r.2.mem ((c.tc : Thread Cert.NextSampleRefIdeal.nD Cert.NextSampleRefIdeal.τ).loc Cert.NextSampleRefIdeal.main_v83) = v0 c
          ∧ r.2.mem ((c.tc : Thread Cert.NextSampleRefIdeal.nD Cert.NextSampleRefIdeal.τ).loc Cert.NextSampleRefIdeal.main_v85) = v1 c
          ∧ r.2.mem ((c.tc : Thread Cert.NextSampleRefIdeal.nD Cert.NextSampleRefIdeal.τ).loc Cert.NextSampleRefIdeal.main_arg0) = m' ((c.tc : Thread Cert.NextSampleRefIdeal.nD Cert.NextSampleRefIdeal.τ).loc Cert.NextSampleRefIdeal.main_arg0)
          ∧ r.2.mem ((c.tc : Thread Cert.NextSampleRefIdeal.nD Cert.NextSampleRefIdeal.τ).loc Cert.NextSampleRefIdeal.main_arg1) = m' ((c.tc : Thread Cert.NextSampleRefIdeal.nD Cert.NextSampleRefIdeal.τ).loc Cert.NextSampleRefIdeal.main_arg1)
          ∧ r.2.mem ((c.tc : Thread Cert.NextSampleRefIdeal.nD Cert.NextSampleRefIdeal.τ).loc Cert.NextSampleRefIdeal.main_arg2) = m' ((c.tc : Thread Cert.NextSampleRefIdeal.nD Cert.NextSampleRefIdeal.τ).loc Cert.NextSampleRefIdeal.main_arg2)
          ∧ r.2.mem ((c.tc : Thread Cert.NextSampleRefIdeal.nD Cert.NextSampleRefIdeal.τ).loc Cert.NextSampleRefIdeal.main_arg3) = m' ((c.tc : Thread Cert.NextSampleRefIdeal.nD Cert.NextSampleRefIdeal.τ).loc Cert.NextSampleRefIdeal.main_arg3)
          ∧ r.2.mem ((c.tc : Thread Cert.NextSampleRefIdeal.nD Cert.NextSampleRefIdeal.τ).loc Cert.NextSampleRefIdeal.main_arg4) = m' ((c.tc : Thread Cert.NextSampleRefIdeal.nD Cert.NextSampleRefIdeal.τ).loc Cert.NextSampleRefIdeal.main_arg4))

def Claim : Prop :=
  ∃ (hCtxAttn : Cert.CtxAttn.Facts) (hCtxAttnIdeal : Cert.CtxAttnIdeal.Facts) (hCtxRefIdeal : Cert.CtxRefIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hFfnDown : Cert.FfnDown.Facts) (hFfnDownIdeal : Cert.FfnDownIdeal.Facts) (hDownRefIdeal : Cert.DownRefIdeal.Facts) (hFfnUp : Cert.FfnUp.Facts) (hFfnUpIdeal : Cert.FfnUpIdeal.Facts) (hUpRefIdeal : Cert.UpRefIdeal.Facts) (hFfnUpCtx : Cert.FfnUpCtx.Facts) (hFfnUpCtxIdeal : Cert.FfnUpCtxIdeal.Facts) (hUpCtxRefIdeal : Cert.UpCtxRefIdeal.Facts) (hMerge : Cert.Merge.Facts) (hMergeIdeal : Cert.MergeIdeal.Facts) (hMergeRefIdeal : Cert.MergeRefIdeal.Facts) (hLastPrompt : Cert.LastPrompt.Facts) (hLastPromptIdeal : Cert.LastPromptIdeal.Facts) (hLastPromptRefIdeal : Cert.LastPromptRefIdeal.Facts) (hLastSample : Cert.LastSample.Facts) (hLastSampleIdeal : Cert.LastSampleIdeal.Facts) (hLastSampleRefIdeal : Cert.LastSampleRefIdeal.Facts) (hAda : Cert.Ada.Facts) (hAdaIdeal : Cert.AdaIdeal.Facts) (hAdaRefIdeal : Cert.AdaRefIdeal.Facts) (hCastBr : Cert.CastBr.Facts) (hCastBrIdeal : Cert.CastBrIdeal.Facts) (hCastBrRefIdeal : Cert.CastBrRefIdeal.Facts) (hCastDown : Cert.CastDown.Facts) (hCastDownIdeal : Cert.CastDownIdeal.Facts) (hCastDownRefIdeal : Cert.CastDownRefIdeal.Facts) (hOpenPrompt : Cert.OpenPrompt.Facts) (hOpenPromptIdeal : Cert.OpenPromptIdeal.Facts) (hOpenPromptRefIdeal : Cert.OpenPromptRefIdeal.Facts) (hOpenSample : Cert.OpenSample.Facts) (hOpenSampleIdeal : Cert.OpenSampleIdeal.Facts) (hOpenSampleRefIdeal : Cert.OpenSampleRefIdeal.Facts) (hMidPrompt : Cert.MidPrompt.Facts) (hMidPromptIdeal : Cert.MidPromptIdeal.Facts) (hMidPromptRefIdeal : Cert.MidPromptRefIdeal.Facts) (hMidSample : Cert.MidSample.Facts) (hMidSampleIdeal : Cert.MidSampleIdeal.Facts) (hMidSampleRefIdeal : Cert.MidSampleRefIdeal.Facts) (hNextPrompt : Cert.NextPrompt.Facts) (hNextPromptIdeal : Cert.NextPromptIdeal.Facts) (hNextPromptRefIdeal : Cert.NextPromptRefIdeal.Facts) (hNextSample : Cert.NextSample.Facts) (hNextSampleIdeal : Cert.NextSampleIdeal.Facts) (hNextSampleRefIdeal : Cert.NextSampleRefIdeal.Facts) (hPre_scores_finite : Cert.Pre_scores_finite.Facts),
    quiescent_CtxAttn (hCtxAttn := hCtxAttn)
    ∧ quiescent_CtxAttnIdeal (hCtxAttnIdeal := hCtxAttnIdeal)
    ∧ quiescent_CtxAttnIdeal_pre_scores_finite (hCtxAttnIdeal := hCtxAttnIdeal) (hPre_scores_finite := hPre_scores_finite)
    ∧ quiescent_CtxRefIdeal (hCtxRefIdeal := hCtxRefIdeal)
    ∧ quiescent_CtxRefIdeal_pre_scores_finite (hCtxRefIdeal := hCtxRefIdeal) (hPre_scores_finite := hPre_scores_finite)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_FfnDown (hFfnDown := hFfnDown)
    ∧ quiescent_FfnDownIdeal (hFfnDownIdeal := hFfnDownIdeal)
    ∧ quiescent_DownRefIdeal (hDownRefIdeal := hDownRefIdeal)
    ∧ quiescent_FfnUp (hFfnUp := hFfnUp)
    ∧ quiescent_FfnUpIdeal (hFfnUpIdeal := hFfnUpIdeal)
    ∧ quiescent_UpRefIdeal (hUpRefIdeal := hUpRefIdeal)
    ∧ quiescent_FfnUpCtx (hFfnUpCtx := hFfnUpCtx)
    ∧ quiescent_FfnUpCtxIdeal (hFfnUpCtxIdeal := hFfnUpCtxIdeal)
    ∧ quiescent_UpCtxRefIdeal (hUpCtxRefIdeal := hUpCtxRefIdeal)
    ∧ quiescent_Merge (hMerge := hMerge)
    ∧ quiescent_MergeIdeal (hMergeIdeal := hMergeIdeal)
    ∧ quiescent_MergeRefIdeal (hMergeRefIdeal := hMergeRefIdeal)
    ∧ quiescent_LastPrompt (hLastPrompt := hLastPrompt)
    ∧ quiescent_LastPromptIdeal (hLastPromptIdeal := hLastPromptIdeal)
    ∧ quiescent_LastPromptRefIdeal (hLastPromptRefIdeal := hLastPromptRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ quiescent_Ada (hAda := hAda)
    ∧ quiescent_AdaIdeal (hAdaIdeal := hAdaIdeal)
    ∧ quiescent_AdaRefIdeal (hAdaRefIdeal := hAdaRefIdeal)
    ∧ quiescent_CastBr (hCastBr := hCastBr)
    ∧ quiescent_CastBrIdeal (hCastBrIdeal := hCastBrIdeal)
    ∧ quiescent_CastBrRefIdeal (hCastBrRefIdeal := hCastBrRefIdeal)
    ∧ quiescent_CastDown (hCastDown := hCastDown)
    ∧ quiescent_CastDownIdeal (hCastDownIdeal := hCastDownIdeal)
    ∧ quiescent_CastDownRefIdeal (hCastDownRefIdeal := hCastDownRefIdeal)
    ∧ quiescent_OpenPrompt (hOpenPrompt := hOpenPrompt)
    ∧ quiescent_OpenPromptIdeal (hOpenPromptIdeal := hOpenPromptIdeal)
    ∧ quiescent_OpenPromptRefIdeal (hOpenPromptRefIdeal := hOpenPromptRefIdeal)
    ∧ quiescent_OpenSample (hOpenSample := hOpenSample)
    ∧ quiescent_OpenSampleIdeal (hOpenSampleIdeal := hOpenSampleIdeal)
    ∧ quiescent_OpenSampleRefIdeal (hOpenSampleRefIdeal := hOpenSampleRefIdeal)
    ∧ quiescent_MidPrompt (hMidPrompt := hMidPrompt)
    ∧ quiescent_MidPromptIdeal (hMidPromptIdeal := hMidPromptIdeal)
    ∧ quiescent_MidPromptRefIdeal (hMidPromptRefIdeal := hMidPromptRefIdeal)
    ∧ quiescent_MidSample (hMidSample := hMidSample)
    ∧ quiescent_MidSampleIdeal (hMidSampleIdeal := hMidSampleIdeal)
    ∧ quiescent_MidSampleRefIdeal (hMidSampleRefIdeal := hMidSampleRefIdeal)
    ∧ quiescent_NextPrompt (hNextPrompt := hNextPrompt)
    ∧ quiescent_NextPromptIdeal (hNextPromptIdeal := hNextPromptIdeal)
    ∧ quiescent_NextPromptRefIdeal (hNextPromptRefIdeal := hNextPromptRefIdeal)
    ∧ quiescent_NextSample (hNextSample := hNextSample)
    ∧ quiescent_NextSampleIdeal (hNextSampleIdeal := hNextSampleIdeal)
    ∧ quiescent_NextSampleRefIdeal (hNextSampleRefIdeal := hNextSampleRefIdeal)
    ∧ preserves_CtxAttn_CtxAttnIdeal
    ∧ algebraic_CtxAttnIdeal_CtxRefIdeal_pre_scores_finite (hCtxAttnIdeal := hCtxAttnIdeal) (hCtxRefIdeal := hCtxRefIdeal) (hPre_scores_finite := hPre_scores_finite)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
    ∧ preserves_FfnDown_FfnDownIdeal
    ∧ algebraic_FfnDownIdeal_DownRefIdeal (hFfnDownIdeal := hFfnDownIdeal) (hDownRefIdeal := hDownRefIdeal)
    ∧ preserves_FfnUp_FfnUpIdeal
    ∧ algebraic_FfnUpIdeal_UpRefIdeal (hFfnUpIdeal := hFfnUpIdeal) (hUpRefIdeal := hUpRefIdeal)
    ∧ preserves_FfnUpCtx_FfnUpCtxIdeal
    ∧ algebraic_FfnUpCtxIdeal_UpCtxRefIdeal (hFfnUpCtxIdeal := hFfnUpCtxIdeal) (hUpCtxRefIdeal := hUpCtxRefIdeal)
    ∧ preserves_Merge_MergeIdeal
    ∧ algebraic_MergeIdeal_MergeRefIdeal (hMergeIdeal := hMergeIdeal) (hMergeRefIdeal := hMergeRefIdeal)
    ∧ preserves_LastPrompt_LastPromptIdeal
    ∧ algebraic_LastPromptIdeal_LastPromptRefIdeal (hLastPromptIdeal := hLastPromptIdeal) (hLastPromptRefIdeal := hLastPromptRefIdeal)
    ∧ preserves_LastSample_LastSampleIdeal
    ∧ algebraic_LastSampleIdeal_LastSampleRefIdeal (hLastSampleIdeal := hLastSampleIdeal) (hLastSampleRefIdeal := hLastSampleRefIdeal)
    ∧ preserves_Ada_AdaIdeal
    ∧ algebraic_AdaIdeal_AdaRefIdeal (hAdaIdeal := hAdaIdeal) (hAdaRefIdeal := hAdaRefIdeal)
    ∧ preserves_CastBr_CastBrIdeal
    ∧ algebraic_CastBrIdeal_CastBrRefIdeal (hCastBrIdeal := hCastBrIdeal) (hCastBrRefIdeal := hCastBrRefIdeal)
    ∧ preserves_CastDown_CastDownIdeal
    ∧ algebraic_CastDownIdeal_CastDownRefIdeal (hCastDownIdeal := hCastDownIdeal) (hCastDownRefIdeal := hCastDownRefIdeal)
    ∧ preserves_OpenPrompt_OpenPromptIdeal
    ∧ algebraic_OpenPromptIdeal_OpenPromptRefIdeal (hOpenPromptIdeal := hOpenPromptIdeal) (hOpenPromptRefIdeal := hOpenPromptRefIdeal)
    ∧ preserves_OpenSample_OpenSampleIdeal
    ∧ algebraic_OpenSampleIdeal_OpenSampleRefIdeal (hOpenSampleIdeal := hOpenSampleIdeal) (hOpenSampleRefIdeal := hOpenSampleRefIdeal)
    ∧ preserves_MidPrompt_MidPromptIdeal
    ∧ algebraic_MidPromptIdeal_MidPromptRefIdeal (hMidPromptIdeal := hMidPromptIdeal) (hMidPromptRefIdeal := hMidPromptRefIdeal)
    ∧ preserves_MidSample_MidSampleIdeal
    ∧ algebraic_MidSampleIdeal_MidSampleRefIdeal (hMidSampleIdeal := hMidSampleIdeal) (hMidSampleRefIdeal := hMidSampleRefIdeal)
    ∧ preserves_NextPrompt_NextPromptIdeal
    ∧ algebraic_NextPromptIdeal_NextPromptRefIdeal (hNextPromptIdeal := hNextPromptIdeal) (hNextPromptRefIdeal := hNextPromptRefIdeal)
    ∧ preserves_NextSample_NextSampleIdeal
    ∧ algebraic_NextSampleIdeal_NextSampleRefIdeal (hNextSampleIdeal := hNextSampleIdeal) (hNextSampleRefIdeal := hNextSampleRefIdeal)
-- ==== Pre_scores_finite.lean ====
abbrev S8192x22528 : Shape := ⟨2, ![8192, 22528]⟩
abbrev S8 : Shape := ⟨1, ![8]⟩
abbrev S128 : Shape := ⟨1, ![128]⟩
abbrev S8192x1280 : Shape := ⟨2, ![8192, 1280]⟩
abbrev S_ : Shape := ⟨0, ![]⟩

class Facts : Prop where
  slices_S8192x22528_S8192x1280_0_1024 : S8192x22528.Slices ![0, 1024] S8192x1280
  bcast_S_S8192x1280 : S_.BroadcastsInDim S8192x1280 (![] : Fin 0 → Fin S8192x1280.rank)
  slices_S8192x22528_S8192x1280_0_2560 : S8192x22528.Slices ![0, 2560] S8192x1280
  bcast_S_S8 : S_.BroadcastsInDim S8 (![] : Fin 0 → Fin S8.rank)
  bcast_S_S128 : S_.BroadcastsInDim S128 (![] : Fin 0 → Fin S128.rank)

variable [Facts]

def fn {F : FTy → Type} [FloatOps F] (main_arg0 : FVec F S8192x22528 .f32) (main_arg1 : FVec F S8 .f32) (main_arg2 : FVec F S128 .f32) (main_arg3 : FVec F S128 .f32) : IVec S8192x1280 1 × IVec S8192x1280 1 × IVec S8 1 × IVec S128 1 × IVec S128 1 :=
  let main_v0 : FVec F S8192x1280 .f32 := (extractStridedSlice S8192x1280 ![0, 1024] · slices_S8192x22528_S8192x1280_0_1024) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_v4 : FVec F S8192x1280 .f32 := (extractStridedSlice S8192x1280 ![0, 2560] · slices_S8192x22528_S8192x1280_0_2560) main_arg0
  let main_v5 : FVec F S8192x1280 .f32 := Host.absf main_v4
  let main_cst_0 : FVec F S_ .f32 := constant S_ .f32 0x7F800000#32
  let main_v6 : FVec F S8192x1280 .f32 := broadcastInDim S8192x1280 ![] bcast_S_S8192x1280 main_cst_0
  let main_v7 : IVec S8192x1280 1 := cmpf .olt main_v5 main_v6
  let main_v8 : FVec F S8 .f32 := Host.absf main_arg1
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  let main_v11 : FVec F S128 .f32 := Host.absf main_arg2
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128 .f32 := Host.absf main_arg3
  let main_cst_3 : FVec F S_ .f32 := constant S_ .f32 0x7F800000#32
  let main_v15 : FVec F S128 .f32 := broadcastInDim S128 ![] bcast_S_S128 main_cst_3
  let main_v16 : IVec S128 1 := cmpf .olt main_v14 main_v15
  (main_v3, main_v7, main_v10, main_v13, main_v16)
-- ==== CtxAttn.lean ====
abbrev S8192x22528 : Shape := ⟨2, ![8192, 22528]⟩
abbrev S8 : Shape := ⟨1, ![8]⟩
abbrev S128 : Shape := ⟨1, ![128]⟩
abbrev S1x128 : Shape := ⟨2, ![1, 128]⟩
abbrev S8192x1024 : Shape := ⟨2, ![8192, 1024]⟩
abbrev S8192x256 : Shape := ⟨2, ![8192, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1 : Shape := ⟨1, ![1]⟩

abbrev nBuf : Space → Nat
  | .hbm => 12
  | .vmem => 26
  | .smem => 1
  | _ => 0

abbrev bufTy : (tb : Table) → Fin (tcTables nBuf tb) → BufTy
  | .hbm, ⟨0, _⟩ => ⟨S8192x22528, .f32⟩
  | .hbm, ⟨1, _⟩ => ⟨S8, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x1024, .bf16⟩
  | .hbm, ⟨7, _⟩ => ⟨S8192x1024, .bf16⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .smem, ⟨0, _⟩ => ⟨S8, .f32⟩
  | _, _ => ⟨S8192x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 2], ![false, false]⟩

def k0_off1 (i : grid0.Coords) (c0_i32 : BitVec 32) : Fin 1 → Nat :=
  let arg1 : BitVec 32 := BitVec.ofNat 32 (i 1).val
  let c4_i32 : BitVec 32 := 4#32
  let v63 : BitVec 32 := Scalar.muli arg1 c4_i32
  let v64 : BitVec 32 := Scalar.addi v63 c0_i32
  let v65 : Index := Scalar.indexCast v64
  ![v65.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== CtxRefIdeal.lean ====
abbrev S8192x22528 : Shape := ⟨2, ![8192, 22528]⟩
abbrev S8 : Shape := ⟨1, ![8]⟩
abbrev S128 : Shape := ⟨1, ![128]⟩
abbrev S32x256x22528 : Shape := ⟨3, ![32, 256, 22528]⟩
abbrev S32x256x1024 : Shape := ⟨3, ![32, 256, 1024]⟩
abbrev S32x256x256 : Shape := ⟨3, ![32, 256, 256]⟩
abbrev S32x256x18432 : Shape := ⟨3, ![32, 256, 18432]⟩
abbrev S32x256x2x4x128 : Shape := ⟨5, ![32, 256, 2, 4, 128]⟩
abbrev S_ : Shape := ⟨0, ![]⟩
abbrev S32x256x2x4 : Shape := ⟨4, ![32, 256, 2, 4]⟩
abbrev S32x256x2x4x1 : Shape := ⟨5, ![32, 256, 2, 4, 1]⟩
abbrev S1x1x1x1x128 : Shape := ⟨5, ![1, 1, 1, 1, 128]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S1x1x1x128 : Shape := ⟨4, ![1, 1, 1, 128]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x128x4x256 : Shape := ⟨5, ![32, 2, 128, 4, 256]⟩
abbrev S8192x1024 : Shape := ⟨2, ![8192, 1024]⟩
abbrev S1x2x4x1x1 : Shape := ⟨5, ![1, 2, 4, 1, 1]⟩
abbrev S32x2x4x256x257 : Shape := ⟨5, ![32, 2, 4, 256, 257]⟩
abbrev S8192x256 : Shape := ⟨2, ![8192, 256]⟩

abbrev nBuf : Space → Nat
  | .hbm => 105
  | .vmem => 0
  | .smem => 0
  | _ => 0

abbrev bufTy : (tb : Table) → Fin (tcTables nBuf tb) → BufTy
  | .hbm, ⟨0, _⟩ => ⟨S8192x22528, .f32⟩
  | .hbm, ⟨1, _⟩ => ⟨S8, .f32⟩
  | .hbm, ⟨2, _⟩ => ⟨S128, .f32⟩
  | .hbm, ⟨3, _⟩ => ⟨S128, .f32⟩
  | .hbm, ⟨4, _⟩ => ⟨S32x256x22528, .f32⟩
  | .hbm, ⟨5, _⟩ => ⟨S32x256x1024, .f32⟩
  | .hbm, ⟨6, _⟩ => ⟨S32x256x1024, .f32⟩
  | .hbm, ⟨7, _⟩ => ⟨S32x256x256, .f32⟩
  | .hbm, ⟨8, _⟩ => ⟨S32x256x256, .f32⟩
  | .hbm, ⟨9, _⟩ => ⟨S32x256x1024, .f32⟩
  | .hbm, ⟨10, _⟩ => ⟨S32x256x256, .f32⟩
  | .hbm, ⟨11, _⟩ => ⟨S32x256x256, .f32⟩
  | .hbm, ⟨12, _⟩ => ⟨S32x256x18432, .f32⟩
  | .hbm, ⟨13, _⟩ => ⟨S32x256x2x4x128, .f32⟩
  | .hbm, ⟨14, _⟩ => ⟨S32x256x2x4x128, .f32⟩
  | .hbm, ⟨15, _⟩ => ⟨S_, .f32⟩
  | .hbm, ⟨16, _⟩ => ⟨S32x256x2x4, .f32⟩
  | .hbm, ⟨17, _⟩ => ⟨S32x256x2x4x1, .f32⟩
  | .hbm, ⟨18, _⟩ => ⟨S_, .f32⟩
  | .hbm, ⟨19, _⟩ => ⟨S32x256x2x4x1, .f32⟩
  | .hbm, ⟨20, _⟩ => ⟨S32x256x2x4x1, .f32⟩
  | .hbm, ⟨21, _⟩ => ⟨S_, .f32⟩
  | .hbm, ⟨22, _⟩ => ⟨S32x256x2x4x1, .f32⟩
  | .hbm, ⟨23, _⟩ => ⟨S32x256x2x4x1, .f32⟩
  | .hbm, ⟨24, _⟩ => ⟨S32x256x2x4x1, .f32⟩
  | .hbm, ⟨25, _⟩ => ⟨S32x256x2x4x128, .f32⟩
  | .hbm, ⟨26, _⟩ => ⟨S32x256x2x4x128, .f32⟩
  | .hbm, ⟨27, _⟩ => ⟨S1x1x1x1x128, .f32⟩
  | .hbm, ⟨28, _⟩ => ⟨S32x256x2x4x128, .f32⟩
  | .hbm, ⟨29, _⟩ => ⟨S32x256x2x4x128, .f32⟩
  | .hbm, ⟨30, _⟩ => ⟨S32x256x2x128, .f32⟩
  | .hbm, ⟨31, _⟩ => ⟨S32x256x2x128, .f32⟩
  | .hbm, ⟨32, _⟩ => ⟨S_, .f32⟩
  | .hbm, ⟨33, _⟩ => ⟨S32x256x2, .f32⟩
  | .hbm, ⟨34, _⟩ => ⟨S32x256x2x1, .f32⟩
  | .hbm, ⟨35, _⟩ => ⟨S_, .f32⟩
  | .hbm, ⟨36, _⟩ => ⟨S32x256x2x1, .f32⟩
  | .hbm, ⟨37, _⟩ => ⟨S32x256x2x1, .f32⟩
  | .hbm, ⟨38, _⟩ => ⟨S_, .f32⟩
  | .hbm, ⟨39, _⟩ => ⟨S32x256x2x1, .f32⟩
  | .hbm, ⟨40, _⟩ => ⟨S32x256x2x1, .f32⟩
  | .hbm, ⟨41, _⟩ => ⟨S32x256x2x1, .f32⟩
  | .hbm, ⟨42, _⟩ => ⟨S32x256x2x128, .f32⟩
  | .hbm, ⟨43, _⟩ => ⟨S32x256x2x128, .f32⟩
  | .hbm, ⟨44, _⟩ => ⟨S1x1x1x128, .f32⟩
  | .hbm, ⟨45, _⟩ => ⟨S32x256x2x128, .f32⟩
  | .hbm, ⟨46, _⟩ => ⟨S32x256x2x128, .f32⟩
  | .hbm, ⟨47, _⟩ => ⟨S32x256x2x128, .f32⟩
  | .hbm, ⟨48, _⟩ => ⟨S32x256x2x4x128, .f32⟩
  | .hbm, ⟨49, _⟩ => ⟨S32x256x2x128, .f32⟩
  | .hbm, ⟨50, _⟩ => ⟨S32x256x2x128, .f32⟩
  | .hbm, ⟨51, _⟩ => ⟨S32x2x256x256x4, .f32⟩
  | .hbm, ⟨52, _⟩ => ⟨S32x2x4x256x256, .f32⟩
  | .hbm, ⟨53, _⟩ => ⟨S_, .f32⟩
  | .hbm, ⟨54, _⟩ => ⟨S32x2x4x256x256, .f32⟩
  | .hbm, ⟨55, _⟩ => ⟨S32x2x4x256x256, .f32⟩
  | .hbm, ⟨56, _⟩ => ⟨S_, .f32⟩
  | .hbm, ⟨57, _⟩ => ⟨S32x2x4x256, .f32⟩
  | .hbm, ⟨58, _⟩ => ⟨S_, .f32⟩
  | .hbm, ⟨59, _⟩ => ⟨S32x2x4x256, .f32⟩
  | .hbm, ⟨60, _⟩ => ⟨S32x2x4x256, .f32⟩
  | .hbm, ⟨61, _⟩ => ⟨S32x2x4x256x1, .f32⟩
  | .hbm, ⟨62, _⟩ => ⟨S32x2x4x256x256, .f32⟩
  | .hbm, ⟨63, _⟩ => ⟨S32x2x4x256x256, .f32⟩
  | .hbm, ⟨64, _⟩ => ⟨S32x2x4x256x256, .f32⟩
  | .hbm, ⟨65, _⟩ => ⟨S_, .f32⟩
  | .hbm, ⟨66, _⟩ => ⟨S32x2x4x256, .f32⟩
  | .hbm, ⟨67, _⟩ => ⟨S32x2x4x256x1, .f32⟩
  | .hbm, ⟨68, _⟩ => ⟨S32x2x4x256x256, .f32⟩
  | .hbm, ⟨69, _⟩ => ⟨S32x2x4x256x256, .f32⟩
  | .hbm, ⟨70, _⟩ => ⟨S32x2x128x4x256, .f32⟩
  | .hbm, ⟨71, _⟩ => ⟨S32x256x2x4x128, .f32⟩
  | .hbm, ⟨72, _⟩ => ⟨S8192x1024, .f32⟩
  | .hbm, ⟨73, _⟩ => ⟨S32x2x256x256x4, .f32⟩
  | .hbm, ⟨74, _⟩ => ⟨S32x2x4x256x256, .f32⟩
  | .hbm, ⟨75, _⟩ => ⟨S_, .f32⟩
  | .hbm, ⟨76, _⟩ => ⟨S32x2x4x256x256, .f32⟩
  | .hbm, ⟨77, _⟩ => ⟨S32x2x4x256x256, .f32⟩
  | .hbm, ⟨78, _⟩ => ⟨S1x2x4x1x1, .f32⟩
  | .hbm, ⟨79, _⟩ => ⟨S32x2x4x256x1, .f32⟩
  | .hbm, ⟨80, _⟩ => ⟨S32x2x4x256x257, .f32⟩
  | .hbm, ⟨81, _⟩ => ⟨S_, .f32⟩
  | .hbm, ⟨82, _⟩ => ⟨S32x2x4x256, .f32⟩
  | .hbm, ⟨83, _⟩ => ⟨S_, .f32⟩
  | .hbm, ⟨84, _⟩ => ⟨S32x2x4x256, .f32⟩
  | .hbm, ⟨85, _⟩ => ⟨S32x2x4x256, .f32⟩
  | .hbm, ⟨86, _⟩ => ⟨S32x2x4x256x1, .f32⟩
  | .hbm, ⟨87, _⟩ => ⟨S32x2x4x256x257, .f32⟩
  | .hbm, ⟨88, _⟩ => ⟨S32x2x4x256x257, .f32⟩
  | .hbm, ⟨89, _⟩ => ⟨S32x2x4x256x257, .f32⟩
  | .hbm, ⟨90, _⟩ => ⟨S_, .f32⟩
  | .hbm, ⟨91, _⟩ => ⟨S32x2x4x256, .f32⟩
  | .hbm, ⟨92, _⟩ => ⟨S32x2x4x256x1, .f32⟩
  | .hbm, ⟨93, _⟩ => ⟨S32x2x4x256x257, .f32⟩
  | .hbm, ⟨94, _⟩ => ⟨S32x2x4x256x257, .f32⟩
  | .hbm, ⟨95, _⟩ => ⟨S32x2x4x256x256, .f32⟩
  | .hbm, ⟨96, _⟩ => ⟨S32x2x128x4x256, .f32⟩
  | .hbm, ⟨97, _⟩ => ⟨S32x256x2x4x128, .f32⟩
  | .hbm, ⟨98, _⟩ => ⟨S8192x1024, .f32⟩
  | .hbm, ⟨99, _⟩ => ⟨S8192x256, .f32⟩
  | .hbm, ⟨100, _⟩ => ⟨S8192x256, .f32⟩
  | .hbm, ⟨101, _⟩ => ⟨S8192x256, .f32⟩
  | .hbm, ⟨102, _⟩ => ⟨S8192x256, .f32⟩
  | .hbm, ⟨103, _⟩ => ⟨S8192x1024, .bf16⟩
  | .hbm, ⟨104, _⟩ => ⟨S8192x1024, .bf16⟩
  | _, _ => ⟨S8192x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩

abbrev nD : Nat := 1
abbrev τ : Topo := Topo.v7x

variable {F : FTy → Type} [FloatOps F]
-- ==== InProj.lean ====
abbrev S8192x4096 : Shape := ⟨2, ![8192, 4096]⟩
abbrev S2x4096x22528 : Shape := ⟨3, ![2, 4096, 22528]⟩
abbrev S2x22528 : Shape := ⟨2, ![2, 22528]⟩
abbrev S1x22528 : Shape := ⟨2, ![1, 22528]⟩
abbrev S22528 : Shape := ⟨1, ![22528]⟩
abbrev S8192x22528 : Shape := ⟨2, ![8192, 22528]⟩
abbrev S2048x4096 : Shape := ⟨2, ![2048, 4096]⟩
abbrev S1x4096x512 : Shape := ⟨3, ![1, 4096, 512]⟩
abbrev S1x512 : Shape := ⟨2, ![1, 512]⟩
abbrev S2048x512 : Shape := ⟨2, ![2048, 512]⟩
abbrev S4096x512 : Shape := ⟨2, ![4096, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x22528, .f32⟩
  | .hbm, ⟨2, _⟩ => ⟨S2x22528, .f32⟩
  | .hbm, ⟨3, _⟩ => ⟨S1x22528, .f32⟩
  | .hbm, ⟨4, _⟩ => ⟨S22528, .f32⟩
  | .hbm, ⟨5, _⟩ => ⟨S1x22528, .f32⟩
  | .hbm, ⟨6, _⟩ => ⟨S8192x22528, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 44], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S8192x4096 : Shape := ⟨2, ![8192, 4096]⟩
abbrev S2x4096x22528 : Shape := ⟨3, ![2, 4096, 22528]⟩
abbrev S2x22528 : Shape := ⟨2, ![2, 22528]⟩
abbrev S1x4096x22528 : Shape := ⟨3, ![1, 4096, 22528]⟩
abbrev S4096x22528 : Shape := ⟨2, ![4096, 22528]⟩
abbrev S8192x22528 : Shape := ⟨2, ![8192, 22528]⟩
abbrev S1x22528 : Shape := ⟨2, ![1, 22528]⟩
abbrev S22528 : Shape := ⟨1, ![22528]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22528, .f32⟩
  | .hbm, ⟨2, _⟩ => ⟨S2x22528, .f32⟩
  | .hbm, ⟨3, _⟩ => ⟨S8192x4096, .f32⟩
  | .hbm, ⟨4, _⟩ => ⟨S1x4096x22528, .f32⟩
  | .hbm, ⟨5, _⟩ => ⟨S4096x22528, .f32⟩
  | .hbm, ⟨6, _⟩ => ⟨S8192x22528, .f32⟩
  | .hbm, ⟨7, _⟩ => ⟨S1x22528, .f32⟩
  | .hbm, ⟨8, _⟩ => ⟨S22528, .f32⟩
  | .hbm, ⟨9, _⟩ => ⟨S1x22528, .f32⟩
  | .hbm, ⟨10, _⟩ => ⟨S8192x22528, .f32⟩
  | .hbm, ⟨11, _⟩ => ⟨S8192x22528, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProj.lean ====
abbrev S8192x4096 : Shape := ⟨2, ![8192, 4096]⟩
abbrev S2x4096x4096 : Shape := ⟨3, ![2, 4096, 4096]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x11008, .f32⟩
  | .hbm, ⟨3, _⟩ => ⟨S11008x4096, .f32⟩
  | .hbm, ⟨4, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S8192x4096 : Shape := ⟨2, ![8192, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x1x22016 : Shape := ⟨3, ![2, 1, 22016]⟩
abbrev S8192x11008 : Shape := ⟨2, ![8192, 11008]⟩
abbrev S2048x4096 : Shape := ⟨2, ![2048, 4096]⟩
abbrev S1x4096x256 : Shape := ⟨3, ![1, 4096, 256]⟩
abbrev S1x3x256 : Shape := ⟨3, ![1, 3, 256]⟩
abbrev S1x1x256 : Shape := ⟨3, ![1, 1, 256]⟩
abbrev S2048x256 : Shape := ⟨2, ![2048, 256]⟩
abbrev S8x256 : Shape := ⟨2, ![8, 256]⟩
abbrev S4096x256 : Shape := ⟨2, ![4096, 256]⟩
abbrev S128x4096 : Shape := ⟨2, ![128, 4096]⟩
abbrev S128x256 : Shape := ⟨2, ![128, 256]⟩
abbrev S1024x256 : Shape := ⟨2, ![1024, 256]⟩
abbrev S1016x256 : Shape := ⟨2, ![1016, 256]⟩
abbrev S1x256 : Shape := ⟨2, ![1, 256]⟩

abbrev nBuf : Space → Nat
  | .hbm => 6
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S2x1x22016, .f32⟩
  | .hbm, ⟨5, _⟩ => ⟨S8192x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S2048x256, .bf16⟩
  | .local _ .vmem, ⟨14, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x4096 : Shape := ⟨2, ![8192, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S8x128x8x4096 : Shape := ⟨4, ![8, 128, 8, 4096]⟩
abbrev S8x8x128x4096 : Shape := ⟨4, ![8, 8, 128, 4096]⟩
abbrev S8x1024x4096 : Shape := ⟨3, ![8, 1024, 4096]⟩
abbrev S1x4096x22016 : Shape := ⟨3, ![1, 4096, 22016]⟩
abbrev S4096x22016 : Shape := ⟨2, ![4096, 22016]⟩
abbrev S8x1024x22016 : Shape := ⟨3, ![8, 1024, 22016]⟩
abbrev S1x3x22016 : Shape := ⟨3, ![1, 3, 22016]⟩
abbrev S3x22016 : Shape := ⟨2, ![3, 22016]⟩
abbrev S1x22016 : Shape := ⟨2, ![1, 22016]⟩
abbrev S22016 : Shape := ⟨1, ![22016]⟩
abbrev S_ : Shape := ⟨0, ![]⟩
abbrev S8x1026x22016 : Shape := ⟨3, ![8, 1026, 22016]⟩
abbrev S1x1x22016 : Shape := ⟨3, ![1, 1, 22016]⟩
abbrev S8x1024x11008 : Shape := ⟨3, ![8, 1024, 11008]⟩
abbrev S8x8x128x11008 : Shape := ⟨4, ![8, 8, 128, 11008]⟩
abbrev S8x128x8x11008 : Shape := ⟨4, ![8, 128, 8, 11008]⟩
abbrev S8192x11008 : Shape := ⟨2, ![8192, 11008]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S8192x4096, .f32⟩
  | .hbm, ⟨5, _⟩ => ⟨S8x128x8x4096, .f32⟩
  | .hbm, ⟨6, _⟩ => ⟨S8x8x128x4096, .f32⟩
  | .hbm, ⟨7, _⟩ => ⟨S8x1024x4096, .f32⟩
  | .hbm, ⟨8, _⟩ => ⟨S1x4096x22016, .f32⟩
  | .hbm, ⟨9, _⟩ => ⟨S4096x22016, .f32⟩
  | .hbm, ⟨10, _⟩ => ⟨S8x1024x22016, .f32⟩
  | .hbm, ⟨11, _⟩ => ⟨S1x3x22016, .f32⟩
  | .hbm, ⟨12, _⟩ => ⟨S3x22016, .f32⟩
  | .hbm, ⟨13, _⟩ => ⟨S1x22016, .f32⟩
  | .hbm, ⟨14, _⟩ => ⟨S22016, .f32⟩
  | .hbm, ⟨15, _⟩ => ⟨S_, .i32⟩
  | .hbm, ⟨16, _⟩ => ⟨S_, .f32⟩
  | .hbm, ⟨17, _⟩ => ⟨S8x1026x22016, .f32⟩
  | .hbm, ⟨18, _⟩ => ⟨S8x1024x22016, .f32⟩
  | .hbm, ⟨19, _⟩ => ⟨S1x22016, .f32⟩
  | .hbm, ⟨20, _⟩ => ⟨S22016, .f32⟩
  | .hbm, ⟨21, _⟩ => ⟨S1x1x22016, .f32⟩
  | .hbm, ⟨22, _⟩ => ⟨S8x1024x22016, .f32⟩
  | .hbm, ⟨23, _⟩ => ⟨S8x1024x22016, .f32⟩
  | .hbm, ⟨24, _⟩ => ⟨S1x1x22016, .f32⟩
  | .hbm, ⟨25, _⟩ => ⟨S8x1024x22016, .f32⟩
  | .hbm, ⟨26, _⟩ => ⟨S8x1024x22016, .f32⟩
  | .hbm, ⟨27, _⟩ => ⟨S8x1024x22016, .f32⟩
  | .hbm, ⟨28, _⟩ => ⟨S1x22016, .f32⟩
  | .hbm, ⟨29, _⟩ => ⟨S22016, .f32⟩
  | .hbm, ⟨30, _⟩ => ⟨S1x1x22016, .f32⟩
  | .hbm, ⟨31, _⟩ => ⟨S8x1024x22016, .f32⟩
  | .hbm, ⟨32, _⟩ => ⟨S8x1024x22016, .f32⟩
  | .hbm, ⟨33, _⟩ => ⟨S8x1024x22016, .f32⟩
  | .hbm, ⟨34, _⟩ => ⟨S8x1024x22016, .f32⟩
  | .hbm, ⟨35, _⟩ => ⟨S1x22016, .f32⟩
  | .hbm, ⟨36, _⟩ => ⟨S22016, .f32⟩
  | .hbm, ⟨37, _⟩ => ⟨S1x1x22016, .f32⟩
  | .hbm, ⟨38, _⟩ => ⟨S8x1024x22016, .f32⟩
  | .hbm, ⟨39, _⟩ => ⟨S8x1024x22016, .f32⟩
  | .hbm, ⟨40, _⟩ => ⟨S8x1024x22016, .f32⟩
  | .hbm, ⟨41, _⟩ => ⟨S8x1024x11008, .f32⟩
  | .hbm, ⟨42, _⟩ => ⟨S8x1024x11008, .f32⟩
  | .hbm, ⟨43, _⟩ => ⟨S8x1024x11008, .f32⟩
  | .hbm, ⟨44, _⟩ => ⟨S8x1024x11008, .f32⟩
  | .hbm, ⟨45, _⟩ => ⟨S_, .f32⟩
  | .hbm, ⟨46, _⟩ => ⟨S8x1024x11008, .f32⟩
  | .hbm, ⟨47, _⟩ => ⟨S8x1024x11008, .f32⟩
  | .hbm, ⟨48, _⟩ => ⟨S_, .f32⟩
  | .hbm, ⟨49, _⟩ => ⟨S8x1024x11008, .f32⟩
  | .hbm, ⟨50, _⟩ => ⟨S8x1024x11008, .f32⟩
  | .hbm, ⟨51, _⟩ => ⟨S8x1024x11008, .f32⟩
  | .hbm, ⟨52, _⟩ => ⟨S8x1024x11008, .f32⟩
  | .hbm, ⟨53, _⟩ => ⟨S8x8x128x11008, .f32⟩
  | .hbm, ⟨54, _⟩ => ⟨S8x128x8x11008, .f32⟩
  | .hbm, ⟨55, _⟩ => ⟨S8192x11008, .f32⟩
  | .hbm, ⟨56, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== FfnUpCtx.lean ====
abbrev S8192x4096 : Shape := ⟨2, ![8192, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x1x22016 : Shape := ⟨3, ![2, 1, 22016]⟩
abbrev S8192x11008 : Shape := ⟨2, ![8192, 11008]⟩
abbrev S2048x4096 : Shape := ⟨2, ![2048, 4096]⟩
abbrev S1x4096x256 : Shape := ⟨3, ![1, 4096, 256]⟩
abbrev S1x3x256 : Shape := ⟨3, ![1, 3, 256]⟩
abbrev S1x1x256 : Shape := ⟨3, ![1, 1, 256]⟩
abbrev S2048x256 : Shape := ⟨2, ![2048, 256]⟩
abbrev S8x256 : Shape := ⟨2, ![8, 256]⟩
abbrev S4096x256 : Shape := ⟨2, ![4096, 256]⟩
abbrev S128x4096 : Shape := ⟨2, ![128, 4096]⟩
abbrev S128x256 : Shape := ⟨2, ![128, 256]⟩
abbrev S256x256 : Shape := ⟨2, ![256, 256]⟩
abbrev S248x256 : Shape := ⟨2, ![248, 256]⟩
abbrev S1x256 : Shape := ⟨2, ![1, 256]⟩

abbrev nBuf : Space → Nat
  | .hbm => 6
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S2x1x22016, .f32⟩
  | .hbm, ⟨5, _⟩ => ⟨S8192x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S2048x256, .bf16⟩
  | .local _ .vmem, ⟨14, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpCtxRefIdeal.lean ====
abbrev S8192x4096 : Shape := ⟨2, ![8192, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S32x32x8x4096 : Shape := ⟨4, ![32, 32, 8, 4096]⟩
abbrev S32x8x32x4096 : Shape := ⟨4, ![32, 8, 32, 4096]⟩
abbrev S32x256x4096 : Shape := ⟨3, ![32, 256, 4096]⟩
abbrev S1x4096x22016 : Shape := ⟨3, ![1, 4096, 22016]⟩
abbrev S4096x22016 : Shape := ⟨2, ![4096, 22016]⟩
abbrev S32x256x22016 : Shape := ⟨3, ![32, 256, 22016]⟩
abbrev S1x3x22016 : Shape := ⟨3, ![1, 3, 22016]⟩
abbrev S3x22016 : Shape := ⟨2, ![3, 22016]⟩
abbrev S1x22016 : Shape := ⟨2, ![1, 22016]⟩
abbrev S22016 : Shape := ⟨1, ![22016]⟩
abbrev S_ : Shape := ⟨0, ![]⟩
abbrev S32x258x22016 : Shape := ⟨3, ![32, 258, 22016]⟩
abbrev S1x1x22016 : Shape := ⟨3, ![1, 1, 22016]⟩
abbrev S32x256x11008 : Shape := ⟨3, ![32, 256, 11008]⟩
abbrev S32x8x32x11008 : Shape := ⟨4, ![32, 8, 32, 11008]⟩
abbrev S32x32x8x11008 : Shape := ⟨4, ![32, 32, 8, 11008]⟩
abbrev S8192x11008 : Shape := ⟨2, ![8192, 11008]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S8192x4096, .f32⟩
  | .hbm, ⟨5, _⟩ => ⟨S32x32x8x4096, .f32⟩
  | .hbm, ⟨6, _⟩ => ⟨S32x8x32x4096, .f32⟩
  | .hbm, ⟨7, _⟩ => ⟨S32x256x4096, .f32⟩
  | .hbm, ⟨8, _⟩ => ⟨S1x4096x22016, .f32⟩
  | .hbm, ⟨9, _⟩ => ⟨S4096x22016, .f32⟩
  | .hbm, ⟨10, _⟩ => ⟨S32x256x22016, .f32⟩
  | .hbm, ⟨11, _⟩ => ⟨S1x3x22016, .f32⟩
  | .hbm, ⟨12, _⟩ => ⟨S3x22016, .f32⟩
  | .hbm, ⟨13, _⟩ => ⟨S1x22016, .f32⟩
  | .hbm, ⟨14, _⟩ => ⟨S22016, .f32⟩
  | .hbm, ⟨15, _⟩ => ⟨S_, .i32⟩
  | .hbm, ⟨16, _⟩ => ⟨S_, .f32⟩
  | .hbm, ⟨17, _⟩ => ⟨S32x258x22016, .f32⟩
  | .hbm, ⟨18, _⟩ => ⟨S32x256x22016, .f32⟩
  | .hbm, ⟨19, _⟩ => ⟨S1x22016, .f32⟩
  | .hbm, ⟨20, _⟩ => ⟨S22016, .f32⟩
  | .hbm, ⟨21, _⟩ => ⟨S1x1x22016, .f32⟩
  | .hbm, ⟨22, _⟩ => ⟨S32x256x22016, .f32⟩
  | .hbm, ⟨23, _⟩ => ⟨S32x256x22016, .f32⟩
  | .hbm, ⟨24, _⟩ => ⟨S1x1x22016, .f32⟩
  | .hbm, ⟨25, _⟩ => ⟨S32x256x22016, .f32⟩
  | .hbm, ⟨26, _⟩ => ⟨S32x256x22016, .f32⟩
  | .hbm, ⟨27, _⟩ => ⟨S32x256x22016, .f32⟩
  | .hbm, ⟨28, _⟩ => ⟨S1x22016, .f32⟩
  | .hbm, ⟨29, _⟩ => ⟨S22016, .f32⟩
  | .hbm, ⟨30, _⟩ => ⟨S1x1x22016, .f32⟩
  | .hbm, ⟨31, _⟩ => ⟨S32x256x22016, .f32⟩
  | .hbm, ⟨32, _⟩ => ⟨S32x256x22016, .f32⟩
  | .hbm, ⟨33, _⟩ => ⟨S32x256x22016, .f32⟩
  | .hbm, ⟨34, _⟩ => ⟨S32x256x22016, .f32⟩
  | .hbm, ⟨35, _⟩ => ⟨S1x22016, .f32⟩
  | .hbm, ⟨36, _⟩ => ⟨S22016, .f32⟩
  | .hbm, ⟨37, _⟩ => ⟨S1x1x22016, .f32⟩
  | .hbm, ⟨38, _⟩ => ⟨S32x256x22016, .f32⟩
  | .hbm, ⟨39, _⟩ => ⟨S32x256x22016, .f32⟩
  | .hbm, ⟨40, _⟩ => ⟨S32x256x22016, .f32⟩
  | .hbm, ⟨41, _⟩ => ⟨S32x256x11008, .f32⟩
  | .hbm, ⟨42, _⟩ => ⟨S32x256x11008, .f32⟩
  | .hbm, ⟨43, _⟩ => ⟨S32x256x11008, .f32⟩
  | .hbm, ⟨44, _⟩ => ⟨S32x256x11008, .f32⟩
  | .hbm, ⟨45, _⟩ => ⟨S_, .f32⟩
  | .hbm, ⟨46, _⟩ => ⟨S32x256x11008, .f32⟩
  | .hbm, ⟨47, _⟩ => ⟨S32x256x11008, .f32⟩
  | .hbm, ⟨48, _⟩ => ⟨S_, .f32⟩
  | .hbm, ⟨49, _⟩ => ⟨S32x256x11008, .f32⟩
  | .hbm, ⟨50, _⟩ => ⟨S32x256x11008, .f32⟩
  | .hbm, ⟨51, _⟩ => ⟨S32x256x11008, .f32⟩
  | .hbm, ⟨52, _⟩ => ⟨S32x256x11008, .f32⟩
  | .hbm, ⟨53, _⟩ => ⟨S32x8x32x11008, .f32⟩
  | .hbm, ⟨54, _⟩ => ⟨S32x32x8x11008, .f32⟩
  | .hbm, ⟨55, _⟩ => ⟨S8192x11008, .f32⟩
  | .hbm, ⟨56, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Merge.lean ====
abbrev S8192x1024 : Shape := ⟨2, ![8192, 1024]⟩
abbrev S4x1024x4096 : Shape := ⟨3, ![4, 1024, 4096]⟩
abbrev S8192x22528 : Shape := ⟨2, ![8192, 22528]⟩
abbrev S8192x4096 : Shape := ⟨2, ![8192, 4096]⟩
abbrev S4x1024x256 : Shape := ⟨3, ![4, 1024, 256]⟩
abbrev S2048x1024 : Shape := ⟨2, ![2048, 1024]⟩
abbrev S2048x256 : Shape := ⟨2, ![2048, 256]⟩
abbrev S128x256 : Shape := ⟨2, ![128, 256]⟩
abbrev S128x1024 : Shape := ⟨2, ![128, 1024]⟩
abbrev S1x1024x256 : Shape := ⟨3, ![1, 1024, 256]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x4096, .bf16⟩
  | .hbm, ⟨5, _⟩ => ⟨S8192x22528, .f32⟩
  | .hbm, ⟨6, _⟩ => ⟨S8192x4096, .bf16⟩
  | .local _ .vmem, ⟨0, _⟩ => ⟨S4x1024x256, .bf16⟩
  | .local _ .vmem, ⟨1, _⟩ => ⟨S4x1024x256, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x1024 : Shape := ⟨2, ![8192, 1024]⟩
abbrev S4x1024x4096 : Shape := ⟨3, ![4, 1024, 4096]⟩
abbrev S8192x22528 : Shape := ⟨2, ![8192, 22528]⟩
abbrev S8192x16384 : Shape := ⟨2, ![8192, 16384]⟩
abbrev S_ : Shape := ⟨0, ![]⟩
abbrev S8192x4x4096 : Shape := ⟨3, ![8192, 4, 4096]⟩
abbrev S8192x1x4096 : Shape := ⟨3, ![8192, 1, 4096]⟩
abbrev S8192x4096 : Shape := ⟨2, ![8192, 4096]⟩
abbrev S1x1024x4096 : Shape := ⟨3, ![1, 1024, 4096]⟩
abbrev S1024x4096 : Shape := ⟨2, ![1024, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x4096, .bf16⟩
  | .hbm, ⟨5, _⟩ => ⟨S8192x22528, .f32⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S_, .f32⟩
  | .hbm, ⟨10, _⟩ => ⟨S8192x16384, .f32⟩
  | .hbm, ⟨11, _⟩ => ⟨S8192x16384, .f32⟩
  | .hbm, ⟨12, _⟩ => ⟨S_, .f32⟩
  | .hbm, ⟨13, _⟩ => ⟨S8192x16384, .f32⟩
  | .hbm, ⟨14, _⟩ => ⟨S8192x16384, .f32⟩
  | .hbm, ⟨15, _⟩ => ⟨S8192x4x4096, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S4x1024x4096, .f32⟩
  | .hbm, ⟨21, _⟩ => ⟨S8192x1x4096, .f32⟩
  | .hbm, ⟨22, _⟩ => ⟨S8192x4096, .f32⟩
  | .hbm, ⟨23, _⟩ => ⟨S1x1024x4096, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1x4096, .f32⟩
  | .hbm, ⟨28, _⟩ => ⟨S8192x4096, .f32⟩
  | .hbm, ⟨29, _⟩ => ⟨S1x1024x4096, .f32⟩
  | .hbm, ⟨30, _⟩ => ⟨S1024x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x1x4096, .f32⟩
  | .hbm, ⟨35, _⟩ => ⟨S8192x4096, .f32⟩
  | .hbm, ⟨36, _⟩ => ⟨S1x1024x4096, .f32⟩
  | .hbm, ⟨37, _⟩ => ⟨S1024x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x1x4096, .f32⟩
  | .hbm, ⟨42, _⟩ => ⟨S8192x4096, .f32⟩
  | .hbm, ⟨43, _⟩ => ⟨S1x1024x4096, .f32⟩
  | .hbm, ⟨44, _⟩ => ⟨S1024x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== LastPrompt.lean ====
abbrev S8192x4096 : Shape := ⟨2, ![8192, 4096]⟩
abbrev S2x16x24576 : Shape := ⟨3, ![2, 16, 24576]⟩
abbrev S2x4096 : Shape := ⟨2, ![2, 4096]⟩
abbrev S1x16x24576 : Shape := ⟨3, ![1, 16, 24576]⟩
abbrev S16x24576 : Shape := ⟨2, ![16, 24576]⟩
abbrev S96x1x4096 : Shape := ⟨3, ![96, 1, 4096]⟩
abbrev S1x4096 : Shape := ⟨2, ![1, 4096]⟩
abbrev S4096 : Shape := ⟨1, ![4096]⟩
abbrev S32x8x32x4096 : Shape := ⟨4, ![32, 8, 32, 4096]⟩
abbrev S32x32x8x4096 : Shape := ⟨4, ![32, 32, 8, 4096]⟩
abbrev S1x8x32x4096 : Shape := ⟨4, ![1, 8, 32, 4096]⟩
abbrev S1x32x8x4096 : Shape := ⟨4, ![1, 32, 8, 4096]⟩
abbrev S1x1x4096 : Shape := ⟨3, ![1, 1, 4096]⟩
abbrev S32x8x4096 : Shape := ⟨3, ![32, 8, 4096]⟩
abbrev S8x32x4096 : Shape := ⟨3, ![8, 32, 4096]⟩
abbrev S8x32 : Shape := ⟨2, ![8, 32]⟩
abbrev S8x32x1 : Shape := ⟨3, ![8, 32, 1]⟩

abbrev nBuf : Space → Nat
  | .hbm => 17
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S1x16x24576, .f32⟩
  | .hbm, ⟨6, _⟩ => ⟨S16x24576, .f32⟩
  | .hbm, ⟨7, _⟩ => ⟨S96x1x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S32x8x32x4096, .f32⟩
  | .hbm, ⟨13, _⟩ => ⟨S32x32x8x4096, .f32⟩
  | .hbm, ⟨14, _⟩ => ⟨S1x4096, .f32⟩
  | .hbm, ⟨15, _⟩ => ⟨S1x4096, .f32⟩
  | .hbm, ⟨16, _⟩ => ⟨S32x8x32x4096, .f32⟩
  | .local _ .vmem, ⟨0, _⟩ => ⟨S1x8x32x4096, .f32⟩
  | .local _ .vmem, ⟨1, _⟩ => ⟨S1x8x32x4096, .f32⟩
  | .local _ .vmem, ⟨2, _⟩ => ⟨S1x32x8x4096, .f32⟩
  | .local _ .vmem, ⟨3, _⟩ => ⟨S1x32x8x4096, .f32⟩
  | .local _ .vmem, ⟨4, _⟩ => ⟨S1x1x4096, .f32⟩
  | .local _ .vmem, ⟨5, _⟩ => ⟨S1x4096, .f32⟩
  | .local _ .vmem, ⟨6, _⟩ => ⟨S1x4096, .f32⟩
  | .local _ .vmem, ⟨7, _⟩ => ⟨S1x8x32x4096, .f32⟩
  | .local _ .vmem, ⟨8, _⟩ => ⟨S1x8x32x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastPromptRefIdeal.lean ====
abbrev S8192x4096 : Shape := ⟨2, ![8192, 4096]⟩
abbrev S2x16x24576 : Shape := ⟨3, ![2, 16, 24576]⟩
abbrev S2x4096 : Shape := ⟨2, ![2, 4096]⟩
abbrev S32x256x4096 : Shape := ⟨3, ![32, 256, 4096]⟩
abbrev S32x32x8x4096 : Shape := ⟨4, ![32, 32, 8, 4096]⟩
abbrev S32x8x32x4096 : Shape := ⟨4, ![32, 8, 32, 4096]⟩
abbrev S1x16x24576 : Shape := ⟨3, ![1, 16, 24576]⟩
abbrev S16x24576 : Shape := ⟨2, ![16, 24576]⟩
abbrev S16x4096 : Shape := ⟨2, ![16, 4096]⟩
abbrev S1x4096 : Shape := ⟨2, ![1, 4096]⟩
abbrev S1x1x4096 : Shape := ⟨3, ![1, 1, 4096]⟩
abbrev S_ : Shape := ⟨0, ![]⟩
abbrev S4096 : Shape := ⟨1, ![4096]⟩
abbrev S32x256 : Shape := ⟨2, ![32, 256]⟩
abbrev S32x256x1 : Shape := ⟨3, ![32, 256, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S32x256x4096, .f32⟩
  | .hbm, ⟨6, _⟩ => ⟨S32x32x8x4096, .f32⟩
  | .hbm, ⟨7, _⟩ => ⟨S32x8x32x4096, .f32⟩
  | .hbm, ⟨8, _⟩ => ⟨S32x256x4096, .f32⟩
  | .hbm, ⟨9, _⟩ => ⟨S1x16x24576, .f32⟩
  | .hbm, ⟨10, _⟩ => ⟨S16x24576, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S1x4096, .f32⟩
  | .hbm, ⟨18, _⟩ => ⟨S1x1x4096, .f32⟩
  | .hbm, ⟨19, _⟩ => ⟨S_, .f32⟩
  | .hbm, ⟨20, _⟩ => ⟨S32x256x4096, .f32⟩
  | .hbm, ⟨21, _⟩ => ⟨S32x256x4096, .f32⟩
  | .hbm, ⟨22, _⟩ => ⟨S32x256x4096, .f32⟩
  | .hbm, ⟨23, _⟩ => ⟨S32x256x4096, .f32⟩
  | .hbm, ⟨24, _⟩ => ⟨S32x256x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S32x256x4096, .f32⟩
  | .hbm, ⟨36, _⟩ => ⟨S32x256x4096, .f32⟩
  | .hbm, ⟨37, _⟩ => ⟨S32x256x4096, .f32⟩
  | .hbm, ⟨38, _⟩ => ⟨S_, .f32⟩
  | .hbm, ⟨39, _⟩ => ⟨S32x256, .f32⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S32x256x4096, .f32⟩
  | .hbm, ⟨45, _⟩ => ⟨S32x256x4096, .f32⟩
  | .hbm, ⟨46, _⟩ => ⟨S_, .f32⟩
  | .hbm, ⟨47, _⟩ => ⟨S32x256x1, .f32⟩
  | .hbm, ⟨48, _⟩ => ⟨S32x256x1, .f32⟩
  | .hbm, ⟨49, _⟩ => ⟨S32x256x1, .f32⟩
  | .hbm, ⟨50, _⟩ => ⟨S32x256x4096, .f32⟩
  | .hbm, ⟨51, _⟩ => ⟨S32x256x4096, .f32⟩
  | .hbm, ⟨52, _⟩ => ⟨S1x1x4096, .f32⟩
  | .hbm, ⟨53, _⟩ => ⟨S32x256x4096, .f32⟩
  | .hbm, ⟨54, _⟩ => ⟨S32x256x4096, .f32⟩
  | .hbm, ⟨55, _⟩ => ⟨S1x1x4096, .f32⟩
  | .hbm, ⟨56, _⟩ => ⟨S32x256x4096, .f32⟩
  | .hbm, ⟨57, _⟩ => ⟨S32x256x4096, .f32⟩
  | .hbm, ⟨58, _⟩ => ⟨S32x8x32x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== LastSample.lean ====
abbrev S8192x4096 : Shape := ⟨2, ![8192, 4096]⟩
abbrev S2x16x24576 : Shape := ⟨3, ![2, 16, 24576]⟩
abbrev S2x4096 : Shape := ⟨2, ![2, 4096]⟩
abbrev S1x16x24576 : Shape := ⟨3, ![1, 16, 24576]⟩
abbrev S16x24576 : Shape := ⟨2, ![16, 24576]⟩
abbrev S96x1x4096 : Shape := ⟨3, ![96, 1, 4096]⟩
abbrev S1x4096 : Shape := ⟨2, ![1, 4096]⟩
abbrev S4096 : Shape := ⟨1, ![4096]⟩
abbrev S8x8x128x4096 : Shape := ⟨4, ![8, 8, 128, 4096]⟩
abbrev S8x128x8x4096 : Shape := ⟨4, ![8, 128, 8, 4096]⟩
abbrev S1x8x32x4096 : Shape := ⟨4, ![1, 8, 32, 4096]⟩
abbrev S1x32x8x4096 : Shape := ⟨4, ![1, 32, 8, 4096]⟩
abbrev S1x1x4096 : Shape := ⟨3, ![1, 1, 4096]⟩
abbrev S32x8x4096 : Shape := ⟨3, ![32, 8, 4096]⟩
abbrev S8x32x4096 : Shape := ⟨3, ![8, 32, 4096]⟩
abbrev S8x32 : Shape := ⟨2, ![8, 32]⟩
abbrev S8x32x1 : Shape := ⟨3, ![8, 32, 1]⟩

abbrev nBuf : Space → Nat
  | .hbm => 17
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S1x16x24576, .f32⟩
  | .hbm, ⟨6, _⟩ => ⟨S16x24576, .f32⟩
  | .hbm, ⟨7, _⟩ => ⟨S96x1x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S8x8x128x4096, .f32⟩
  | .hbm, ⟨13, _⟩ => ⟨S8x128x8x4096, .f32⟩
  | .hbm, ⟨14, _⟩ => ⟨S1x4096, .f32⟩
  | .hbm, ⟨15, _⟩ => ⟨S1x4096, .f32⟩
  | .hbm, ⟨16, _⟩ => ⟨S8x8x128x4096, .f32⟩
  | .local _ .vmem, ⟨0, _⟩ => ⟨S1x8x32x4096, .f32⟩
  | .local _ .vmem, ⟨1, _⟩ => ⟨S1x8x32x4096, .f32⟩
  | .local _ .vmem, ⟨2, _⟩ => ⟨S1x32x8x4096, .f32⟩
  | .local _ .vmem, ⟨3, _⟩ => ⟨S1x32x8x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x8x32x4096, .f32⟩
  | .local _ .vmem, ⟨9, _⟩ => ⟨S1x8x32x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c5_i32 : BitVec 32 := 5#32
  let v2 : BitVec 32 := Scalar.addi v1 c5_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastSampleRefIdeal.lean ====
abbrev S8192x4096 : Shape := ⟨2, ![8192, 4096]⟩
abbrev S2x16x24576 : Shape := ⟨3, ![2, 16, 24576]⟩
abbrev S2x4096 : Shape := ⟨2, ![2, 4096]⟩
abbrev S8x1024x4096 : Shape := ⟨3, ![8, 1024, 4096]⟩
abbrev S8x128x8x4096 : Shape := ⟨4, ![8, 128, 8, 4096]⟩
abbrev S8x8x128x4096 : Shape := ⟨4, ![8, 8, 128, 4096]⟩
abbrev S1x16x24576 : Shape := ⟨3, ![1, 16, 24576]⟩
abbrev S16x24576 : Shape := ⟨2, ![16, 24576]⟩
abbrev S16x4096 : Shape := ⟨2, ![16, 4096]⟩
abbrev S8x4096 : Shape := ⟨2, ![8, 4096]⟩
abbrev S8x1x4096 : Shape := ⟨3, ![8, 1, 4096]⟩
abbrev S_ : Shape := ⟨0, ![]⟩
abbrev S1x4096 : Shape := ⟨2, ![1, 4096]⟩
abbrev S4096 : Shape := ⟨1, ![4096]⟩
abbrev S8x1024 : Shape := ⟨2, ![8, 1024]⟩
abbrev S8x1024x1 : Shape := ⟨3, ![8, 1024, 1]⟩
abbrev S1x1x4096 : Shape := ⟨3, ![1, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S8x1024x4096, .f32⟩
  | .hbm, ⟨6, _⟩ => ⟨S8x128x8x4096, .f32⟩
  | .hbm, ⟨7, _⟩ => ⟨S8x8x128x4096, .f32⟩
  | .hbm, ⟨8, _⟩ => ⟨S8x1024x4096, .f32⟩
  | .hbm, ⟨9, _⟩ => ⟨S1x16x24576, .f32⟩
  | .hbm, ⟨10, _⟩ => ⟨S16x24576, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S8x4096, .f32⟩
  | .hbm, ⟨18, _⟩ => ⟨S8x1x4096, .f32⟩
  | .hbm, ⟨19, _⟩ => ⟨S_, .f32⟩
  | .hbm, ⟨20, _⟩ => ⟨S8x1024x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S8x1024x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096, .f32⟩
  | .hbm, ⟨29, _⟩ => ⟨S_, .f32⟩
  | .hbm, ⟨30, _⟩ => ⟨S8x1024, .f32⟩
  | .hbm, ⟨31, _⟩ => ⟨S8x1024x1, .f32⟩
  | .hbm, ⟨32, _⟩ => ⟨S_, .f32⟩
  | .hbm, ⟨33, _⟩ => ⟨S8x1024x1, .f32⟩
  | .hbm, ⟨34, _⟩ => ⟨S8x1024x1, .f32⟩
  | .hbm, ⟨35, _⟩ => ⟨S8x1024x4096, .f32⟩
  | .hbm, ⟨36, _⟩ => ⟨S8x1024x4096, .f32⟩
  | .hbm, ⟨37, _⟩ => ⟨S8x1024x4096, .f32⟩
  | .hbm, ⟨38, _⟩ => ⟨S_, .f32⟩
  | .hbm, ⟨39, _⟩ => ⟨S8x1024, .f32⟩
  | .hbm, ⟨40, _⟩ => ⟨S8x1024x1, .f32⟩
  | .hbm, ⟨41, _⟩ => ⟨S_, .f32⟩
  | .hbm, ⟨42, _⟩ => ⟨S8x1024x1, .f32⟩
  | .hbm, ⟨43, _⟩ => ⟨S8x1024x1, .f32⟩
  | .hbm, ⟨44, _⟩ => ⟨S8x1024x4096, .f32⟩
  | .hbm, ⟨45, _⟩ => ⟨S8x1024x4096, .f32⟩
  | .hbm, ⟨46, _⟩ => ⟨S_, .f32⟩
  | .hbm, ⟨47, _⟩ => ⟨S8x1024x1, .f32⟩
  | .hbm, ⟨48, _⟩ => ⟨S8x1024x1, .f32⟩
  | .hbm, ⟨49, _⟩ => ⟨S8x1024x1, .f32⟩
  | .hbm, ⟨50, _⟩ => ⟨S8x1024x4096, .f32⟩
  | .hbm, ⟨51, _⟩ => ⟨S8x1024x4096, .f32⟩
  | .hbm, ⟨52, _⟩ => ⟨S1x1x4096, .f32⟩
  | .hbm, ⟨53, _⟩ => ⟨S8x1024x4096, .f32⟩
  | .hbm, ⟨54, _⟩ => ⟨S8x1024x4096, .f32⟩
  | .hbm, ⟨55, _⟩ => ⟨S1x1x4096, .f32⟩
  | .hbm, ⟨56, _⟩ => ⟨S8x1024x4096, .f32⟩
  | .hbm, ⟨57, _⟩ => ⟨S8x1024x4096, .f32⟩
  | .hbm, ⟨58, _⟩ => ⟨S8x8x128x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Ada.lean ====
abbrev S16x4096 : Shape := ⟨2, ![16, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x16x24576 : Shape := ⟨3, ![2, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x4096 : Shape := ⟨2, ![16, 4096]⟩
abbrev S2x4096x24576 : Shape := ⟨3, ![2, 4096, 24576]⟩
abbrev S2x24576 : Shape := ⟨2, ![2, 24576]⟩
abbrev S_ : Shape := ⟨0, ![]⟩
abbrev S2x24576x16 : Shape := ⟨3, ![2, 24576, 16]⟩
abbrev S2x16x24576 : Shape := ⟨3, ![2, 16, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S2x24576x16, .f32⟩
  | .hbm, ⟨13, _⟩ => ⟨S2x16x24576, .f32⟩
  | .hbm, ⟨14, _⟩ => ⟨S2x1x24576, .f32⟩
  | .hbm, ⟨15, _⟩ => ⟨S2x16x24576, .f32⟩
  | .hbm, ⟨16, _⟩ => ⟨S2x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== CastBr.lean ====
abbrev S2x4x1024x4096 : Shape := ⟨4, ![2, 4, 1024, 4096]⟩
abbrev S2x4096x4096 : Shape := ⟨3, ![2, 4096, 4096]⟩
abbrev S4096x4096 : Shape := ⟨2, ![4096, 4096]⟩
abbrev S1x512x4096 : Shape := ⟨3, ![1, 512, 4096]⟩
abbrev S512x4096 : Shape := ⟨2, ![512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S2x4x1024x4096, .f32⟩
  | .hbm, ⟨1, _⟩ => ⟨S2x4096x4096, .f32⟩
  | .hbm, ⟨2, _⟩ => ⟨S4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | _, _ => ⟨S2x4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastBrRefIdeal.lean ====
abbrev S2x4x1024x4096 : Shape := ⟨4, ![2, 4, 1024, 4096]⟩
abbrev S1x4x1024x4096 : Shape := ⟨4, ![1, 4, 1024, 4096]⟩
abbrev S4x1024x4096 : Shape := ⟨3, ![4, 1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x4x1024x4096, .f32⟩
  | .hbm, ⟨1, _⟩ => ⟨S1x4x1024x4096, .f32⟩
  | .hbm, ⟨2, _⟩ => ⟨S4x1024x4096, .f32⟩
  | .hbm, ⟨3, _⟩ => ⟨S4096x4096, .f32⟩
  | .hbm, ⟨4, _⟩ => ⟨S4096x4096, .bf16⟩
  | _, _ => ⟨S2x4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== CastDown.lean ====
abbrev S2x11008x4096 : Shape := ⟨3, ![2, 11008, 4096]⟩
abbrev S11008x4096 : Shape := ⟨2, ![11008, 4096]⟩
abbrev S1x688x4096 : Shape := ⟨3, ![1, 688, 4096]⟩
abbrev S688x4096 : Shape := ⟨2, ![688, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x11008x4096, .f32⟩
  | .hbm, ⟨1, _⟩ => ⟨S11008x4096, .bf16⟩
  | .local _ .vmem, ⟨0, _⟩ => ⟨S1x688x4096, .f32⟩
  | .local _ .vmem, ⟨1, _⟩ => ⟨S1x688x4096, .f32⟩
  | .local _ .vmem, ⟨2, _⟩ => ⟨S688x4096, .bf16⟩
  | .local _ .vmem, ⟨3, _⟩ => ⟨S688x4096, .bf16⟩
  | _, _ => ⟨S2x11008x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x688x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastDownRefIdeal.lean ====
abbrev S2x11008x4096 : Shape := ⟨3, ![2, 11008, 4096]⟩
abbrev S1x11008x4096 : Shape := ⟨3, ![1, 11008, 4096]⟩
abbrev S11008x4096 : Shape := ⟨2, ![11008, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x11008x4096, .f32⟩
  | .hbm, ⟨1, _⟩ => ⟨S1x11008x4096, .f32⟩
  | .hbm, ⟨2, _⟩ => ⟨S11008x4096, .f32⟩
  | .hbm, ⟨3, _⟩ => ⟨S11008x4096, .bf16⟩
  | _, _ => ⟨S2x11008x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== OpenPrompt.lean ====
abbrev S8192x4096 : Shape := ⟨2, ![8192, 4096]⟩
abbrev S2x16x24576 : Shape := ⟨3, ![2, 16, 24576]⟩
abbrev S1x16x24576 : Shape := ⟨3, ![1, 16, 24576]⟩
abbrev S16x24576 : Shape := ⟨2, ![16, 24576]⟩
abbrev S96x1x4096 : Shape := ⟨3, ![96, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2x16x24576, .f32⟩
  | .hbm, ⟨2, _⟩ => ⟨S1x16x24576, .f32⟩
  | .hbm, ⟨3, _⟩ => ⟨S16x24576, .f32⟩
  | .hbm, ⟨4, _⟩ => ⟨S96x1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S256x4096, .bf16⟩
  | .local _ .vmem, ⟨5, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OpenPromptRefIdeal.lean ====
abbrev S8192x4096 : Shape := ⟨2, ![8192, 4096]⟩
abbrev S2x16x24576 : Shape := ⟨3, ![2, 16, 24576]⟩
abbrev S1x16x24576 : Shape := ⟨3, ![1, 16, 24576]⟩
abbrev S16x24576 : Shape := ⟨2, ![16, 24576]⟩
abbrev S16x4096 : Shape := ⟨2, ![16, 4096]⟩
abbrev S1x4096 : Shape := ⟨2, ![1, 4096]⟩
abbrev S1x1x4096 : Shape := ⟨3, ![1, 1, 4096]⟩
abbrev S32x256x4096 : Shape := ⟨3, ![32, 256, 4096]⟩
abbrev S_ : Shape := ⟨0, ![]⟩
abbrev S32x256 : Shape := ⟨2, ![32, 256]⟩
abbrev S32x256x1 : Shape := ⟨3, ![32, 256, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x16x24576, .f32⟩
  | .hbm, ⟨2, _⟩ => ⟨S1x16x24576, .f32⟩
  | .hbm, ⟨3, _⟩ => ⟨S16x24576, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S1x4096, .f32⟩
  | .hbm, ⟨11, _⟩ => ⟨S1x1x4096, .f32⟩
  | .hbm, ⟨12, _⟩ => ⟨S1x4096, .f32⟩
  | .hbm, ⟨13, _⟩ => ⟨S1x1x4096, .f32⟩
  | .hbm, ⟨14, _⟩ => ⟨S32x256x4096, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x4096, .f32⟩
  | .hbm, ⟨22, _⟩ => ⟨S32x256x4096, .f32⟩
  | .hbm, ⟨23, _⟩ => ⟨S32x256x4096, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S32x256x4096, .f32⟩
  | .hbm, ⟨31, _⟩ => ⟨S32x256x4096, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S32x256x1, .f32⟩
  | .hbm, ⟨36, _⟩ => ⟨S32x256x4096, .f32⟩
  | .hbm, ⟨37, _⟩ => ⟨S32x256x4096, .f32⟩
  | .hbm, ⟨38, _⟩ => ⟨S_, .f32⟩
  | .hbm, ⟨39, _⟩ => ⟨S1x1x4096, .f32⟩
  | .hbm, ⟨40, _⟩ => ⟨S1x1x4096, .f32⟩
  | .hbm, ⟨41, _⟩ => ⟨S32x256x4096, .f32⟩
  | .hbm, ⟨42, _⟩ => ⟨S32x256x4096, .f32⟩
  | .hbm, ⟨43, _⟩ => ⟨S32x256x4096, .f32⟩
  | .hbm, ⟨44, _⟩ => ⟨S32x256x4096, .f32⟩
  | .hbm, ⟨45, _⟩ => ⟨S8192x4096, .f32⟩
  | .hbm, ⟨46, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== OpenSample.lean ====
abbrev S8192x4096 : Shape := ⟨2, ![8192, 4096]⟩
abbrev S2x16x24576 : Shape := ⟨3, ![2, 16, 24576]⟩
abbrev S1x16x24576 : Shape := ⟨3, ![1, 16, 24576]⟩
abbrev S16x24576 : Shape := ⟨2, ![16, 24576]⟩
abbrev S96x1x4096 : Shape := ⟨3, ![96, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S2x16x24576, .f32⟩
  | .hbm, ⟨2, _⟩ => ⟨S1x16x24576, .f32⟩
  | .hbm, ⟨3, _⟩ => ⟨S16x24576, .f32⟩
  | .hbm, ⟨4, _⟩ => ⟨S96x1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .bf16⟩
  | .local _ .vmem, ⟨7, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c0_i32_5 : BitVec 32 := 0#32
  let v20 : BitVec 32 := Scalar.addi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OpenSampleRefIdeal.lean ====
abbrev S8192x4096 : Shape := ⟨2, ![8192, 4096]⟩
abbrev S2x16x24576 : Shape := ⟨3, ![2, 16, 24576]⟩
abbrev S1x16x24576 : Shape := ⟨3, ![1, 16, 24576]⟩
abbrev S16x24576 : Shape := ⟨2, ![16, 24576]⟩
abbrev S16x4096 : Shape := ⟨2, ![16, 4096]⟩
abbrev S8x4096 : Shape := ⟨2, ![8, 4096]⟩
abbrev S8x1x4096 : Shape := ⟨3, ![8, 1, 4096]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x16x24576, .f32⟩
  | .hbm, ⟨2, _⟩ => ⟨S1x16x24576, .f32⟩
  | .hbm, ⟨3, _⟩ => ⟨S16x24576, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S8x4096, .f32⟩
  | .hbm, ⟨11, _⟩ => ⟨S8x1x4096, .f32⟩
  | .hbm, ⟨12, _⟩ => ⟨S8x4096, .f32⟩
  | .hbm, ⟨13, _⟩ => ⟨S8x1x4096, .f32⟩
  | .hbm, ⟨14, _⟩ => ⟨S8x1024x4096, .f32⟩
  | .hbm, ⟨15, _⟩ => ⟨S_, .f32⟩
  | .hbm, ⟨16, _⟩ => ⟨S8x1024, .f32⟩
  | .hbm, ⟨17, _⟩ => ⟨S8x1024x1, .f32⟩
  | .hbm, ⟨18, _⟩ => ⟨S_, .f32⟩
  | .hbm, ⟨19, _⟩ => ⟨S8x1024x1, .f32⟩
  | .hbm, ⟨20, _⟩ => ⟨S8x1024x1, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S_, .f32⟩
  | .hbm, ⟨25, _⟩ => ⟨S8x1024, .f32⟩
  | .hbm, ⟨26, _⟩ => ⟨S8x1024x1, .f32⟩
  | .hbm, ⟨27, _⟩ => ⟨S_, .f32⟩
  | .hbm, ⟨28, _⟩ => ⟨S8x1024x1, .f32⟩
  | .hbm, ⟨29, _⟩ => ⟨S8x1024x1, .f32⟩
  | .hbm, ⟨30, _⟩ => ⟨S8x1024x4096, .f32⟩
  | .hbm, ⟨31, _⟩ => ⟨S8x1024x4096, .f32⟩
  | .hbm, ⟨32, _⟩ => ⟨S_, .f32⟩
  | .hbm, ⟨33, _⟩ => ⟨S8x1024x1, .f32⟩
  | .hbm, ⟨34, _⟩ => ⟨S8x1024x1, .f32⟩
  | .hbm, ⟨35, _⟩ => ⟨S8x1024x1, .f32⟩
  | .hbm, ⟨36, _⟩ => ⟨S8x1024x4096, .f32⟩
  | .hbm, ⟨37, _⟩ => ⟨S8x1024x4096, .f32⟩
  | .hbm, ⟨38, _⟩ => ⟨S_, .f32⟩
  | .hbm, ⟨39, _⟩ => ⟨S8x1x4096, .f32⟩
  | .hbm, ⟨40, _⟩ => ⟨S8x1x4096, .f32⟩
  | .hbm, ⟨41, _⟩ => ⟨S8x1024x4096, .f32⟩
  | .hbm, ⟨42, _⟩ => ⟨S8x1024x4096, .f32⟩
  | .hbm, ⟨43, _⟩ => ⟨S8x1024x4096, .f32⟩
  | .hbm, ⟨44, _⟩ => ⟨S8x1024x4096, .f32⟩
  | .hbm, ⟨45, _⟩ => ⟨S8192x4096, .f32⟩
  | .hbm, ⟨46, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== MidPrompt.lean ====
abbrev S8192x4096 : Shape := ⟨2, ![8192, 4096]⟩
abbrev S2x16x24576 : Shape := ⟨3, ![2, 16, 24576]⟩
abbrev S2x4096 : Shape := ⟨2, ![2, 4096]⟩
abbrev S1x16x24576 : Shape := ⟨3, ![1, 16, 24576]⟩
abbrev S16x24576 : Shape := ⟨2, ![16, 24576]⟩
abbrev S96x1x4096 : Shape := ⟨3, ![96, 1, 4096]⟩
abbrev S1x4096 : Shape := ⟨2, ![1, 4096]⟩
abbrev S4096 : Shape := ⟨1, ![4096]⟩
abbrev S32x8x32x4096 : Shape := ⟨4, ![32, 8, 32, 4096]⟩
abbrev S32x32x8x4096 : Shape := ⟨4, ![32, 32, 8, 4096]⟩
abbrev S1x8x32x4096 : Shape := ⟨4, ![1, 8, 32, 4096]⟩
abbrev S1x1x4096 : Shape := ⟨3, ![1, 1, 4096]⟩
abbrev S1x32x8x4096 : Shape := ⟨4, ![1, 32, 8, 4096]⟩
abbrev S8x32x4096 : Shape := ⟨3, ![8, 32, 4096]⟩
abbrev S8x32 : Shape := ⟨2, ![8, 32]⟩
abbrev S8x32x1 : Shape := ⟨3, ![8, 32, 1]⟩
abbrev S32x8x4096 : Shape := ⟨3, ![32, 8, 4096]⟩

abbrev nBuf : Space → Nat
  | .hbm => 18
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S1x16x24576, .f32⟩
  | .hbm, ⟨6, _⟩ => ⟨S16x24576, .f32⟩
  | .hbm, ⟨7, _⟩ => ⟨S96x1x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S32x8x32x4096, .f32⟩
  | .hbm, ⟨13, _⟩ => ⟨S32x8x32x4096, .f32⟩
  | .hbm, ⟨14, _⟩ => ⟨S1x4096, .f32⟩
  | .hbm, ⟨15, _⟩ => ⟨S1x4096, .f32⟩
  | .hbm, ⟨16, _⟩ => ⟨S32x8x32x4096, .f32⟩
  | .hbm, ⟨17, _⟩ => ⟨S32x32x8x4096, .bf16⟩
  | .local _ .vmem, ⟨0, _⟩ => ⟨S1x8x32x4096, .f32⟩
  | .local _ .vmem, ⟨1, _⟩ => ⟨S1x8x32x4096, .f32⟩
  | .local _ .vmem, ⟨2, _⟩ => ⟨S1x8x32x4096, .f32⟩
  | .local _ .vmem, ⟨3, _⟩ => ⟨S1x8x32x4096, .f32⟩
  | .local _ .vmem, ⟨4, _⟩ => ⟨S1x1x4096, .f32⟩
  | .local _ .vmem, ⟨5, _⟩ => ⟨S1x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x8x32x4096, .f32⟩
  | .local _ .vmem, ⟨10, _⟩ => ⟨S1x8x32x4096, .f32⟩
  | .local _ .vmem, ⟨11, _⟩ => ⟨S1x32x8x4096, .bf16⟩
  | .local _ .vmem, ⟨12, _⟩ => ⟨S1x32x8x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x8x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidPromptRefIdeal.lean ====
abbrev S8192x4096 : Shape := ⟨2, ![8192, 4096]⟩
abbrev S2x16x24576 : Shape := ⟨3, ![2, 16, 24576]⟩
abbrev S2x4096 : Shape := ⟨2, ![2, 4096]⟩
abbrev S32x256x4096 : Shape := ⟨3, ![32, 256, 4096]⟩
abbrev S1x16x24576 : Shape := ⟨3, ![1, 16, 24576]⟩
abbrev S16x24576 : Shape := ⟨2, ![16, 24576]⟩
abbrev S16x4096 : Shape := ⟨2, ![16, 4096]⟩
abbrev S1x4096 : Shape := ⟨2, ![1, 4096]⟩
abbrev S1x1x4096 : Shape := ⟨3, ![1, 1, 4096]⟩
abbrev S_ : Shape := ⟨0, ![]⟩
abbrev S4096 : Shape := ⟨1, ![4096]⟩
abbrev S32x256 : Shape := ⟨2, ![32, 256]⟩
abbrev S32x256x1 : Shape := ⟨3, ![32, 256, 1]⟩
abbrev S32x8x32x4096 : Shape := ⟨4, ![32, 8, 32, 4096]⟩
abbrev S32x32x8x4096 : Shape := ⟨4, ![32, 32, 8, 4096]⟩

abbrev nBuf : Space → Nat
  | .hbm => 94
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S32x256x4096, .f32⟩
  | .hbm, ⟨6, _⟩ => ⟨S32x256x4096, .f32⟩
  | .hbm, ⟨7, _⟩ => ⟨S1x16x24576, .f32⟩
  | .hbm, ⟨8, _⟩ => ⟨S16x24576, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S1x4096, .f32⟩
  | .hbm, ⟨16, _⟩ => ⟨S1x1x4096, .f32⟩
  | .hbm, ⟨17, _⟩ => ⟨S1x4096, .f32⟩
  | .hbm, ⟨18, _⟩ => ⟨S1x1x4096, .f32⟩
  | .hbm, ⟨19, _⟩ => ⟨S1x4096, .f32⟩
  | .hbm, ⟨20, _⟩ => ⟨S1x1x4096, .f32⟩
  | .hbm, ⟨21, _⟩ => ⟨S_, .f32⟩
  | .hbm, ⟨22, _⟩ => ⟨S32x256x4096, .f32⟩
  | .hbm, ⟨23, _⟩ => ⟨S32x256x4096, .f32⟩
  | .hbm, ⟨24, _⟩ => ⟨S32x256x4096, .f32⟩
  | .hbm, ⟨25, _⟩ => ⟨S32x256x4096, .f32⟩
  | .hbm, ⟨26, _⟩ => ⟨S32x256x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S4096, .f32⟩
  | .hbm, ⟨31, _⟩ => ⟨S_, .f32⟩
  | .hbm, ⟨32, _⟩ => ⟨S32x256, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S32x256x4096, .f32⟩
  | .hbm, ⟨38, _⟩ => ⟨S32x256x4096, .f32⟩
  | .hbm, ⟨39, _⟩ => ⟨S32x256x4096, .f32⟩
  | .hbm, ⟨40, _⟩ => ⟨S_, .f32⟩
  | .hbm, ⟨41, _⟩ => ⟨S32x256, .f32⟩
  | .hbm, ⟨42, _⟩ => ⟨S32x256x1, .f32⟩
  | .hbm, ⟨43, _⟩ => ⟨S_, .f32⟩
  | .hbm, ⟨44, _⟩ => ⟨S32x256x1, .f32⟩
  | .hbm, ⟨45, _⟩ => ⟨S32x256x1, .f32⟩
  | .hbm, ⟨46, _⟩ => ⟨S32x256x4096, .f32⟩
  | .hbm, ⟨47, _⟩ => ⟨S32x256x4096, .f32⟩
  | .hbm, ⟨48, _⟩ => ⟨S_, .f32⟩
  | .hbm, ⟨49, _⟩ => ⟨S32x256x1, .f32⟩
  | .hbm, ⟨50, _⟩ => ⟨S32x256x1, .f32⟩
  | .hbm, ⟨51, _⟩ => ⟨S32x256x1, .f32⟩
  | .hbm, ⟨52, _⟩ => ⟨S32x256x4096, .f32⟩
  | .hbm, ⟨53, _⟩ => ⟨S32x256x4096, .f32⟩
  | .hbm, ⟨54, _⟩ => ⟨S1x1x4096, .f32⟩
  | .hbm, ⟨55, _⟩ => ⟨S32x256x4096, .f32⟩
  | .hbm, ⟨56, _⟩ => ⟨S32x256x4096, .f32⟩
  | .hbm, ⟨57, _⟩ => ⟨S1x1x4096, .f32⟩
  | .hbm, ⟨58, _⟩ => ⟨S32x256x4096, .f32⟩
  | .hbm, ⟨59, _⟩ => ⟨S32x256x4096, .f32⟩
  | .hbm, ⟨60, _⟩ => ⟨S_, .f32⟩
  | .hbm, ⟨61, _⟩ => ⟨S32x256, .f32⟩
  | .hbm, ⟨62, _⟩ => ⟨S32x256x1, .f32⟩
  | .hbm, ⟨63, _⟩ => ⟨S_, .f32⟩
  | .hbm, ⟨64, _⟩ => ⟨S32x256x1, .f32⟩
  | .hbm, ⟨65, _⟩ => ⟨S32x256x1, .f32⟩
  | .hbm, ⟨66, _⟩ => ⟨S32x256x4096, .f32⟩
  | .hbm, ⟨67, _⟩ => ⟨S32x256x4096, .f32⟩
  | .hbm, ⟨68, _⟩ => ⟨S32x256x4096, .f32⟩
  | .hbm, ⟨69, _⟩ => ⟨S_, .f32⟩
  | .hbm, ⟨70, _⟩ => ⟨S32x256, .f32⟩
  | .hbm, ⟨71, _⟩ => ⟨S32x256x1, .f32⟩
  | .hbm, ⟨72, _⟩ => ⟨S_, .f32⟩
  | .hbm, ⟨73, _⟩ => ⟨S32x256x1, .f32⟩
  | .hbm, ⟨74, _⟩ => ⟨S32x256x1, .f32⟩
  | .hbm, ⟨75, _⟩ => ⟨S32x256x4096, .f32⟩
  | .hbm, ⟨76, _⟩ => ⟨S32x256x4096, .f32⟩
  | .hbm, ⟨77, _⟩ => ⟨S_, .f32⟩
  | .hbm, ⟨78, _⟩ => ⟨S32x256x1, .f32⟩
  | .hbm, ⟨79, _⟩ => ⟨S32x256x1, .f32⟩
  | .hbm, ⟨80, _⟩ => ⟨S32x256x1, .f32⟩
  | .hbm, ⟨81, _⟩ => ⟨S32x256x4096, .f32⟩
  | .hbm, ⟨82, _⟩ => ⟨S32x256x4096, .f32⟩
  | .hbm, ⟨83, _⟩ => ⟨S_, .f32⟩
  | .hbm, ⟨84, _⟩ => ⟨S1x1x4096, .f32⟩
  | .hbm, ⟨85, _⟩ => ⟨S1x1x4096, .f32⟩
  | .hbm, ⟨86, _⟩ => ⟨S32x256x4096, .f32⟩
  | .hbm, ⟨87, _⟩ => ⟨S32x256x4096, .f32⟩
  | .hbm, ⟨88, _⟩ => ⟨S32x256x4096, .f32⟩
  | .hbm, ⟨89, _⟩ => ⟨S32x256x4096, .f32⟩
  | .hbm, ⟨90, _⟩ => ⟨S32x8x32x4096, .f32⟩
  | .hbm, ⟨91, _⟩ => ⟨S32x8x32x4096, .f32⟩
  | .hbm, ⟨92, _⟩ => ⟨S32x32x8x4096, .f32⟩
  | .hbm, ⟨93, _⟩ => ⟨S32x32x8x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== MidSample.lean ====
abbrev S8192x4096 : Shape := ⟨2, ![8192, 4096]⟩
abbrev S2x16x24576 : Shape := ⟨3, ![2, 16, 24576]⟩
abbrev S2x4096 : Shape := ⟨2, ![2, 4096]⟩
abbrev S1x16x24576 : Shape := ⟨3, ![1, 16, 24576]⟩
abbrev S16x24576 : Shape := ⟨2, ![16, 24576]⟩
abbrev S96x1x4096 : Shape := ⟨3, ![96, 1, 4096]⟩
abbrev S1x4096 : Shape := ⟨2, ![1, 4096]⟩
abbrev S4096 : Shape := ⟨1, ![4096]⟩
abbrev S8x8x128x4096 : Shape := ⟨4, ![8, 8, 128, 4096]⟩
abbrev S8x128x8x4096 : Shape := ⟨4, ![8, 128, 8, 4096]⟩
abbrev S1x8x32x4096 : Shape := ⟨4, ![1, 8, 32, 4096]⟩
abbrev S1x1x4096 : Shape := ⟨3, ![1, 1, 4096]⟩
abbrev S1x32x8x4096 : Shape := ⟨4, ![1, 32, 8, 4096]⟩
abbrev S8x32x4096 : Shape := ⟨3, ![8, 32, 4096]⟩
abbrev S8x32 : Shape := ⟨2, ![8, 32]⟩
abbrev S8x32x1 : Shape := ⟨3, ![8, 32, 1]⟩
abbrev S32x8x4096 : Shape := ⟨3, ![32, 8, 4096]⟩

abbrev nBuf : Space → Nat
  | .hbm => 18
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S1x16x24576, .f32⟩
  | .hbm, ⟨6, _⟩ => ⟨S16x24576, .f32⟩
  | .hbm, ⟨7, _⟩ => ⟨S96x1x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S8x8x128x4096, .f32⟩
  | .hbm, ⟨13, _⟩ => ⟨S8x8x128x4096, .f32⟩
  | .hbm, ⟨14, _⟩ => ⟨S1x4096, .f32⟩
  | .hbm, ⟨15, _⟩ => ⟨S1x4096, .f32⟩
  | .hbm, ⟨16, _⟩ => ⟨S8x8x128x4096, .f32⟩
  | .hbm, ⟨17, _⟩ => ⟨S8x128x8x4096, .bf16⟩
  | .local _ .vmem, ⟨0, _⟩ => ⟨S1x8x32x4096, .f32⟩
  | .local _ .vmem, ⟨1, _⟩ => ⟨S1x8x32x4096, .f32⟩
  | .local _ .vmem, ⟨2, _⟩ => ⟨S1x8x32x4096, .f32⟩
  | .local _ .vmem, ⟨3, _⟩ => ⟨S1x8x32x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x8x32x4096, .f32⟩
  | .local _ .vmem, ⟨13, _⟩ => ⟨S1x8x32x4096, .f32⟩
  | .local _ .vmem, ⟨14, _⟩ => ⟨S1x32x8x4096, .bf16⟩
  | .local _ .vmem, ⟨15, _⟩ => ⟨S1x32x8x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c2_i32 : BitVec 32 := 2#32
  let v2 : BitVec 32 := Scalar.addi v1 c2_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c3_i32 : BitVec 32 := 3#32
  let v2 : BitVec 32 := Scalar.addi v1 c3_i32
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c4_i32 : BitVec 32 := 4#32
  let v2 : BitVec 32 := Scalar.addi v1 c4_i32
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x8x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidSampleRefIdeal.lean ====
abbrev S8192x4096 : Shape := ⟨2, ![8192, 4096]⟩
abbrev S2x16x24576 : Shape := ⟨3, ![2, 16, 24576]⟩
abbrev S2x4096 : Shape := ⟨2, ![2, 4096]⟩
abbrev S8x1024x4096 : Shape := ⟨3, ![8, 1024, 4096]⟩
abbrev S1x16x24576 : Shape := ⟨3, ![1, 16, 24576]⟩
abbrev S16x24576 : Shape := ⟨2, ![16, 24576]⟩
abbrev S16x4096 : Shape := ⟨2, ![16, 4096]⟩
abbrev S8x4096 : Shape := ⟨2, ![8, 4096]⟩
abbrev S8x1x4096 : Shape := ⟨3, ![8, 1, 4096]⟩
abbrev S_ : Shape := ⟨0, ![]⟩
abbrev S1x4096 : Shape := ⟨2, ![1, 4096]⟩
abbrev S4096 : Shape := ⟨1, ![4096]⟩
abbrev S8x1024 : Shape := ⟨2, ![8, 1024]⟩
abbrev S8x1024x1 : Shape := ⟨3, ![8, 1024, 1]⟩
abbrev S1x1x4096 : Shape := ⟨3, ![1, 1, 4096]⟩
abbrev S8x8x128x4096 : Shape := ⟨4, ![8, 8, 128, 4096]⟩
abbrev S8x128x8x4096 : Shape := ⟨4, ![8, 128, 8, 4096]⟩

abbrev nBuf : Space → Nat
  | .hbm => 94
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S8x1024x4096, .f32⟩
  | .hbm, ⟨6, _⟩ => ⟨S8x1024x4096, .f32⟩
  | .hbm, ⟨7, _⟩ => ⟨S1x16x24576, .f32⟩
  | .hbm, ⟨8, _⟩ => ⟨S16x24576, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S8x4096, .f32⟩
  | .hbm, ⟨16, _⟩ => ⟨S8x1x4096, .f32⟩
  | .hbm, ⟨17, _⟩ => ⟨S8x4096, .f32⟩
  | .hbm, ⟨18, _⟩ => ⟨S8x1x4096, .f32⟩
  | .hbm, ⟨19, _⟩ => ⟨S8x4096, .f32⟩
  | .hbm, ⟨20, _⟩ => ⟨S8x1x4096, .f32⟩
  | .hbm, ⟨21, _⟩ => ⟨S_, .f32⟩
  | .hbm, ⟨22, _⟩ => ⟨S8x1024x4096, .f32⟩
  | .hbm, ⟨23, _⟩ => ⟨S8x1024x4096, .f32⟩
  | .hbm, ⟨24, _⟩ => ⟨S8x1024x4096, .f32⟩
  | .hbm, ⟨25, _⟩ => ⟨S8x1024x4096, .f32⟩
  | .hbm, ⟨26, _⟩ => ⟨S8x1024x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S4096, .f32⟩
  | .hbm, ⟨31, _⟩ => ⟨S_, .f32⟩
  | .hbm, ⟨32, _⟩ => ⟨S8x1024, .f32⟩
  | .hbm, ⟨33, _⟩ => ⟨S8x1024x1, .f32⟩
  | .hbm, ⟨34, _⟩ => ⟨S_, .f32⟩
  | .hbm, ⟨35, _⟩ => ⟨S8x1024x1, .f32⟩
  | .hbm, ⟨36, _⟩ => ⟨S8x1024x1, .f32⟩
  | .hbm, ⟨37, _⟩ => ⟨S8x1024x4096, .f32⟩
  | .hbm, ⟨38, _⟩ => ⟨S8x1024x4096, .f32⟩
  | .hbm, ⟨39, _⟩ => ⟨S8x1024x4096, .f32⟩
  | .hbm, ⟨40, _⟩ => ⟨S_, .f32⟩
  | .hbm, ⟨41, _⟩ => ⟨S8x1024, .f32⟩
  | .hbm, ⟨42, _⟩ => ⟨S8x1024x1, .f32⟩
  | .hbm, ⟨43, _⟩ => ⟨S_, .f32⟩
  | .hbm, ⟨44, _⟩ => ⟨S8x1024x1, .f32⟩
  | .hbm, ⟨45, _⟩ => ⟨S8x1024x1, .f32⟩
  | .hbm, ⟨46, _⟩ => ⟨S8x1024x4096, .f32⟩
  | .hbm, ⟨47, _⟩ => ⟨S8x1024x4096, .f32⟩
  | .hbm, ⟨48, _⟩ => ⟨S_, .f32⟩
  | .hbm, ⟨49, _⟩ => ⟨S8x1024x1, .f32⟩
  | .hbm, ⟨50, _⟩ => ⟨S8x1024x1, .f32⟩
  | .hbm, ⟨51, _⟩ => ⟨S8x1024x1, .f32⟩
  | .hbm, ⟨52, _⟩ => ⟨S8x1024x4096, .f32⟩
  | .hbm, ⟨53, _⟩ => ⟨S8x1024x4096, .f32⟩
  | .hbm, ⟨54, _⟩ => ⟨S1x1x4096, .f32⟩
  | .hbm, ⟨55, _⟩ => ⟨S8x1024x4096, .f32⟩
  | .hbm, ⟨56, _⟩ => ⟨S8x1024x4096, .f32⟩
  | .hbm, ⟨57, _⟩ => ⟨S1x1x4096, .f32⟩
  | .hbm, ⟨58, _⟩ => ⟨S8x1024x4096, .f32⟩
  | .hbm, ⟨59, _⟩ => ⟨S8x1024x4096, .f32⟩
  | .hbm, ⟨60, _⟩ => ⟨S_, .f32⟩
  | .hbm, ⟨61, _⟩ => ⟨S8x1024, .f32⟩
  | .hbm, ⟨62, _⟩ => ⟨S8x1024x1, .f32⟩
  | .hbm, ⟨63, _⟩ => ⟨S_, .f32⟩
  | .hbm, ⟨64, _⟩ => ⟨S8x1024x1, .f32⟩
  | .hbm, ⟨65, _⟩ => ⟨S8x1024x1, .f32⟩
  | .hbm, ⟨66, _⟩ => ⟨S8x1024x4096, .f32⟩
  | .hbm, ⟨67, _⟩ => ⟨S8x1024x4096, .f32⟩
  | .hbm, ⟨68, _⟩ => ⟨S8x1024x4096, .f32⟩
  | .hbm, ⟨69, _⟩ => ⟨S_, .f32⟩
  | .hbm, ⟨70, _⟩ => ⟨S8x1024, .f32⟩
  | .hbm, ⟨71, _⟩ => ⟨S8x1024x1, .f32⟩
  | .hbm, ⟨72, _⟩ => ⟨S_, .f32⟩
  | .hbm, ⟨73, _⟩ => ⟨S8x1024x1, .f32⟩
  | .hbm, ⟨74, _⟩ => ⟨S8x1024x1, .f32⟩
  | .hbm, ⟨75, _⟩ => ⟨S8x1024x4096, .f32⟩
  | .hbm, ⟨76, _⟩ => ⟨S8x1024x4096, .f32⟩
  | .hbm, ⟨77, _⟩ => ⟨S_, .f32⟩
  | .hbm, ⟨78, _⟩ => ⟨S8x1024x1, .f32⟩
  | .hbm, ⟨79, _⟩ => ⟨S8x1024x1, .f32⟩
  | .hbm, ⟨80, _⟩ => ⟨S8x1024x1, .f32⟩
  | .hbm, ⟨81, _⟩ => ⟨S8x1024x4096, .f32⟩
  | .hbm, ⟨82, _⟩ => ⟨S8x1024x4096, .f32⟩
  | .hbm, ⟨83, _⟩ => ⟨S_, .f32⟩
  | .hbm, ⟨84, _⟩ => ⟨S8x1x4096, .f32⟩
  | .hbm, ⟨85, _⟩ => ⟨S8x1x4096, .f32⟩
  | .hbm, ⟨86, _⟩ => ⟨S8x1024x4096, .f32⟩
  | .hbm, ⟨87, _⟩ => ⟨S8x1024x4096, .f32⟩
  | .hbm, ⟨88, _⟩ => ⟨S8x1024x4096, .f32⟩
  | .hbm, ⟨89, _⟩ => ⟨S8x1024x4096, .f32⟩
  | .hbm, ⟨90, _⟩ => ⟨S8x8x128x4096, .f32⟩
  | .hbm, ⟨91, _⟩ => ⟨S8x8x128x4096, .f32⟩
  | .hbm, ⟨92, _⟩ => ⟨S8x128x8x4096, .f32⟩
  | .hbm, ⟨93, _⟩ => ⟨S8x128x8x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== NextPrompt.lean ====
abbrev S8192x4096 : Shape := ⟨2, ![8192, 4096]⟩
abbrev S2x16x24576 : Shape := ⟨3, ![2, 16, 24576]⟩
abbrev S2x4096 : Shape := ⟨2, ![2, 4096]⟩
abbrev S1x16x24576 : Shape := ⟨3, ![1, 16, 24576]⟩
abbrev S16x24576 : Shape := ⟨2, ![16, 24576]⟩
abbrev S96x1x4096 : Shape := ⟨3, ![96, 1, 4096]⟩
abbrev S1x4096 : Shape := ⟨2, ![1, 4096]⟩
abbrev S4096 : Shape := ⟨1, ![4096]⟩
abbrev S32x8x32x4096 : Shape := ⟨4, ![32, 8, 32, 4096]⟩
abbrev S32x32x8x4096 : Shape := ⟨4, ![32, 32, 8, 4096]⟩
abbrev S1x8x32x4096 : Shape := ⟨4, ![1, 8, 32, 4096]⟩
abbrev S1x32x8x4096 : Shape := ⟨4, ![1, 32, 8, 4096]⟩
abbrev S1x1x4096 : Shape := ⟨3, ![1, 1, 4096]⟩
abbrev S32x8x4096 : Shape := ⟨3, ![32, 8, 4096]⟩
abbrev S8x32x4096 : Shape := ⟨3, ![8, 32, 4096]⟩
abbrev S8x32 : Shape := ⟨2, ![8, 32]⟩
abbrev S8x32x1 : Shape := ⟨3, ![8, 32, 1]⟩

abbrev nBuf : Space → Nat
  | .hbm => 21
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S1x16x24576, .f32⟩
  | .hbm, ⟨6, _⟩ => ⟨S16x24576, .f32⟩
  | .hbm, ⟨7, _⟩ => ⟨S96x1x4096, .f32⟩
  | .hbm, ⟨8, _⟩ => ⟨S1x16x24576, .f32⟩
  | .hbm, ⟨9, _⟩ => ⟨S16x24576, .f32⟩
  | .hbm, ⟨10, _⟩ => ⟨S96x1x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S4096, .f32⟩
  | .hbm, ⟨15, _⟩ => ⟨S32x8x32x4096, .f32⟩
  | .hbm, ⟨16, _⟩ => ⟨S32x32x8x4096, .f32⟩
  | .hbm, ⟨17, _⟩ => ⟨S1x4096, .f32⟩
  | .hbm, ⟨18, _⟩ => ⟨S1x4096, .f32⟩
  | .hbm, ⟨19, _⟩ => ⟨S32x8x32x4096, .f32⟩
  | .hbm, ⟨20, _⟩ => ⟨S32x8x32x4096, .bf16⟩
  | .local _ .vmem, ⟨0, _⟩ => ⟨S1x8x32x4096, .f32⟩
  | .local _ .vmem, ⟨1, _⟩ => ⟨S1x8x32x4096, .f32⟩
  | .local _ .vmem, ⟨2, _⟩ => ⟨S1x32x8x4096, .f32⟩
  | .local _ .vmem, ⟨3, _⟩ => ⟨S1x32x8x4096, .f32⟩
  | .local _ .vmem, ⟨4, _⟩ => ⟨S1x1x4096, .f32⟩
  | .local _ .vmem, ⟨5, _⟩ => ⟨S1x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x8x32x4096, .f32⟩
  | .local _ .vmem, ⟨10, _⟩ => ⟨S1x8x32x4096, .f32⟩
  | .local _ .vmem, ⟨11, _⟩ => ⟨S1x8x32x4096, .bf16⟩
  | .local _ .vmem, ⟨12, _⟩ => ⟨S1x8x32x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NextPromptRefIdeal.lean ====
abbrev S8192x4096 : Shape := ⟨2, ![8192, 4096]⟩
abbrev S2x16x24576 : Shape := ⟨3, ![2, 16, 24576]⟩
abbrev S2x4096 : Shape := ⟨2, ![2, 4096]⟩
abbrev S32x256x4096 : Shape := ⟨3, ![32, 256, 4096]⟩
abbrev S32x32x8x4096 : Shape := ⟨4, ![32, 32, 8, 4096]⟩
abbrev S32x8x32x4096 : Shape := ⟨4, ![32, 8, 32, 4096]⟩
abbrev S1x16x24576 : Shape := ⟨3, ![1, 16, 24576]⟩
abbrev S16x24576 : Shape := ⟨2, ![16, 24576]⟩
abbrev S16x4096 : Shape := ⟨2, ![16, 4096]⟩
abbrev S1x4096 : Shape := ⟨2, ![1, 4096]⟩
abbrev S1x1x4096 : Shape := ⟨3, ![1, 1, 4096]⟩
abbrev S_ : Shape := ⟨0, ![]⟩
abbrev S4096 : Shape := ⟨1, ![4096]⟩
abbrev S32x256 : Shape := ⟨2, ![32, 256]⟩
abbrev S32x256x1 : Shape := ⟨3, ![32, 256, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S32x256x4096, .f32⟩
  | .hbm, ⟨6, _⟩ => ⟨S32x32x8x4096, .f32⟩
  | .hbm, ⟨7, _⟩ => ⟨S32x8x32x4096, .f32⟩
  | .hbm, ⟨8, _⟩ => ⟨S32x256x4096, .f32⟩
  | .hbm, ⟨9, _⟩ => ⟨S1x16x24576, .f32⟩
  | .hbm, ⟨10, _⟩ => ⟨S16x24576, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S1x4096, .f32⟩
  | .hbm, ⟨18, _⟩ => ⟨S1x1x4096, .f32⟩
  | .hbm, ⟨19, _⟩ => ⟨S_, .f32⟩
  | .hbm, ⟨20, _⟩ => ⟨S32x256x4096, .f32⟩
  | .hbm, ⟨21, _⟩ => ⟨S32x256x4096, .f32⟩
  | .hbm, ⟨22, _⟩ => ⟨S32x256x4096, .f32⟩
  | .hbm, ⟨23, _⟩ => ⟨S32x256x4096, .f32⟩
  | .hbm, ⟨24, _⟩ => ⟨S32x256x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S32x256x4096, .f32⟩
  | .hbm, ⟨36, _⟩ => ⟨S32x256x4096, .f32⟩
  | .hbm, ⟨37, _⟩ => ⟨S32x256x4096, .f32⟩
  | .hbm, ⟨38, _⟩ => ⟨S_, .f32⟩
  | .hbm, ⟨39, _⟩ => ⟨S32x256, .f32⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S32x256x4096, .f32⟩
  | .hbm, ⟨45, _⟩ => ⟨S32x256x4096, .f32⟩
  | .hbm, ⟨46, _⟩ => ⟨S_, .f32⟩
  | .hbm, ⟨47, _⟩ => ⟨S32x256x1, .f32⟩
  | .hbm, ⟨48, _⟩ => ⟨S32x256x1, .f32⟩
  | .hbm, ⟨49, _⟩ => ⟨S32x256x1, .f32⟩
  | .hbm, ⟨50, _⟩ => ⟨S32x256x4096, .f32⟩
  | .hbm, ⟨51, _⟩ => ⟨S32x256x4096, .f32⟩
  | .hbm, ⟨52, _⟩ => ⟨S1x1x4096, .f32⟩
  | .hbm, ⟨53, _⟩ => ⟨S32x256x4096, .f32⟩
  | .hbm, ⟨54, _⟩ => ⟨S32x256x4096, .f32⟩
  | .hbm, ⟨55, _⟩ => ⟨S1x1x4096, .f32⟩
  | .hbm, ⟨56, _⟩ => ⟨S32x256x4096, .f32⟩
  | .hbm, ⟨57, _⟩ => ⟨S32x256x4096, .f32⟩
  | .hbm, ⟨58, _⟩ => ⟨S1x16x24576, .f32⟩
  | .hbm, ⟨59, _⟩ => ⟨S16x24576, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096, .f32⟩
  | .hbm, ⟨64, _⟩ => ⟨S16x4096, .f32⟩
  | .hbm, ⟨65, _⟩ => ⟨S16x4096, .f32⟩
  | .hbm, ⟨66, _⟩ => ⟨S_, .f32⟩
  | .hbm, ⟨67, _⟩ => ⟨S32x256, .f32⟩
  | .hbm, ⟨68, _⟩ => ⟨S32x256x1, .f32⟩
  | .hbm, ⟨69, _⟩ => ⟨S_, .f32⟩
  | .hbm, ⟨70, _⟩ => ⟨S32x256x1, .f32⟩
  | .hbm, ⟨71, _⟩ => ⟨S32x256x1, .f32⟩
  | .hbm, ⟨72, _⟩ => ⟨S32x256x4096, .f32⟩
  | .hbm, ⟨73, _⟩ => ⟨S32x256x4096, .f32⟩
  | .hbm, ⟨74, _⟩ => ⟨S32x256x4096, .f32⟩
  | .hbm, ⟨75, _⟩ => ⟨S_, .f32⟩
  | .hbm, ⟨76, _⟩ => ⟨S32x256, .f32⟩
  | .hbm, ⟨77, _⟩ => ⟨S32x256x1, .f32⟩
  | .hbm, ⟨78, _⟩ => ⟨S_, .f32⟩
  | .hbm, ⟨79, _⟩ => ⟨S32x256x1, .f32⟩
  | .hbm, ⟨80, _⟩ => ⟨S32x256x1, .f32⟩
  | .hbm, ⟨81, _⟩ => ⟨S32x256x4096, .f32⟩
  | .hbm, ⟨82, _⟩ => ⟨S32x256x4096, .f32⟩
  | .hbm, ⟨83, _⟩ => ⟨S_, .f32⟩
  | .hbm, ⟨84, _⟩ => ⟨S32x256x1, .f32⟩
  | .hbm, ⟨85, _⟩ => ⟨S32x256x1, .f32⟩
  | .hbm, ⟨86, _⟩ => ⟨S32x256x1, .f32⟩
  | .hbm, ⟨87, _⟩ => ⟨S32x256x4096, .f32⟩
  | .hbm, ⟨88, _⟩ => ⟨S32x256x4096, .f32⟩
  | .hbm, ⟨89, _⟩ => ⟨S1x4096, .f32⟩
  | .hbm, ⟨90, _⟩ => ⟨S1x1x4096, .f32⟩
  | .hbm, ⟨91, _⟩ => ⟨S1x4096, .f32⟩
  | .hbm, ⟨92, _⟩ => ⟨S1x1x4096, .f32⟩
  | .hbm, ⟨93, _⟩ => ⟨S_, .f32⟩
  | .hbm, ⟨94, _⟩ => ⟨S1x1x4096, .f32⟩
  | .hbm, ⟨95, _⟩ => ⟨S1x1x4096, .f32⟩
  | .hbm, ⟨96, _⟩ => ⟨S32x256x4096, .f32⟩
  | .hbm, ⟨97, _⟩ => ⟨S32x256x4096, .f32⟩
  | .hbm, ⟨98, _⟩ => ⟨S32x256x4096, .f32⟩
  | .hbm, ⟨99, _⟩ => ⟨S32x256x4096, .f32⟩
  | .hbm, ⟨100, _⟩ => ⟨S32x8x32x4096, .f32⟩
  | .hbm, ⟨101, _⟩ => ⟨S32x8x32x4096, .f32⟩
  | .hbm, ⟨102, _⟩ => ⟨S32x8x32x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== NextSample.lean ====
abbrev S8192x4096 : Shape := ⟨2, ![8192, 4096]⟩
abbrev S2x16x24576 : Shape := ⟨3, ![2, 16, 24576]⟩
abbrev S2x4096 : Shape := ⟨2, ![2, 4096]⟩
abbrev S1x16x24576 : Shape := ⟨3, ![1, 16, 24576]⟩
abbrev S16x24576 : Shape := ⟨2, ![16, 24576]⟩
abbrev S96x1x4096 : Shape := ⟨3, ![96, 1, 4096]⟩
abbrev S1x4096 : Shape := ⟨2, ![1, 4096]⟩
abbrev S4096 : Shape := ⟨1, ![4096]⟩
abbrev S8x8x128x4096 : Shape := ⟨4, ![8, 8, 128, 4096]⟩
abbrev S8x128x8x4096 : Shape := ⟨4, ![8, 128, 8, 4096]⟩
abbrev S1x8x32x4096 : Shape := ⟨4, ![1, 8, 32, 4096]⟩
abbrev S1x32x8x4096 : Shape := ⟨4, ![1, 32, 8, 4096]⟩
abbrev S1x1x4096 : Shape := ⟨3, ![1, 1, 4096]⟩
abbrev S32x8x4096 : Shape := ⟨3, ![32, 8, 4096]⟩
abbrev S8x32x4096 : Shape := ⟨3, ![8, 32, 4096]⟩
abbrev S8x32 : Shape := ⟨2, ![8, 32]⟩
abbrev S8x32x1 : Shape := ⟨3, ![8, 32, 1]⟩

abbrev nBuf : Space → Nat
  | .hbm => 21
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S1x16x24576, .f32⟩
  | .hbm, ⟨6, _⟩ => ⟨S16x24576, .f32⟩
  | .hbm, ⟨7, _⟩ => ⟨S96x1x4096, .f32⟩
  | .hbm, ⟨8, _⟩ => ⟨S1x16x24576, .f32⟩
  | .hbm, ⟨9, _⟩ => ⟨S16x24576, .f32⟩
  | .hbm, ⟨10, _⟩ => ⟨S96x1x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S4096, .f32⟩
  | .hbm, ⟨15, _⟩ => ⟨S8x8x128x4096, .f32⟩
  | .hbm, ⟨16, _⟩ => ⟨S8x128x8x4096, .f32⟩
  | .hbm, ⟨17, _⟩ => ⟨S1x4096, .f32⟩
  | .hbm, ⟨18, _⟩ => ⟨S1x4096, .f32⟩
  | .hbm, ⟨19, _⟩ => ⟨S8x8x128x4096, .f32⟩
  | .hbm, ⟨20, _⟩ => ⟨S8x8x128x4096, .bf16⟩
  | .local _ .vmem, ⟨0, _⟩ => ⟨S1x8x32x4096, .f32⟩
  | .local _ .vmem, ⟨1, _⟩ => ⟨S1x8x32x4096, .f32⟩
  | .local _ .vmem, ⟨2, _⟩ => ⟨S1x32x8x4096, .f32⟩
  | .local _ .vmem, ⟨3, _⟩ => ⟨S1x32x8x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x8x32x4096, .f32⟩
  | .local _ .vmem, ⟨13, _⟩ => ⟨S1x8x32x4096, .f32⟩
  | .local _ .vmem, ⟨14, _⟩ => ⟨S1x8x32x4096, .bf16⟩
  | .local _ .vmem, ⟨15, _⟩ => ⟨S1x8x32x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c5_i32 : BitVec 32 := 5#32
  let v2 : BitVec 32 := Scalar.addi v1 c5_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c6_i32 : BitVec 32 := 6#32
  let v1 : BitVec 32 := Scalar.muli v0 c6_i32
  let c1_i32_0 : BitVec 32 := 1#32
  let v2 : BitVec 32 := Scalar.addi v1 c1_i32_0
  let c0_i32 : BitVec 32 := 0#32
  let c0_i32_1 : BitVec 32 := 0#32
  let c0_i32_2 : BitVec 32 := 0#32
  ![v2.toNat, c0_i32.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NextSampleRefIdeal.lean ====
abbrev S8192x4096 : Shape := ⟨2, ![8192, 4096]⟩
abbrev S2x16x24576 : Shape := ⟨3, ![2, 16, 24576]⟩
abbrev S2x4096 : Shape := ⟨2, ![2, 4096]⟩
abbrev S8x1024x4096 : Shape := ⟨3, ![8, 1024, 4096]⟩
abbrev S8x128x8x4096 : Shape := ⟨4, ![8, 128, 8, 4096]⟩
abbrev S8x8x128x4096 : Shape := ⟨4, ![8, 8, 128, 4096]⟩
abbrev S1x16x24576 : Shape := ⟨3, ![1, 16, 24576]⟩
abbrev S16x24576 : Shape := ⟨2, ![16, 24576]⟩
abbrev S16x4096 : Shape := ⟨2, ![16, 4096]⟩
abbrev S8x4096 : Shape := ⟨2, ![8, 4096]⟩
abbrev S8x1x4096 : Shape := ⟨3, ![8, 1, 4096]⟩
abbrev S_ : Shape := ⟨0, ![]⟩
abbrev S1x4096 : Shape := ⟨2, ![1, 4096]⟩
abbrev S4096 : Shape := ⟨1, ![4096]⟩
abbrev S8x1024 : Shape := ⟨2, ![8, 1024]⟩
abbrev S8x1024x1 : Shape := ⟨3, ![8, 1024, 1]⟩
abbrev S1x1x4096 : Shape := ⟨3, ![1, 1, 4096]⟩

abbrev nBuf : Space → Nat
  | .hbm => 103
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x16x24576, .f32⟩
  | .hbm, ⟨3, _⟩ => ⟨S2x4096, .f32⟩
  | .hbm, ⟨4, _⟩ => ⟨S2x4096, .f32⟩
  | .hbm, ⟨5, _⟩ => ⟨S8x1024x4096, .f32⟩
  | .hbm, ⟨6, _⟩ => ⟨S8x128x8x4096, .f32⟩
  | .hbm, ⟨7, _⟩ => ⟨S8x8x128x4096, .f32⟩
  | .hbm, ⟨8, _⟩ => ⟨S8x1024x4096, .f32⟩
  | .hbm, ⟨9, _⟩ => ⟨S1x16x24576, .f32⟩
  | .hbm, ⟨10, _⟩ => ⟨S16x24576, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S8x4096, .f32⟩
  | .hbm, ⟨18, _⟩ => ⟨S8x1x4096, .f32⟩
  | .hbm, ⟨19, _⟩ => ⟨S_, .f32⟩
  | .hbm, ⟨20, _⟩ => ⟨S8x1024x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S8x1024x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096, .f32⟩
  | .hbm, ⟨29, _⟩ => ⟨S_, .f32⟩
  | .hbm, ⟨30, _⟩ => ⟨S8x1024, .f32⟩
  | .hbm, ⟨31, _⟩ => ⟨S8x1024x1, .f32⟩
  | .hbm, ⟨32, _⟩ => ⟨S_, .f32⟩
  | .hbm, ⟨33, _⟩ => ⟨S8x1024x1, .f32⟩
  | .hbm, ⟨34, _⟩ => ⟨S8x1024x1, .f32⟩
  | .hbm, ⟨35, _⟩ => ⟨S8x1024x4096, .f32⟩
  | .hbm, ⟨36, _⟩ => ⟨S8x1024x4096, .f32⟩
  | .hbm, ⟨37, _⟩ => ⟨S8x1024x4096, .f32⟩
  | .hbm, ⟨38, _⟩ => ⟨S_, .f32⟩
  | .hbm, ⟨39, _⟩ => ⟨S8x1024, .f32⟩
  | .hbm, ⟨40, _⟩ => ⟨S8x1024x1, .f32⟩
  | .hbm, ⟨41, _⟩ => ⟨S_, .f32⟩
  | .hbm, ⟨42, _⟩ => ⟨S8x1024x1, .f32⟩
  | .hbm, ⟨43, _⟩ => ⟨S8x1024x1, .f32⟩
  | .hbm, ⟨44, _⟩ => ⟨S8x1024x4096, .f32⟩
  | .hbm, ⟨45, _⟩ => ⟨S8x1024x4096, .f32⟩
  | .hbm, ⟨46, _⟩ => ⟨S_, .f32⟩
  | .hbm, ⟨47, _⟩ => ⟨S8x1024x1, .f32⟩
  | .hbm, ⟨48, _⟩ => ⟨S8x1024x1, .f32⟩
  | .hbm, ⟨49, _⟩ => ⟨S8x1024x1, .f32⟩
  | .hbm, ⟨50, _⟩ => ⟨S8x1024x4096, .f32⟩
  | .hbm, ⟨51, _⟩ => ⟨S8x1024x4096, .f32⟩
  | .hbm, ⟨52, _⟩ => ⟨S1x1x4096, .f32⟩
  | .hbm, ⟨53, _⟩ => ⟨S8x1024x4096, .f32⟩
  | .hbm, ⟨54, _⟩ => ⟨S8x1024x4096, .f32⟩
  | .hbm, ⟨55, _⟩ => ⟨S1x1x4096, .f32⟩
  | .hbm, ⟨56, _⟩ => ⟨S8x1024x4096, .f32⟩
  | .hbm, ⟨57, _⟩ => ⟨S8x1024x4096, .f32⟩
  | .hbm, ⟨58, _⟩ => ⟨S1x16x24576, .f32⟩
  | .hbm, ⟨59, _⟩ => ⟨S16x24576, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096, .f32⟩
  | .hbm, ⟨64, _⟩ => ⟨S16x4096, .f32⟩
  | .hbm, ⟨65, _⟩ => ⟨S16x4096, .f32⟩
  | .hbm, ⟨66, _⟩ => ⟨S_, .f32⟩
  | .hbm, ⟨67, _⟩ => ⟨S8x1024, .f32⟩
  | .hbm, ⟨68, _⟩ => ⟨S8x1024x1, .f32⟩
  | .hbm, ⟨69, _⟩ => ⟨S_, .f32⟩
  | .hbm, ⟨70, _⟩ => ⟨S8x1024x1, .f32⟩
  | .hbm, ⟨71, _⟩ => ⟨S8x1024x1, .f32⟩
  | .hbm, ⟨72, _⟩ => ⟨S8x1024x4096, .f32⟩
  | .hbm, ⟨73, _⟩ => ⟨S8x1024x4096, .f32⟩
  | .hbm, ⟨74, _⟩ => ⟨S8x1024x4096, .f32⟩
  | .hbm, ⟨75, _⟩ => ⟨S_, .f32⟩
  | .hbm, ⟨76, _⟩ => ⟨S8x1024, .f32⟩
  | .hbm, ⟨77, _⟩ => ⟨S8x1024x1, .f32⟩
  | .hbm, ⟨78, _⟩ => ⟨S_, .f32⟩
  | .hbm, ⟨79, _⟩ => ⟨S8x1024x1, .f32⟩
  | .hbm, ⟨80, _⟩ => ⟨S8x1024x1, .f32⟩
  | .hbm, ⟨81, _⟩ => ⟨S8x1024x4096, .f32⟩
  | .hbm, ⟨82, _⟩ => ⟨S8x1024x4096, .f32⟩
  | .hbm, ⟨83, _⟩ => ⟨S_, .f32⟩
  | .hbm, ⟨84, _⟩ => ⟨S8x1024x1, .f32⟩
  | .hbm, ⟨85, _⟩ => ⟨S8x1024x1, .f32⟩
  | .hbm, ⟨86, _⟩ => ⟨S8x1024x1, .f32⟩
  | .hbm, ⟨87, _⟩ => ⟨S8x1024x4096, .f32⟩
  | .hbm, ⟨88, _⟩ => ⟨S8x1024x4096, .f32⟩
  | .hbm, ⟨89, _⟩ => ⟨S8x4096, .f32⟩
  | .hbm, ⟨90, _⟩ => ⟨S8x1x4096, .f32⟩
  | .hbm, ⟨91, _⟩ => ⟨S8x4096, .f32⟩
  | .hbm, ⟨92, _⟩ => ⟨S8x1x4096, .f32⟩
  | .hbm, ⟨93, _⟩ => ⟨S_, .f32⟩
  | .hbm, ⟨94, _⟩ => ⟨S8x1x4096, .f32⟩
  | .hbm, ⟨95, _⟩ => ⟨S8x1x4096, .f32⟩
  | .hbm, ⟨96, _⟩ => ⟨S8x1024x4096, .f32⟩
  | .hbm, ⟨97, _⟩ => ⟨S8x1024x4096, .f32⟩
  | .hbm, ⟨98, _⟩ => ⟨S8x1024x4096, .f32⟩
  | .hbm, ⟨99, _⟩ => ⟨S8x1024x4096, .f32⟩
  | .hbm, ⟨100, _⟩ => ⟨S8x8x128x4096, .f32⟩
  | .hbm, ⟨101, _⟩ => ⟨S8x8x128x4096, .f32⟩
  | .hbm, ⟨102, _⟩ => ⟨S8x8x128x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Proof.InProjValue.lean ====
/- The input projection: the tiled product with its bias is the whole product with its bias, tile by tile. -/
module

public import proofs.«01_k».proof.Proof.Gen.InProjIdeal.Value
public import proofs.«01_k».proof.Proof.Gen.InRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InRefIdeal.Product

open Cert.InRefIdeal Cert.InRefIdeal.Gen

/-- The reference's product of the rows by the first layer's matrix, and its bias. -/
def REF (x : FVec Ideal S8192x4096 .bf16) (w : FVec Ideal S2x4096x22528 .f32) (b : FVec Ideal S2x22528 .f32) : FVec Ideal S8192x22528 .f32 :=
  addf (Host.dotGeneral dot_S8192x4096_S4096x22528_S8192x22528_1_0_0_1_n_n none (extf .f32 x bitsLt_bf16_f32)
      (shapeCast _ (extractStridedSlice S1x4096x22528 ![0, 0, 0] w slices_S2x4096x22528_S1x4096x22528_0_0_0) shapeCasts_S1x4096x22528_S4096x22528))
    (broadcastInDim S8192x22528 ![0, 1] bcast_S1x22528_S8192x22528_0_1 (broadcastInDim S1x22528 ![1] bcast_S22528_S1x22528_1
      (shapeCast _ (extractStridedSlice S1x22528 ![0, 0] b slices_S2x22528_S1x22528_0_0) shapeCasts_S1x22528_S22528)))

end Cert.InRefIdeal.Product

namespace Cert.InProjIdeal.Product

open Cert.InProjIdeal Cert.InProjIdeal.Gen Cert.InRefIdeal.Product

variable (m : (ℓ : Loc nD τ sig) → Buf (Elt Ideal) ℓ)

/-- Where each block stands, at every grid point. -/
theorem idx : ∀ t : Fin cfg0.N, win0_0.index t = ![win0_3.index t 0, 0] ∧ win0_1.index t = ![0, 0, win0_3.index t 1] ∧ win0_2.index t = ![0, win0_3.index t 1] :=
  (by decide +kernel : ∀ t : Fin grid0.N, _)

/-- One tile of the kernel's product is that tile of the whole product. -/
theorem point (c : Dev nD) (t : Fin cfg0.N) (y : S2048x512.Idx) :
    k0_pay1 (iblk m c 0 t) (iblk m c 1 t) (iblk m c 2 t) y
      = REF (m ((c.tc : Thread nD τ).loc main_arg0)) (m ((c.tc : Thread nD τ).loc main_arg1)) (m ((c.tc : Thread nD τ).loc main_arg2)) (((cfg0.win 3).blk t).view.emb y) := by
  pointwise [k0_pay1, REF]
  blk_point [iblk, V, idx t]

/-- The result array is the reference's term at the argument arrays. -/
theorem final (c : Dev nD) : (dats m 0 c).arrAt 3 cfg0.N
    = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  exact point m c t y

end Cert.InProjIdeal.Product
-- ==== Proof.OutProjValue.lean ====
/- The output projection: the tiled product is the whole product, tile by tile. -/
module

public import proofs.«01_k».proof.Proof.Gen.OutProjIdeal.Value
public import proofs.«01_k».proof.Proof.Gen.OutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutRefIdeal.Product

open Cert.OutRefIdeal Cert.OutRefIdeal.Gen

/-- The reference's product of the rows by the first layer's matrix. -/
def REF (x : FVec Ideal S8192x4096 .bf16) (w : FVec Ideal S2x4096x4096 .f32) : FVec Ideal S8192x4096 .f32 :=
  Host.dotGeneral dot_S8192x4096_S4096x4096_S8192x4096_1_0_0_1_n_n none (extf .f32 x bitsLt_bf16_f32)
    (shapeCast _ (extractStridedSlice S1x4096x4096 ![0, 0, 0] w slices_S2x4096x4096_S1x4096x4096_0_0_0) shapeCasts_S1x4096x4096_S4096x4096)

end Cert.OutRefIdeal.Product

namespace Cert.OutProjIdeal.Product

open Cert.OutProjIdeal Cert.OutProjIdeal.Gen Cert.OutRefIdeal.Product

variable (m : (ℓ : Loc nD τ sig) → Buf (Elt Ideal) ℓ)

/-- Where each block stands, at every grid point. -/
theorem idx : ∀ t : Fin cfg0.N, win0_0.index t = ![win0_2.index t 0, 0] ∧ win0_1.index t = ![0, 0, win0_2.index t 1] :=
  (by decide +kernel : ∀ t : Fin grid0.N, _)

/-- One tile of the kernel's product is that tile of the whole product. -/
theorem point (c : Dev nD) (t : Fin cfg0.N) (y : S2048x512.Idx) :
    k0_pay1 (iblk m c 0 t) (iblk m c 1 t) y
      = REF (m ((c.tc : Thread nD τ).loc main_arg0)) (m ((c.tc : Thread nD τ).loc main_arg1)) (((cfg0.win 2).blk t).view.emb y) := by
  pointwise [k0_pay1, REF]
  blk_point [iblk, V, idx t]

/-- The result array is the reference's term at the argument arrays. -/
theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.OutProjIdeal.Product
-- ==== Proof.FfnDownValue.lean ====
/- The second product of the feed-forward pair: the tiled product is the whole product, tile by tile. -/
module

public import proofs.«01_k».proof.Proof.Gen.FfnDownIdeal.Value
public import proofs.«01_k».proof.Proof.Gen.DownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownRefIdeal.Product

open Cert.DownRefIdeal Cert.DownRefIdeal.Gen

/-- The reference's product of the activated rows by the matrix. -/
def REF (x : FVec Ideal S8192x11008 .bf16) (w : FVec Ideal S11008x4096 .bf16) : FVec Ideal S8192x4096 .f32 :=
  Host.dotGeneral dot_S8192x11008_S11008x4096_S8192x4096_1_0_0_1_n_n none (extf .f32 x bitsLt_bf16_f32) (extf .f32 w bitsLt_bf16_f32)

end Cert.DownRefIdeal.Product

namespace Cert.FfnDownIdeal.Product

open Cert.FfnDownIdeal Cert.FfnDownIdeal.Gen Cert.DownRefIdeal.Product

variable (m : (ℓ : Loc nD τ sig) → Buf (Elt Ideal) ℓ)

/-- Where each block stands, at every grid point. -/
theorem idx : ∀ t : Fin cfg0.N, win0_0.index t = ![win0_2.index t 0, 0] ∧ win0_1.index t = ![0, win0_2.index t 1] :=
  (by decide +kernel : ∀ t : Fin grid0.N, _)

/-- One tile of the kernel's product is that tile of the whole product. -/
theorem point (c : Dev nD) (t : Fin cfg0.N) (y : S512x512.Idx) :
    k0_pay1 (iblk m c 0 t) (iblk m c 1 t) y
      = REF (m ((c.tc : Thread nD τ).loc main_arg0)) (m ((c.tc : Thread nD τ).loc main_arg1)) (((cfg0.win 2).blk t).view.emb y) := by
  pointwise [k0_pay1, REF]
  blk_point [iblk, V, idx t]

/-- The result array is the reference's term at the argument arrays. -/
theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.FfnDownIdeal.Product
-- ==== Proof.FfnUpKernel.lean ====
/- The first feed-forward product with its three-tap convolution: what the kernel's tile holds, read at an index. -/
module

public import proofs.«01_k».proof.Proof.Gen.FfnUpIdeal.Value
public import Idealize.ShloMosaic.Lib.Pipeline.ValueKit

@[expose] public section

set_option maxRecDepth 16384

noncomputable section

open Idealize.ShloMosaic Idealize.ShloMosaic.TcCoe Idealize.SL.Sem

namespace Cert.FfnUpIdeal.Conv

open Cert.FfnUpIdeal Cert.FfnUpIdeal.Gen

set_option maxHeartbeats 3200000 in
/-- Sixteen chunks of 128 rows, stacked: row `r` of the stack is the row of its chunk. -/
theorem stack_apply (G : Fin 2048 → Fin 256 → EReal) (p0 p1 p2 p3 p4 p5 p6 p7 p8 p9 p10 p11 p12 p13 p14 p15 : FVec Ideal S128x256 .f32)
    (h0 : ∀ (r : Fin 128) (l : Fin 256), p0 (ix2 r l) = G ⟨0 + r, by omega⟩ l)
    (h1 : ∀ (r : Fin 128) (l : Fin 256), p1 (ix2 r l) = G ⟨128 + r, by omega⟩ l)
    (h2 : ∀ (r : Fin 128) (l : Fin 256), p2 (ix2 r l) = G ⟨256 + r, by omega⟩ l)
    (h3 : ∀ (r : Fin 128) (l : Fin 256), p3 (ix2 r l) = G ⟨384 + r, by omega⟩ l)
    (h4 : ∀ (r : Fin 128) (l : Fin 256), p4 (ix2 r l) = G ⟨512 + r, by omega⟩ l)
    (h5 : ∀ (r : Fin 128) (l : Fin 256), p5 (ix2 r l) = G ⟨640 + r, by omega⟩ l)
    (h6 : ∀ (r : Fin 128) (l : Fin 256), p6 (ix2 r l) = G ⟨768 + r, by omega⟩ l)
    (h7 : ∀ (r : Fin 128) (l : Fin 256), p7 (ix2 r l) = G ⟨896 + r, by omega⟩ l)
    (h8 : ∀ (r : Fin 128) (l : Fin 256), p8 (ix2 r l) = G ⟨1024 + r, by omega⟩ l)
    (h9 : ∀ (r : Fin 128) (l : Fin 256), p9 (ix2 r l) = G ⟨1152 + r, by omega⟩ l)
    (h10 : ∀ (r : Fin 128) (l : Fin 256), p10 (ix2 r l) = G ⟨1280 + r, by omega⟩ l)
    (h11 : ∀ (r : Fin 128) (l : Fin 256), p11 (ix2 r l) = G ⟨1408 + r, by omega⟩ l)
    (h12 : ∀ (r : Fin 128) (l : Fin 256), p12 (ix2 r l) = G ⟨1536 + r, by omega⟩ l)
    (h13 : ∀ (r : Fin 128) (l : Fin 256), p13 (ix2 r l) = G ⟨1664 + r, by omega⟩ l)
    (h14 : ∀ (r : Fin 128) (l : Fin 256), p14 (ix2 r l) = G ⟨1792 + r, by omega⟩ l)
    (h15 : ∀ (r : Fin 128) (l : Fin 256), p15 (ix2 r l) = G ⟨1920 + r, by omega⟩ l)
    (r : Fin 2048) (l : Fin 256) :
    concatenate S2048x256 0 [⟨S128x256, p0⟩, ⟨S128x256, p1⟩, ⟨S128x256, p2⟩, ⟨S128x256, p3⟩, ⟨S128x256, p4⟩, ⟨S128x256, p5⟩, ⟨S128x256, p6⟩, ⟨S128x256, p7⟩, ⟨S128x256, p8⟩, ⟨S128x256, p9⟩, ⟨S128x256, p10⟩, ⟨S128x256, p11⟩, ⟨S128x256, p12⟩, ⟨S128x256, p13⟩, ⟨S128x256, p14⟩, ⟨S128x256, p15⟩]
      concatenates_S128x256_S128x256_S128x256_S128x256_S128x256_S128x256_S128x256_S128x256_S128x256_S128x256_S128x256_S128x256_S128x256_S128x256_S128x256_S128x256_S2048x256_d0 (ix2 r l) = G r l := by
  by_cases c0 : (r : ℕ) < 128
  · refine (concatenate_apply_piece (t := S2048x256) 0 _ _ (ix2 r l) 0 (by simp) S128x256 p0 rfl rfl 0 rfl (ix2 ⟨(r : ℕ) - 0, by omega⟩ l)
      (fun b hb => ?_) (show 0 + ((r : ℕ) - 0) = (r : ℕ) by omega)).trans ((h0 _ _).trans (congrArg (fun q => G q l) (Fin.ext (by dsimp only <;> omega))))
    fin_cases b
    · exact absurd rfl hb
    · rfl
  by_cases c1 : (r : ℕ) < 256
  · refine (concatenate_apply_piece (t := S2048x256) 0 _ _ (ix2 r l) 1 (by simp) S128x256 p1 rfl rfl 128 rfl (ix2 ⟨(r : ℕ) - 128, by omega⟩ l)
      (fun b hb => ?_) (show 128 + ((r : ℕ) - 128) = (r : ℕ) by omega)).trans ((h1 _ _).trans (congrArg (fun q => G q l) (Fin.ext (by dsimp only <;> omega))))
    fin_cases b
    · exact absurd rfl hb
    · rfl
  by_cases c2 : (r : ℕ) < 384
  · refine (concatenate_apply_piece (t := S2048x256) 0 _ _ (ix2 r l) 2 (by simp) S128x256 p2 rfl rfl 256 rfl (ix2 ⟨(r : ℕ) - 256, by omega⟩ l)
      (fun b hb => ?_) (show 256 + ((r : ℕ) - 256) = (r : ℕ) by omega)).trans ((h2 _ _).trans (congrArg (fun q => G q l) (Fin.ext (by dsimp only <;> omega))))
    fin_cases b
    · exact absurd rfl hb
    · rfl
  by_cases c3 : (r : ℕ) < 512
  · refine (concatenate_apply_piece (t := S2048x256) 0 _ _ (ix2 r l) 3 (by simp) S128x256 p3 rfl rfl 384 rfl (ix2 ⟨(r : ℕ) - 384, by omega⟩ l)
      (fun b hb => ?_) (show 384 + ((r : ℕ) - 384) = (r : ℕ) by omega)).trans ((h3 _ _).trans (congrArg (fun q => G q l) (Fin.ext (by dsimp only <;> omega))))
    fin_cases b
    · exact absurd rfl hb
    · rfl
  by_cases c4 : (r : ℕ) < 640
  · refine (concatenate_apply_piece (t := S2048x256) 0 _ _ (ix2 r l) 4 (by simp) S128x256 p4 rfl rfl 512 rfl (ix2 ⟨(r : ℕ) - 512, by omega⟩ l)
      (fun b hb => ?_) (show 512 + ((r : ℕ) - 512) = (r : ℕ) by omega)).trans ((h4 _ _).trans (congrArg (fun q => G q l) (Fin.ext (by dsimp only <;> omega))))
    fin_cases b
    · exact absurd rfl hb
    · rfl
  by_cases c5 : (r : ℕ) < 768
  · refine (concatenate_apply_piece (t := S2048x256) 0 _ _ (ix2 r l) 5 (by simp) S128x256 p5 rfl rfl 640 rfl (ix2 ⟨(r : ℕ) - 640, by omega⟩ l)
      (fun b hb => ?_) (show 640 + ((r : ℕ) - 640) = (r : ℕ) by omega)).trans ((h5 _ _).trans (congrArg (fun q => G q l) (Fin.ext (by dsimp only <;> omega))))
    fin_cases b
    · exact absurd rfl hb
    · rfl
  by_cases c6 : (r : ℕ) < 896
  · refine (concatenate_apply_piece (t := S2048x256) 0 _ _ (ix2 r l) 6 (by simp) S128x256 p6 rfl rfl 768 rfl (ix2 ⟨(r : ℕ) - 768, by omega⟩ l)
      (fun b hb => ?_) (show 768 + ((r : ℕ) - 768) = (r : ℕ) by omega)).trans ((h6 _ _).trans (congrArg (fun q => G q l) (Fin.ext (by dsimp only <;> omega))))
    fin_cases b
    · exact absurd rfl hb
    · rfl
  by_cases c7 : (r : ℕ) < 1024
  · refine (concatenate_apply_piece (t := S2048x256) 0 _ _ (ix2 r l) 7 (by simp) S128x256 p7 rfl rfl 896 rfl (ix2 ⟨(r : ℕ) - 896, by omega⟩ l)
      (fun b hb => ?_) (show 896 + ((r : ℕ) - 896) = (r : ℕ) by omega)).trans ((h7 _ _).trans (congrArg (fun q => G q l) (Fin.ext (by dsimp only <;> omega))))
    fin_cases b
    · exact absurd rfl hb
    · rfl
  by_cases c8 : (r : ℕ) < 1152
  · refine (concatenate_apply_piece (t := S2048x256) 0 _ _ (ix2 r l) 8 (by simp) S128x256 p8 rfl rfl 1024 rfl (ix2 ⟨(r : ℕ) - 1024, by omega⟩ l)
      (fun b hb => ?_) (show 1024 + ((r : ℕ) - 1024) = (r : ℕ) by omega)).trans ((h8 _ _).trans (congrArg (fun q => G q l) (Fin.ext (by dsimp only <;> omega))))
    fin_cases b
    · exact absurd rfl hb
    · rfl
  by_cases c9 : (r : ℕ) < 1280
  · refine (concatenate_apply_piece (t := S2048x256) 0 _ _ (ix2 r l) 9 (by simp) S128x256 p9 rfl rfl 1152 rfl (ix2 ⟨(r : ℕ) - 1152, by omega⟩ l)
      (fun b hb => ?_) (show 1152 + ((r : ℕ) - 1152) = (r : ℕ) by omega)).trans ((h9 _ _).trans (congrArg (fun q => G q l) (Fin.ext (by dsimp only <;> omega))))
    fin_cases b
    · exact absurd rfl hb
    · rfl
  by_cases c10 : (r : ℕ) < 1408
  · refine (concatenate_apply_piece (t := S2048x256) 0 _ _ (ix2 r l) 10 (by simp) S128x256 p10 rfl rfl 1280 rfl (ix2 ⟨(r : ℕ) - 1280, by omega⟩ l)
      (fun b hb => ?_) (show 1280 + ((r : ℕ) - 1280) = (r : ℕ) by omega)).trans ((h10 _ _).trans (congrArg (fun q => G q l) (Fin.ext (by dsimp only <;> omega))))
    fin_cases b
    · exact absurd rfl hb
    · rfl
  by_cases c11 : (r : ℕ) < 1536
  · refine (concatenate_apply_piece (t := S2048x256) 0 _ _ (ix2 r l) 11 (by simp) S128x256 p11 rfl rfl 1408 rfl (ix2 ⟨(r : ℕ) - 1408, by omega⟩ l)
      (fun b hb => ?_) (show 1408 + ((r : ℕ) - 1408) = (r : ℕ) by omega)).trans ((h11 _ _).trans (congrArg (fun q => G q l) (Fin.ext (by dsimp only <;> omega))))
    fin_cases b
    · exact absurd rfl hb
    · rfl
  by_cases c12 : (r : ℕ) < 1664
  · refine (concatenate_apply_piece (t := S2048x256) 0 _ _ (ix2 r l) 12 (by simp) S128x256 p12 rfl rfl 1536 rfl (ix2 ⟨(r : ℕ) - 1536, by omega⟩ l)
      (fun b hb => ?_) (show 1536 + ((r : ℕ) - 1536) = (r : ℕ) by omega)).trans ((h12 _ _).trans (congrArg (fun q => G q l) (Fin.ext (by dsimp only <;> omega))))
    fin_cases b
    · exact absurd rfl hb
    · rfl
  by_cases c13 : (r : ℕ) < 1792
  · refine (concatenate_apply_piece (t := S2048x256) 0 _ _ (ix2 r l) 13 (by simp) S128x256 p13 rfl rfl 1664 rfl (ix2 ⟨(r : ℕ) - 1664, by omega⟩ l)
      (fun b hb => ?_) (show 1664 + ((r : ℕ) - 1664) = (r : ℕ) by omega)).trans ((h13 _ _).trans (congrArg (fun q => G q l) (Fin.ext (by dsimp only <;> omega))))
    fin_cases b
    · exact absurd rfl hb
    · rfl
  by_cases c14 : (r : ℕ) < 1920
  · refine (concatenate_apply_piece (t := S2048x256) 0 _ _ (ix2 r l) 14 (by simp) S128x256 p14 rfl rfl 1792 rfl (ix2 ⟨(r : ℕ) - 1792, by omega⟩ l)
      (fun b hb => ?_) (show 1792 + ((r : ℕ) - 1792) = (r : ℕ) by omega)).trans ((h14 _ _).trans (congrArg (fun q => G q l) (Fin.ext (by dsimp only <;> omega))))
    fin_cases b
    · exact absurd rfl hb
    · rfl
  · refine (concatenate_apply_piece (t := S2048x256) 0 _ _ (ix2 r l) 15 (by simp) S128x256 p15 rfl rfl 1920 rfl (ix2 ⟨(r : ℕ) - 1920, by omega⟩ l)
      (fun b hb => ?_) (show 1920 + ((r : ℕ) - 1920) = (r : ℕ) by omega)).trans ((h15 _ _).trans (congrArg (fun q => G q l) (Fin.ext (by dsimp only <;> omega))))
    fin_cases b
    · exact absurd rfl hb
    · rfl

/-- A chunk's product into a zero accumulator, read at an index. -/
theorem chunk_apply (w : FVec Ideal S4096x256 .bf16) (v : FVec Ideal S128x4096 .bf16) (r : Fin 128) (l : Fin 256) :
    matmul dot_S128x4096_S4096x256_S128x256_1_0_0_1_n_n none v w (constant S128x256 .f32 0x00000000#32) (ix2 r l)
      = ∑ k : Fin 4096, v (ix2 r k) * w (ix2 k l) := by
  pointwise []

/-- The rows one place back in the interleaved order, zero before the first position of a sequence. -/
def back (A : FVec Ideal S2048x256 .f32) : FVec Ideal S2048x256 .f32 :=
  concatenate S2048x256 0
    [⟨S8x256, select (cmpi .sge (iota .tc S8x256 32 [0] iota_S8x256_d0_w32) (broadcast S8x256 1#32))
        (dynamicRotate 0 1#32 none (extractStridedSlice S8x256 ![1016, 0] (extractStridedSlice S1024x256 ![0, 0] A slices_S2048x256_o0_0_S1024x256) slices_S1024x256_o1016_0_S8x256) rotates_S8x256_d0)
        (broadcast S8x256 (Scalar.ofBits .f32 0x00000000#32))⟩,
     ⟨S1016x256, extractStridedSlice S1016x256 ![0, 0] (extractStridedSlice S1024x256 ![0, 0] A slices_S2048x256_o0_0_S1024x256) slices_S1024x256_o0_0_S1016x256⟩,
     ⟨S8x256, select (cmpi .sge (iota .tc S8x256 32 [0] iota_S8x256_d0_w32) (broadcast S8x256 1#32))
        (dynamicRotate 0 1#32 none (extractStridedSlice S8x256 ![1016, 0] (extractStridedSlice S1024x256 ![1024, 0] A slices_S2048x256_o1024_0_S1024x256) slices_S1024x256_o1016_0_S8x256) rotates_S8x256_d0)
        (broadcast S8x256 (Scalar.ofBits .f32 0x00000000#32))⟩,
     ⟨S1016x256, extractStridedSlice S1016x256 ![0, 0] (extractStridedSlice S1024x256 ![1024, 0] A slices_S2048x256_o1024_0_S1024x256) slices_S1024x256_o0_0_S1016x256⟩]
    concatenates_S8x256_S1016x256_S8x256_S1016x256_S2048x256_d0

/-- The rows one place on in the interleaved order, zero after the last position of a sequence. -/
def ahead (A : FVec Ideal S2048x256 .f32) : FVec Ideal S2048x256 .f32 :=
  concatenate S2048x256 0
    [⟨S1016x256, extractStridedSlice S1016x256 ![8, 0] (extractStridedSlice S1024x256 ![0, 0] A slices_S2048x256_o0_0_S1024x256) slices_S1024x256_o8_0_S1016x256⟩,
     ⟨S8x256, select (cmpi .slt (iota .tc S8x256 32 [0] iota_S8x256_d0_w32) (broadcast S8x256 7#32))
        (dynamicRotate 0 7#32 none (extractStridedSlice S8x256 ![0, 0] (extractStridedSlice S1024x256 ![0, 0] A slices_S2048x256_o0_0_S1024x256) slices_S1024x256_o0_0_S8x256) rotates_S8x256_d0)
        (broadcast S8x256 (Scalar.ofBits .f32 0x00000000#32))⟩,
     ⟨S1016x256, extractStridedSlice S1016x256 ![8, 0] (extractStridedSlice S1024x256 ![1024, 0] A slices_S2048x256_o1024_0_S1024x256) slices_S1024x256_o8_0_S1016x256⟩,
     ⟨S8x256, select (cmpi .slt (iota .tc S8x256 32 [0] iota_S8x256_d0_w32) (broadcast S8x256 7#32))
        (dynamicRotate 0 7#32 none (extractStridedSlice S8x256 ![0, 0] (extractStridedSlice S1024x256 ![1024, 0] A slices_S2048x256_o1024_0_S1024x256) slices_S1024x256_o0_0_S8x256) rotates_S8x256_d0)
        (broadcast S8x256 (Scalar.ofBits .f32 0x00000000#32))⟩]
    concatenates_S1016x256_S8x256_S1016x256_S8x256_S2048x256_d0

/-- The mask of the first sublane of eight. -/
theorem select_ge (n : ℕ) (hn : n < 8) (a b : EReal) :
    Scalar.select (IntOp.cmpi CmpIPredicate.sge (BitVec.ofNat 32 n) 1#32) a b = if n = 0 then b else a := by
  interval_cases n <;> rfl

/-- The mask of the last sublane of eight. -/
theorem select_lt (n : ℕ) (hn : n < 8) (a b : EReal) :
    Scalar.select (IntOp.cmpi CmpIPredicate.slt (BitVec.ofNat 32 n) 7#32) a b = if n = 7 then b else a := by
  interval_cases n <;> rfl

set_option maxHeartbeats 1600000 in
/-- The row one place back: eight rows up, or, in the first eight rows, the last row of the sublane before. -/
theorem back_apply (A : FVec Ideal S2048x256 .f32) (r : Fin 2048) (l : Fin 256) :
    back A (ix2 r l) = if h0 : (r : ℕ) % 1024 = 0 then 0
      else if h1 : (r : ℕ) % 1024 < 8 then A (ix2 ⟨(r : ℕ) + 1015, by omega⟩ l) else A (ix2 ⟨(r : ℕ) - 8, by omega⟩ l) := by
  pointwise [back]
  by_cases c0 : (r : ℕ) < 8
  · rw [dif_pos c0, select_ge _ c0]
    by_cases z : (r : ℕ) = 0
    · rw [if_pos z, dif_pos (by omega)]
    · rw [if_neg z, dif_neg (by omega), dif_pos (by omega)]
      exact congrArg A (congrArg (fun q => ix2 q l) (Fin.ext (by dsimp only <;> omega)))
  rw [dif_neg c0]
  by_cases c1 : (r : ℕ) - 8 < 1016
  · rw [dif_pos c1, dif_neg (by omega), dif_neg (by omega)]
  rw [dif_neg c1]
  by_cases c2 : (r : ℕ) - 8 - 1016 < 8
  · rw [dif_pos c2, select_ge _ c2]
    by_cases z : (r : ℕ) - 8 - 1016 = 0
    · rw [if_pos z, dif_pos (by omega)]
    · rw [if_neg z, dif_neg (by omega), dif_pos (by omega)]
      exact congrArg A (congrArg (fun q => ix2 q l) (Fin.ext (by dsimp only <;> omega)))
  rw [dif_neg c2, dif_neg (by omega), dif_neg (by omega)]
  exact congrArg A (congrArg (fun q => ix2 q l) (Fin.ext (by dsimp only <;> omega)))

set_option maxHeartbeats 1600000 in
/-- The row one place on: eight rows down, or, in the last eight rows, the first row of the sublane after. -/
theorem ahead_apply (A : FVec Ideal S2048x256 .f32) (r : Fin 2048) (l : Fin 256) :
    ahead A (ix2 r l) = if h0 : (r : ℕ) % 1024 = 1023 then 0
      else if h1 : 1016 ≤ (r : ℕ) % 1024 then A (ix2 ⟨(r : ℕ) - 1015, by omega⟩ l) else A (ix2 ⟨(r : ℕ) + 8, by omega⟩ l) := by
  pointwise [ahead]
  by_cases c0 : (r : ℕ) < 1016
  · rw [dif_pos c0, dif_neg (by omega), dif_neg (by omega)]
    exact congrArg A (congrArg (fun q => ix2 q l) (Fin.ext (by dsimp only <;> omega)))
  rw [dif_neg c0]
  by_cases c1 : (r : ℕ) - 1016 < 8
  · rw [dif_pos c1, select_lt _ c1]
    by_cases z : (r : ℕ) - 1016 = 7
    · rw [if_pos z, dif_pos (by omega)]
    · rw [if_neg z, dif_neg (by omega), dif_pos (by omega)]
      exact congrArg A (congrArg (fun q => ix2 q l) (Fin.ext (by dsimp only <;> omega)))
  rw [dif_neg c1]
  by_cases c2 : (r : ℕ) - 1016 - 8 < 1016
  · rw [dif_pos c2, dif_neg (by omega), dif_neg (by omega)]
    exact congrArg A (congrArg (fun q => ix2 q l) (Fin.ext (by dsimp only <;> omega)))
  rw [dif_neg c2, select_lt _ (by omega)]
  by_cases z : (r : ℕ) - 1016 - 8 - 1016 = 7
  · rw [if_pos z, dif_pos (by omega)]
  · rw [if_neg z, dif_neg (by omega), dif_pos (by omega)]
    exact congrArg A (congrArg (fun q => ix2 q l) (Fin.ext (by dsimp only <;> omega)))

variable (x0 : Vec Ideal S2048x4096 .bf16) (x1 x2 : Vec Ideal S1x4096x256 .f32) (x3 x4 : Vec Ideal S1x3x256 .f32)
  (x5 x6 : Vec Ideal S1x1x256 .f32)

/-- The tile's product by the first half's columns, assembled from its sixteen row chunks. -/
def rowsU : FVec Ideal S2048x256 .f32 :=
  k0_pay13 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)

/-- The tile's product by the second half's columns, assembled from its sixteen row chunks. -/
def rowsG : FVec Ideal S2048x256 .f32 :=
  k0_pay37 (k0_pay45 x0 x1 x2 x3 x4 x5 x6) (k0_pay55 x0 x1 x2 x3 x4 x5 x6) (k0_pay56 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6) (k0_pay63 x0 x1 x2 x3 x4 x5 x6) (k0_pay64 x0 x1 x2 x3 x4 x5 x6) (k0_pay65 x0 x1 x2 x3 x4 x5 x6) (k0_pay66 x0 x1 x2 x3 x4 x5 x6) (k0_pay67 x0 x1 x2 x3 x4 x5 x6) (k0_pay68 x0 x1 x2 x3 x4 x5 x6) (View.ld x0 r0_15) (View.ld x0 r0_16)

/-- Every row of it is the row's product by the first half's columns. -/
theorem rowsU_apply (r : Fin 2048) (l : Fin 256) :
    rowsU x0 x1 x2 x3 x4 x5 x6 (ix2 r l) = ∑ k : Fin 4096, x0 (ix2 r k) * x1 (ix3 0 k l) := by
  unfold rowsU k0_pay13
  refine stack_apply (fun r l => ∑ k : Fin 4096, x0 (ix2 r k) * x1 (ix3 0 k l)) _ _ _ _ _ _ _ _ _ _ _ _ _ _ _ _
    ?_ ?_ ?_ ?_ ?_ ?_ ?_ ?_ ?_ ?_ ?_ ?_ ?_ ?_ ?_ ?_ r l <;> intro r l
  all_goals
    first
    | refine (chunk_apply _ _ r l).trans (Finset.sum_congr rfl fun k _ => ?_)
  all_goals
    pointwise [k0_pay2, k0_pay44]

/-- Every row of it is the row's product by the second half's columns. -/
theorem rowsG_apply (r : Fin 2048) (l : Fin 256) :
    rowsG x0 x1 x2 x3 x4 x5 x6 (ix2 r l) = ∑ k : Fin 4096, x0 (ix2 r k) * x2 (ix3 0 k l) := by
  unfold rowsG k0_pay37
  refine stack_apply (fun r l => ∑ k : Fin 4096, x0 (ix2 r k) * x2 (ix3 0 k l)) _ _ _ _ _ _ _ _ _ _ _ _ _ _ _ _
    ?_ ?_ ?_ ?_ ?_ ?_ ?_ ?_ ?_ ?_ ?_ ?_ ?_ ?_ ?_ ?_ r l <;> intro r l
  all_goals
    first
    | refine (chunk_apply _ _ r l).trans (Finset.sum_congr rfl fun k _ => ?_)
  all_goals
    pointwise [k0_pay3, k0_pay45]

/-- The tile the kernel stores, from its two products: each convolved with its three taps, the second gated. -/
def tile (U G : FVec Ideal S2048x256 .f32) (r : Fin 2048) (l : Fin 256) : EReal :=
  let u := x5 (ix3 0 0 l) + back U (ix2 r l) * x3 (ix3 0 0 l) + U (ix2 r l) * x3 (ix3 0 1 l) + ahead U (ix2 r l) * x3 (ix3 0 2 l)
  let g := x6 (ix3 0 0 l) + back G (ix2 r l) * x4 (ix3 0 0 l) + G (ix2 r l) * x4 (ix3 0 1 l) + ahead G (ix2 r l) * x4 (ix3 0 2 l)
  g * Ideal.logistic g * u

/-- The convolution of a product as the kernel writes it. -/
def conv (A : FVec Ideal S2048x256 .f32) (b w0 w1 w2 : Vec Ideal S1x1x256 .f32) : FVec Ideal S2048x256 .f32 :=
  addf (addf (addf (broadcastTo S2048x256 (shapeCast S1x256 b shapeCasts_S1x1x256_S1x256) broadcasts_S1x256_S2048x256)
      (mulf (back A) (broadcastTo S2048x256 (shapeCast S1x256 w0 shapeCasts_S1x1x256_S1x256) broadcasts_S1x256_S2048x256)))
      (mulf A (broadcastTo S2048x256 (shapeCast S1x256 w1 shapeCasts_S1x1x256_S1x256) broadcasts_S1x256_S2048x256)))
    (mulf (ahead A) (broadcastTo S2048x256 (shapeCast S1x256 w2 shapeCasts_S1x1x256_S1x256) broadcasts_S1x256_S2048x256))

/-- What the kernel stores is that tile. -/
theorem pay_apply (r : Fin 2048) (l : Fin 256) :
    k0_pay1 (k0_pay22 (k0_pay43 x0 x1 x2 x3 x4 x5 x6) (rowsU x0 x1 x2 x3 x4 x5 x6) (k0_pay15 (k0_pay43 x0 x1 x2 x3 x4 x5 x6) (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay16 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay17 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay18 (k0_pay43 x0 x1 x2 x3 x4 x5 x6) (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay19 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay20 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay21 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (View.ld x5 r0_17) (View.ld x3 r0_18) (View.ld x3 r0_19) (View.ld x3 r0_20))
      (rowsG x0 x1 x2 x3 x4 x5 x6) (k0_pay40 (k0_pay43 x0 x1 x2 x3 x4 x5 x6) (k0_pay45 x0 x1 x2 x3 x4 x5 x6) (k0_pay55 x0 x1 x2 x3 x4 x5 x6) (k0_pay56 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6) (k0_pay63 x0 x1 x2 x3 x4 x5 x6) (k0_pay64 x0 x1 x2 x3 x4 x5 x6) (k0_pay65 x0 x1 x2 x3 x4 x5 x6) (k0_pay66 x0 x1 x2 x3 x4 x5 x6) (k0_pay67 x0 x1 x2 x3 x4 x5 x6) (k0_pay68 x0 x1 x2 x3 x4 x5 x6) (View.ld x0 r0_15) (View.ld x0 r0_16)) (k0_pay41 (k0_pay43 x0 x1 x2 x3 x4 x5 x6) (k0_pay45 x0 x1 x2 x3 x4 x5 x6) (k0_pay55 x0 x1 x2 x3 x4 x5 x6) (k0_pay56 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6) (k0_pay63 x0 x1 x2 x3 x4 x5 x6) (k0_pay64 x0 x1 x2 x3 x4 x5 x6) (k0_pay65 x0 x1 x2 x3 x4 x5 x6) (k0_pay66 x0 x1 x2 x3 x4 x5 x6) (k0_pay67 x0 x1 x2 x3 x4 x5 x6) (k0_pay68 x0 x1 x2 x3 x4 x5 x6) (View.ld x0 r0_15) (View.ld x0 r0_16)) (k0_pay42 (View.ld x6 r0_17)) (View.ld x4 r0_18) (View.ld x4 r0_19) (View.ld x4 r0_20) (ix2 r l)
      = tile x3 x4 x5 x6 (rowsU x0 x1 x2 x3 x4 x5 x6) (rowsG x0 x1 x2 x3 x4 x5 x6) r l := by
  have hb : k0_pay40 (k0_pay43 x0 x1 x2 x3 x4 x5 x6) (k0_pay45 x0 x1 x2 x3 x4 x5 x6) (k0_pay55 x0 x1 x2 x3 x4 x5 x6) (k0_pay56 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6) (k0_pay63 x0 x1 x2 x3 x4 x5 x6) (k0_pay64 x0 x1 x2 x3 x4 x5 x6) (k0_pay65 x0 x1 x2 x3 x4 x5 x6) (k0_pay66 x0 x1 x2 x3 x4 x5 x6) (k0_pay67 x0 x1 x2 x3 x4 x5 x6) (k0_pay68 x0 x1 x2 x3 x4 x5 x6) (View.ld x0 r0_15) (View.ld x0 r0_16) = back (rowsG x0 x1 x2 x3 x4 x5 x6) := rfl
  have ha : k0_pay41 (k0_pay43 x0 x1 x2 x3 x4 x5 x6) (k0_pay45 x0 x1 x2 x3 x4 x5 x6) (k0_pay55 x0 x1 x2 x3 x4 x5 x6) (k0_pay56 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6) (k0_pay63 x0 x1 x2 x3 x4 x5 x6) (k0_pay64 x0 x1 x2 x3 x4 x5 x6) (k0_pay65 x0 x1 x2 x3 x4 x5 x6) (k0_pay66 x0 x1 x2 x3 x4 x5 x6) (k0_pay67 x0 x1 x2 x3 x4 x5 x6) (k0_pay68 x0 x1 x2 x3 x4 x5 x6) (View.ld x0 r0_15) (View.ld x0 r0_16) = ahead (rowsG x0 x1 x2 x3 x4 x5 x6) := rfl
  have hu : k0_pay22 (k0_pay43 x0 x1 x2 x3 x4 x5 x6) (rowsU x0 x1 x2 x3 x4 x5 x6) (k0_pay15 (k0_pay43 x0 x1 x2 x3 x4 x5 x6) (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay16 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay17 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay18 (k0_pay43 x0 x1 x2 x3 x4 x5 x6) (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay19 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay20 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (k0_pay21 (k0_pay44 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (View.ld x0 r0_10) (View.ld x0 r0_11) (View.ld x0 r0_12) (View.ld x0 r0_13) (View.ld x0 r0_14) (View.ld x0 r0_15) (View.ld x0 r0_16)) (View.ld x5 r0_17) (View.ld x3 r0_18) (View.ld x3 r0_19) (View.ld x3 r0_20)
      = conv (rowsU x0 x1 x2 x3 x4 x5 x6) (View.ld x5 r0_17) (View.ld x3 r0_18) (View.ld x3 r0_19) (View.ld x3 r0_20) := rfl
  rw [hu, hb, ha]
  pointwise [k0_pay1, k0_pay42, tile, conv]

end Cert.FfnUpIdeal.Conv
-- ==== Proof.FfnUpRef.lean ====
/- The first feed-forward product's reference, read at an index of its result. -/
module

public import proofs.«01_k».proof.Proof.Gen.UpRefIdeal.Run
public import Idealize.ShloMosaic.Lib.Pipeline.ValueKit

@[expose] public section

set_option maxRecDepth 16384

noncomputable section

open Idealize.ShloMosaic Idealize.ShloMosaic.TcCoe Idealize.SL.Sem

namespace Cert.UpRefIdeal.Conv

open Cert.UpRefIdeal Cert.UpRefIdeal.Gen

variable (x : FVec Ideal S8192x4096 .bf16) (w : FVec Ideal S2x4096x22016 .f32) (cw : FVec Ideal S2x3x22016 .f32)
  (cb : FVec Ideal S2x22016 .f32)

/-- The tokens, sequence by sequence in the order of their positions, by the first layer's matrix. -/
def prod : FVec Ideal S8x1024x22016 .f32 :=
  Host.dotGeneral dot_S8x1024x4096_S4096x22016_S8x1024x22016_2_0_01_1_n_n none (shapeCast _ (transpose S8x8x128x4096 [0, 2, 1, 3] (shapeCast _ (extf .f32 x bitsLt_bf16_f32) shapeCasts_S8192x4096_S8x128x8x4096) transposes_S8x128x8x4096_S8x8x128x4096_0_2_1_3) shapeCasts_S8x8x128x4096_S8x1024x4096) (shapeCast _ (extractStridedSlice S1x4096x22016 ![0, 0, 0] w slices_S2x4096x22016_S1x4096x22016_0_0_0) shapeCasts_S1x4096x22016_S4096x22016)

/-- A sequence with a zero before it and a zero after it. -/
def padded (h : FVec Ideal S8x1024x22016 .f32) : FVec Ideal S8x1026x22016 .f32 :=
  pad S8x1026x22016 ![0, 1, 0] ![0, 1, 0] ![0, 0, 0] h (sitofp .f32 (constantI S_ 32 0#32)) pads_S8x1024x22016_S8x1026x22016_000_110_000 h_S_

/-- The three taps' sum over the padded sequences, with the bias. -/
def taps (h : FVec Ideal S8x1024x22016 .f32) : FVec Ideal S8x1024x22016 .f32 :=
  addf (addf (addf (broadcastInDim S8x1024x22016 ![0, 1, 2] bcast_S1x1x22016_S8x1024x22016_0_1_2 (broadcastInDim S1x1x22016 ![2] bcast_S22016_S1x1x22016_2 (shapeCast _ (extractStridedSlice S1x22016 ![0, 0] cb slices_S2x22016_S1x22016_0_0) shapeCasts_S1x22016_S22016)))
    (mulf (extractStridedSlice S8x1024x22016 ![0, 0, 0] (padded h) slices_S8x1026x22016_S8x1024x22016_0_0_0) (broadcastInDim S8x1024x22016 ![0, 1, 2] bcast_S1x1x22016_S8x1024x22016_0_1_2 (broadcastInDim S1x1x22016 ![2] bcast_S22016_S1x1x22016_2 (shapeCast _ (extractStridedSlice S1x22016 ![0, 0] (shapeCast _ (extractStridedSlice S1x3x22016 ![0, 0, 0] cw slices_S2x3x22016_S1x3x22016_0_0_0) shapeCasts_S1x3x22016_S3x22016) slices_S3x22016_S1x22016_0_0) shapeCasts_S1x22016_S22016)))))
    (mulf (extractStridedSlice S8x1024x22016 ![0, 1, 0] (padded h) slices_S8x1026x22016_S8x1024x22016_0_1_0) (broadcastInDim S8x1024x22016 ![0, 1, 2] bcast_S1x1x22016_S8x1024x22016_0_1_2 (broadcastInDim S1x1x22016 ![2] bcast_S22016_S1x1x22016_2 (shapeCast _ (extractStridedSlice S1x22016 ![1, 0] (shapeCast _ (extractStridedSlice S1x3x22016 ![0, 0, 0] cw slices_S2x3x22016_S1x3x22016_0_0_0) shapeCasts_S1x3x22016_S3x22016) slices_S3x22016_S1x22016_1_0) shapeCasts_S1x22016_S22016)))))
    (mulf (extractStridedSlice S8x1024x22016 ![0, 2, 0] (padded h) slices_S8x1026x22016_S8x1024x22016_0_2_0) (broadcastInDim S8x1024x22016 ![0, 1, 2] bcast_S1x1x22016_S8x1024x22016_0_1_2 (broadcastInDim S1x1x22016 ![2] bcast_S22016_S1x1x22016_2 (shapeCast _ (extractStridedSlice S1x22016 ![2, 0] (shapeCast _ (extractStridedSlice S1x3x22016 ![0, 0, 0] cw slices_S2x3x22016_S1x3x22016_0_0_0) shapeCasts_S1x3x22016_S3x22016) slices_S3x22016_S1x22016_2_0) shapeCasts_S1x22016_S22016))))

/-- The second half gated by itself times the first half, back in the interleaved order. -/
def gated (v : FVec Ideal S8x1024x22016 .f32) : FVec Ideal S8192x11008 .bf16 :=
  truncf .bf16 (shapeCast _ (transpose S8x128x8x11008 [0, 2, 1, 3] (shapeCast _ (mulf (mulf (extractStridedSlice S8x1024x11008 ![0, 0, 11008] v slices_S8x1024x22016_S8x1024x11008_0_0_11008) (Host.divf (broadcastInDim S8x1024x11008 ![] bcast_S_S8x1024x11008 (constant S_ .f32 0x3F800000#32)) (addf (broadcastInDim S8x1024x11008 ![] bcast_S_S8x1024x11008 (constant S_ .f32 0x3F800000#32)) (Host.exp (Host.negf (extractStridedSlice S8x1024x11008 ![0, 0, 11008] v slices_S8x1024x22016_S8x1024x11008_0_0_11008)))))) (extractStridedSlice S8x1024x11008 ![0, 0, 0] v slices_S8x1024x22016_S8x1024x11008_0_0_0)) shapeCasts_S8x1024x11008_S8x8x128x11008) transposes_S8x8x128x11008_S8x128x8x11008_0_2_1_3) shapeCasts_S8x128x8x11008_S8192x11008) bitsLt_bf16_f32

/-- The reference's result. -/
def REF : FVec Ideal S8192x11008 .bf16 := gated (taps cw cb (prod x w))

/-- The row of the interleaved order where position `p` of sequence `s` stands. -/
def row (s : Fin 8) (p : Fin 1024) : Fin 8192 := ⟨(s : ℕ) * 1024 + (p : ℕ) % 128 * 8 + (p : ℕ) / 128, by omega⟩

/-- A token's row by a column of the matrix. -/
def dot (r : Fin 8192) (n : Fin 22016) : EReal := ∑ k : Fin 4096, x (ix2 r k) * w (ix3 0 k n)

/-- The product at a position is its row's. -/
theorem prod_apply (s : Fin 8) (p : Fin 1024) (n : Fin 22016) : prod x w (ix3 s p n) = dot x w (row s p) n := by
  pointwise [prod, dot, row]

/-- The padded sequence at a place. -/
theorem padded_apply (h : FVec Ideal S8x1024x22016 .f32) (s : Fin 8) (p : Fin 1026) (n : Fin 22016) :
    padded h (ix3 s p n) = if q : 1 ≤ (p : ℕ) ∧ (p : ℕ) < 1025 then h (ix3 s ⟨(p : ℕ) - 1, by omega⟩ n) else 0 := by
  pointwise [padded]
  by_cases q : 1 ≤ (p : ℕ) ∧ (p : ℕ) < 1025
  · rw [dif_pos q, dif_pos (by omega)]
  · rw [dif_neg q, dif_neg (by omega)]
    show ((((0#32 : BitVec 32).toInt : ℝ)) : EReal) = 0
    simp

/-- The three taps at a position. -/
theorem taps_apply (h : FVec Ideal S8x1024x22016 .f32) (s : Fin 8) (p : Fin 1024) (n : Fin 22016) :
    taps cw cb h (ix3 s p n) = cb (ix2 0 n) + padded h (ix3 s ⟨(p : ℕ), by omega⟩ n) * cw (ix3 0 0 n)
      + padded h (ix3 s ⟨1 + (p : ℕ), by omega⟩ n) * cw (ix3 0 1 n) + padded h (ix3 s ⟨2 + (p : ℕ), by omega⟩ n) * cw (ix3 0 2 n) := by
  pointwise [taps]

/-- The gate at a row of the interleaved order. -/
theorem gated_apply (v : FVec Ideal S8x1024x22016 .f32) (r : Fin 8192) (n : Fin 11008) :
    gated v (ix2 r n) = v (ix3 ⟨(r : ℕ) / 1024, by omega⟩ ⟨(r : ℕ) % 8 * 128 + (r : ℕ) / 8 % 128, by omega⟩ ⟨11008 + (n : ℕ), by omega⟩)
       * Ideal.logistic (v (ix3 ⟨(r : ℕ) / 1024, by omega⟩ ⟨(r : ℕ) % 8 * 128 + (r : ℕ) / 8 % 128, by omega⟩ ⟨11008 + (n : ℕ), by omega⟩))
       * v (ix3 ⟨(r : ℕ) / 1024, by omega⟩ ⟨(r : ℕ) % 8 * 128 + (r : ℕ) / 8 % 128, by omega⟩ ⟨(n : ℕ), by omega⟩) := by
  pointwise [gated, Ideal.logistic]

/-- The token one place back, by a column: zero at the first position of a sequence. -/
def prev (r : Fin 8192) (n : Fin 22016) : EReal :=
  if h0 : (r : ℕ) % 1024 = 0 then 0
    else if h1 : (r : ℕ) % 1024 < 8 then dot x w ⟨(r : ℕ) + 1015, by omega⟩ n else dot x w ⟨(r : ℕ) - 8, by omega⟩ n

/-- The token one place on, by a column: zero at the last position of a sequence. -/
def next (r : Fin 8192) (n : Fin 22016) : EReal :=
  if h0 : (r : ℕ) % 1024 = 1023 then 0
    else if h1 : 1016 ≤ (r : ℕ) % 1024 then dot x w ⟨(r : ℕ) - 1015, by omega⟩ n else dot x w ⟨(r : ℕ) + 8, by omega⟩ n

/-- A channel of a token after the convolution. -/
def chan (r : Fin 8192) (n : Fin 22016) : EReal :=
  cb (ix2 0 n) + prev x w r n * cw (ix3 0 0 n) + dot x w r n * cw (ix3 0 1 n) + next x w r n * cw (ix3 0 2 n)

/-- The rows of the positions beside a row's own, in the interleaved order. -/
theorem places (r : ℕ) :
    (r % 1024 ≠ 0 → r % 1024 < 8 → r / 1024 * 1024 + (r % 8 * 128 + r / 8 % 128 - 1) % 128 * 8 + (r % 8 * 128 + r / 8 % 128 - 1) / 128 = r + 1015)
    ∧ (¬ r % 1024 < 8 → r / 1024 * 1024 + (r % 8 * 128 + r / 8 % 128 - 1) % 128 * 8 + (r % 8 * 128 + r / 8 % 128 - 1) / 128 = r - 8)
    ∧ (r / 1024 * 1024 + (r % 8 * 128 + r / 8 % 128) % 128 * 8 + (r % 8 * 128 + r / 8 % 128) / 128 = r)
    ∧ (r % 1024 ≠ 1023 → 1016 ≤ r % 1024 → r / 1024 * 1024 + (r % 8 * 128 + r / 8 % 128 + 1) % 128 * 8 + (r % 8 * 128 + r / 8 % 128 + 1) / 128 = r - 1015)
    ∧ (¬ 1016 ≤ r % 1024 → r / 1024 * 1024 + (r % 8 * 128 + r / 8 % 128 + 1) % 128 * 8 + (r % 8 * 128 + r / 8 % 128 + 1) / 128 = r + 8) := by
  obtain ⟨s, j, u, hj, hu, e⟩ : ∃ s j u, j < 128 ∧ u < 8 ∧ r = 1024 * s + 8 * j + u :=
    ⟨r / 1024, r / 8 % 128, r % 8, by omega, by omega, by omega⟩
  have es : r / 1024 = s := by omega
  have ej : r / 8 % 128 = j := by omega
  have eu : r % 8 = u := by omega
  have em : r % 1024 = 8 * j + u := by omega
  rw [es, ej, eu, em]
  refine ⟨fun a b => ?_, fun a => ?_, ?_, fun a b => ?_, fun a => ?_⟩ <;> omega

/-- The first tap reads the token one place back. -/
theorem prev_eq (r : Fin 8192) (n : Fin 22016) :
    padded (prod x w) (ix3 ⟨(r : ℕ) / 1024, by omega⟩ ⟨(r : ℕ) % 8 * 128 + (r : ℕ) / 8 % 128, by omega⟩ n) = prev x w r n := by
  rw [padded_apply]
  unfold prev
  by_cases h0 : (r : ℕ) % 1024 = 0
  · rw [dif_pos h0, dif_neg (by dsimp only; omega)]
  rw [dif_neg h0, dif_pos (by dsimp only; omega), prod_apply]
  by_cases h1 : (r : ℕ) % 1024 < 8
  · rw [dif_pos h1]
    exact congrArg (fun q => dot x w q n) (Fin.ext (by have := (places r).1 h0 h1; dsimp only [row]; omega))
  · rw [dif_neg h1]
    exact congrArg (fun q => dot x w q n) (Fin.ext (by have := (places r).2.1 h1; dsimp only [row]; omega))

/-- The second tap reads the token itself. -/
theorem here_eq (r : Fin 8192) (n : Fin 22016) :
    padded (prod x w) (ix3 ⟨(r : ℕ) / 1024, by omega⟩ ⟨1 + ((r : ℕ) % 8 * 128 + (r : ℕ) / 8 % 128), by omega⟩ n) = dot x w r n := by
  rw [padded_apply, dif_pos (by dsimp only; omega), prod_apply]
  exact congrArg (fun q => dot x w q n) (Fin.ext (by have := (places r).2.2.1; dsimp only [row]; omega))

/-- The third tap reads the token one place on. -/
theorem next_eq (r : Fin 8192) (n : Fin 22016) :
    padded (prod x w) (ix3 ⟨(r : ℕ) / 1024, by omega⟩ ⟨2 + ((r : ℕ) % 8 * 128 + (r : ℕ) / 8 % 128), by omega⟩ n) = next x w r n := by
  rw [padded_apply]
  unfold next
  by_cases h0 : (r : ℕ) % 1024 = 1023
  · rw [dif_pos h0, dif_neg (by dsimp only; omega)]
  rw [dif_neg h0, dif_pos (by dsimp only; omega), prod_apply]
  by_cases h1 : 1016 ≤ (r : ℕ) % 1024
  · rw [dif_pos h1]
    exact congrArg (fun q => dot x w q n) (Fin.ext (by have := (places r).2.2.2.1 h0 h1; dsimp only [row]; omega))
  · rw [dif_neg h1]
    exact congrArg (fun q => dot x w q n) (Fin.ext (by have := (places r).2.2.2.2 h1; dsimp only [row]; omega))

/-- The reference's result at a row and a channel. -/
theorem REF_apply (r : Fin 8192) (n : Fin 11008) :
    REF x w cw cb (ix2 r n) = chan x w cw cb r ⟨11008 + (n : ℕ), by omega⟩
      * Ideal.logistic (chan x w cw cb r ⟨11008 + (n : ℕ), by omega⟩) * chan x w cw cb r ⟨(n : ℕ), by omega⟩ := by
  have e (q : Fin 22016) : taps cw cb (prod x w) (ix3 ⟨(r : ℕ) / 1024, by omega⟩ ⟨(r : ℕ) % 8 * 128 + (r : ℕ) / 8 % 128, by omega⟩ q) = chan x w cw cb r q := by
    rw [taps_apply, prev_eq, here_eq, next_eq]; rfl
  unfold REF
  rw [gated_apply, e, e]

end Cert.UpRefIdeal.Conv
-- ==== Proof.FfnUpValue.lean ====
/- The first feed-forward product with its three-tap convolution and gate: the tiled kernel's array is the reference's. -/
module

public import proofs.«01_k».proof.Proof.FfnUpKernel
public import proofs.«01_k».proof.Proof.FfnUpRef

@[expose] public section

set_option maxRecDepth 16384

noncomputable section

open Idealize.ShloMosaic Idealize.ShloMosaic.TcCoe Idealize.SL.Sem
open Idealize.ShloMosaic.Pipeline (Dat)

namespace Cert.FfnUpIdeal.Conv

open Cert.FfnUpIdeal Cert.FfnUpIdeal.Gen
open Cert.UpRefIdeal.Conv (REF REF_apply dot prev next chan)

variable (m : (ℓ : Loc nD τ sig) → Buf (Elt Ideal) ℓ)

/-- Where each block stands, at every grid point. -/
theorem idx : ∀ t : Fin cfg0.N, win0_7.index t 0 < 4 ∧ win0_7.index t 1 < 43 ∧ win0_0.index t = ![win0_7.index t 0, 0] ∧ win0_1.index t = ![0, 0, win0_7.index t 1]
    ∧ win0_2.index t = ![0, 0, 43 + win0_7.index t 1] ∧ win0_3.index t = ![0, 0, win0_7.index t 1] ∧ win0_4.index t = ![0, 0, 43 + win0_7.index t 1]
    ∧ win0_5.index t = ![0, 0, win0_7.index t 1] ∧ win0_6.index t = ![0, 0, 43 + win0_7.index t 1] :=
  (by decide +kernel : ∀ t : Fin grid0.N, _)

/-- One tile of the kernel is that tile of the reference. -/
theorem tile_eq (x : FVec Ideal S8192x4096 .bf16) (w : FVec Ideal S2x4096x22016 .f32) (cw : FVec Ideal S2x3x22016 .f32) (cb : FVec Ideal S2x22016 .f32)
    (x0 : Vec Ideal S2048x4096 .bf16) (x1 x2 : Vec Ideal S1x4096x256 .f32) (x3 x4 : Vec Ideal S1x3x256 .f32) (x5 x6 : Vec Ideal S1x1x256 .f32)
    (i j : ℕ) (hi : i < 4) (hj : j < 43)
    (h0 : ∀ (r : Fin 2048) (k : Fin 4096), x0 (ix2 r k) = x (ix2 ⟨i * 2048 + r, by omega⟩ k))
    (h1 : ∀ (k : Fin 4096) (l : Fin 256), x1 (ix3 0 k l) = w (ix3 0 k ⟨j * 256 + l, by omega⟩))
    (h2 : ∀ (k : Fin 4096) (l : Fin 256), x2 (ix3 0 k l) = w (ix3 0 k ⟨(43 + j) * 256 + l, by omega⟩))
    (h3 : ∀ (k : Fin 3) (l : Fin 256), x3 (ix3 0 k l) = cw (ix3 0 k ⟨j * 256 + l, by omega⟩))
    (h4 : ∀ (k : Fin 3) (l : Fin 256), x4 (ix3 0 k l) = cw (ix3 0 k ⟨(43 + j) * 256 + l, by omega⟩))
    (h5 : ∀ (l : Fin 256), x5 (ix3 0 0 l) = cb (ix2 0 ⟨j * 256 + l, by omega⟩))
    (h6 : ∀ (l : Fin 256), x6 (ix3 0 0 l) = cb (ix2 0 ⟨(43 + j) * 256 + l, by omega⟩))
    (r : Fin 2048) (l : Fin 256) :
    tile x3 x4 x5 x6 (rowsU x0 x1 x2 x3 x4 x5 x6) (rowsG x0 x1 x2 x3 x4 x5 x6) r l
      = REF x w cw cb (ix2 ⟨i * 2048 + r, by omega⟩ ⟨j * 256 + l, by omega⟩) := by
  have eU (r : Fin 2048) : rowsU x0 x1 x2 x3 x4 x5 x6 (ix2 r l) = dot x w ⟨i * 2048 + r, by omega⟩ ⟨j * 256 + l, by omega⟩ := by
    rw [rowsU_apply]; exact Finset.sum_congr rfl fun k _ => by rw [h0, h1]
  have eG (r : Fin 2048) : rowsG x0 x1 x2 x3 x4 x5 x6 (ix2 r l) = dot x w ⟨i * 2048 + r, by omega⟩ ⟨(43 + j) * 256 + l, by omega⟩ := by
    rw [rowsG_apply]; exact Finset.sum_congr rfl fun k _ => by rw [h0, h2]
  have eB (A : FVec Ideal S2048x256 .f32) (n : Fin 22016) (hA : ∀ r : Fin 2048, A (ix2 r l) = dot x w ⟨i * 2048 + r, by omega⟩ n) :
      back A (ix2 r l) = prev x w ⟨i * 2048 + r, by omega⟩ n := by
    rw [back_apply, prev]
    have e : (i * 2048 + (r : ℕ)) % 1024 = (r : ℕ) % 1024 := by omega
    refine dite_congr (by rw [e]) (fun _ => rfl) fun c0 => dite_congr (by rw [e]) (fun c1 => ?_) fun c1 => ?_
    · rw [hA]; exact congrArg (fun q => dot x w q n) (Fin.ext (by dsimp only <;> omega))
    · rw [hA]; exact congrArg (fun q => dot x w q n) (Fin.ext (by dsimp only at c0 c1 ⊢ <;> omega))
  have eA (A : FVec Ideal S2048x256 .f32) (n : Fin 22016) (hA : ∀ r : Fin 2048, A (ix2 r l) = dot x w ⟨i * 2048 + r, by omega⟩ n) :
      ahead A (ix2 r l) = next x w ⟨i * 2048 + r, by omega⟩ n := by
    rw [ahead_apply, next]
    have e : (i * 2048 + (r : ℕ)) % 1024 = (r : ℕ) % 1024 := by omega
    refine dite_congr (by rw [e]) (fun _ => rfl) fun c0 => dite_congr (by rw [e]) (fun c1 => ?_) fun c1 => ?_
    · rw [hA]; exact congrArg (fun q => dot x w q n) (Fin.ext (by dsimp only at c0 c1 ⊢ <;> omega))
    · rw [hA]; exact congrArg (fun q => dot x w q n) (Fin.ext (by dsimp only at c0 c1 ⊢ <;> omega))
  have hn : (⟨11008 + (j * 256 + (l : ℕ)), by omega⟩ : Fin 22016) = ⟨(43 + j) * 256 + (l : ℕ), by omega⟩ := Fin.ext (by dsimp only; omega)
  rw [REF_apply]
  dsimp only
  rw [hn]
  unfold tile chan
  rw [eB _ _ eU, eB _ _ eG, eA _ _ eU, eA _ _ eG, eU, eG, h3, h3, h3, h4, h4, h4, h5, h6]

/-- One tile of the kernel is that tile of the reference. -/
theorem point (c : Dev nD) (t : Fin cfg0.N) (y : S2048x256.Idx) :
    tile (iblk m c 3 t) (iblk m c 4 t) (iblk m c 5 t) (iblk m c 6 t)
        (rowsU (iblk m c 0 t) (iblk m c 1 t) (iblk m c 2 t) (iblk m c 3 t) (iblk m c 4 t) (iblk m c 5 t) (iblk m c 6 t))
        (rowsG (iblk m c 0 t) (iblk m c 1 t) (iblk m c 2 t) (iblk m c 3 t) (iblk m c 4 t) (iblk m c 5 t) (iblk m c 6 t)) (y 0) (y 1)
      = REF (m ((c.tc : Thread nD τ).loc main_arg0)) (m ((c.tc : Thread nD τ).loc main_arg1)) (m ((c.tc : Thread nD τ).loc main_arg2)) (m ((c.tc : Thread nD τ).loc main_arg3)) (((cfg0.win 7).blk t).view.emb y) := by
  obtain ⟨hi, hj, e0, e1, e2, e3, e4, e5, e6⟩ := idx t
  refine (tile_eq (m ((c.tc : Thread nD τ).loc main_arg0)) (m ((c.tc : Thread nD τ).loc main_arg1)) (m ((c.tc : Thread nD τ).loc main_arg2)) (m ((c.tc : Thread nD τ).loc main_arg3))
    _ _ _ _ _ _ _ (win0_7.index t 0) (win0_7.index t 1) hi hj ?_ ?_ ?_ ?_ ?_ ?_ ?_ (y 0) (y 1)).trans ?_
  · intro r k; blk_point [iblk, V, e0]
  · intro r k; blk_point [iblk, V, e1]
  · intro r k; blk_point [iblk, V, e2]
  · intro r k; blk_point [iblk, V, e3]
  · intro r k; blk_point [iblk, V, e4]
  · intro k; blk_point [iblk, V, e5]
  · intro k; blk_point [iblk, V, e6]
  · blk_point [iblk, V]

/-- What a grid point leaves in its output block is that tile. -/
theorem out_apply (x0 : Vec Ideal S2048x4096 .bf16) (x1 x2 : Vec Ideal S1x4096x256 .f32) (x3 x4 : Vec Ideal S1x3x256 .f32) (x5 x6 : Vec Ideal S1x1x256 .f32)
    (r : Fin 2048) (l : Fin 256) :
    out0_7 x0 x1 x2 x3 x4 x5 x6 (ix2 r l) = tile x3 x4 x5 x6 (rowsU x0 x1 x2 x3 x4 x5 x6) (rowsG x0 x1 x2 x3 x4 x5 x6) r l := by
  have h := pay_apply x0 x1 x2 x3 x4 x5 x6 r l
  generalize tile x3 x4 x5 x6 (rowsU x0 x1 x2 x3 x4 x5 x6) (rowsG x0 x1 x2 x3 x4 x5 x6) r l = z at h ⊢
  unfold rowsU rowsG at h
  rw [← h]
  unfold out0_7
  exact congrFun (by frame_out) (ix2 r l)

/-- The result array is the reference's term at the argument arrays. -/
theorem final (c : Dev nD) : (dats m 0 c).arrAt 7 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t _ y => ?_
  blk_simp
  rw [after0_7]
  refine Eq.trans ?_ (point m c t y)
  obtain ⟨r, l, rfl⟩ : ∃ (r : Fin 2048) (l : Fin 256), y = ix2 r l := by idx_vars y; exact ⟨_, _, rfl⟩
  exact out_apply _ _ _ _ _ _ _ r l

end Cert.FfnUpIdeal.Conv
-- ==== Proof.FfnUpCtxKernel.lean ====
/- The first feed-forward product with its three-tap convolution, at the context batch's sequences: what the kernel's tile holds, read at an index. -/
module

public import proofs.«01_k».proof.Proof.Gen.FfnUpCtxIdeal.Value
public import Idealize.ShloMosaic.Lib.Pipeline.ValueKit

@[expose] public section

set_option maxRecDepth 65536

noncomputable section

open Idealize.ShloMosaic Idealize.ShloMosaic.TcCoe Idealize.SL.Sem

namespace Cert.FfnUpCtxIdeal.Conv

open Cert.FfnUpCtxIdeal Cert.FfnUpCtxIdeal.Gen

set_option maxHeartbeats 3200000 in
/-- Sixteen chunks of 128 rows, stacked: row `r` of the stack is the row of its chunk. -/
theorem stack_apply (G : Fin 2048 → Fin 256 → EReal) (p0 p1 p2 p3 p4 p5 p6 p7 p8 p9 p10 p11 p12 p13 p14 p15 : FVec Ideal S128x256 .f32)
    (h0 : ∀ (r : Fin 128) (l : Fin 256), p0 (ix2 r l) = G ⟨0 + r, by omega⟩ l)
    (h1 : ∀ (r : Fin 128) (l : Fin 256), p1 (ix2 r l) = G ⟨128 + r, by omega⟩ l)
    (h2 : ∀ (r : Fin 128) (l : Fin 256), p2 (ix2 r l) = G ⟨256 + r, by omega⟩ l)
    (h3 : ∀ (r : Fin 128) (l : Fin 256), p3 (ix2 r l) = G ⟨384 + r, by omega⟩ l)
    (h4 : ∀ (r : Fin 128) (l : Fin 256), p4 (ix2 r l) = G ⟨512 + r, by omega⟩ l)
    (h5 : ∀ (r : Fin 128) (l : Fin 256), p5 (ix2 r l) = G ⟨640 + r, by omega⟩ l)
    (h6 : ∀ (r : Fin 128) (l : Fin 256), p6 (ix2 r l) = G ⟨768 + r, by omega⟩ l)
    (h7 : ∀ (r : Fin 128) (l : Fin 256), p7 (ix2 r l) = G ⟨896 + r, by omega⟩ l)
    (h8 : ∀ (r : Fin 128) (l : Fin 256), p8 (ix2 r l) = G ⟨1024 + r, by omega⟩ l)
    (h9 : ∀ (r : Fin 128) (l : Fin 256), p9 (ix2 r l) = G ⟨1152 + r, by omega⟩ l)
    (h10 : ∀ (r : Fin 128) (l : Fin 256), p10 (ix2 r l) = G ⟨1280 + r, by omega⟩ l)
    (h11 : ∀ (r : Fin 128) (l : Fin 256), p11 (ix2 r l) = G ⟨1408 + r, by omega⟩ l)
    (h12 : ∀ (r : Fin 128) (l : Fin 256), p12 (ix2 r l) = G ⟨1536 + r, by omega⟩ l)
    (h13 : ∀ (r : Fin 128) (l : Fin 256), p13 (ix2 r l) = G ⟨1664 + r, by omega⟩ l)
    (h14 : ∀ (r : Fin 128) (l : Fin 256), p14 (ix2 r l) = G ⟨1792 + r, by omega⟩ l)
    (h15 : ∀ (r : Fin 128) (l : Fin 256), p15 (ix2 r l) = G ⟨1920 + r, by omega⟩ l)
    (r : Fin 2048) (l : Fin 256) :
    concatenate S2048x256 0 [⟨S128x256, p0⟩, ⟨S128x256, p1⟩, ⟨S128x256, p2⟩, ⟨S128x256, p3⟩, ⟨S128x256, p4⟩, ⟨S128x256, p5⟩, ⟨S128x256, p6⟩, ⟨S128x256, p7⟩, ⟨S128x256, p8⟩, ⟨S128x256, p9⟩, ⟨S128x256, p10⟩, ⟨S128x256, p11⟩, ⟨S128x256, p12⟩, ⟨S128x256, p13⟩, ⟨S128x256, p14⟩, ⟨S128x256, p15⟩]
      concatenates_S128x256_S128x256_S128x256_S128x256_S128x256_S128x256_S128x256_S128x256_S128x256_S128x256_S128x256_S128x256_S128x256_S128x256_S128x256_S128x256_S2048x256_d0 (ix2 r l) = G r l := by
  by_cases c0 : (r : ℕ) < 128
  · refine (concatenate_apply_piece (t := S2048x256) 0 _ _ (ix2 r l) 0 (by simp) S128x256 p0 rfl rfl 0 rfl (ix2 ⟨(r : ℕ) - 0, by omega⟩ l)
      (fun b hb => ?_) (show 0 + ((r : ℕ) - 0) = (r : ℕ) by omega)).trans ((h0 _ _).trans (congrArg (fun q => G q l) (Fin.ext (by dsimp only <;> omega))))
    fin_cases b
    · exact absurd rfl hb
    · rfl
  by_cases c1 : (r : ℕ) < 256
  · refine (concatenate_apply_piece (t := S2048x256) 0 _ _ (ix2 r l) 1 (by simp) S128x256 p1 rfl rfl 128 rfl (ix2 ⟨(r : ℕ) - 128, by omega⟩ l)
      (fun b hb => ?_) (show 128 + ((r : ℕ) - 128) = (r : ℕ) by omega)).trans ((h1 _ _).trans (congrArg (fun q => G q l) (Fin.ext (by dsimp only <;> omega))))
    fin_cases b
    · exact absurd rfl hb
    · rfl
  by_cases c2 : (r : ℕ) < 384
  · refine (concatenate_apply_piece (t := S2048x256) 0 _ _ (ix2 r l) 2 (by simp) S128x256 p2 rfl rfl 256 rfl (ix2 ⟨(r : ℕ) - 256, by omega⟩ l)
      (fun b hb => ?_) (show 256 + ((r : ℕ) - 256) = (r : ℕ) by omega)).trans ((h2 _ _).trans (congrArg (fun q => G q l) (Fin.ext (by dsimp only <;> omega))))
    fin_cases b
    · exact absurd rfl hb
    · rfl
  by_cases c3 : (r : ℕ) < 512
  · refine (concatenate_apply_piece (t := S2048x256) 0 _ _ (ix2 r l) 3 (by simp) S128x256 p3 rfl rfl 384 rfl (ix2 ⟨(r : ℕ) - 384, by omega⟩ l)
      (fun b hb => ?_) (show 384 + ((r : ℕ) - 384) = (r : ℕ) by omega)).trans ((h3 _ _).trans (congrArg (fun q => G q l) (Fin.ext (by dsimp only <;> omega))))
    fin_cases b
    · exact absurd rfl hb
    · rfl
  by_cases c4 : (r : ℕ) < 640
  · refine (concatenate_apply_piece (t := S2048x256) 0 _ _ (ix2 r l) 4 (by simp) S128x256 p4 rfl rfl 512 rfl (ix2 ⟨(r : ℕ) - 512, by omega⟩ l)
      (fun b hb => ?_) (show 512 + ((r : ℕ) - 512) = (r : ℕ) by omega)).trans ((h4 _ _).trans (congrArg (fun q => G q l) (Fin.ext (by dsimp only <;> omega))))
    fin_cases b
    · exact absurd rfl hb
    · rfl
  by_cases c5 : (r : ℕ) < 768
  · refine (concatenate_apply_piece (t := S2048x256) 0 _ _ (ix2 r l) 5 (by simp) S128x256 p5 rfl rfl 640 rfl (ix2 ⟨(r : ℕ) - 640, by omega⟩ l)
      (fun b hb => ?_) (show 640 + ((r : ℕ) - 640) = (r : ℕ) by omega)).trans ((h5 _ _).trans (congrArg (fun q => G q l) (Fin.ext (by dsimp only <;> omega))))
    fin_cases b
    · exact absurd rfl hb
    · rfl
  by_cases c6 : (r : ℕ) < 896
  · refine (concatenate_apply_piece (t := S2048x256) 0 _ _ (ix2 r l) 6 (by simp) S128x256 p6 rfl rfl 768 rfl (ix2 ⟨(r : ℕ) - 768, by omega⟩ l)
      (fun b hb => ?_) (show 768 + ((r : ℕ) - 768) = (r : ℕ) by omega)).trans ((h6 _ _).trans (congrArg (fun q => G q l) (Fin.ext (by dsimp only <;> omega))))
    fin_cases b
    · exact absurd rfl hb
    · rfl
  by_cases c7 : (r : ℕ) < 1024
  · refine (concatenate_apply_piece (t := S2048x256) 0 _ _ (ix2 r l) 7 (by simp) S128x256 p7 rfl rfl 896 rfl (ix2 ⟨(r : ℕ) - 896, by omega⟩ l)
      (fun b hb => ?_) (show 896 + ((r : ℕ) - 896) = (r : ℕ) by omega)).trans ((h7 _ _).trans (congrArg (fun q => G q l) (Fin.ext (by dsimp only <;> omega))))
    fin_cases b
    · exact absurd rfl hb
    · rfl
  by_cases c8 : (r : ℕ) < 1152
  · refine (concatenate_apply_piece (t := S2048x256) 0 _ _ (ix2 r l) 8 (by simp) S128x256 p8 rfl rfl 1024 rfl (ix2 ⟨(r : ℕ) - 1024, by omega⟩ l)
      (fun b hb => ?_) (show 1024 + ((r : ℕ) - 1024) = (r : ℕ) by omega)).trans ((h8 _ _).trans (congrArg (fun q => G q l) (Fin.ext (by dsimp only <;> omega))))
    fin_cases b
    · exact absurd rfl hb
    · rfl
  by_cases c9 : (r : ℕ) < 1280
  · refine (concatenate_apply_piece (t := S2048x256) 0 _ _ (ix2 r l) 9 (by simp) S128x256 p9 rfl rfl 1152 rfl (ix2 ⟨(r : ℕ) - 1152, by omega⟩ l)
      (fun b hb => ?_) (show 1152 + ((r : ℕ) - 1152) = (r : ℕ) by omega)).trans ((h9 _ _).trans (congrArg (fun q => G q l) (Fin.ext (by dsimp only <;> omega))))
    fin_cases b
    · exact absurd rfl hb
    · rfl
  by_cases c10 : (r : ℕ) < 1408
  · refine (concatenate_apply_piece (t := S2048x256) 0 _ _ (ix2 r l) 10 (by simp) S128x256 p10 rfl rfl 1280 rfl (ix2 ⟨(r : ℕ) - 1280, by omega⟩ l)
      (fun b hb => ?_) (show 1280 + ((r : ℕ) - 1280) = (r : ℕ) by omega)).trans ((h10 _ _).trans (congrArg (fun q => G q l) (Fin.ext (by dsimp only <;> omega))))
    fin_cases b
    · exact absurd rfl hb
    · rfl
  by_cases c11 : (r : ℕ) < 1536
  · refine (concatenate_apply_piece (t := S2048x256) 0 _ _ (ix2 r l) 11 (by simp) S128x256 p11 rfl rfl 1408 rfl (ix2 ⟨(r : ℕ) - 1408, by omega⟩ l)
      (fun b hb => ?_) (show 1408 + ((r : ℕ) - 1408) = (r : ℕ) by omega)).trans ((h11 _ _).trans (congrArg (fun q => G q l) (Fin.ext (by dsimp only <;> omega))))
    fin_cases b
    · exact absurd rfl hb
    · rfl
  by_cases c12 : (r : ℕ) < 1664
  · refine (concatenate_apply_piece (t := S2048x256) 0 _ _ (ix2 r l) 12 (by simp) S128x256 p12 rfl rfl 1536 rfl (ix2 ⟨(r : ℕ) - 1536, by omega⟩ l)
      (fun b hb => ?_) (show 1536 + ((r : ℕ) - 1536) = (r : ℕ) by omega)).trans ((h12 _ _).trans (congrArg (fun q => G q l) (Fin.ext (by dsimp only <;> omega))))
    fin_cases b
    · exact absurd rfl hb
    · rfl
  by_cases c13 : (r : ℕ) < 1792
  · refine (concatenate_apply_piece (t := S2048x256) 0 _ _ (ix2 r l) 13 (by simp) S128x256 p13 rfl rfl 1664 rfl (ix2 ⟨(r : ℕ) - 1664, by omega⟩ l)
      (fun b hb => ?_) (show 1664 + ((r : ℕ) - 1664) = (r : ℕ) by omega)).trans ((h13 _ _).trans (congrArg (fun q => G q l) (Fin.ext (by dsimp only <;> omega))))
    fin_cases b
    · exact absurd rfl hb
    · rfl
  by_cases c14 : (r : ℕ) < 1920
  · refine (concatenate_apply_piece (t := S2048x256) 0 _ _ (ix2 r l) 14 (by simp) S128x256 p14 rfl rfl 1792 rfl (ix2 ⟨(r : ℕ) - 1792, by omega⟩ l)
      (fun b hb => ?_) (show 1792 + ((r : ℕ) - 1792) = (r : ℕ) by omega)).trans ((h14 _ _).trans (congrArg (fun q => G q l) (Fin.ext (by dsimp only <;> omega))))
    fin_cases b
    · exact absurd rfl hb
    · rfl
  · refine (concatenate_apply_piece (t := S2048x256) 0 _ _ (ix2 r l) 15 (by simp) S128x256 p15 rfl rfl 1920 rfl (ix2 ⟨(r : ℕ) - 1920, by omega⟩ l)
      (fun b hb => ?_) (show 1920 + ((r : ℕ) - 1920) = (r : ℕ) by omega)).trans ((h15 _ _).trans (congrArg (fun q => G q l) (Fin.ext (by dsimp only <;> omega))))
    fin_cases b
    · exact absurd rfl hb
    · rfl

/-- A chunk's product into a zero accumulator, read at an index. -/
theorem chunk_apply (w : FVec Ideal S4096x256 .bf16) (v : FVec Ideal S128x4096 .bf16) (r : Fin 128) (l : Fin 256) :
    matmul dot_S128x4096_S4096x256_S128x256_1_0_0_1_n_n none v w (constant S128x256 .f32 0x00000000#32) (ix2 r l)
      = ∑ k : Fin 4096, v (ix2 r k) * w (ix2 k l) := by
  pointwise []

set_option maxHeartbeats 16000000 in
/-- Eight sequences of eight rows and then 248: row `r` of them all is the row of its piece. -/
theorem lead_apply (G : Fin 2048 → Fin 256 → EReal) (h0 h1 h2 h3 h4 h5 h6 h7 : FVec Ideal S8x256 .f32) (b0 b1 b2 b3 b4 b5 b6 b7 : FVec Ideal S248x256 .f32)
    (e0 : ∀ (r : Fin 8) (l : Fin 256), h0 (ix2 r l) = G ⟨0 + r, by omega⟩ l)
    (e1 : ∀ (r : Fin 248) (l : Fin 256), b0 (ix2 r l) = G ⟨8 + r, by omega⟩ l)
    (e2 : ∀ (r : Fin 8) (l : Fin 256), h1 (ix2 r l) = G ⟨256 + r, by omega⟩ l)
    (e3 : ∀ (r : Fin 248) (l : Fin 256), b1 (ix2 r l) = G ⟨264 + r, by omega⟩ l)
    (e4 : ∀ (r : Fin 8) (l : Fin 256), h2 (ix2 r l) = G ⟨512 + r, by omega⟩ l)
    (e5 : ∀ (r : Fin 248) (l : Fin 256), b2 (ix2 r l) = G ⟨520 + r, by omega⟩ l)
    (e6 : ∀ (r : Fin 8) (l : Fin 256), h3 (ix2 r l) = G ⟨768 + r, by omega⟩ l)
    (e7 : ∀ (r : Fin 248) (l : Fin 256), b3 (ix2 r l) = G ⟨776 + r, by omega⟩ l)
    (e8 : ∀ (r : Fin 8) (l : Fin 256), h4 (ix2 r l) = G ⟨1024 + r, by omega⟩ l)
    (e9 : ∀ (r : Fin 248) (l : Fin 256), b4 (ix2 r l) = G ⟨1032 + r, by omega⟩ l)
    (e10 : ∀ (r : Fin 8) (l : Fin 256), h5 (ix2 r l) = G ⟨1280 + r, by omega⟩ l)
    (e11 : ∀ (r : Fin 248) (l : Fin 256), b5 (ix2 r l) = G ⟨1288 + r, by omega⟩ l)
    (e12 : ∀ (r : Fin 8) (l : Fin 256), h6 (ix2 r l) = G ⟨1536 + r, by omega⟩ l)
    (e13 : ∀ (r : Fin 248) (l : Fin 256), b6 (ix2 r l) = G ⟨1544 + r, by omega⟩ l)
    (e14 : ∀ (r : Fin 8) (l : Fin 256), h7 (ix2 r l) = G ⟨1792 + r, by omega⟩ l)
    (e15 : ∀ (r : Fin 248) (l : Fin 256), b7 (ix2 r l) = G ⟨1800 + r, by omega⟩ l)
    (r : Fin 2048) (l : Fin 256) :
    concatenate S2048x256 0 [⟨S8x256, h0⟩, ⟨S248x256, b0⟩, ⟨S8x256, h1⟩, ⟨S248x256, b1⟩, ⟨S8x256, h2⟩, ⟨S248x256, b2⟩, ⟨S8x256, h3⟩, ⟨S248x256, b3⟩, ⟨S8x256, h4⟩, ⟨S248x256, b4⟩, ⟨S8x256, h5⟩, ⟨S248x256, b5⟩, ⟨S8x256, h6⟩, ⟨S248x256, b6⟩, ⟨S8x256, h7⟩, ⟨S248x256, b7⟩]
      concatenates_S8x256_S248x256_S8x256_S248x256_S8x256_S248x256_S8x256_S248x256_S8x256_S248x256_S8x256_S248x256_S8x256_S248x256_S8x256_S248x256_S2048x256_d0 (ix2 r l) = G r l := by
  by_cases c0 : (r : ℕ) < 8
  · refine (concatenate_apply_piece (t := S2048x256) 0 _ _ (ix2 r l) 0 (by simp) S8x256 h0 rfl rfl 0 rfl (ix2 ⟨(r : ℕ) - 0, by omega⟩ l)
      (fun b hb => ?_) (show 0 + ((r : ℕ) - 0) = (r : ℕ) by omega)).trans ((e0 _ _).trans (congrArg (fun q => G q l) (Fin.ext (by dsimp only <;> omega))))
    fin_cases b
    · exact absurd rfl hb
    · rfl
  by_cases c1 : (r : ℕ) < 256
  · refine (concatenate_apply_piece (t := S2048x256) 0 _ _ (ix2 r l) 1 (by simp) S248x256 b0 rfl rfl 8 rfl (ix2 ⟨(r : ℕ) - 8, by omega⟩ l)
      (fun b hb => ?_) (show 8 + ((r : ℕ) - 8) = (r : ℕ) by omega)).trans ((e1 _ _).trans (congrArg (fun q => G q l) (Fin.ext (by dsimp only <;> omega))))
    fin_cases b
    · exact absurd rfl hb
    · rfl
  by_cases c2 : (r : ℕ) < 264
  · refine (concatenate_apply_piece (t := S2048x256) 0 _ _ (ix2 r l) 2 (by simp) S8x256 h1 rfl rfl 256 rfl (ix2 ⟨(r : ℕ) - 256, by omega⟩ l)
      (fun b hb => ?_) (show 256 + ((r : ℕ) - 256) = (r : ℕ) by omega)).trans ((e2 _ _).trans (congrArg (fun q => G q l) (Fin.ext (by dsimp only <;> omega))))
    fin_cases b
    · exact absurd rfl hb
    · rfl
  by_cases c3 : (r : ℕ) < 512
  · refine (concatenate_apply_piece (t := S2048x256) 0 _ _ (ix2 r l) 3 (by simp) S248x256 b1 rfl rfl 264 rfl (ix2 ⟨(r : ℕ) - 264, by omega⟩ l)
      (fun b hb => ?_) (show 264 + ((r : ℕ) - 264) = (r : ℕ) by omega)).trans ((e3 _ _).trans (congrArg (fun q => G q l) (Fin.ext (by dsimp only <;> omega))))
    fin_cases b
    · exact absurd rfl hb
    · rfl
  by_cases c4 : (r : ℕ) < 520
  · refine (concatenate_apply_piece (t := S2048x256) 0 _ _ (ix2 r l) 4 (by simp) S8x256 h2 rfl rfl 512 rfl (ix2 ⟨(r : ℕ) - 512, by omega⟩ l)
      (fun b hb => ?_) (show 512 + ((r : ℕ) - 512) = (r : ℕ) by omega)).trans ((e4 _ _).trans (congrArg (fun q => G q l) (Fin.ext (by dsimp only <;> omega))))
    fin_cases b
    · exact absurd rfl hb
    · rfl
  by_cases c5 : (r : ℕ) < 768
  · refine (concatenate_apply_piece (t := S2048x256) 0 _ _ (ix2 r l) 5 (by simp) S248x256 b2 rfl rfl 520 rfl (ix2 ⟨(r : ℕ) - 520, by omega⟩ l)
      (fun b hb => ?_) (show 520 + ((r : ℕ) - 520) = (r : ℕ) by omega)).trans ((e5 _ _).trans (congrArg (fun q => G q l) (Fin.ext (by dsimp only <;> omega))))
    fin_cases b
    · exact absurd rfl hb
    · rfl
  by_cases c6 : (r : ℕ) < 776
  · refine (concatenate_apply_piece (t := S2048x256) 0 _ _ (ix2 r l) 6 (by simp) S8x256 h3 rfl rfl 768 rfl (ix2 ⟨(r : ℕ) - 768, by omega⟩ l)
      (fun b hb => ?_) (show 768 + ((r : ℕ) - 768) = (r : ℕ) by omega)).trans ((e6 _ _).trans (congrArg (fun q => G q l) (Fin.ext (by dsimp only <;> omega))))
    fin_cases b
    · exact absurd rfl hb
    · rfl
  by_cases c7 : (r : ℕ) < 1024
  · refine (concatenate_apply_piece (t := S2048x256) 0 _ _ (ix2 r l) 7 (by simp) S248x256 b3 rfl rfl 776 rfl (ix2 ⟨(r : ℕ) - 776, by omega⟩ l)
      (fun b hb => ?_) (show 776 + ((r : ℕ) - 776) = (r : ℕ) by omega)).trans ((e7 _ _).trans (congrArg (fun q => G q l) (Fin.ext (by dsimp only <;> omega))))
    fin_cases b
    · exact absurd rfl hb
    · rfl
  by_cases c8 : (r : ℕ) < 1032
  · refine (concatenate_apply_piece (t := S2048x256) 0 _ _ (ix2 r l) 8 (by simp) S8x256 h4 rfl rfl 1024 rfl (ix2 ⟨(r : ℕ) - 1024, by omega⟩ l)
      (fun b hb => ?_) (show 1024 + ((r : ℕ) - 1024) = (r : ℕ) by omega)).trans ((e8 _ _).trans (congrArg (fun q => G q l) (Fin.ext (by dsimp only <;> omega))))
    fin_cases b
    · exact absurd rfl hb
    · rfl
  by_cases c9 : (r : ℕ) < 1280
  · refine (concatenate_apply_piece (t := S2048x256) 0 _ _ (ix2 r l) 9 (by simp) S248x256 b4 rfl rfl 1032 rfl (ix2 ⟨(r : ℕ) - 1032, by omega⟩ l)
      (fun b hb => ?_) (show 1032 + ((r : ℕ) - 1032) = (r : ℕ) by omega)).trans ((e9 _ _).trans (congrArg (fun q => G q l) (Fin.ext (by dsimp only <;> omega))))
    fin_cases b
    · exact absurd rfl hb
    · rfl
  by_cases c10 : (r : ℕ) < 1288
  · refine (concatenate_apply_piece (t := S2048x256) 0 _ _ (ix2 r l) 10 (by simp) S8x256 h5 rfl rfl 1280 rfl (ix2 ⟨(r : ℕ) - 1280, by omega⟩ l)
      (fun b hb => ?_) (show 1280 + ((r : ℕ) - 1280) = (r : ℕ) by omega)).trans ((e10 _ _).trans (congrArg (fun q => G q l) (Fin.ext (by dsimp only <;> omega))))
    fin_cases b
    · exact absurd rfl hb
    · rfl
  by_cases c11 : (r : ℕ) < 1536
  · refine (concatenate_apply_piece (t := S2048x256) 0 _ _ (ix2 r l) 11 (by simp) S248x256 b5 rfl rfl 1288 rfl (ix2 ⟨(r : ℕ) - 1288, by omega⟩ l)
      (fun b hb => ?_) (show 1288 + ((r : ℕ) - 1288) = (r : ℕ) by omega)).trans ((e11 _ _).trans (congrArg (fun q => G q l) (Fin.ext (by dsimp only <;> omega))))
    fin_cases b
    · exact absurd rfl hb
    · rfl
  by_cases c12 : (r : ℕ) < 1544
  · refine (concatenate_apply_piece (t := S2048x256) 0 _ _ (ix2 r l) 12 (by simp) S8x256 h6 rfl rfl 1536 rfl (ix2 ⟨(r : ℕ) - 1536, by omega⟩ l)
      (fun b hb => ?_) (show 1536 + ((r : ℕ) - 1536) = (r : ℕ) by omega)).trans ((e12 _ _).trans (congrArg (fun q => G q l) (Fin.ext (by dsimp only <;> omega))))
    fin_cases b
    · exact absurd rfl hb
    · rfl
  by_cases c13 : (r : ℕ) < 1792
  · refine (concatenate_apply_piece (t := S2048x256) 0 _ _ (ix2 r l) 13 (by simp) S248x256 b6 rfl rfl 1544 rfl (ix2 ⟨(r : ℕ) - 1544, by omega⟩ l)
      (fun b hb => ?_) (show 1544 + ((r : ℕ) - 1544) = (r : ℕ) by omega)).trans ((e13 _ _).trans (congrArg (fun q => G q l) (Fin.ext (by dsimp only <;> omega))))
    fin_cases b
    · exact absurd rfl hb
    · rfl
  by_cases c14 : (r : ℕ) < 1800
  · refine (concatenate_apply_piece (t := S2048x256) 0 _ _ (ix2 r l) 14 (by simp) S8x256 h7 rfl rfl 1792 rfl (ix2 ⟨(r : ℕ) - 1792, by omega⟩ l)
      (fun b hb => ?_) (show 1792 + ((r : ℕ) - 1792) = (r : ℕ) by omega)).trans ((e14 _ _).trans (congrArg (fun q => G q l) (Fin.ext (by dsimp only <;> omega))))
    fin_cases b
    · exact absurd rfl hb
    · rfl
  · refine (concatenate_apply_piece (t := S2048x256) 0 _ _ (ix2 r l) 15 (by simp) S248x256 b7 rfl rfl 1800 rfl (ix2 ⟨(r : ℕ) - 1800, by omega⟩ l)
      (fun b hb => ?_) (show 1800 + ((r : ℕ) - 1800) = (r : ℕ) by omega)).trans ((e15 _ _).trans (congrArg (fun q => G q l) (Fin.ext (by dsimp only <;> omega))))
    fin_cases b
    · exact absurd rfl hb
    · rfl

set_option maxHeartbeats 16000000 in
/-- Eight sequences of 248 rows and then eight: row `r` of them all is the row of its piece. -/
theorem trail_apply (G : Fin 2048 → Fin 256 → EReal) (h0 h1 h2 h3 h4 h5 h6 h7 : FVec Ideal S8x256 .f32) (b0 b1 b2 b3 b4 b5 b6 b7 : FVec Ideal S248x256 .f32)
    (e0 : ∀ (r : Fin 248) (l : Fin 256), b0 (ix2 r l) = G ⟨0 + r, by omega⟩ l)
    (e1 : ∀ (r : Fin 8) (l : Fin 256), h0 (ix2 r l) = G ⟨248 + r, by omega⟩ l)
    (e2 : ∀ (r : Fin 248) (l : Fin 256), b1 (ix2 r l) = G ⟨256 + r, by omega⟩ l)
    (e3 : ∀ (r : Fin 8) (l : Fin 256), h1 (ix2 r l) = G ⟨504 + r, by omega⟩ l)
    (e4 : ∀ (r : Fin 248) (l : Fin 256), b2 (ix2 r l) = G ⟨512 + r, by omega⟩ l)
    (e5 : ∀ (r : Fin 8) (l : Fin 256), h2 (ix2 r l) = G ⟨760 + r, by omega⟩ l)
    (e6 : ∀ (r : Fin 248) (l : Fin 256), b3 (ix2 r l) = G ⟨768 + r, by omega⟩ l)
    (e7 : ∀ (r : Fin 8) (l : Fin 256), h3 (ix2 r l) = G ⟨1016 + r, by omega⟩ l)
    (e8 : ∀ (r : Fin 248) (l : Fin 256), b4 (ix2 r l) = G ⟨1024 + r, by omega⟩ l)
    (e9 : ∀ (r : Fin 8) (l : Fin 256), h4 (ix2 r l) = G ⟨1272 + r, by omega⟩ l)
    (e10 : ∀ (r : Fin 248) (l : Fin 256), b5 (ix2 r l) = G ⟨1280 + r, by omega⟩ l)
    (e11 : ∀ (r : Fin 8) (l : Fin 256), h5 (ix2 r l) = G ⟨1528 + r, by omega⟩ l)
    (e12 : ∀ (r : Fin 248) (l : Fin 256), b6 (ix2 r l) = G ⟨1536 + r, by omega⟩ l)
    (e13 : ∀ (r : Fin 8) (l : Fin 256), h6 (ix2 r l) = G ⟨1784 + r, by omega⟩ l)
    (e14 : ∀ (r : Fin 248) (l : Fin 256), b7 (ix2 r l) = G ⟨1792 + r, by omega⟩ l)
    (e15 : ∀ (r : Fin 8) (l : Fin 256), h7 (ix2 r l) = G ⟨2040 + r, by omega⟩ l)
    (r : Fin 2048) (l : Fin 256) :
    concatenate S2048x256 0 [⟨S248x256, b0⟩, ⟨S8x256, h0⟩, ⟨S248x256, b1⟩, ⟨S8x256, h1⟩, ⟨S248x256, b2⟩, ⟨S8x256, h2⟩, ⟨S248x256, b3⟩, ⟨S8x256, h3⟩, ⟨S248x256, b4⟩, ⟨S8x256, h4⟩, ⟨S248x256, b5⟩, ⟨S8x256, h5⟩, ⟨S248x256, b6⟩, ⟨S8x256, h6⟩, ⟨S248x256, b7⟩, ⟨S8x256, h7⟩]
      concatenates_S248x256_S8x256_S248x256_S8x256_S248x256_S8x256_S248x256_S8x256_S248x256_S8x256_S248x256_S8x256_S248x256_S8x256_S248x256_S8x256_S2048x256_d0 (ix2 r l) = G r l := by
  by_cases c0 : (r : ℕ) < 248
  · refine (concatenate_apply_piece (t := S2048x256) 0 _ _ (ix2 r l) 0 (by simp) S248x256 b0 rfl rfl 0 rfl (ix2 ⟨(r : ℕ) - 0, by omega⟩ l)
      (fun b hb => ?_) (show 0 + ((r : ℕ) - 0) = (r : ℕ) by omega)).trans ((e0 _ _).trans (congrArg (fun q => G q l) (Fin.ext (by dsimp only <;> omega))))
    fin_cases b
    · exact absurd rfl hb
    · rfl
  by_cases c1 : (r : ℕ) < 256
  · refine (concatenate_apply_piece (t := S2048x256) 0 _ _ (ix2 r l) 1 (by simp) S8x256 h0 rfl rfl 248 rfl (ix2 ⟨(r : ℕ) - 248, by omega⟩ l)
      (fun b hb => ?_) (show 248 + ((r : ℕ) - 248) = (r : ℕ) by omega)).trans ((e1 _ _).trans (congrArg (fun q => G q l) (Fin.ext (by dsimp only <;> omega))))
    fin_cases b
    · exact absurd rfl hb
    · rfl
  by_cases c2 : (r : ℕ) < 504
  · refine (concatenate_apply_piece (t := S2048x256) 0 _ _ (ix2 r l) 2 (by simp) S248x256 b1 rfl rfl 256 rfl (ix2 ⟨(r : ℕ) - 256, by omega⟩ l)
      (fun b hb => ?_) (show 256 + ((r : ℕ) - 256) = (r : ℕ) by omega)).trans ((e2 _ _).trans (congrArg (fun q => G q l) (Fin.ext (by dsimp only <;> omega))))
    fin_cases b
    · exact absurd rfl hb
    · rfl
  by_cases c3 : (r : ℕ) < 512
  · refine (concatenate_apply_piece (t := S2048x256) 0 _ _ (ix2 r l) 3 (by simp) S8x256 h1 rfl rfl 504 rfl (ix2 ⟨(r : ℕ) - 504, by omega⟩ l)
      (fun b hb => ?_) (show 504 + ((r : ℕ) - 504) = (r : ℕ) by omega)).trans ((e3 _ _).trans (congrArg (fun q => G q l) (Fin.ext (by dsimp only <;> omega))))
    fin_cases b
    · exact absurd rfl hb
    · rfl
  by_cases c4 : (r : ℕ) < 760
  · refine (concatenate_apply_piece (t := S2048x256) 0 _ _ (ix2 r l) 4 (by simp) S248x256 b2 rfl rfl 512 rfl (ix2 ⟨(r : ℕ) - 512, by omega⟩ l)
      (fun b hb => ?_) (show 512 + ((r : ℕ) - 512) = (r : ℕ) by omega)).trans ((e4 _ _).trans (congrArg (fun q => G q l) (Fin.ext (by dsimp only <;> omega))))
    fin_cases b
    · exact absurd rfl hb
    · rfl
  by_cases c5 : (r : ℕ) < 768
  · refine (concatenate_apply_piece (t := S2048x256) 0 _ _ (ix2 r l) 5 (by simp) S8x256 h2 rfl rfl 760 rfl (ix2 ⟨(r : ℕ) - 760, by omega⟩ l)
      (fun b hb => ?_) (show 760 + ((r : ℕ) - 760) = (r : ℕ) by omega)).trans ((e5 _ _).trans (congrArg (fun q => G q l) (Fin.ext (by dsimp only <;> omega))))
    fin_cases b
    · exact absurd rfl hb
    · rfl
  by_cases c6 : (r : ℕ) < 1016
  · refine (concatenate_apply_piece (t := S2048x256) 0 _ _ (ix2 r l) 6 (by simp) S248x256 b3 rfl rfl 768 rfl (ix2 ⟨(r : ℕ) - 768, by omega⟩ l)
      (fun b hb => ?_) (show 768 + ((r : ℕ) - 768) = (r : ℕ) by omega)).trans ((e6 _ _).trans (congrArg (fun q => G q l) (Fin.ext (by dsimp only <;> omega))))
    fin_cases b
    · exact absurd rfl hb
    · rfl
  by_cases c7 : (r : ℕ) < 1024
  · refine (concatenate_apply_piece (t := S2048x256) 0 _ _ (ix2 r l) 7 (by simp) S8x256 h3 rfl rfl 1016 rfl (ix2 ⟨(r : ℕ) - 1016, by omega⟩ l)
      (fun b hb => ?_) (show 1016 + ((r : ℕ) - 1016) = (r : ℕ) by omega)).trans ((e7 _ _).trans (congrArg (fun q => G q l) (Fin.ext (by dsimp only <;> omega))))
    fin_cases b
    · exact absurd rfl hb
    · rfl
  by_cases c8 : (r : ℕ) < 1272
  · refine (concatenate_apply_piece (t := S2048x256) 0 _ _ (ix2 r l) 8 (by simp) S248x256 b4 rfl rfl 1024 rfl (ix2 ⟨(r : ℕ) - 1024, by omega⟩ l)
      (fun b hb => ?_) (show 1024 + ((r : ℕ) - 1024) = (r : ℕ) by omega)).trans ((e8 _ _).trans (congrArg (fun q => G q l) (Fin.ext (by dsimp only <;> omega))))
    fin_cases b
    · exact absurd rfl hb
    · rfl
  by_cases c9 : (r : ℕ) < 1280
  · refine (concatenate_apply_piece (t := S2048x256) 0 _ _ (ix2 r l) 9 (by simp) S8x256 h4 rfl rfl 1272 rfl (ix2 ⟨(r : ℕ) - 1272, by omega⟩ l)
      (fun b hb => ?_) (show 1272 + ((r : ℕ) - 1272) = (r : ℕ) by omega)).trans ((e9 _ _).trans (congrArg (fun q => G q l) (Fin.ext (by dsimp only <;> omega))))
    fin_cases b
    · exact absurd rfl hb
    · rfl
  by_cases c10 : (r : ℕ) < 1528
  · refine (concatenate_apply_piece (t := S2048x256) 0 _ _ (ix2 r l) 10 (by simp) S248x256 b5 rfl rfl 1280 rfl (ix2 ⟨(r : ℕ) - 1280, by omega⟩ l)
      (fun b hb => ?_) (show 1280 + ((r : ℕ) - 1280) = (r : ℕ) by omega)).trans ((e10 _ _).trans (congrArg (fun q => G q l) (Fin.ext (by dsimp only <;> omega))))
    fin_cases b
    · exact absurd rfl hb
    · rfl
  by_cases c11 : (r : ℕ) < 1536
  · refine (concatenate_apply_piece (t := S2048x256) 0 _ _ (ix2 r l) 11 (by simp) S8x256 h5 rfl rfl 1528 rfl (ix2 ⟨(r : ℕ) - 1528, by omega⟩ l)
      (fun b hb => ?_) (show 1528 + ((r : ℕ) - 1528) = (r : ℕ) by omega)).trans ((e11 _ _).trans (congrArg (fun q => G q l) (Fin.ext (by dsimp only <;> omega))))
    fin_cases b
    · exact absurd rfl hb
    · rfl
  by_cases c12 : (r : ℕ) < 1784
  · refine (concatenate_apply_piece (t := S2048x256) 0 _ _ (ix2 r l) 12 (by simp) S248x256 b6 rfl rfl 1536 rfl (ix2 ⟨(r : ℕ) - 1536, by omega⟩ l)
      (fun b hb => ?_) (show 1536 + ((r : ℕ) - 1536) = (r : ℕ) by omega)).trans ((e12 _ _).trans (congrArg (fun q => G q l) (Fin.ext (by dsimp only <;> omega))))
    fin_cases b
    · exact absurd rfl hb
    · rfl
  by_cases c13 : (r : ℕ) < 1792
  · refine (concatenate_apply_piece (t := S2048x256) 0 _ _ (ix2 r l) 13 (by simp) S8x256 h6 rfl rfl 1784 rfl (ix2 ⟨(r : ℕ) - 1784, by omega⟩ l)
      (fun b hb => ?_) (show 1784 + ((r : ℕ) - 1784) = (r : ℕ) by omega)).trans ((e13 _ _).trans (congrArg (fun q => G q l) (Fin.ext (by dsimp only <;> omega))))
    fin_cases b
    · exact absurd rfl hb
    · rfl
  by_cases c14 : (r : ℕ) < 2040
  · refine (concatenate_apply_piece (t := S2048x256) 0 _ _ (ix2 r l) 14 (by simp) S248x256 b7 rfl rfl 1792 rfl (ix2 ⟨(r : ℕ) - 1792, by omega⟩ l)
      (fun b hb => ?_) (show 1792 + ((r : ℕ) - 1792) = (r : ℕ) by omega)).trans ((e14 _ _).trans (congrArg (fun q => G q l) (Fin.ext (by dsimp only <;> omega))))
    fin_cases b
    · exact absurd rfl hb
    · rfl
  · refine (concatenate_apply_piece (t := S2048x256) 0 _ _ (ix2 r l) 15 (by simp) S8x256 h7 rfl rfl 2040 rfl (ix2 ⟨(r : ℕ) - 2040, by omega⟩ l)
      (fun b hb => ?_) (show 2040 + ((r : ℕ) - 2040) = (r : ℕ) by omega)).trans ((e15 _ _).trans (congrArg (fun q => G q l) (Fin.ext (by dsimp only <;> omega))))
    fin_cases b
    · exact absurd rfl hb
    · rfl

/-- The mask of the first sublane of eight. -/
theorem select_ge (n : ℕ) (hn : n < 8) (a b : EReal) :
    Scalar.select (IntOp.cmpi CmpIPredicate.sge (BitVec.ofNat 32 n) 1#32) a b = if n = 0 then b else a := by
  interval_cases n <;> rfl

/-- The mask of the last sublane of eight. -/
theorem select_lt (n : ℕ) (hn : n < 8) (a b : EReal) :
    Scalar.select (IntOp.cmpi CmpIPredicate.slt (BitVec.ofNat 32 n) 7#32) a b = if n = 7 then b else a := by
  interval_cases n <;> rfl

/-- Sequence 0 of the tile. -/
def cut0 (A : FVec Ideal S2048x256 .f32) : FVec Ideal S256x256 .f32 :=
  extractStridedSlice S256x256 ![0, 0] A slices_S2048x256_o0_0_S256x256

/-- Its rows are the tile's. -/
theorem cut0_apply (A : FVec Ideal S2048x256 .f32) (r : Fin 256) (l : Fin 256) : cut0 A (ix2 r l) = A (ix2 ⟨0 + (r : ℕ), by omega⟩ l) := by
  pointwise [cut0]

/-- Sequence 1 of the tile. -/
def cut1 (A : FVec Ideal S2048x256 .f32) : FVec Ideal S256x256 .f32 :=
  extractStridedSlice S256x256 ![256, 0] A slices_S2048x256_o256_0_S256x256

/-- Its rows are the tile's. -/
theorem cut1_apply (A : FVec Ideal S2048x256 .f32) (r : Fin 256) (l : Fin 256) : cut1 A (ix2 r l) = A (ix2 ⟨256 + (r : ℕ), by omega⟩ l) := by
  pointwise [cut1]

/-- Sequence 2 of the tile. -/
def cut2 (A : FVec Ideal S2048x256 .f32) : FVec Ideal S256x256 .f32 :=
  extractStridedSlice S256x256 ![512, 0] A slices_S2048x256_o512_0_S256x256

/-- Its rows are the tile's. -/
theorem cut2_apply (A : FVec Ideal S2048x256 .f32) (r : Fin 256) (l : Fin 256) : cut2 A (ix2 r l) = A (ix2 ⟨512 + (r : ℕ), by omega⟩ l) := by
  pointwise [cut2]

/-- Sequence 3 of the tile. -/
def cut3 (A : FVec Ideal S2048x256 .f32) : FVec Ideal S256x256 .f32 :=
  extractStridedSlice S256x256 ![768, 0] A slices_S2048x256_o768_0_S256x256

/-- Its rows are the tile's. -/
theorem cut3_apply (A : FVec Ideal S2048x256 .f32) (r : Fin 256) (l : Fin 256) : cut3 A (ix2 r l) = A (ix2 ⟨768 + (r : ℕ), by omega⟩ l) := by
  pointwise [cut3]

/-- Sequence 4 of the tile. -/
def cut4 (A : FVec Ideal S2048x256 .f32) : FVec Ideal S256x256 .f32 :=
  extractStridedSlice S256x256 ![1024, 0] A slices_S2048x256_o1024_0_S256x256

/-- Its rows are the tile's. -/
theorem cut4_apply (A : FVec Ideal S2048x256 .f32) (r : Fin 256) (l : Fin 256) : cut4 A (ix2 r l) = A (ix2 ⟨1024 + (r : ℕ), by omega⟩ l) := by
  pointwise [cut4]

/-- Sequence 5 of the tile. -/
def cut5 (A : FVec Ideal S2048x256 .f32) : FVec Ideal S256x256 .f32 :=
  extractStridedSlice S256x256 ![1280, 0] A slices_S2048x256_o1280_0_S256x256

/-- Its rows are the tile's. -/
theorem cut5_apply (A : FVec Ideal S2048x256 .f32) (r : Fin 256) (l : Fin 256) : cut5 A (ix2 r l) = A (ix2 ⟨1280 + (r : ℕ), by omega⟩ l) := by
  pointwise [cut5]

/-- Sequence 6 of the tile. -/
def cut6 (A : FVec Ideal S2048x256 .f32) : FVec Ideal S256x256 .f32 :=
  extractStridedSlice S256x256 ![1536, 0] A slices_S2048x256_o1536_0_S256x256

/-- Its rows are the tile's. -/
theorem cut6_apply (A : FVec Ideal S2048x256 .f32) (r : Fin 256) (l : Fin 256) : cut6 A (ix2 r l) = A (ix2 ⟨1536 + (r : ℕ), by omega⟩ l) := by
  pointwise [cut6]

/-- Sequence 7 of the tile. -/
def cut7 (A : FVec Ideal S2048x256 .f32) : FVec Ideal S256x256 .f32 :=
  extractStridedSlice S256x256 ![1792, 0] A slices_S2048x256_o1792_0_S256x256

/-- Its rows are the tile's. -/
theorem cut7_apply (A : FVec Ideal S2048x256 .f32) (r : Fin 256) (l : Fin 256) : cut7 A (ix2 r l) = A (ix2 ⟨1792 + (r : ℕ), by omega⟩ l) := by
  pointwise [cut7]

/-- The first eight rows of a sequence moved back: the last eight, one sublane on, with zero first. -/
def first (B : FVec Ideal S256x256 .f32) : FVec Ideal S8x256 .f32 :=
  select (cmpi .sge (iota .tc S8x256 32 [0] iota_S8x256_d0_w32) (broadcast S8x256 1#32))
    (dynamicRotate 0 1#32 none (extractStridedSlice S8x256 ![248, 0] B slices_S256x256_o248_0_S8x256) rotates_S8x256_d0)
    (broadcast S8x256 (Scalar.ofBits .f32 0x00000000#32))

/-- The last eight rows of a sequence moved on: the first eight, one sublane back, with zero last. -/
def last (B : FVec Ideal S256x256 .f32) : FVec Ideal S8x256 .f32 :=
  select (cmpi .slt (iota .tc S8x256 32 [0] iota_S8x256_d0_w32) (broadcast S8x256 7#32))
    (dynamicRotate 0 7#32 none (extractStridedSlice S8x256 ![0, 0] B slices_S256x256_o0_0_S8x256) rotates_S8x256_d0)
    (broadcast S8x256 (Scalar.ofBits .f32 0x00000000#32))

/-- The sequence without its last eight rows. -/
def front (B : FVec Ideal S256x256 .f32) : FVec Ideal S248x256 .f32 :=
  extractStridedSlice S248x256 ![0, 0] B slices_S256x256_o0_0_S248x256

/-- The sequence without its first eight rows. -/
def rear (B : FVec Ideal S256x256 .f32) : FVec Ideal S248x256 .f32 :=
  extractStridedSlice S248x256 ![8, 0] B slices_S256x256_o8_0_S248x256

/-- `first` at a row. -/
theorem first_apply (B : FVec Ideal S256x256 .f32) (r : Fin 8) (l : Fin 256) :
    first B (ix2 r l) = if (r : ℕ) = 0 then 0 else B (ix2 ⟨247 + (r : ℕ), by omega⟩ l) := by
  pointwise [first]
  rw [select_ge _ r.isLt]
  by_cases z : (r : ℕ) = 0
  · rw [if_pos z, if_pos z]
  · rw [if_neg z, if_neg z]
    exact congrArg B (congrArg (fun q => ix2 q l) (Fin.ext (by dsimp only <;> omega)))

/-- `last` at a row. -/
theorem last_apply (B : FVec Ideal S256x256 .f32) (r : Fin 8) (l : Fin 256) :
    last B (ix2 r l) = if (r : ℕ) = 7 then 0 else B (ix2 ⟨((r : ℕ) + 1) % 8, by omega⟩ l) := by
  pointwise [last]
  rw [select_lt _ r.isLt]
  by_cases z : (r : ℕ) = 7
  · rw [if_pos z, if_pos z]
  · rw [if_neg z, if_neg z]
    exact congrArg B (congrArg (fun q => ix2 q l) (Fin.ext (by dsimp only <;> omega)))

/-- `front` at a row. -/
theorem front_apply (B : FVec Ideal S256x256 .f32) (r : Fin 248) (l : Fin 256) : front B (ix2 r l) = B (ix2 ⟨(r : ℕ), by omega⟩ l) := by
  pointwise [front]

/-- `rear` at a row. -/
theorem rear_apply (B : FVec Ideal S256x256 .f32) (r : Fin 248) (l : Fin 256) : rear B (ix2 r l) = B (ix2 ⟨8 + (r : ℕ), by omega⟩ l) := by
  pointwise [rear]

/-- The rows one place back in the interleaved order, zero before the first position of a sequence. -/
def back (A : FVec Ideal S2048x256 .f32) : FVec Ideal S2048x256 .f32 :=
  concatenate S2048x256 0
    [⟨S8x256, first (cut0 A)⟩, ⟨S248x256, front (cut0 A)⟩,
     ⟨S8x256, first (cut1 A)⟩, ⟨S248x256, front (cut1 A)⟩,
     ⟨S8x256, first (cut2 A)⟩, ⟨S248x256, front (cut2 A)⟩,
     ⟨S8x256, first (cut3 A)⟩, ⟨S248x256, front (cut3 A)⟩,
     ⟨S8x256, first (cut4 A)⟩, ⟨S248x256, front (cut4 A)⟩,
     ⟨S8x256, first (cut5 A)⟩, ⟨S248x256, front (cut5 A)⟩,
     ⟨S8x256, first (cut6 A)⟩, ⟨S248x256, front (cut6 A)⟩,
     ⟨S8x256, first (cut7 A)⟩, ⟨S248x256, front (cut7 A)⟩]
    concatenates_S8x256_S248x256_S8x256_S248x256_S8x256_S248x256_S8x256_S248x256_S8x256_S248x256_S8x256_S248x256_S8x256_S248x256_S8x256_S248x256_S2048x256_d0

/-- The rows one place on in the interleaved order, zero after the last position of a sequence. -/
def ahead (A : FVec Ideal S2048x256 .f32) : FVec Ideal S2048x256 .f32 :=
  concatenate S2048x256 0
    [⟨S248x256, rear (cut0 A)⟩, ⟨S8x256, last (cut0 A)⟩,
     ⟨S248x256, rear (cut1 A)⟩, ⟨S8x256, last (cut1 A)⟩,
     ⟨S248x256, rear (cut2 A)⟩, ⟨S8x256, last (cut2 A)⟩,
     ⟨S248x256, rear (cut3 A)⟩, ⟨S8x256, last (cut3 A)⟩,
     ⟨S248x256, rear (cut4 A)⟩, ⟨S8x256, last (cut4 A)⟩,
     ⟨S248x256, rear (cut5 A)⟩, ⟨S8x256, last (cut5 A)⟩,
     ⟨S248x256, rear (cut6 A)⟩, ⟨S8x256, last (cut6 A)⟩,
     ⟨S248x256, rear (cut7 A)⟩, ⟨S8x256, last (cut7 A)⟩]
    concatenates_S248x256_S8x256_S248x256_S8x256_S248x256_S8x256_S248x256_S8x256_S248x256_S8x256_S248x256_S8x256_S248x256_S8x256_S248x256_S8x256_S2048x256_d0

/-- The row one place back: eight rows up, or, in the first eight rows, the last row of the sublane before. -/
theorem back_apply (A : FVec Ideal S2048x256 .f32) (r : Fin 2048) (l : Fin 256) :
    back A (ix2 r l) = if h0 : (r : ℕ) % 256 = 0 then 0
      else if h1 : (r : ℕ) % 256 < 8 then A (ix2 ⟨(r : ℕ) + 247, by omega⟩ l) else A (ix2 ⟨(r : ℕ) - 8, by omega⟩ l) := by
  unfold back
  refine lead_apply (fun r l => if h0 : (r : ℕ) % 256 = 0 then 0
      else if h1 : (r : ℕ) % 256 < 8 then A (ix2 ⟨(r : ℕ) + 247, by omega⟩ l) else A (ix2 ⟨(r : ℕ) - 8, by omega⟩ l)) _ _ _ _ _ _ _ _ _ _ _ _ _ _ _ _
    ?_ ?_ ?_ ?_ ?_ ?_ ?_ ?_ ?_ ?_ ?_ ?_ ?_ ?_ ?_ ?_ r l <;> intro r l <;> beta_reduce
  · rw [first_apply]
    by_cases z : (r : ℕ) = 0
    · rw [if_pos z, dif_pos (by dsimp only <;> omega)]
    · rw [if_neg z, dif_neg (by dsimp only <;> omega), dif_pos (by dsimp only <;> omega), cut0_apply]
      exact congrArg A (congrArg (fun q => ix2 q l) (Fin.ext (by dsimp only <;> omega)))
  · rw [front_apply, dif_neg (by dsimp only <;> omega), dif_neg (by dsimp only <;> omega), cut0_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut1_apply]
      exact congrArg A (congrArg (fun q => ix2 q l) (Fin.ext (by dsimp only <;> omega)))
  · rw [front_apply, dif_neg (by dsimp only <;> omega), dif_neg (by dsimp only <;> omega), cut1_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut2_apply]
      exact congrArg A (congrArg (fun q => ix2 q l) (Fin.ext (by dsimp only <;> omega)))
  · rw [front_apply, dif_neg (by dsimp only <;> omega), dif_neg (by dsimp only <;> omega), cut2_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut3_apply]
      exact congrArg A (congrArg (fun q => ix2 q l) (Fin.ext (by dsimp only <;> omega)))
  · rw [front_apply, dif_neg (by dsimp only <;> omega), dif_neg (by dsimp only <;> omega), cut3_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut4_apply]
      exact congrArg A (congrArg (fun q => ix2 q l) (Fin.ext (by dsimp only <;> omega)))
  · rw [front_apply, dif_neg (by dsimp only <;> omega), dif_neg (by dsimp only <;> omega), cut4_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut5_apply]
      exact congrArg A (congrArg (fun q => ix2 q l) (Fin.ext (by dsimp only <;> omega)))
  · rw [front_apply, dif_neg (by dsimp only <;> omega), dif_neg (by dsimp only <;> omega), cut5_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut6_apply]
      exact congrArg A (congrArg (fun q => ix2 q l) (Fin.ext (by dsimp only <;> omega)))
  · rw [front_apply, dif_neg (by dsimp only <;> omega), dif_neg (by dsimp only <;> omega), cut6_apply]
    exact congrArg A (congrArg (fun q => ix2 q l) (Fin.ext (by dsimp only <;> omega)))
  · rw [first_apply]
    by_cases z : (r : ℕ) = 0
    · rw [if_pos z, dif_pos (by dsimp only <;> omega)]
    · rw [if_neg z, dif_neg (by dsimp only <;> omega), dif_pos (by dsimp only <;> omega), cut7_apply]
      exact congrArg A (congrArg (fun q => ix2 q l) (Fin.ext (by dsimp only <;> omega)))
  · rw [front_apply, dif_neg (by dsimp only <;> omega), dif_neg (by dsimp only <;> omega), cut7_apply]
    exact congrArg A (congrArg (fun q => ix2 q l) (Fin.ext (by dsimp only <;> omega)))

/-- The row one place on: eight rows down, or, in the last eight rows, the first row of the sublane after. -/
theorem ahead_apply (A : FVec Ideal S2048x256 .f32) (r : Fin 2048) (l : Fin 256) :
    ahead A (ix2 r l) = if h0 : (r : ℕ) % 256 = 255 then 0
      else if h1 : 248 ≤ (r : ℕ) % 256 then A (ix2 ⟨(r : ℕ) - 247, by omega⟩ l) else A (ix2 ⟨(r : ℕ) + 8, by have := r.isLt; omega⟩ l) := by
  unfold ahead
  refine trail_apply (fun r l => if h0 : (r : ℕ) % 256 = 255 then 0
      else if h1 : 248 ≤ (r : ℕ) % 256 then A (ix2 ⟨(r : ℕ) - 247, by omega⟩ l) else A (ix2 ⟨(r : ℕ) + 8, by have := r.isLt; omega⟩ l)) _ _ _ _ _ _ _ _ _ _ _ _ _ _ _ _
    ?_ ?_ ?_ ?_ ?_ ?_ ?_ ?_ ?_ ?_ ?_ ?_ ?_ ?_ ?_ ?_ r l <;> intro r l <;> beta_reduce
  · rw [rear_apply, dif_neg (by dsimp only <;> omega), dif_neg (by dsimp only <;> omega), cut0_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut0_apply]
      exact congrArg A (congrArg (fun q => ix2 q l) (Fin.ext (by dsimp only <;> omega)))
  · rw [rear_apply, dif_neg (by dsimp only <;> omega), dif_neg (by dsimp only <;> omega), cut1_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut1_apply]
      exact congrArg A (congrArg (fun q => ix2 q l) (Fin.ext (by dsimp only <;> omega)))
  · rw [rear_apply, dif_neg (by dsimp only <;> omega), dif_neg (by dsimp only <;> omega), cut2_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut2_apply]
      exact congrArg A (congrArg (fun q => ix2 q l) (Fin.ext (by dsimp only <;> omega)))
  · rw [rear_apply, dif_neg (by dsimp only <;> omega), dif_neg (by dsimp only <;> omega), cut3_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut3_apply]
      exact congrArg A (congrArg (fun q => ix2 q l) (Fin.ext (by dsimp only <;> omega)))
  · rw [rear_apply, dif_neg (by dsimp only <;> omega), dif_neg (by dsimp only <;> omega), cut4_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut4_apply]
      exact congrArg A (congrArg (fun q => ix2 q l) (Fin.ext (by dsimp only <;> omega)))
  · rw [rear_apply, dif_neg (by dsimp only <;> omega), dif_neg (by dsimp only <;> omega), cut5_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut5_apply]
      exact congrArg A (congrArg (fun q => ix2 q l) (Fin.ext (by dsimp only <;> omega)))
  · rw [rear_apply, dif_neg (by dsimp only <;> omega), dif_neg (by dsimp only <;> omega), cut6_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut6_apply]
      exact congrArg A (congrArg (fun q => ix2 q l) (Fin.ext (by dsimp only <;> omega)))
  · rw [rear_apply, dif_neg (by dsimp only <;> omega), dif_neg (by dsimp only <;> omega), cut7_apply]
    exact congrArg A (congrArg (fun q => ix2 q l) (Fin.ext (by dsimp only <;> omega)))
  · rw [last_apply]
    by_cases z : (r : ℕ) = 7
    · rw [if_pos z, dif_pos (by dsimp only <;> omega)]
    · rw [if_neg z, dif_neg (by dsimp only <;> omega), dif_pos (by dsimp only <;> omega), cut7_apply]
      exact congrArg A (congrArg (fun q => ix2 q l) (Fin.ext (by dsimp only <;> omega)))

/-- The weight columns of a tile, as the kernel gives them to its product. -/
def cols (w : Vec Ideal S1x4096x256 .f32) : FVec Ideal S4096x256 .bf16 :=
  truncf .bf16 (shapeCast S4096x256 (View.ld w r0_0) shapeCasts_S1x4096x256_S4096x256) bitsLt_bf16_f32

/-- They are the block's. -/
theorem cols_apply (w : Vec Ideal S1x4096x256 .f32) (k : Fin 4096) (l : Fin 256) : cols w (ix2 k l) = w (ix3 0 k l) := by
  pointwise [cols]

/-- A chunk of 128 rows by some columns. -/
def chunk (v : FVec Ideal S128x4096 .bf16) (w : FVec Ideal S4096x256 .bf16) : FVec Ideal S128x256 .f32 :=
  matmul (F := Ideal) (φ₁ := .bf16) (φ₂ := .bf16) dot_S128x4096_S4096x256_S128x256_1_0_0_1_n_n none v w (constant S128x256 .f32 0x00000000#32)

/-- The tile's product by some columns, assembled from its sixteen row chunks. -/
def rows (x : Vec Ideal S2048x4096 .bf16) (w : Vec Ideal S1x4096x256 .f32) : FVec Ideal S2048x256 .f32 :=
  concatenate S2048x256 0
    [⟨S128x256, chunk (View.ld x r0_1) (cols w)⟩,
     ⟨S128x256, chunk (View.ld x r0_2) (cols w)⟩,
     ⟨S128x256, chunk (View.ld x r0_3) (cols w)⟩,
     ⟨S128x256, chunk (View.ld x r0_4) (cols w)⟩,
     ⟨S128x256, chunk (View.ld x r0_5) (cols w)⟩,
     ⟨S128x256, chunk (View.ld x r0_6) (cols w)⟩,
     ⟨S128x256, chunk (View.ld x r0_7) (cols w)⟩,
     ⟨S128x256, chunk (View.ld x r0_8) (cols w)⟩,
     ⟨S128x256, chunk (View.ld x r0_9) (cols w)⟩,
     ⟨S128x256, chunk (View.ld x r0_10) (cols w)⟩,
     ⟨S128x256, chunk (View.ld x r0_11) (cols w)⟩,
     ⟨S128x256, chunk (View.ld x r0_12) (cols w)⟩,
     ⟨S128x256, chunk (View.ld x r0_13) (cols w)⟩,
     ⟨S128x256, chunk (View.ld x r0_14) (cols w)⟩,
     ⟨S128x256, chunk (View.ld x r0_15) (cols w)⟩,
     ⟨S128x256, chunk (View.ld x r0_16) (cols w)⟩]
    concatenates_S128x256_S128x256_S128x256_S128x256_S128x256_S128x256_S128x256_S128x256_S128x256_S128x256_S128x256_S128x256_S128x256_S128x256_S128x256_S128x256_S2048x256_d0

/-- Every row of it is the row's product by the columns. -/
theorem rows_apply (x : Vec Ideal S2048x4096 .bf16) (w : Vec Ideal S1x4096x256 .f32) (r : Fin 2048) (l : Fin 256) :
    rows x w (ix2 r l) = ∑ k : Fin 4096, x (ix2 r k) * w (ix3 0 k l) := by
  unfold rows
  refine stack_apply (fun r l => ∑ k : Fin 4096, x (ix2 r k) * w (ix3 0 k l)) _ _ _ _ _ _ _ _ _ _ _ _ _ _ _ _
    ?_ ?_ ?_ ?_ ?_ ?_ ?_ ?_ ?_ ?_ ?_ ?_ ?_ ?_ ?_ ?_ r l <;> intro r l
  all_goals
    refine (chunk_apply _ _ r l).trans (Finset.sum_congr rfl fun k _ => ?_)
    rw [cols_apply]
    refine congrArg (· * w (ix3 0 k l)) ?_
    pointwise []

variable (x0 : Vec Ideal S2048x4096 .bf16) (x1 x2 : Vec Ideal S1x4096x256 .f32) (x3 x4 : Vec Ideal S1x3x256 .f32)
  (x5 x6 : Vec Ideal S1x1x256 .f32)

/-- The tile the kernel stores, from its two products: each convolved with its three taps, the second gated. -/
def tile (U G : FVec Ideal S2048x256 .f32) (r : Fin 2048) (l : Fin 256) : EReal :=
  let u := x5 (ix3 0 0 l) + back U (ix2 r l) * x3 (ix3 0 0 l) + U (ix2 r l) * x3 (ix3 0 1 l) + ahead U (ix2 r l) * x3 (ix3 0 2 l)
  let g := x6 (ix3 0 0 l) + back G (ix2 r l) * x4 (ix3 0 0 l) + G (ix2 r l) * x4 (ix3 0 1 l) + ahead G (ix2 r l) * x4 (ix3 0 2 l)
  g * Ideal.logistic g * u

/-- The convolution of a product as the kernel writes it. -/
def conv (A : FVec Ideal S2048x256 .f32) (b w0 w1 w2 : Vec Ideal S1x1x256 .f32) : FVec Ideal S2048x256 .f32 :=
  addf (addf (addf (broadcastTo S2048x256 (shapeCast S1x256 b shapeCasts_S1x1x256_S1x256) broadcasts_S1x256_S2048x256)
      (mulf (back A) (broadcastTo S2048x256 (shapeCast S1x256 w0 shapeCasts_S1x1x256_S1x256) broadcasts_S1x256_S2048x256)))
      (mulf A (broadcastTo S2048x256 (shapeCast S1x256 w1 shapeCasts_S1x1x256_S1x256) broadcasts_S1x256_S2048x256)))
    (mulf (ahead A) (broadcastTo S2048x256 (shapeCast S1x256 w2 shapeCasts_S1x1x256_S1x256) broadcasts_S1x256_S2048x256))

/-- What the kernel stores: the second half's convolution gated by itself, times the first half's. -/
def stored : FVec Ideal S2048x256 .bf16 :=
  truncf .bf16 (mulf (mulf (conv (rows x0 x2) (View.ld x6 r0_17) (View.ld x4 r0_18) (View.ld x4 r0_19) (View.ld x4 r0_20))
    (logistic (conv (rows x0 x2) (View.ld x6 r0_17) (View.ld x4 r0_18) (View.ld x4 r0_19) (View.ld x4 r0_20))))
    (conv (rows x0 x1) (View.ld x5 r0_17) (View.ld x3 r0_18) (View.ld x3 r0_19) (View.ld x3 r0_20))) bitsLt_bf16_f32

/-- It is the tile. -/
theorem stored_apply (r : Fin 2048) (l : Fin 256) :
    stored x0 x1 x2 x3 x4 x5 x6 (ix2 r l) = tile x3 x4 x5 x6 (rows x0 x1) (rows x0 x2) r l := by
  pointwise [stored, tile, conv]

/-- What a grid point leaves in its output block. -/
theorem out_eq : out0_7 x0 x1 x2 x3 x4 x5 x6 = View.canon [⟨r0_21, stored x0 x1 x2 x3 x4 x5 x6⟩] := rfl

end Cert.FfnUpCtxIdeal.Conv
-- ==== Proof.FfnUpCtxRef.lean ====
/- The first feed-forward product's reference at the context batch's sequences, read at an index of its result. -/
module

public import proofs.«01_k».proof.Proof.Gen.UpCtxRefIdeal.Run
public import Idealize.ShloMosaic.Lib.Pipeline.ValueKit

@[expose] public section

set_option maxRecDepth 16384

noncomputable section

open Idealize.ShloMosaic Idealize.ShloMosaic.TcCoe Idealize.SL.Sem

namespace Cert.UpCtxRefIdeal.Conv

open Cert.UpCtxRefIdeal Cert.UpCtxRefIdeal.Gen

variable (x : FVec Ideal S8192x4096 .bf16) (w : FVec Ideal S2x4096x22016 .f32) (cw : FVec Ideal S2x3x22016 .f32)
  (cb : FVec Ideal S2x22016 .f32)

/-- The tokens, sequence by sequence in the order of their positions, by the first layer's matrix. -/
def prod : FVec Ideal S32x256x22016 .f32 :=
  Host.dotGeneral dot_S32x256x4096_S4096x22016_S32x256x22016_2_0_01_1_n_n none (shapeCast _ (transpose S32x8x32x4096 [0, 2, 1, 3] (shapeCast _ (extf .f32 x bitsLt_bf16_f32) shapeCasts_S8192x4096_S32x32x8x4096) transposes_S32x32x8x4096_S32x8x32x4096_0_2_1_3) shapeCasts_S32x8x32x4096_S32x256x4096) (shapeCast _ (extractStridedSlice S1x4096x22016 ![0, 0, 0] w slices_S2x4096x22016_S1x4096x22016_0_0_0) shapeCasts_S1x4096x22016_S4096x22016)

/-- A sequence with a zero before it and a zero after it. -/
def padded (h : FVec Ideal S32x256x22016 .f32) : FVec Ideal S32x258x22016 .f32 :=
  pad S32x258x22016 ![0, 1, 0] ![0, 1, 0] ![0, 0, 0] h (sitofp .f32 (constantI S_ 32 0#32)) pads_S32x256x22016_S32x258x22016_000_110_000 h_S_

/-- The three taps' sum over the padded sequences, with the bias. -/
def taps (h : FVec Ideal S32x256x22016 .f32) : FVec Ideal S32x256x22016 .f32 :=
  addf (addf (addf (broadcastInDim S32x256x22016 ![0, 1, 2] bcast_S1x1x22016_S32x256x22016_0_1_2 (broadcastInDim S1x1x22016 ![2] bcast_S22016_S1x1x22016_2 (shapeCast _ (extractStridedSlice S1x22016 ![0, 0] cb slices_S2x22016_S1x22016_0_0) shapeCasts_S1x22016_S22016)))
    (mulf (extractStridedSlice S32x256x22016 ![0, 0, 0] (padded h) slices_S32x258x22016_S32x256x22016_0_0_0) (broadcastInDim S32x256x22016 ![0, 1, 2] bcast_S1x1x22016_S32x256x22016_0_1_2 (broadcastInDim S1x1x22016 ![2] bcast_S22016_S1x1x22016_2 (shapeCast _ (extractStridedSlice S1x22016 ![0, 0] (shapeCast _ (extractStridedSlice S1x3x22016 ![0, 0, 0] cw slices_S2x3x22016_S1x3x22016_0_0_0) shapeCasts_S1x3x22016_S3x22016) slices_S3x22016_S1x22016_0_0) shapeCasts_S1x22016_S22016)))))
    (mulf (extractStridedSlice S32x256x22016 ![0, 1, 0] (padded h) slices_S32x258x22016_S32x256x22016_0_1_0) (broadcastInDim S32x256x22016 ![0, 1, 2] bcast_S1x1x22016_S32x256x22016_0_1_2 (broadcastInDim S1x1x22016 ![2] bcast_S22016_S1x1x22016_2 (shapeCast _ (extractStridedSlice S1x22016 ![1, 0] (shapeCast _ (extractStridedSlice S1x3x22016 ![0, 0, 0] cw slices_S2x3x22016_S1x3x22016_0_0_0) shapeCasts_S1x3x22016_S3x22016) slices_S3x22016_S1x22016_1_0) shapeCasts_S1x22016_S22016)))))
    (mulf (extractStridedSlice S32x256x22016 ![0, 2, 0] (padded h) slices_S32x258x22016_S32x256x22016_0_2_0) (broadcastInDim S32x256x22016 ![0, 1, 2] bcast_S1x1x22016_S32x256x22016_0_1_2 (broadcastInDim S1x1x22016 ![2] bcast_S22016_S1x1x22016_2 (shapeCast _ (extractStridedSlice S1x22016 ![2, 0] (shapeCast _ (extractStridedSlice S1x3x22016 ![0, 0, 0] cw slices_S2x3x22016_S1x3x22016_0_0_0) shapeCasts_S1x3x22016_S3x22016) slices_S3x22016_S1x22016_2_0) shapeCasts_S1x22016_S22016))))

/-- The second half gated by itself times the first half, back in the interleaved order. -/
def gated (v : FVec Ideal S32x256x22016 .f32) : FVec Ideal S8192x11008 .bf16 :=
  truncf .bf16 (shapeCast _ (transpose S32x32x8x11008 [0, 2, 1, 3] (shapeCast _ (mulf (mulf (extractStridedSlice S32x256x11008 ![0, 0, 11008] v slices_S32x256x22016_S32x256x11008_0_0_11008) (Host.divf (broadcastInDim S32x256x11008 ![] bcast_S_S32x256x11008 (constant S_ .f32 0x3F800000#32)) (addf (broadcastInDim S32x256x11008 ![] bcast_S_S32x256x11008 (constant S_ .f32 0x3F800000#32)) (Host.exp (Host.negf (extractStridedSlice S32x256x11008 ![0, 0, 11008] v slices_S32x256x22016_S32x256x11008_0_0_11008)))))) (extractStridedSlice S32x256x11008 ![0, 0, 0] v slices_S32x256x22016_S32x256x11008_0_0_0)) shapeCasts_S32x256x11008_S32x8x32x11008) transposes_S32x8x32x11008_S32x32x8x11008_0_2_1_3) shapeCasts_S32x32x8x11008_S8192x11008) bitsLt_bf16_f32

/-- The reference's result. -/
def REF : FVec Ideal S8192x11008 .bf16 := gated (taps cw cb (prod x w))

/-- The row of the interleaved order where position `p` of sequence `s` stands. -/
def row (s : Fin 32) (p : Fin 256) : Fin 8192 := ⟨(s : ℕ) * 256 + (p : ℕ) % 32 * 8 + (p : ℕ) / 32, by omega⟩

/-- A token's row by a column of the matrix. -/
def dot (r : Fin 8192) (n : Fin 22016) : EReal := ∑ k : Fin 4096, x (ix2 r k) * w (ix3 0 k n)

/-- The product at a position is its row's. -/
theorem prod_apply (s : Fin 32) (p : Fin 256) (n : Fin 22016) : prod x w (ix3 s p n) = dot x w (row s p) n := by
  pointwise [prod, dot, row]

/-- The padded sequence at a place. -/
theorem padded_apply (h : FVec Ideal S32x256x22016 .f32) (s : Fin 32) (p : Fin 258) (n : Fin 22016) :
    padded h (ix3 s p n) = if q : 1 ≤ (p : ℕ) ∧ (p : ℕ) < 257 then h (ix3 s ⟨(p : ℕ) - 1, by omega⟩ n) else 0 := by
  pointwise [padded]
  by_cases q : 1 ≤ (p : ℕ) ∧ (p : ℕ) < 257
  · rw [dif_pos q, dif_pos (by omega)]
  · rw [dif_neg q, dif_neg (by omega)]
    show ((((0#32 : BitVec 32).toInt : ℝ)) : EReal) = 0
    simp

/-- The three taps at a position. -/
theorem taps_apply (h : FVec Ideal S32x256x22016 .f32) (s : Fin 32) (p : Fin 256) (n : Fin 22016) :
    taps cw cb h (ix3 s p n) = cb (ix2 0 n) + padded h (ix3 s ⟨(p : ℕ), by omega⟩ n) * cw (ix3 0 0 n)
      + padded h (ix3 s ⟨1 + (p : ℕ), by omega⟩ n) * cw (ix3 0 1 n) + padded h (ix3 s ⟨2 + (p : ℕ), by omega⟩ n) * cw (ix3 0 2 n) := by
  pointwise [taps]

/-- The gate at a row of the interleaved order. -/
theorem gated_apply (v : FVec Ideal S32x256x22016 .f32) (r : Fin 8192) (n : Fin 11008) :
    gated v (ix2 r n) = v (ix3 ⟨(r : ℕ) / 256, by omega⟩ ⟨(r : ℕ) % 8 * 32 + (r : ℕ) / 8 % 32, by omega⟩ ⟨11008 + (n : ℕ), by omega⟩)
       * Ideal.logistic (v (ix3 ⟨(r : ℕ) / 256, by omega⟩ ⟨(r : ℕ) % 8 * 32 + (r : ℕ) / 8 % 32, by omega⟩ ⟨11008 + (n : ℕ), by omega⟩))
       * v (ix3 ⟨(r : ℕ) / 256, by omega⟩ ⟨(r : ℕ) % 8 * 32 + (r : ℕ) / 8 % 32, by omega⟩ ⟨(n : ℕ), by omega⟩) := by
  pointwise [gated, Ideal.logistic]

/-- The token one place back, by a column: zero at the first position of a sequence. -/
def prev (r : Fin 8192) (n : Fin 22016) : EReal :=
  if h0 : (r : ℕ) % 256 = 0 then 0
    else if h1 : (r : ℕ) % 256 < 8 then dot x w ⟨(r : ℕ) + 247, by omega⟩ n else dot x w ⟨(r : ℕ) - 8, by omega⟩ n

/-- The token one place on, by a column: zero at the last position of a sequence. -/
def next (r : Fin 8192) (n : Fin 22016) : EReal :=
  if h0 : (r : ℕ) % 256 = 255 then 0
    else if h1 : 248 ≤ (r : ℕ) % 256 then dot x w ⟨(r : ℕ) - 247, by omega⟩ n else dot x w ⟨(r : ℕ) + 8, by omega⟩ n

/-- A channel of a token after the convolution. -/
def chan (r : Fin 8192) (n : Fin 22016) : EReal :=
  cb (ix2 0 n) + prev x w r n * cw (ix3 0 0 n) + dot x w r n * cw (ix3 0 1 n) + next x w r n * cw (ix3 0 2 n)

/-- The rows of the positions beside a row's own, in the interleaved order. -/
theorem places (r : ℕ) :
    (r % 256 ≠ 0 → r % 256 < 8 → r / 256 * 256 + (r % 8 * 32 + r / 8 % 32 - 1) % 32 * 8 + (r % 8 * 32 + r / 8 % 32 - 1) / 32 = r + 247)
    ∧ (¬ r % 256 < 8 → r / 256 * 256 + (r % 8 * 32 + r / 8 % 32 - 1) % 32 * 8 + (r % 8 * 32 + r / 8 % 32 - 1) / 32 = r - 8)
    ∧ (r / 256 * 256 + (r % 8 * 32 + r / 8 % 32) % 32 * 8 + (r % 8 * 32 + r / 8 % 32) / 32 = r)
    ∧ (r % 256 ≠ 255 → 248 ≤ r % 256 → r / 256 * 256 + (r % 8 * 32 + r / 8 % 32 + 1) % 32 * 8 + (r % 8 * 32 + r / 8 % 32 + 1) / 32 = r - 247)
    ∧ (¬ 248 ≤ r % 256 → r / 256 * 256 + (r % 8 * 32 + r / 8 % 32 + 1) % 32 * 8 + (r % 8 * 32 + r / 8 % 32 + 1) / 32 = r + 8) := by
  obtain ⟨s, j, u, hj, hu, e⟩ : ∃ s j u, j < 32 ∧ u < 8 ∧ r = 256 * s + 8 * j + u :=
    ⟨r / 256, r / 8 % 32, r % 8, by omega, by omega, by omega⟩
  have es : r / 256 = s := by omega
  have ej : r / 8 % 32 = j := by omega
  have eu : r % 8 = u := by omega
  have em : r % 256 = 8 * j + u := by omega
  rw [es, ej, eu, em]
  refine ⟨fun a b => ?_, fun a => ?_, ?_, fun a b => ?_, fun a => ?_⟩ <;> omega

/-- The first tap reads the token one place back. -/
theorem prev_eq (r : Fin 8192) (n : Fin 22016) :
    padded (prod x w) (ix3 ⟨(r : ℕ) / 256, by omega⟩ ⟨(r : ℕ) % 8 * 32 + (r : ℕ) / 8 % 32, by omega⟩ n) = prev x w r n := by
  rw [padded_apply]
  unfold prev
  by_cases h0 : (r : ℕ) % 256 = 0
  · rw [dif_pos h0, dif_neg (by dsimp only; omega)]
  rw [dif_neg h0, dif_pos (by dsimp only; omega), prod_apply]
  by_cases h1 : (r : ℕ) % 256 < 8
  · rw [dif_pos h1]
    exact congrArg (fun q => dot x w q n) (Fin.ext (by have := (places r).1 h0 h1; dsimp only [row]; omega))
  · rw [dif_neg h1]
    exact congrArg (fun q => dot x w q n) (Fin.ext (by have := (places r).2.1 h1; dsimp only [row]; omega))

/-- The second tap reads the token itself. -/
theorem here_eq (r : Fin 8192) (n : Fin 22016) :
    padded (prod x w) (ix3 ⟨(r : ℕ) / 256, by omega⟩ ⟨1 + ((r : ℕ) % 8 * 32 + (r : ℕ) / 8 % 32), by omega⟩ n) = dot x w r n := by
  rw [padded_apply, dif_pos (by dsimp only; omega), prod_apply]
  exact congrArg (fun q => dot x w q n) (Fin.ext (by have := (places r).2.2.1; dsimp only [row]; omega))

/-- The third tap reads the token one place on. -/
theorem next_eq (r : Fin 8192) (n : Fin 22016) :
    padded (prod x w) (ix3 ⟨(r : ℕ) / 256, by omega⟩ ⟨2 + ((r : ℕ) % 8 * 32 + (r : ℕ) / 8 % 32), by omega⟩ n) = next x w r n := by
  rw [padded_apply]
  unfold next
  by_cases h0 : (r : ℕ) % 256 = 255
  · rw [dif_pos h0, dif_neg (by dsimp only; omega)]
  rw [dif_neg h0, dif_pos (by dsimp only; omega), prod_apply]
  by_cases h1 : 248 ≤ (r : ℕ) % 256
  · rw [dif_pos h1]
    exact congrArg (fun q => dot x w q n) (Fin.ext (by have := (places r).2.2.2.1 h0 h1; dsimp only [row]; omega))
  · rw [dif_neg h1]
    exact congrArg (fun q => dot x w q n) (Fin.ext (by have := (places r).2.2.2.2 h1; dsimp only [row]; omega))

/-- The reference's result at a row and a channel. -/
theorem REF_apply (r : Fin 8192) (n : Fin 11008) :
    REF x w cw cb (ix2 r n) = chan x w cw cb r ⟨11008 + (n : ℕ), by omega⟩
      * Ideal.logistic (chan x w cw cb r ⟨11008 + (n : ℕ), by omega⟩) * chan x w cw cb r ⟨(n : ℕ), by omega⟩ := by
  have e (q : Fin 22016) : taps cw cb (prod x w) (ix3 ⟨(r : ℕ) / 256, by omega⟩ ⟨(r : ℕ) % 8 * 32 + (r : ℕ) / 8 % 32, by omega⟩ q) = chan x w cw cb r q := by
    rw [taps_apply, prev_eq, here_eq, next_eq]; rfl
  unfold REF
  rw [gated_apply, e, e]

end Cert.UpCtxRefIdeal.Conv
-- ==== Proof.FfnUpCtxValue.lean ====
/- The first feed-forward product with its three-tap convolution and gate, at the context batch's sequences: the tiled kernel's array is the reference's. -/
module

public import proofs.«01_k».proof.Proof.FfnUpCtxKernel
public import proofs.«01_k».proof.Proof.FfnUpCtxRef

@[expose] public section

set_option maxRecDepth 16384

noncomputable section

open Idealize.ShloMosaic Idealize.ShloMosaic.TcCoe Idealize.SL.Sem
open Idealize.ShloMosaic.Pipeline (Dat)

namespace Cert.FfnUpCtxIdeal.Conv

open Cert.FfnUpCtxIdeal Cert.FfnUpCtxIdeal.Gen
open Cert.UpCtxRefIdeal.Conv (REF REF_apply dot prev next chan)

variable (m : (ℓ : Loc nD τ sig) → Buf (Elt Ideal) ℓ)

/-- Where each block stands, at every grid point. -/
theorem idx : ∀ t : Fin cfg0.N, win0_7.index t 0 < 4 ∧ win0_7.index t 1 < 43 ∧ win0_0.index t = ![win0_7.index t 0, 0] ∧ win0_1.index t = ![0, 0, win0_7.index t 1]
    ∧ win0_2.index t = ![0, 0, 43 + win0_7.index t 1] ∧ win0_3.index t = ![0, 0, win0_7.index t 1] ∧ win0_4.index t = ![0, 0, 43 + win0_7.index t 1]
    ∧ win0_5.index t = ![0, 0, win0_7.index t 1] ∧ win0_6.index t = ![0, 0, 43 + win0_7.index t 1] :=
  (by decide +kernel : ∀ t : Fin grid0.N, _)

/-- One tile of the kernel is that tile of the reference. -/
theorem tile_eq (x : FVec Ideal S8192x4096 .bf16) (w : FVec Ideal S2x4096x22016 .f32) (cw : FVec Ideal S2x3x22016 .f32) (cb : FVec Ideal S2x22016 .f32)
    (x0 : Vec Ideal S2048x4096 .bf16) (x1 x2 : Vec Ideal S1x4096x256 .f32) (x3 x4 : Vec Ideal S1x3x256 .f32) (x5 x6 : Vec Ideal S1x1x256 .f32)
    (i j : ℕ) (hi : i < 4) (hj : j < 43)
    (h0 : ∀ (r : Fin 2048) (k : Fin 4096), x0 (ix2 r k) = x (ix2 ⟨i * 2048 + r, by omega⟩ k))
    (h1 : ∀ (k : Fin 4096) (l : Fin 256), x1 (ix3 0 k l) = w (ix3 0 k ⟨j * 256 + l, by omega⟩))
    (h2 : ∀ (k : Fin 4096) (l : Fin 256), x2 (ix3 0 k l) = w (ix3 0 k ⟨(43 + j) * 256 + l, by omega⟩))
    (h3 : ∀ (k : Fin 3) (l : Fin 256), x3 (ix3 0 k l) = cw (ix3 0 k ⟨j * 256 + l, by omega⟩))
    (h4 : ∀ (k : Fin 3) (l : Fin 256), x4 (ix3 0 k l) = cw (ix3 0 k ⟨(43 + j) * 256 + l, by omega⟩))
    (h5 : ∀ (l : Fin 256), x5 (ix3 0 0 l) = cb (ix2 0 ⟨j * 256 + l, by omega⟩))
    (h6 : ∀ (l : Fin 256), x6 (ix3 0 0 l) = cb (ix2 0 ⟨(43 + j) * 256 + l, by omega⟩))
    (r : Fin 2048) (l : Fin 256) :
    tile x3 x4 x5 x6 (rows x0 x1) (rows x0 x2) r l
      = REF x w cw cb (ix2 ⟨i * 2048 + r, by omega⟩ ⟨j * 256 + l, by omega⟩) := by
  have eU (r : Fin 2048) : rows x0 x1 (ix2 r l) = dot x w ⟨i * 2048 + r, by omega⟩ ⟨j * 256 + l, by omega⟩ := by
    rw [rows_apply]; exact Finset.sum_congr rfl fun k _ => by rw [h0, h1]
  have eG (r : Fin 2048) : rows x0 x2 (ix2 r l) = dot x w ⟨i * 2048 + r, by omega⟩ ⟨(43 + j) * 256 + l, by omega⟩ := by
    rw [rows_apply]; exact Finset.sum_congr rfl fun k _ => by rw [h0, h2]
  have eB (A : FVec Ideal S2048x256 .f32) (n : Fin 22016) (hA : ∀ r : Fin 2048, A (ix2 r l) = dot x w ⟨i * 2048 + r, by omega⟩ n) :
      back A (ix2 r l) = prev x w ⟨i * 2048 + r, by omega⟩ n := by
    rw [back_apply, prev]
    have e : (i * 2048 + (r : ℕ)) % 256 = (r : ℕ) % 256 := by omega
    refine dite_congr (by rw [e]) (fun _ => rfl) fun c0 => dite_congr (by rw [e]) (fun c1 => ?_) fun c1 => ?_
    · rw [hA]; exact congrArg (fun q => dot x w q n) (Fin.ext (by dsimp only <;> omega))
    · rw [hA]; exact congrArg (fun q => dot x w q n) (Fin.ext (by dsimp only at c0 c1 ⊢ <;> omega))
  have eA (A : FVec Ideal S2048x256 .f32) (n : Fin 22016) (hA : ∀ r : Fin 2048, A (ix2 r l) = dot x w ⟨i * 2048 + r, by omega⟩ n) :
      ahead A (ix2 r l) = next x w ⟨i * 2048 + r, by omega⟩ n := by
    rw [ahead_apply, next]
    have e : (i * 2048 + (r : ℕ)) % 256 = (r : ℕ) % 256 := by omega
    refine dite_congr (by rw [e]) (fun _ => rfl) fun c0 => dite_congr (by rw [e]) (fun c1 => ?_) fun c1 => ?_
    · rw [hA]; exact congrArg (fun q => dot x w q n) (Fin.ext (by dsimp only at c0 c1 ⊢ <;> omega))
    · rw [hA]; exact congrArg (fun q => dot x w q n) (Fin.ext (by dsimp only at c0 c1 ⊢ <;> omega))
  have hn : (⟨11008 + (j * 256 + (l : ℕ)), by omega⟩ : Fin 22016) = ⟨(43 + j) * 256 + (l : ℕ), by omega⟩ := Fin.ext (by dsimp only; omega)
  rw [REF_apply]
  dsimp only
  rw [hn]
  unfold tile chan
  rw [eB _ _ eU, eB _ _ eG, eA _ _ eU, eA _ _ eG, eU, eG, h3, h3, h3, h4, h4, h4, h5, h6]

/-- One tile of the kernel is that tile of the reference. -/
theorem point (c : Dev nD) (t : Fin cfg0.N) (y : S2048x256.Idx) :
    tile (iblk m c 3 t) (iblk m c 4 t) (iblk m c 5 t) (iblk m c 6 t)
        (rows (iblk m c 0 t) (iblk m c 1 t))
        (rows (iblk m c 0 t) (iblk m c 2 t)) (y 0) (y 1)
      = REF (m ((c.tc : Thread nD τ).loc main_arg0)) (m ((c.tc : Thread nD τ).loc main_arg1)) (m ((c.tc : Thread nD τ).loc main_arg2)) (m ((c.tc : Thread nD τ).loc main_arg3)) (((cfg0.win 7).blk t).view.emb y) := by
  obtain ⟨hi, hj, e0, e1, e2, e3, e4, e5, e6⟩ := idx t
  refine (tile_eq (m ((c.tc : Thread nD τ).loc main_arg0)) (m ((c.tc : Thread nD τ).loc main_arg1)) (m ((c.tc : Thread nD τ).loc main_arg2)) (m ((c.tc : Thread nD τ).loc main_arg3))
    _ _ _ _ _ _ _ (win0_7.index t 0) (win0_7.index t 1) hi hj ?_ ?_ ?_ ?_ ?_ ?_ ?_ (y 0) (y 1)).trans ?_
  · intro r k; blk_point [iblk, V, e0]
  · intro r k; blk_point [iblk, V, e1]
  · intro r k; blk_point [iblk, V, e2]
  · intro r k; blk_point [iblk, V, e3]
  · intro r k; blk_point [iblk, V, e4]
  · intro k; blk_point [iblk, V, e5]
  · intro k; blk_point [iblk, V, e6]
  · blk_point [iblk, V]

/-- A store of the whole block leaves what it stores. -/
theorem canon_whole (s : Vec Ideal S2048x256 .bf16) : View.canon [⟨r0_21, s⟩] = s := by frame_out

/-- What a grid point leaves in its output block is that tile. -/
theorem out_apply (x0 : Vec Ideal S2048x4096 .bf16) (x1 x2 : Vec Ideal S1x4096x256 .f32) (x3 x4 : Vec Ideal S1x3x256 .f32) (x5 x6 : Vec Ideal S1x1x256 .f32)
    (r : Fin 2048) (l : Fin 256) :
    out0_7 x0 x1 x2 x3 x4 x5 x6 (ix2 r l) = tile x3 x4 x5 x6 (rows x0 x1) (rows x0 x2) r l := by
  rw [out_eq, canon_whole]
  exact stored_apply x0 x1 x2 x3 x4 x5 x6 r l

/-- The result array is the reference's term at the argument arrays. -/
theorem final (c : Dev nD) : (dats m 0 c).arrAt 7 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t _ y => ?_
  blk_simp
  rw [after0_7]
  refine Eq.trans ?_ (point m c t y)
  obtain ⟨r, l, rfl⟩ : ∃ (r : Fin 2048) (l : Fin 256), y = ix2 r l := by idx_vars y; exact ⟨_, _, rfl⟩
  exact out_apply _ _ _ _ _ _ _ r l

end Cert.FfnUpCtxIdeal.Conv
-- ==== Proof.CtxMath.lean ====
/- The arithmetic of one row of attention, over the extended reals: an exponential scaled after the sum is a softmax before it. -/
module

public import Idealize.ShloMosaic.Lib.Pipeline.ValueKit
public import Idealize.ShloMosaic.Lib.IdealHost

@[expose] public section

noncomputable section

open Idealize.ShloMosaic

namespace Cert.CtxMath

/-- The value is a real number. -/
def Real' (x : EReal) : Prop := ∃ r : ℝ, x = (r : EReal)

/-- The least value, where a maximum starts. -/
abbrev low : EReal := Ideal.ofBits FTy.f32 0xFF800000#32
/-- The scale of a score, the inverse root of the head's width. -/
abbrev scale : EReal := Ideal.ofBits FTy.f32 0x3DB504F3#32
/-- The head's width. -/
abbrev width : EReal := Ideal.ofBits FTy.f32 0x43000000#32
/-- The guard under the root. -/
abbrev guard : EReal := Ideal.ofBits FTy.f32 0x358637BD#32

theorem low_eq : low = ⊥ := by
  simp [low, Ideal.ofBits, Ideal.ieee]

theorem scale_real : Real' scale := by
  refine ⟨(11863283 : ℝ) * 2 ^ (-27 : ℤ), ?_⟩
  simp [scale, Ideal.ofBits, Ideal.ieee, -EReal.coe_mul]

theorem width_eq : width = ((128 : ℝ) : EReal) := by
  simp [width, Ideal.ofBits, Ideal.ieee, -EReal.coe_mul]; norm_num

theorem guard_pos : ∃ r : ℝ, 0 < r ∧ guard = (r : EReal) := by
  refine ⟨(8796093 : ℝ) * 2 ^ (-43 : ℤ), by positivity, ?_⟩
  simp [guard, Ideal.ofBits, Ideal.ieee, -EReal.coe_mul]

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {n : ℕ} {f : Fin n → EReal} (h : ∀ i, Real' (f i)) : Real' (∑ i, f i) := by
  choose r hr using h
  exact ⟨∑ i, r i, by rw [coe_sum]; exact Finset.sum_congr rfl fun i _ => hr i⟩

/-- A nonnegative real factor goes into a sum of any values. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- One row of the normalised vectors: the vector over its root mean square, times the gains. -/
def rms (x g : Fin 128 → EReal) (d : Fin 128) : EReal :=
  x d * Ideal.rsqrt (Ideal.div (∑ k, x k * x k) width + guard) * g d

theorem rms_real {x g : Fin 128 → EReal} (hx : ∀ d, Real' (x d)) (hg : ∀ d, Real' (g d)) (d : Fin 128) : Real' (rms x g d) := by
  refine ((hx d).mul ?_).mul (hg d)
  choose r hr using hx
  obtain ⟨e, he, hge⟩ := guard_pos
  have hs : (∑ k, x k * x k) = ((∑ k, r k * r k : ℝ) : EReal) := by
    rw [coe_sum]; exact Finset.sum_congr rfl fun k _ => by rw [hr k, EReal.coe_mul]
  have h0 : 0 ≤ ∑ k, r k * r k := Finset.sum_nonneg fun k _ => mul_self_nonneg (r k)
  rw [hs, width_eq, Ideal.div_coe (by norm_num), hge, ← EReal.coe_mul, ← EReal.coe_add]
  have hp : 0 < (∑ k, r k * r k) * (1 / 128) + e := by positivity
  refine ⟨(Real.sqrt ((∑ k, r k * r k) * (1 / 128) + e))⁻¹, ?_⟩
  show (if _ then _ else if _ then _ else _) = _
  rw [if_neg (not_lt.mpr hp.le), if_neg hp.ne']

/-- One scaled score. -/
def score (q k : Fin 128 → EReal) : EReal := (∑ d, q d * k d) * scale

theorem score_real {q k : Fin 128 → EReal} (hq : ∀ d, Real' (q d)) (hk : ∀ d, Real' (k d)) : Real' (score q k) :=
  (Real'.sum fun d => (hq d).mul (hk d)).mul scale_real

/-- The greatest of the scores of a row. -/
abbrev top {n : ℕ} (s : Fin n → EReal) : EReal := Finset.fold max low s Finset.univ

theorem top_real {n : ℕ} (h0 : 0 < n) {s : Fin n → EReal} (hs : ∀ j, Real' (s j)) : Real' (top s) := by
  have h1 : top s < ⊤ := by
    rw [Finset.fold_max_lt, low_eq]
    refine ⟨bot_lt_top, fun j _ => ?_⟩
    obtain ⟨r, hr⟩ := hs j
    rw [hr]; exact EReal.coe_lt_top r
  have h2 : ⊥ < top s := by
    rw [Finset.lt_fold_max]
    refine Or.inr ⟨⟨0, h0⟩, Finset.mem_univ _, ?_⟩
    obtain ⟨r, hr⟩ := hs ⟨0, h0⟩
    rw [hr]; exact EReal.bot_lt_coe r
  exact ⟨(top s).toReal, (EReal.coe_toReal h1.ne h2.ne').symm⟩

/-- A row as the kernel weighs it, without a sink: the sum first, the scale after. -/
def kerG (s v : Fin 256 → EReal) : EReal :=
  (∑ j, Ideal.exp (s j - top s) * v j) * Ideal.div 1 (∑ j, Ideal.exp (s j - top s))

/-- The same with a sink's exponential in the scale. -/
def kerS (s v : Fin 256 → EReal) (g : EReal) : EReal :=
  (∑ j, Ideal.exp (s j - max (top s) g) * v j) *
    Ideal.div 1 ((∑ j, Ideal.exp (s j - max (top s) g)) + Ideal.exp (g - max (top s) g))

/-- One weight of a softmax. -/
def soft {n : ℕ} (s : Fin n → EReal) (j : Fin n) : EReal :=
  Ideal.div (Ideal.exp (s j - max low (top s))) (∑ x, Ideal.exp (s x - max low (top s)))

/-- The scores with the sink behind them. -/
def withSink (s : Fin 256 → EReal) (g : EReal) (x : Fin 257) : EReal := if h : x.val < 256 then s ⟨x.val, h⟩ else g

/-- The common step: real scores under a real maximum. -/
theorem weigh {n : ℕ} (s v : Fin n → EReal) (M D : ℝ) (hD : 0 < D) (hs : ∀ j, Real' (s j)) :
    (∑ j, Ideal.exp (s j - (M : EReal)) * v j) * Ideal.div 1 (D : EReal)
      = ∑ j, v j * Ideal.div (Ideal.exp (s j - (M : EReal))) (D : EReal) := by
  rw [Ideal.div_coe hD.ne', one_mul, sum_mul_real _ _ _ (by positivity)]
  refine Finset.sum_congr rfl fun j _ => ?_
  rw [Ideal.div_coe hD.ne', mul_comm (Ideal.exp _) (v j), mul_assoc]

theorem exp_real {x : EReal} (M : ℝ) (hx : Real' x) : ∃ r : ℝ, 0 < r ∧ Ideal.exp (x - (M : EReal)) = (r : EReal) := by
  obtain ⟨a, rfl⟩ := hx
  refine ⟨Real.exp (a - M), Real.exp_pos _, ?_⟩
  rw [← EReal.coe_sub]
  rfl

theorem den_real {n : ℕ} (h0 : 0 < n) {s : Fin n → EReal} (M : ℝ) (hs : ∀ j, Real' (s j)) :
    ∃ D : ℝ, 0 < D ∧ (∑ j, Ideal.exp (s j - (M : EReal))) = (D : EReal) := by
  choose r hp hr using fun j => exp_real M (hs j)
  refine ⟨∑ j, r j, Finset.sum_pos (fun j _ => hp j) ⟨⟨0, h0⟩, Finset.mem_univ _⟩, ?_⟩
  rw [coe_sum]; exact Finset.sum_congr rfl fun j _ => hr j

theorem kerG_eq {s : Fin 256 → EReal} (v : Fin 256 → EReal) (hs : ∀ j, Real' (s j)) :
    kerG s v = ∑ j, v j * soft s j := by
  obtain ⟨M, hM⟩ := top_real (by norm_num) hs
  have hl : max low (top s) = (M : EReal) := by rw [hM, low_eq]; exact max_eq_right bot_le
  obtain ⟨D, hD, hd⟩ := den_real (by norm_num) M hs
  unfold kerG soft
  rw [hl, hM, hd]
  exact weigh s v M D hD hs

theorem withSink_lt (s : Fin 256 → EReal) (g : EReal) (j : Fin 256) : withSink s g j.castSucc = s j := by
  unfold withSink
  rw [dif_pos (show (j.castSucc).val < 256 from j.isLt)]
  rfl

theorem withSink_last (s : Fin 256 → EReal) (g : EReal) : withSink s g (Fin.last 256) = g := by
  unfold withSink
  rw [dif_neg (by simp)]

theorem top_withSink (s : Fin 256 → EReal) (g : EReal) : top (withSink s g) = max (top s) g := by
  refine le_antisymm ?_ (max_le ?_ ?_)
  · rw [Finset.fold_max_le]
    refine ⟨by rw [low_eq]; exact bot_le, fun x _ => ?_⟩
    refine Fin.lastCases ?_ (fun j => ?_) x
    · rw [withSink_last]; exact le_max_right _ _
    · rw [withSink_lt]
      exact le_max_of_le_left (Finset.le_fold_max _ |>.mpr (Or.inr ⟨j, Finset.mem_univ _, le_rfl⟩))
  · rw [Finset.fold_max_le]
    refine ⟨by rw [low_eq]; exact bot_le, fun j _ => ?_⟩
    exact Finset.le_fold_max _ |>.mpr (Or.inr ⟨j.castSucc, Finset.mem_univ _, (withSink_lt s g j).ge⟩)
  · exact Finset.le_fold_max _ |>.mpr (Or.inr ⟨Fin.last 256, Finset.mem_univ _, (withSink_last s g).ge⟩)

theorem kerS_eq {s : Fin 256 → EReal} (v : Fin 256 → EReal) {g : EReal} (hs : ∀ j, Real' (s j)) (hg : Real' g) :
    kerS s v g = ∑ j : Fin 256, v j * soft (withSink s g) j.castSucc := by
  obtain ⟨M, hM⟩ : Real' (max (top s) g) := by
    obtain ⟨a, ha⟩ := top_real (by norm_num) hs
    obtain ⟨b, rfl⟩ := hg
    exact ⟨max a b, by rw [ha]; exact (EReal.coe_strictMono.monotone.map_max).symm⟩
  have hl : max low (top (withSink s g)) = (M : EReal) := by rw [top_withSink, hM, low_eq]; exact max_eq_right bot_le
  obtain ⟨D, hD, hd⟩ := den_real (by norm_num) M hs
  obtain ⟨e, he, hge⟩ := exp_real M hg
  unfold kerS soft
  rw [hl, hM, Fin.sum_univ_castSucc (n := 256)]
  simp only [withSink_lt, withSink_last]
  rw [hd, hge, ← EReal.coe_add]
  exact weigh s v M (D + e) (by positivity) hs

end Cert.CtxMath
-- ==== Proof.CtxKernel.lean ====
/- The attention of one head of one stream, as the kernel computes it on its blocks, read at an index. -/
module

public import proofs.«01_k».proof.Proof.CtxMath
public import proofs.«01_k».proof.Proof.Gen.CtxAttnIdeal.Value
public import Idealize.ShloMosaic.Lib.Pipeline.ValueKit

@[expose] public section

set_option maxRecDepth 16384

noncomputable section

open Idealize.ShloMosaic Idealize.ShloMosaic.TcCoe Idealize.SL.Sem
open Cert.CtxMath

namespace Cert.CtxAttnIdeal.Own

open Cert.CtxAttnIdeal Cert.CtxAttnIdeal.Gen

/-- The normalised rows of a block. -/
theorem pay2_apply (x : Vec Ideal S256x128 .f32) (g : Vec Ideal S1x128 .f32) (i : Fin 256) (d : Fin 128) :
    k0_pay2 (F := Ideal) x g (ix2 i d) = rms (fun k => x (ix2 i k)) (fun k => g (ix2 0 k)) d := by
  unfold rms
  pointwise [k0_pay2]

/-- Scores of a block of queries against a block of keys. -/
def scoresK (q k : FVec Ideal S256x128 .bf16) : FVec Ideal S256x256 .f32 :=
  mulf (matmul dot_S256x128_S256x128_S256x256_1_1_0_0_n_n none q k (constant S256x256 .f32 0x00000000#32))
    (broadcast S256x256 (Scalar.ofBits .f32 0x3DB504F3#32))

theorem scoresK_apply (q k : FVec Ideal S256x128 .bf16) (i j : Fin 256) :
    scoresK q k (ix2 i j) = score (fun d => q (ix2 i d)) (fun d => k (ix2 j d)) := by
  unfold score
  pointwise [scoresK]

/-- The largest score of each row. -/
def rowTop (s : FVec Ideal S256x256 .f32) : FVec Ideal S256x1 .f32 :=
  shapeCast S256x1 (multiReduction .maximumf [1] S256 s 0xFF800000#32 reduces_S256x256_S256 (.inl rfl) rfl) shapeCasts_S256_S256x1

theorem rowTop_apply (s : FVec Ideal S256x256 .f32) (i : Fin 256) (u : Fin 1) :
    rowTop s (ix2 i u) = top fun j => s (ix2 i j) := by
  pointwise [rowTop]

/-- The exponentials under a column of maxima. -/
def expUnder (s : FVec Ideal S256x256 .f32) (t : FVec Ideal S256x1 .f32) : FVec Ideal S256x256 .f32 :=
  exp (subf s (broadcastTo S256x256 t broadcasts_S256x1_S256x256))

theorem expUnder_apply (s : FVec Ideal S256x256 .f32) (t : FVec Ideal S256x1 .f32) (i j : Fin 256) :
    expUnder s t (ix2 i j) = Ideal.exp (s (ix2 i j) - t (ix2 i 0)) := by
  pointwise [expUnder]

/-- The sum of each row. -/
def rowSum (e : FVec Ideal S256x256 .f32) : FVec Ideal S256x1 .f32 :=
  shapeCast S256x1 (multiReduction .add [1] S256 e 0x00000000#32 reduces_S256x256_S256 (.inl rfl) rfl) shapeCasts_S256_S256x1

theorem rowSum_apply (e : FVec Ideal S256x256 .f32) (i : Fin 256) (u : Fin 1) :
    rowSum e (ix2 i u) = ∑ j, e (ix2 i j) := by
  pointwise [rowSum]

/-- The weighted values over the column of denominators. -/
def mix (e : FVec Ideal S256x256 .f32) (den : FVec Ideal S256x1 .f32) (v : FVec Ideal S256x128 .bf16) : FVec Ideal S256x128 .bf16 :=
  truncf .bf16 (mulf (matmul dot_S256x256_S256x128_S256x128_1_0_0_1_n_n none (truncf .bf16 e bitsLt_bf16_f32) v (constant S256x128 .f32 0x00000000#32))
    (broadcastTo S256x128 (divf (broadcast S256x1 (Scalar.ofBits .f32 0x3F800000#32)) den) broadcasts_S256x1_S256x128)) bitsLt_bf16_f32

theorem mix_apply (e : FVec Ideal S256x256 .f32) (den : FVec Ideal S256x1 .f32) (v : FVec Ideal S256x128 .bf16) (i : Fin 256) (d : Fin 128) :
    mix e den v (ix2 i d) = (∑ j, e (ix2 i j) * v (ix2 j d)) * Ideal.div 1 (den (ix2 i 0)) := by
  pointwise [mix]

/-- A head without a sink. -/
def headG (s : FVec Ideal S256x256 .f32) (v : FVec Ideal S256x128 .bf16) : FVec Ideal S256x128 .bf16 :=
  mix (expUnder s (rowTop s)) (rowSum (expUnder s (rowTop s))) v

theorem headG_apply (s : FVec Ideal S256x256 .f32) (v : FVec Ideal S256x128 .bf16) (i : Fin 256) (d : Fin 128) :
    headG s v (ix2 i d) = kerG (fun j => s (ix2 i j)) (fun j => v (ix2 j d)) := by
  unfold headG kerG
  rw [mix_apply, rowSum_apply]
  simp only [expUnder_apply, rowTop_apply]

/-- The maximum with the sink. -/
def topSink (s : FVec Ideal S256x256 .f32) (g : Ideal .f32) : FVec Ideal S256x1 .f32 :=
  maximumf (rowTop s) (broadcast S256x1 g)

theorem topSink_apply (s : FVec Ideal S256x256 .f32) (g : Ideal .f32) (i : Fin 256) (u : Fin 1) :
    topSink s g (ix2 i u) = max (rowTop s (ix2 i u)) g := by
  pointwise [topSink]

/-- The denominators with the sink's exponential. -/
def denSink (e : FVec Ideal S256x256 .f32) (t : FVec Ideal S256x1 .f32) (g : Ideal .f32) : FVec Ideal S256x1 .f32 :=
  addf (rowSum e) (exp (subf (broadcast S256x1 g) t))

theorem denSink_apply (e : FVec Ideal S256x256 .f32) (t : FVec Ideal S256x1 .f32) (g : Ideal .f32) (i : Fin 256) (u : Fin 1) :
    denSink e t g (ix2 i u) = rowSum e (ix2 i u) + Ideal.exp (g - t (ix2 i u)) := by
  pointwise [denSink]

/-- A head with a sink. -/
def headS (s : FVec Ideal S256x256 .f32) (v : FVec Ideal S256x128 .bf16) (g : Ideal .f32) : FVec Ideal S256x128 .bf16 :=
  mix (expUnder s (topSink s g)) (denSink (expUnder s (topSink s g)) (topSink s g) g) v

theorem headS_apply (s : FVec Ideal S256x256 .f32) (v : FVec Ideal S256x128 .bf16) (g : Ideal .f32) (i : Fin 256) (d : Fin 128) :
    headS s v g (ix2 i d) = kerS (fun j => s (ix2 i j)) (fun j => v (ix2 j d)) g := by
  unfold headS kerS
  rw [mix_apply, denSink_apply, rowSum_apply]
  simp only [expUnder_apply, topSink_apply, rowTop_apply]

/-- The heads of the stream without a sink, as the kernel writes them. -/
theorem pay7_eq (k v : FVec Ideal S256x128 .bf16) (q : Vec Ideal S256x128 .f32) (g : Vec Ideal S1x128 .f32) :
    k0_pay7 (F := Ideal) k v q g = headG (scoresK (k0_pay3 q g) k) v := rfl

theorem pay10_eq (k v : FVec Ideal S256x128 .bf16) (q : Vec Ideal S256x128 .f32) (g : Vec Ideal S1x128 .f32) :
    k0_pay10 (F := Ideal) v (k0_pay9 k q g) = headG (scoresK (k0_pay3 q g) k) v := rfl

theorem pay18_eq (k v : FVec Ideal S256x128 .bf16) (q : Vec Ideal S256x128 .f32) (g : Vec Ideal S1x128 .f32) :
    k0_pay18 (F := Ideal) k v q g = headG (scoresK (k0_pay3 q g) k) v := rfl

theorem pay22_eq (k v : FVec Ideal S256x128 .bf16) (q : Vec Ideal S256x128 .f32) (g : Vec Ideal S1x128 .f32) :
    k0_pay22 (F := Ideal) k v q (k0_pay20 g) (k0_pay21 q) = headG (scoresK (k0_pay3 q g) k) v := rfl

/-- The heads of the stream with a sink, as the kernel writes them. -/
theorem pay8_eq (k v : FVec Ideal S256x128 .bf16) (g : Elt Ideal .f32) (q : Vec Ideal S256x128 .f32) :
    k0_pay8 (F := Ideal) k v g q = headS (scoresK (k0_pay5 q) k) v g := rfl

theorem pay17_eq (k v : FVec Ideal S256x128 .bf16) (g : Elt Ideal .f32) (q : Vec Ideal S256x128 .f32) :
    k0_pay17 (F := Ideal) (k0_pay14 k g q) (k0_pay15 k v g q) k0_pay16 = headS (scoresK (k0_pay5 q) k) v g := rfl

theorem pay19_eq (k v : FVec Ideal S256x128 .bf16) (g : Elt Ideal .f32) (q : Vec Ideal S256x128 .f32) :
    k0_pay19 (F := Ideal) k v g q = headS (scoresK (k0_pay5 q) k) v g := rfl

theorem pay1_eq (k v : FVec Ideal S256x128 .bf16) (g : Elt Ideal .f32) (q : Vec Ideal S256x128 .f32) :
    k0_pay1 (F := Ideal) v (k0_pay25 k g q) (k0_pay26 k g q) (k0_pay27 k g q) = headS (scoresK (k0_pay5 q) k) v g := rfl

end Cert.CtxAttnIdeal.Own
-- ==== Proof.CtxPoint.lean ====
/- What one grid point leaves in each output block, in terms of its input blocks. -/
module

public import proofs.«01_k».proof.Proof.CtxKernel
public import Idealize.ShloMosaic.Lib.Pipeline.ValueKit

@[expose] public section

set_option maxRecDepth 16384

noncomputable section

open Idealize.ShloMosaic Idealize.ShloMosaic.TcCoe Idealize.SL.Sem
open Cert.CtxMath

namespace Cert.CtxAttnIdeal.Own

open Cert.CtxAttnIdeal Cert.CtxAttnIdeal.Gen

theorem pay3_apply (x : Vec Ideal S256x128 .f32) (g : Vec Ideal S1x128 .f32) (r : Fin 256) (d : Fin 128) :
    k0_pay3 (F := Ideal) x g (ix2 r d) = rms (fun k => x (ix2 r k)) (fun k => g (ix2 0 k)) d :=
  pay2_apply x g r d

/-- A head without a sink, from its own columns. -/
theorem fullG (q k v : Vec Ideal S256x128 .f32) (g gk : Vec Ideal S1x128 .f32) (r : Fin 256) (d : Fin 128) :
    headG (scoresK (k0_pay3 q g) (k0_pay3 k gk)) (k0_pay4 v) (ix2 r d)
      = kerG (fun j => score (rms (fun a => q (ix2 r a)) (fun a => g (ix2 0 a))) (rms (fun a => k (ix2 j a)) (fun a => gk (ix2 0 a))))
          (fun j => v (ix2 j d)) := by
  rw [headG_apply]
  simp only [scoresK_apply, pay3_apply]
  rfl

/-- A head with a sink, from its own columns. -/
theorem fullS (q k v : Vec Ideal S256x128 .f32) (g : Elt Ideal .f32) (r : Fin 256) (d : Fin 128) :
    headS (scoresK (k0_pay5 q) (k0_pay5 k)) (k0_pay6 v) g (ix2 r d)
      = kerS (fun j => score (fun a => q (ix2 r a)) (fun a => k (ix2 j a))) (fun j => v (ix2 j d)) g := by
  rw [headS_apply]
  simp only [scoresK_apply]
  rfl

/-- The columns of head `h` of a block of queries. -/
def headCols (x : Vec Ideal S256x512 .f32) (r : Fin 256) (h : Fin 4) (a : Fin 128) : EReal :=
  x (ix2 r ⟨h.val * 128 + a.val, by omega⟩)

theorem ld_cols (x : Vec Ideal S256x512 .f32) (h : Fin 4) (o : ℕ) (ho : o = h.val * 128) (hb) (r : Fin 256) (a : Fin 128) :
    View.ld x (Rect.unit ![0, o] ![256, 128] hb) (ix2 r a) = headCols x r h a := by
  subst ho
  refine View.ld_unit_apply_of x _ _ _ _ _ fun ax => ?_
  fin_cases ax
  · exact (Nat.zero_add _).symm
  · rfl

theorem out9 (c : Dev nD) (i : grid0.Coords) (arg2 : Memref sig .tc .smem S8 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (x0 : Vec Ideal S8 .f32) (x1 : Vec Ideal S256x512 .f32) (x2 : Vec Ideal S256x128 .f32) (x3 : Vec Ideal S256x128 .f32) (x4 : Vec Ideal S256x512 .f32) (x5 : Vec Ideal S256x128 .f32) (x6 : Vec Ideal S256x128 .f32) (x7 : Vec Ideal S1x128 .f32) (x8 : Vec Ideal S1x128 .f32) (y : S256x512.Idx) (r : Fin 256) (h : Fin 4) (d : Fin 128)
    (hy0 : (y 0 : ℕ) = r.val) (hy1 : (y 1 : ℕ) = h.val * 128 + d.val) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
      = kerG (fun j => score (rms (headCols x1 r h) (fun a => x7 (ix2 0 a))) (rms (fun a => x2 (ix2 j a)) (fun a => x8 (ix2 0 a))))
          (fun j => x3 (ix2 j d)) := by
  frame_out
  canon_tiles x e
  case piece0 =>
    obtain rfl : h = 3 := Fin.ext (show h.val = 3 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((3 : Fin 4) : ℕ)) = 3 := rfl
        omega
      rw [Fin.ext a0, Fin.ext a1]
    rw [pay22_eq, fullG]
    exact congrArg (fun q => kerG (fun j => score (rms q fun a => x7 (ix2 0 a)) (rms (fun a => x2 (ix2 j a)) fun a => x8 (ix2 0 a))) fun j => x3 (ix2 j d)) (funext fun a => ld_cols x1 3 _ rfl _ r a)
  case piece1 =>
    obtain rfl : h = 2 := Fin.ext (show h.val = 2 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((2 : Fin 4) : ℕ)) = 2 := rfl
        omega
      rw [Fin.ext a0, Fin.ext a1]
    rw [pay18_eq, fullG]
    exact congrArg (fun q => kerG (fun j => score (rms q fun a => x7 (ix2 0 a)) (rms (fun a => x2 (ix2 j a)) fun a => x8 (ix2 0 a))) fun j => x3 (ix2 j d)) (funext fun a => ld_cols x1 2 _ rfl _ r a)
  case piece2 =>
    obtain rfl : h = 1 := Fin.ext (show h.val = 1 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((1 : Fin 4) : ℕ)) = 1 := rfl
        omega
      rw [Fin.ext a0, Fin.ext a1]
    rw [pay10_eq, fullG]
    exact congrArg (fun q => kerG (fun j => score (rms q fun a => x7 (ix2 0 a)) (rms (fun a => x2 (ix2 j a)) fun a => x8 (ix2 0 a))) fun j => x3 (ix2 j d)) (funext fun a => ld_cols x1 1 _ rfl _ r a)
  case piece3 =>
    obtain rfl : h = 0 := Fin.ext (show h.val = 0 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((0 : Fin 4) : ℕ)) = 0 := rfl
        omega
      rw [Fin.ext a0, Fin.ext a1]
    rw [pay7_eq, fullG]
    exact congrArg (fun q => kerG (fun j => score (rms q fun a => x7 (ix2 0 a)) (rms (fun a => x2 (ix2 j a)) fun a => x8 (ix2 0 a))) fun j => x3 (ix2 j d)) (funext fun a => ld_cols x1 0 _ rfl _ r a)

theorem off_val (i : grid0.Coords) (b : Fin 4) : k0_off1 i (BitVec.ofNat 32 b.val) 0 = (i 1).val * 4 + b.val := by
  have h1 : ∀ u : Fin 2, ∀ b : Fin 4, (BitVec.ofNat 32 u.val * 4#32 + BitVec.ofNat 32 b.val).toNat = u.val * 4 + b.val := by decide
  exact h1 (i 1) b

theorem ld_sink (x : Vec Ideal S8 .f32) (i : grid0.Coords) (b : Fin 4) (v : BitVec 32) (hv : v = BitVec.ofNat 32 b.val) (hb hf) (hl : (i 1).val * 4 + b.val < 8) :
    View.ld x (Rect.unit (k0_off1 i v) ![1] hb) (Shape.Idx.first hf) = x (ix1 ⟨(i 1).val * 4 + b.val, hl⟩) := by
  subst hv
  refine View.ld_unit_apply_of x _ _ _ _ _ fun ax => ?_
  fin_cases ax
  exact (off_val i b).symm

theorem out10 (c : Dev nD) (i : grid0.Coords) (arg2 : Memref sig .tc .smem S8 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (x0 : Vec Ideal S8 .f32) (x1 : Vec Ideal S256x512 .f32) (x2 : Vec Ideal S256x128 .f32) (x3 : Vec Ideal S256x128 .f32) (x4 : Vec Ideal S256x512 .f32) (x5 : Vec Ideal S256x128 .f32) (x6 : Vec Ideal S256x128 .f32) (x7 : Vec Ideal S1x128 .f32) (x8 : Vec Ideal S1x128 .f32) (y : S256x512.Idx) (r : Fin 256) (h : Fin 4) (d : Fin 128) (hl : (i 1).val * 4 + h.val < 8)
    (hy0 : (y 0 : ℕ) = r.val) (hy1 : (y 1 : ℕ) = h.val * 128 + d.val) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
      = kerS (fun j => score (headCols x4 r h) (fun a => x5 (ix2 j a))) (fun j => x6 (ix2 j d)) (x0 (ix1 ⟨(i 1).val * 4 + h.val, hl⟩)) := by
  frame_out
  canon_tiles x e
  case piece0 =>
    obtain rfl : h = 3 := Fin.ext (show h.val = 3 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((3 : Fin 4) : ℕ)) = 3 := rfl
        omega
      rw [Fin.ext a0, Fin.ext a1]
    rw [pay1_eq, fullS]
    exact congrArg₂ (fun q g => kerS (fun j => score q fun a => x5 (ix2 j a)) (fun j => x6 (ix2 j d)) g) (funext fun a => ld_cols x4 3 _ rfl _ r a) (ld_sink x0 i 3 _ rfl _ _ hl)
  case piece1 =>
    obtain rfl : h = 2 := Fin.ext (show h.val = 2 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((2 : Fin 4) : ℕ)) = 2 := rfl
        omega
      rw [Fin.ext a0, Fin.ext a1]
    rw [pay19_eq, fullS]
    exact congrArg₂ (fun q g => kerS (fun j => score q fun a => x5 (ix2 j a)) (fun j => x6 (ix2 j d)) g) (funext fun a => ld_cols x4 2 _ rfl _ r a) (ld_sink x0 i 2 _ rfl _ _ hl)
  case piece2 =>
    obtain rfl : h = 1 := Fin.ext (show h.val = 1 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((1 : Fin 4) : ℕ)) = 1 := rfl
        omega
      rw [Fin.ext a0, Fin.ext a1]
    rw [pay17_eq, fullS]
    exact congrArg₂ (fun q g => kerS (fun j => score q fun a => x5 (ix2 j a)) (fun j => x6 (ix2 j d)) g) (funext fun a => ld_cols x4 1 _ rfl _ r a) (ld_sink x0 i 1 _ rfl _ _ hl)
  case piece3 =>
    obtain rfl : h = 0 := Fin.ext (show h.val = 0 by omega)
    obtain rfl : x = ix2 r d := by
      obtain ⟨r', d', rfl⟩ : ∃ r' d', x = ix2 r' d' := by idx_vars x; exact ⟨_, _, rfl⟩
      have a0 : (r' : ℕ) = r.val := by rw [← hy0, e0]; rfl
      have a1 : (d' : ℕ) = d.val := by
        have : ((ix2 r' d' : S256x128.Idx) 1 : ℕ) = d'.val := rfl
        have : (((0 : Fin 4) : ℕ)) = 0 := rfl
        omega
      rw [Fin.ext a0, Fin.ext a1]
    rw [pay8_eq, fullS]
    exact congrArg₂ (fun q g => kerS (fun j => score q fun a => x5 (ix2 j a)) (fun j => x6 (ix2 j d)) g) (funext fun a => ld_cols x4 0 _ rfl _ r a) (ld_sink x0 i 0 _ rfl _ _ hl)

theorem out11 (c : Dev nD) (i : grid0.Coords) (arg2 : Memref sig .tc .smem S8 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (x0 : Vec Ideal S8 .f32) (x1 : Vec Ideal S256x512 .f32) (x2 : Vec Ideal S256x128 .f32) (x3 : Vec Ideal S256x128 .f32) (x4 : Vec Ideal S256x512 .f32) (x5 : Vec Ideal S256x128 .f32) (x6 : Vec Ideal S256x128 .f32) (x7 : Vec Ideal S1x128 .f32) (x8 : Vec Ideal S1x128 .f32) (r : Fin 256) (d : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r d) = rms (fun a => x2 (ix2 r a)) (fun a => x8 (ix2 0 a)) d := by
  frame_out
  exact pay2_apply x2 x8 r d

theorem out12 (c : Dev nD) (i : grid0.Coords) (arg2 : Memref sig .tc .smem S8 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (x0 : Vec Ideal S8 .f32) (x1 : Vec Ideal S256x512 .f32) (x2 : Vec Ideal S256x128 .f32) (x3 : Vec Ideal S256x128 .f32) (x4 : Vec Ideal S256x512 .f32) (x5 : Vec Ideal S256x128 .f32) (x6 : Vec Ideal S256x128 .f32) (x7 : Vec Ideal S1x128 .f32) (x8 : Vec Ideal S1x128 .f32) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = x3 := by
  frame_out

theorem out13 (c : Dev nD) (i : grid0.Coords) (arg2 : Memref sig .tc .smem S8 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (x0 : Vec Ideal S8 .f32) (x1 : Vec Ideal S256x512 .f32) (x2 : Vec Ideal S256x128 .f32) (x3 : Vec Ideal S256x128 .f32) (x4 : Vec Ideal S256x512 .f32) (x5 : Vec Ideal S256x128 .f32) (x6 : Vec Ideal S256x128 .f32) (x7 : Vec Ideal S1x128 .f32) (x8 : Vec Ideal S1x128 .f32) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = x5 := by
  frame_out

theorem out14 (c : Dev nD) (i : grid0.Coords) (arg2 : Memref sig .tc .smem S8 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (x0 : Vec Ideal S8 .f32) (x1 : Vec Ideal S256x512 .f32) (x2 : Vec Ideal S256x128 .f32) (x3 : Vec Ideal S256x128 .f32) (x4 : Vec Ideal S256x512 .f32) (x5 : Vec Ideal S256x128 .f32) (x6 : Vec Ideal S256x128 .f32) (x7 : Vec Ideal S1x128 .f32) (x8 : Vec Ideal S1x128 .f32) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = x6 := by
  frame_out

end Cert.CtxAttnIdeal.Own
-- ==== Proof.CtxRef.lean ====
/- The reference of the context attention, read at an index in terms of the scalar arithmetic of one row. -/
module

public import proofs.«01_k».proof.Proof.CtxMath
public import proofs.«01_k».proof.Proof.Gen.CtxRefIdeal.Run
public import Idealize.ShloMosaic.Lib.Pipeline.ValueKit

@[expose] public section

set_option maxRecDepth 16384

noncomputable section

open Idealize.ShloMosaic Idealize.ShloMosaic.TcCoe Idealize.SL.Sem
open Cert.CtxMath

namespace Cert.CtxRefIdeal.Own

open Cert.CtxRefIdeal Cert.CtxRefIdeal.Gen

/-- The columns from 2048 on, as two heads of 128. -/
def kgCols (z : FVec Ideal S8192x22528 .f32) : FVec Ideal S32x256x2x128 .f32 :=
  shapeCast _ (extractStridedSlice S32x256x256 ![0, 0, 2048] (shapeCast _ z shapeCasts_S8192x22528_S32x256x22528) slices_S32x256x22528_S32x256x256_0_0_2048) shapeCasts_S32x256x256_S32x256x2x128

theorem kgCols_apply (z : FVec Ideal S8192x22528 .f32) (b : Fin 32) (i : Fin 256) (u : Fin 2) (d : Fin 128) :
    kgCols z (ix4 b i u d) = z (ix2 ⟨b.val * 256 + i.val, by omega⟩ ⟨2048 + u.val * 128 + d.val, by omega⟩) := by
  pointwise [kgCols]
  blk_ext

/-- The columns from 2304 on, as two heads of 128. -/
def vgCols (z : FVec Ideal S8192x22528 .f32) : FVec Ideal S32x256x2x128 .f32 :=
  shapeCast _ (extractStridedSlice S32x256x256 ![0, 0, 2304] (shapeCast _ z shapeCasts_S8192x22528_S32x256x22528) slices_S32x256x22528_S32x256x256_0_0_2304) shapeCasts_S32x256x256_S32x256x2x128

theorem vgCols_apply (z : FVec Ideal S8192x22528 .f32) (b : Fin 32) (i : Fin 256) (u : Fin 2) (d : Fin 128) :
    vgCols z (ix4 b i u d) = z (ix2 ⟨b.val * 256 + i.val, by omega⟩ ⟨2304 + u.val * 128 + d.val, by omega⟩) := by
  pointwise [vgCols]
  blk_ext

/-- The columns from 3584 on, as two heads of 128. -/
def kwCols (z : FVec Ideal S8192x22528 .f32) : FVec Ideal S32x256x2x128 .f32 :=
  shapeCast _ (extractStridedSlice S32x256x256 ![0, 0, 3584] (shapeCast _ z shapeCasts_S8192x22528_S32x256x22528) slices_S32x256x22528_S32x256x256_0_0_3584) shapeCasts_S32x256x256_S32x256x2x128

theorem kwCols_apply (z : FVec Ideal S8192x22528 .f32) (b : Fin 32) (i : Fin 256) (u : Fin 2) (d : Fin 128) :
    kwCols z (ix4 b i u d) = z (ix2 ⟨b.val * 256 + i.val, by omega⟩ ⟨3584 + u.val * 128 + d.val, by omega⟩) := by
  pointwise [kwCols]
  blk_ext

/-- The columns from 3840 on, as two heads of 128. -/
def vwCols (z : FVec Ideal S8192x22528 .f32) : FVec Ideal S32x256x2x128 .f32 :=
  shapeCast _ (extractStridedSlice S32x256x256 ![0, 0, 3840] (shapeCast _ z shapeCasts_S8192x22528_S32x256x22528) slices_S32x256x22528_S32x256x256_0_0_3840) shapeCasts_S32x256x256_S32x256x2x128

theorem vwCols_apply (z : FVec Ideal S8192x22528 .f32) (b : Fin 32) (i : Fin 256) (u : Fin 2) (d : Fin 128) :
    vwCols z (ix4 b i u d) = z (ix2 ⟨b.val * 256 + i.val, by omega⟩ ⟨3840 + u.val * 128 + d.val, by omega⟩) := by
  pointwise [vwCols]
  blk_ext

/-- The columns from 1024 on, as two times four heads of 128. -/
def qgCols (z : FVec Ideal S8192x22528 .f32) : FVec Ideal S32x256x2x4x128 .f32 :=
  shapeCast _ (extractStridedSlice S32x256x1024 ![0, 0, 1024] (shapeCast _ z shapeCasts_S8192x22528_S32x256x22528) slices_S32x256x22528_S32x256x1024_0_0_1024) shapeCasts_S32x256x1024_S32x256x2x4x128

theorem qgCols_apply (z : FVec Ideal S8192x22528 .f32) (b : Fin 32) (i : Fin 256) (u : Fin 2) (h : Fin 4) (d : Fin 128) :
    qgCols z (ix5 b i u h d) = z (ix2 ⟨b.val * 256 + i.val, by omega⟩ ⟨1024 + u.val * 512 + h.val * 128 + d.val, by omega⟩) := by
  pointwise [qgCols]
  blk_ext

/-- The columns from 2560 on, as two times four heads of 128. -/
def qwCols (z : FVec Ideal S8192x22528 .f32) : FVec Ideal S32x256x2x4x128 .f32 :=
  shapeCast _ (extractStridedSlice S32x256x1024 ![0, 0, 2560] (shapeCast _ z shapeCasts_S8192x22528_S32x256x22528) slices_S32x256x22528_S32x256x1024_0_0_2560) shapeCasts_S32x256x1024_S32x256x2x4x128

theorem qwCols_apply (z : FVec Ideal S8192x22528 .f32) (b : Fin 32) (i : Fin 256) (u : Fin 2) (h : Fin 4) (d : Fin 128) :
    qwCols z (ix5 b i u h d) = z (ix2 ⟨b.val * 256 + i.val, by omega⟩ ⟨2560 + u.val * 512 + h.val * 128 + d.val, by omega⟩) := by
  pointwise [qwCols]
  blk_ext

/-- The normalised keys. -/
def normK (x : FVec Ideal S32x256x2x128 .f32) (g : FVec Ideal S128 .f32) : FVec Ideal S32x256x2x128 .f32 :=
  mulf (mulf x (broadcastInDim S32x256x2x128 ![0, 1, 2, 3] bcast_S32x256x2x1_S32x256x2x128_0_1_2_3 (Host.rsqrt (addf (Host.divf (broadcastInDim S32x256x2x1 ![0, 1, 2] bcast_S32x256x2_S32x256x2x1_0_1_2 (Host.reduceAdd (mulf x x) (constant S_ .f32 0x00000000#32) reducesTo_S32x256x2x128_S32x256x2_d3 h_S_)) (broadcastInDim S32x256x2x1 ![] bcast_S_S32x256x2x1 (constant S_ .f32 0x43000000#32))) (broadcastInDim S32x256x2x1 ![] bcast_S_S32x256x2x1 (constant S_ .f32 0x358637BD#32)))))) (broadcastInDim S32x256x2x128 ![0, 1, 2, 3] bcast_S1x1x1x128_S32x256x2x128_0_1_2_3 (broadcastInDim S1x1x1x128 ![3] bcast_S128_S1x1x1x128_3 g))

theorem normK_apply (x : FVec Ideal S32x256x2x128 .f32) (g : FVec Ideal S128 .f32) (b : Fin 32) (i : Fin 256) (u : Fin 2) (d : Fin 128) :
    normK x g (ix4 b i u d) = rms (fun a => x (ix4 b i u a)) (fun a => g (ix1 a)) d := by
  unfold rms
  pointwise [normK]

/-- The normalised queries. -/
def normQ (x : FVec Ideal S32x256x2x4x128 .f32) (g : FVec Ideal S128 .f32) : FVec Ideal S32x256x2x4x128 .f32 :=
  mulf (mulf x (broadcastInDim S32x256x2x4x128 ![0, 1, 2, 3, 4] bcast_S32x256x2x4x1_S32x256x2x4x128_0_1_2_3_4 (Host.rsqrt (addf (Host.divf (broadcastInDim S32x256x2x4x1 ![0, 1, 2, 3] bcast_S32x256x2x4_S32x256x2x4x1_0_1_2_3 (Host.reduceAdd (mulf x x) (constant S_ .f32 0x00000000#32) reducesTo_S32x256x2x4x128_S32x256x2x4_d4 h_S_)) (broadcastInDim S32x256x2x4x1 ![] bcast_S_S32x256x2x4x1 (constant S_ .f32 0x43000000#32))) (broadcastInDim S32x256x2x4x1 ![] bcast_S_S32x256x2x4x1 (constant S_ .f32 0x358637BD#32)))))) (broadcastInDim S32x256x2x4x128 ![0, 1, 2, 3, 4] bcast_S1x1x1x1x128_S32x256x2x4x128_0_1_2_3_4 (broadcastInDim S1x1x1x1x128 ![4] bcast_S128_S1x1x1x1x128_4 g))

theorem normQ_apply (x : FVec Ideal S32x256x2x4x128 .f32) (g : FVec Ideal S128 .f32) (b : Fin 32) (i : Fin 256) (u : Fin 2) (h : Fin 4) (d : Fin 128) :
    normQ x g (ix5 b i u h d) = rms (fun a => x (ix5 b i u h a)) (fun a => g (ix1 a)) d := by
  unfold rms
  pointwise [normQ]

/-- The scaled scores. -/
def scoresR (k : FVec Ideal S32x256x2x128 .f32) (q : FVec Ideal S32x256x2x4x128 .f32) : FVec Ideal S32x2x4x256x256 .f32 :=
  mulf (transpose S32x2x4x256x256 [0, 1, 4, 3, 2] (Host.dotGeneral dot_S32x256x2x128_S32x256x2x4x128_S32x2x256x256x4_3_4_1_13_02_02 none k q) transposes_S32x2x256x256x4_S32x2x4x256x256_0_1_4_3_2) (broadcastInDim S32x2x4x256x256 ![] bcast_S_S32x2x4x256x256 (constant S_ .f32 0x3DB504F3#32))

theorem scoresR_apply (k : FVec Ideal S32x256x2x128 .f32) (q : FVec Ideal S32x256x2x4x128 .f32) (b : Fin 32) (u : Fin 2) (h : Fin 4) (i j : Fin 256) :
    scoresR k q (ix5 b u h i j) = score (fun d => q (ix5 b i u h d)) (fun d => k (ix4 b j u d)) := by
  unfold score
  simp only [mul_comm (q _) (k _)]
  pointwise [scoresR]

/-- The larger of a row's value and the least value. -/
def floorR (t : FVec Ideal S32x2x4x256 .f32) : FVec Ideal S32x2x4x256 .f32 :=
  maximumf (broadcastInDim S32x2x4x256 ![] bcast_S_S32x2x4x256 (constant S_ .f32 0xFF800000#32)) t

theorem floorR_apply (t : FVec Ideal S32x2x4x256 .f32) (b : Fin 32) (u : Fin 2) (h : Fin 4) (i : Fin 256) :
    floorR t (ix4 b u h i) = max low (t (ix4 b u h i)) := by
  pointwise [floorR]

/-- The largest score of each row of 256. -/
def foldR (s : FVec Ideal S32x2x4x256x256 .f32) : FVec Ideal S32x2x4x256 .f32 :=
  Host.reduce FloatOps.maximumf s (constant S_ .f32 0xFF800000#32) reducesTo_S32x2x4x256x256_S32x2x4x256_d4 h_S_

theorem foldR_apply (s : FVec Ideal S32x2x4x256x256 .f32) (b : Fin 32) (u : Fin 2) (h : Fin 4) (i : Fin 256) :
    foldR s (ix4 b u h i) = Finset.fold max (Ideal.ofBits FTy.f32 4286578688#32) (fun x => s (ix5 b u h i x)) Finset.univ := by
  pointwise [foldR]

/-- A value of each row as a column of 256. -/
def wideR (t : FVec Ideal S32x2x4x256 .f32) : FVec Ideal S32x2x4x256x256 .f32 :=
  broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3 t)

theorem wideR_apply (t : FVec Ideal S32x2x4x256 .f32) (b : Fin 32) (u : Fin 2) (h : Fin 4) (i : Fin 256) (j : Fin 256) :
    wideR t (ix5 b u h i j) = t (ix4 b u h i) := by
  pointwise [wideR]

/-- The largest score of each row of 256, over the least value. -/
def topR (s : FVec Ideal S32x2x4x256x256 .f32) : FVec Ideal S32x2x4x256x256 .f32 := wideR (floorR (foldR s))

theorem topR_apply (s : FVec Ideal S32x2x4x256x256 .f32) (b : Fin 32) (u : Fin 2) (h : Fin 4) (i : Fin 256) (j : Fin 256) :
    topR s (ix5 b u h i j) = max low (top fun x => s (ix5 b u h i x)) := by
  unfold topR
  rw [wideR_apply, floorR_apply, foldR_apply]

/-- The exponentials under the largest score. -/
def expR (s : FVec Ideal S32x2x4x256x256 .f32) : FVec Ideal S32x2x4x256x256 .f32 := Host.exp (subf s (topR s))

theorem expR_apply (s : FVec Ideal S32x2x4x256x256 .f32) (b : Fin 32) (u : Fin 2) (h : Fin 4) (i : Fin 256) (j : Fin 256) :
    expR s (ix5 b u h i j) = Ideal.exp (s (ix5 b u h i j) - max low (top fun x => s (ix5 b u h i x))) := by
  rw [← topR_apply s b u h i j]
  pointwise [expR]

/-- The sum of each row. -/
def sumR (e : FVec Ideal S32x2x4x256x256 .f32) : FVec Ideal S32x2x4x256x256 .f32 :=
  broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3 (Host.reduceAdd e (constant S_ .f32 0x00000000#32) reducesTo_S32x2x4x256x256_S32x2x4x256_d4 h_S_))

theorem sumR_apply (e : FVec Ideal S32x2x4x256x256 .f32) (b : Fin 32) (u : Fin 2) (h : Fin 4) (i : Fin 256) (j : Fin 256) :
    sumR e (ix5 b u h i j) = ∑ x : Fin 256, e (ix5 b u h i x) := by
  pointwise [sumR]

/-- The softmax over the last axis. -/
def softR (s : FVec Ideal S32x2x4x256x256 .f32) : FVec Ideal S32x2x4x256x256 .f32 := Host.divf (expR s) (sumR (expR s))

theorem softR_apply (s : FVec Ideal S32x2x4x256x256 .f32) (b : Fin 32) (u : Fin 2) (h : Fin 4) (i : Fin 256) (j : Fin 256) :
    softR s (ix5 b u h i j) = soft (fun x => s (ix5 b u h i x)) j := by
  have e : softR s (ix5 b u h i j) = Ideal.div (expR s (ix5 b u h i j)) (sumR (expR s) (ix5 b u h i j)) := by
    pointwise [softR]
  rw [e, sumR_apply]
  simp only [expR_apply]
  rfl

/-- The largest score of each row of 257. -/
def foldSR (s : FVec Ideal S32x2x4x256x257 .f32) : FVec Ideal S32x2x4x256 .f32 :=
  Host.reduce FloatOps.maximumf s (constant S_ .f32 0xFF800000#32) reducesTo_S32x2x4x256x257_S32x2x4x256_d4 h_S_

theorem foldSR_apply (s : FVec Ideal S32x2x4x256x257 .f32) (b : Fin 32) (u : Fin 2) (h : Fin 4) (i : Fin 256) :
    foldSR s (ix4 b u h i) = Finset.fold max (Ideal.ofBits FTy.f32 4286578688#32) (fun x => s (ix5 b u h i x)) Finset.univ := by
  pointwise [foldSR]

/-- A value of each row as a column of 257. -/
def wideSR (t : FVec Ideal S32x2x4x256 .f32) : FVec Ideal S32x2x4x256x257 .f32 :=
  broadcastInDim S32x2x4x256x257 ![0, 1, 2, 3, 4] bcast_S32x2x4x256x1_S32x2x4x256x257_0_1_2_3_4 (broadcastInDim S32x2x4x256x1 ![0, 1, 2, 3] bcast_S32x2x4x256_S32x2x4x256x1_0_1_2_3 t)

theorem wideSR_apply (t : FVec Ideal S32x2x4x256 .f32) (b : Fin 32) (u : Fin 2) (h : Fin 4) (i : Fin 256) (j : Fin 257) :
    wideSR t (ix5 b u h i j) = t (ix4 b u h i) := by
  pointwise [wideSR]

/-- The largest score of each row of 257, over the least value. -/
def topSR (s : FVec Ideal S32x2x4x256x257 .f32) : FVec Ideal S32x2x4x256x257 .f32 := wideSR (floorR (foldSR s))

theorem topSR_apply (s : FVec Ideal S32x2x4x256x257 .f32) (b : Fin 32) (u : Fin 2) (h : Fin 4) (i : Fin 256) (j : Fin 257) :
    topSR s (ix5 b u h i j) = max low (top fun x => s (ix5 b u h i x)) := by
  unfold topSR
  rw [wideSR_apply, floorR_apply, foldSR_apply]

/-- The exponentials under the largest score. -/
def expSR (s : FVec Ideal S32x2x4x256x257 .f32) : FVec Ideal S32x2x4x256x257 .f32 := Host.exp (subf s (topSR s))

theorem expSR_apply (s : FVec Ideal S32x2x4x256x257 .f32) (b : Fin 32) (u : Fin 2) (h : Fin 4) (i : Fin 256) (j : Fin 257) :
    expSR s (ix5 b u h i j) = Ideal.exp (s (ix5 b u h i j) - max low (top fun x => s (ix5 b u h i x))) := by
  rw [← topSR_apply s b u h i j]
  pointwise [expSR]

/-- The sum of each row. -/
def sumSR (e : FVec Ideal S32x2x4x256x257 .f32) : FVec Ideal S32x2x4x256x257 .f32 :=
  broadcastInDim S32x2x4x256x257 ![0, 1, 2, 3, 4] bcast_S32x2x4x256x1_S32x2x4x256x257_0_1_2_3_4 (broadcastInDim S32x2x4x256x1 ![0, 1, 2, 3] bcast_S32x2x4x256_S32x2x4x256x1_0_1_2_3 (Host.reduceAdd e (constant S_ .f32 0x00000000#32) reducesTo_S32x2x4x256x257_S32x2x4x256_d4 h_S_))

theorem sumSR_apply (e : FVec Ideal S32x2x4x256x257 .f32) (b : Fin 32) (u : Fin 2) (h : Fin 4) (i : Fin 256) (j : Fin 257) :
    sumSR e (ix5 b u h i j) = ∑ x : Fin 257, e (ix5 b u h i x) := by
  pointwise [sumSR]

/-- The softmax over the last axis. -/
def softSR (s : FVec Ideal S32x2x4x256x257 .f32) : FVec Ideal S32x2x4x256x257 .f32 := Host.divf (expSR s) (sumSR (expSR s))

theorem softSR_apply (s : FVec Ideal S32x2x4x256x257 .f32) (b : Fin 32) (u : Fin 2) (h : Fin 4) (i : Fin 256) (j : Fin 257) :
    softSR s (ix5 b u h i j) = soft (fun x => s (ix5 b u h i x)) j := by
  have e : softSR s (ix5 b u h i j) = Ideal.div (expSR s (ix5 b u h i j)) (sumSR (expSR s) (ix5 b u h i j)) := by
    pointwise [softSR]
  rw [e, sumSR_apply]
  simp only [expSR_apply]
  rfl

/-- The scores with the sink's column behind them. -/
def sinkR (s : FVec Ideal S32x2x4x256x256 .f32) (g : FVec Ideal S8 .f32) : FVec Ideal S32x2x4x256x257 .f32 :=
  concatenate S32x2x4x256x257 4 [⟨S32x2x4x256x256, s⟩, ⟨S32x2x4x256x1, (broadcastInDim S32x2x4x256x1 ![0, 1, 2, 3, 4] bcast_S1x2x4x1x1_S32x2x4x256x1_0_1_2_3_4 (shapeCast _ g shapeCasts_S8_S1x2x4x1x1))⟩] concatenates_S32x2x4x256x256_S32x2x4x256x1_S32x2x4x256x257_d4

theorem sinkR_apply (s : FVec Ideal S32x2x4x256x256 .f32) (g : FVec Ideal S8 .f32) (b : Fin 32) (u : Fin 2) (h : Fin 4) (i : Fin 256) (x : Fin 257) :
    sinkR s g (ix5 b u h i x) = withSink (fun j => s (ix5 b u h i j)) (g (ix1 ⟨u.val * 4 + h.val, by omega⟩)) x := by
  unfold withSink
  pointwise [sinkR]

/-- The weights without the sink's column. -/
def dropR (p : FVec Ideal S32x2x4x256x257 .f32) : FVec Ideal S32x2x4x256x256 .f32 :=
  extractStridedSlice S32x2x4x256x256 ![0, 0, 0, 0, 0] p slices_S32x2x4x256x257_S32x2x4x256x256_0_0_0_0_0

theorem dropR_apply (p : FVec Ideal S32x2x4x256x257 .f32) (b : Fin 32) (u : Fin 2) (h : Fin 4) (i j : Fin 256) :
    dropR p (ix5 b u h i j) = p (ix5 b u h i j.castSucc) := by
  pointwise [dropR]
  rfl

/-- The values under the weights, laid out by rows. -/
def attR (v : FVec Ideal S32x256x2x128 .f32) (p : FVec Ideal S32x2x4x256x256 .f32) : FVec Ideal S8192x1024 .bf16 :=
  truncf .bf16 (shapeCast _ (transpose S32x256x2x4x128 [0, 4, 1, 3, 2] (Host.dotGeneral dot_S32x256x2x128_S32x2x4x256x256_S32x2x128x4x256_1_4_3_23_02_01 none v p) transposes_S32x2x128x4x256_S32x256x2x4x128_0_4_1_3_2) shapeCasts_S32x256x2x4x128_S8192x1024) bitsLt_bf16_f32

theorem attR_apply (v : FVec Ideal S32x256x2x128 .f32) (p : FVec Ideal S32x2x4x256x256 .f32) (b : Fin 32) (i : Fin 256) (u : Fin 2) (h : Fin 4) (d : Fin 128)
    (R : Fin 8192) (C : Fin 1024) (hR : R.val = b.val * 256 + i.val) (hC : C.val = u.val * 512 + h.val * 128 + d.val) :
    attR v p (ix2 R C) = ∑ j, v (ix4 b j u d) * p (ix5 b u h i j) := by
  pointwise [attR]
  refine Finset.sum_congr rfl fun j _ => ?_
  refine congrArg₂ (fun x y : EReal => x * y) (congrArg v ?_) (congrArg p ?_)
  · blk_ext
  · blk_ext

/-- The heads of a cache, laid out by rows. -/
def flatR (x : FVec Ideal S32x256x2x128 .f32) : FVec Ideal S8192x256 .f32 := shapeCast _ x shapeCasts_S32x256x2x128_S8192x256

theorem flatR_apply (x : FVec Ideal S32x256x2x128 .f32) (b : Fin 32) (i : Fin 256) (u : Fin 2) (d : Fin 128)
    (R : Fin 8192) (C : Fin 256) (hR : R.val = b.val * 256 + i.val) (hC : C.val = u.val * 128 + d.val) :
    flatR x (ix2 R C) = x (ix4 b i u d) := by
  pointwise [flatR]
  blk_ext

/-- The six results of the reference. -/
abbrev REF0 (z : FVec Ideal S8192x22528 .f32) (qn kn : FVec Ideal S128 .f32) : FVec Ideal S8192x1024 .bf16 :=
  attR (vgCols z) (softR (scoresR (normK (kgCols z) kn) (normQ (qgCols z) qn)))
abbrev REF1 (z : FVec Ideal S8192x22528 .f32) (g : FVec Ideal S8 .f32) : FVec Ideal S8192x1024 .bf16 :=
  attR (vwCols z) (dropR (softSR (sinkR (scoresR (kwCols z) (qwCols z)) g)))
abbrev REF2 (z : FVec Ideal S8192x22528 .f32) (kn : FVec Ideal S128 .f32) : FVec Ideal S8192x256 .f32 := flatR (normK (kgCols z) kn)
abbrev REF3 (z : FVec Ideal S8192x22528 .f32) : FVec Ideal S8192x256 .f32 := flatR (vgCols z)
abbrev REF4 (z : FVec Ideal S8192x22528 .f32) : FVec Ideal S8192x256 .f32 := flatR (kwCols z)
abbrev REF5 (z : FVec Ideal S8192x22528 .f32) : FVec Ideal S8192x256 .f32 := flatR (vwCols z)

set_option maxRecDepth 65536 in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = REF0 (m ((c.tc : Thread nD τ).loc main_arg0)) (m ((c.tc : Thread nD τ).loc main_arg2)) (m ((c.tc : Thread nD τ).loc main_arg3))
      ∧ r.2.mem ((c.tc : Thread nD τ).loc main_v86) = REF1 (m ((c.tc : Thread nD τ).loc main_arg0)) (m ((c.tc : Thread nD τ).loc main_arg1))
      ∧ r.2.mem ((c.tc : Thread nD τ).loc main_v81) = REF2 (m ((c.tc : Thread nD τ).loc main_arg0)) (m ((c.tc : Thread nD τ).loc main_arg3))
      ∧ r.2.mem ((c.tc : Thread nD τ).loc main_v82) = REF3 (m ((c.tc : Thread nD τ).loc main_arg0))
      ∧ r.2.mem ((c.tc : Thread nD τ).loc main_v83) = REF4 (m ((c.tc : Thread nD τ).loc main_arg0))
      ∧ r.2.mem ((c.tc : Thread nD τ).loc main_v84) = REF5 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.CtxRefIdeal.Own
-- ==== Proof.CtxBridge.lean ====
/- One block of the kernel's results is the reference's, from what its input blocks hold of the arrays. -/
module

public import proofs.«01_k».proof.Proof.CtxPoint
public import proofs.«01_k».proof.Proof.CtxRef

@[expose] public section

set_option maxRecDepth 16384

noncomputable section

open Idealize.ShloMosaic
open Cert.CtxMath

namespace Cert.CtxAttnIdeal.Own

open Cert.CtxAttnIdeal
open Cert.CtxRefIdeal.Own (REF0 REF1 REF2 REF3 REF4 REF5)

variable (z : FVec Ideal S8192x22528 .f32) (g : FVec Ideal S8 .f32) (qn kn : FVec Ideal S128 .f32)
variable (b : Fin 32) (u : Fin 2)

/-- A block of 512 columns from column `o` on. -/
def Wide (o : ℕ) (x : Vec Ideal S256x512 .f32) : Prop :=
  ∀ (r : Fin 256) (l : Fin 512) (C : Fin 22528), C.val = o + u.val * 512 + l.val → x (ix2 r l) = z (ix2 ⟨b.val * 256 + r.val, by omega⟩ C)

/-- A block of 128 columns from column `o` on. -/
def Narrow (o : ℕ) (x : Vec Ideal S256x128 .f32) : Prop :=
  ∀ (r : Fin 256) (l : Fin 128) (C : Fin 22528), C.val = o + u.val * 128 + l.val → x (ix2 r l) = z (ix2 ⟨b.val * 256 + r.val, by omega⟩ C)

theorem bridge9 (x1 : Vec Ideal S256x512 .f32) (x2 x3 : Vec Ideal S256x128 .f32) (x7 x8 : Vec Ideal S1x128 .f32)
    (e1 : Wide z b u 1024 x1) (e2 : Narrow z b u 2048 x2) (e3 : Narrow z b u 2304 x3)
    (e7 : ∀ a, x7 (ix2 0 a) = qn (ix1 a)) (e8 : ∀ a, x8 (ix2 0 a) = kn (ix1 a))
    (hz : ∀ (R : Fin 8192) (C : Fin 22528), 1024 ≤ C.val → C.val < 2304 → Real' (z (ix2 R C)))
    (hq : ∀ a, Real' (qn (ix1 a))) (hk : ∀ a, Real' (kn (ix1 a)))
    (r : Fin 256) (h : Fin 4) (d : Fin 128) (R : Fin 8192) (C : Fin 1024) (hR : R.val = b.val * 256 + r.val) (hC : C.val = u.val * 512 + h.val * 128 + d.val) :
    kerG (fun j => score (rms (headCols x1 r h) (fun a => x7 (ix2 0 a))) (rms (fun a => x2 (ix2 j a)) (fun a => x8 (ix2 0 a)))) (fun j => x3 (ix2 j d))
      = REF0 z qn kn (ix2 R C) := by
  have q1 : headCols x1 r h = fun a => z (ix2 ⟨b.val * 256 + r.val, by omega⟩ ⟨1024 + u.val * 512 + h.val * 128 + a.val, by omega⟩) :=
    funext fun a => e1 _ _ _ (by dsimp only; omega)
  have q2 : ∀ j a, x2 (ix2 j a) = z (ix2 ⟨b.val * 256 + j.val, by omega⟩ ⟨2048 + u.val * 128 + a.val, by omega⟩) :=
    fun j a => e2 _ _ _ rfl
  have q3 : ∀ j, x3 (ix2 j d) = z (ix2 ⟨b.val * 256 + j.val, by omega⟩ ⟨2304 + u.val * 128 + d.val, by omega⟩) :=
    fun j => e3 _ _ _ rfl
  refine Eq.trans ?_ (Cert.CtxRefIdeal.Own.attR_apply _ _ b r u h d R C hR hC).symm
  simp only [Cert.CtxRefIdeal.Own.softR_apply, Cert.CtxRefIdeal.Own.scoresR_apply, Cert.CtxRefIdeal.Own.normK_apply,
    Cert.CtxRefIdeal.Own.normQ_apply, Cert.CtxRefIdeal.Own.kgCols_apply, Cert.CtxRefIdeal.Own.vgCols_apply, Cert.CtxRefIdeal.Own.qgCols_apply]
  simp only [q1, q2, q3, e7, e8]
  refine kerG_eq _ fun j => score_real (fun a => rms_real (fun a => hz _ _ ?_ ?_) hq a) (fun a => rms_real (fun a => hz _ _ ?_ ?_) hk a) <;>
    (dsimp only; omega)

theorem bridge10 (x0 : Vec Ideal S8 .f32) (x4 : Vec Ideal S256x512 .f32) (x5 x6 : Vec Ideal S256x128 .f32)
    (e4 : Wide z b u 2560 x4) (e5 : Narrow z b u 3584 x5) (e6 : Narrow z b u 3840 x6)
    (e0 : ∀ a, x0 (ix1 a) = g (ix1 a))
    (hz : ∀ (R : Fin 8192) (C : Fin 22528), 2560 ≤ C.val → C.val < 3840 → Real' (z (ix2 R C)))
    (hg : ∀ a, Real' (g (ix1 a)))
    (r : Fin 256) (h : Fin 4) (d : Fin 128) (k : Fin 8) (hk : k.val = u.val * 4 + h.val)
    (R : Fin 8192) (C : Fin 1024) (hR : R.val = b.val * 256 + r.val) (hC : C.val = u.val * 512 + h.val * 128 + d.val) :
    kerS (fun j => score (headCols x4 r h) (fun a => x5 (ix2 j a))) (fun j => x6 (ix2 j d)) (x0 (ix1 k))
      = REF1 z g (ix2 R C) := by
  have q1 : headCols x4 r h = fun a => z (ix2 ⟨b.val * 256 + r.val, by omega⟩ ⟨2560 + u.val * 512 + h.val * 128 + a.val, by omega⟩) :=
    funext fun a => e4 _ _ _ (by dsimp only; omega)
  have q2 : ∀ j a, x5 (ix2 j a) = z (ix2 ⟨b.val * 256 + j.val, by omega⟩ ⟨3584 + u.val * 128 + a.val, by omega⟩) :=
    fun j a => e5 _ _ _ rfl
  have q3 : ∀ j, x6 (ix2 j d) = z (ix2 ⟨b.val * 256 + j.val, by omega⟩ ⟨3840 + u.val * 128 + d.val, by omega⟩) :=
    fun j => e6 _ _ _ rfl
  have hb : u.val * 4 + h.val < 8 := by have := u.isLt; have := h.isLt; omega
  obtain rfl : k = ⟨u.val * 4 + h.val, hb⟩ := Fin.ext hk
  refine Eq.trans ?_ (Cert.CtxRefIdeal.Own.attR_apply _ _ b r u h d R C hR hC).symm
  simp only [Cert.CtxRefIdeal.Own.dropR_apply, Cert.CtxRefIdeal.Own.softSR_apply, Cert.CtxRefIdeal.Own.sinkR_apply, Cert.CtxRefIdeal.Own.scoresR_apply,
    Cert.CtxRefIdeal.Own.kwCols_apply, Cert.CtxRefIdeal.Own.vwCols_apply, Cert.CtxRefIdeal.Own.qwCols_apply]
  simp only [q1, q2, q3, e0]
  refine kerS_eq _ (fun j => score_real (fun a => hz _ _ ?_ ?_) (fun a => hz _ _ ?_ ?_)) (hg _) <;>
    (dsimp only; omega)

theorem bridge11 (x2 : Vec Ideal S256x128 .f32) (x8 : Vec Ideal S1x128 .f32) (e2 : Narrow z b u 2048 x2) (e8 : ∀ a, x8 (ix2 0 a) = kn (ix1 a))
    (r : Fin 256) (d : Fin 128) (R : Fin 8192) (C : Fin 256) (hR : R.val = b.val * 256 + r.val) (hC : C.val = u.val * 128 + d.val) :
    rms (fun a => x2 (ix2 r a)) (fun a => x8 (ix2 0 a)) d = REF2 z kn (ix2 R C) := by
  have q2 : ∀ a, x2 (ix2 r a) = z (ix2 ⟨b.val * 256 + r.val, by omega⟩ ⟨2048 + u.val * 128 + a.val, by omega⟩) :=
    fun a => e2 _ _ _ rfl
  refine Eq.trans ?_ (Cert.CtxRefIdeal.Own.flatR_apply _ b r u d R C hR hC).symm
  simp only [Cert.CtxRefIdeal.Own.normK_apply, Cert.CtxRefIdeal.Own.kgCols_apply, q2, e8]

theorem bridge12 (x : Vec Ideal S256x128 .f32) (e : Narrow z b u 2304 x) (r : Fin 256) (d : Fin 128) (R : Fin 8192) (C : Fin 256)
    (hR : R.val = b.val * 256 + r.val) (hC : C.val = u.val * 128 + d.val) : x (ix2 r d) = REF3 z (ix2 R C) := by
  refine Eq.trans ?_ (Cert.CtxRefIdeal.Own.flatR_apply _ b r u d R C hR hC).symm
  rw [Cert.CtxRefIdeal.Own.vgCols_apply]
  exact e _ _ _ rfl

theorem bridge13 (x : Vec Ideal S256x128 .f32) (e : Narrow z b u 3584 x) (r : Fin 256) (d : Fin 128) (R : Fin 8192) (C : Fin 256)
    (hR : R.val = b.val * 256 + r.val) (hC : C.val = u.val * 128 + d.val) : x (ix2 r d) = REF4 z (ix2 R C) := by
  refine Eq.trans ?_ (Cert.CtxRefIdeal.Own.flatR_apply _ b r u d R C hR hC).symm
  rw [Cert.CtxRefIdeal.Own.kwCols_apply]
  exact e _ _ _ rfl

theorem bridge14 (x : Vec Ideal S256x128 .f32) (e : Narrow z b u 3840 x) (r : Fin 256) (d : Fin 128) (R : Fin 8192) (C : Fin 256)
    (hR : R.val = b.val * 256 + r.val) (hC : C.val = u.val * 128 + d.val) : x (ix2 r d) = REF5 z (ix2 R C) := by
  refine Eq.trans ?_ (Cert.CtxRefIdeal.Own.flatR_apply _ b r u d R C hR hC).symm
  rw [Cert.CtxRefIdeal.Own.vwCols_apply]
  exact e _ _ _ rfl

end Cert.CtxAttnIdeal.Own
-- ==== Proof.CtxPre.lean ====
/- What the precondition says of the arrays: the columns the scores are made of, the sinks and the gains are real numbers. -/
module

public import proofs.«01_k».proof.Proof.CtxMath
public import proofs.«01_k».proof.Pre_scores_finite
public import Idealize.ShloMosaic.Lib.Pipeline.ValueKit

@[expose] public section

set_option maxRecDepth 16384

noncomputable section

open Idealize.ShloMosaic
open Cert.CtxMath

namespace Cert.Pre_scores_finite.Own

open Cert.Pre_scores_finite

/-- The shape relations of the precondition hold. -/
instance facts : Cert.Pre_scores_finite.Facts := ⟨by decide, by decide, by decide, by decide, by decide⟩

/-- A value whose magnitude is under infinity is a real number. -/
theorem real_of_lt {x : EReal} (h : Ideal.cmp .olt (max x (-x)) (Ideal.ofBits FTy.f32 0x7F800000#32) = 1#1) : Real' x := by
  have htop : Ideal.ofBits FTy.f32 0x7F800000#32 = ⊤ := by simp [Ideal.ofBits, Ideal.ieee]
  rw [htop] at h
  have hlt : max x (-x) < ⊤ := by
    by_contra hn
    have e : Ideal.cmp .olt (max x (-x)) ⊤ = 0#1 := by
      show BitVec.ofBool (decide _) = _
      rw [decide_eq_false hn]; rfl
    rw [e] at h
    exact absurd h (by decide)
  have h1 : x ≠ ⊤ := (lt_of_le_of_lt (le_max_left _ _) hlt).ne
  have h2 : x ≠ ⊥ := by
    rintro rfl
    exact absurd hlt (by simp)
  exact ⟨x.toReal, (EReal.coe_toReal h1 h2).symm⟩

variable [Cert.Pre_scores_finite.Facts] (z : FVec Ideal S8192x22528 .f32) (g : FVec Ideal S8 .f32) (q k : FVec Ideal S128 .f32)

theorem cols_global (h : (fn (F := Ideal) z g q k).1 = fun _ => 1#1) (R : Fin 8192) (C : Fin 1280) (C' : Fin 22528) (e : C'.val = 1024 + C.val) :
    Real' (z (ix2 R C')) := by
  have hb : 1024 + C.val < 22528 := by have := C.isLt; omega
  obtain rfl : C' = ⟨1024 + C.val, hb⟩ := Fin.ext e
  have h' := congrFun h (ix2 R C)
  have e : (fn (F := Ideal) z g q k).1 (ix2 R C) = Ideal.cmp .olt (max (z (ix2 R ⟨1024 + C.val, by omega⟩)) (-(z (ix2 R ⟨1024 + C.val, by omega⟩)))) (Ideal.ofBits FTy.f32 0x7F800000#32) := by
    pointwise [fn]
    rfl
  exact real_of_lt (e.symm.trans h')

theorem cols_window (h : (fn (F := Ideal) z g q k).2.1 = fun _ => 1#1) (R : Fin 8192) (C : Fin 1280) (C' : Fin 22528) (e : C'.val = 2560 + C.val) :
    Real' (z (ix2 R C')) := by
  have hb : 2560 + C.val < 22528 := by have := C.isLt; omega
  obtain rfl : C' = ⟨2560 + C.val, hb⟩ := Fin.ext e
  have h' := congrFun h (ix2 R C)
  have e : (fn (F := Ideal) z g q k).2.1 (ix2 R C) = Ideal.cmp .olt (max (z (ix2 R ⟨2560 + C.val, by omega⟩)) (-(z (ix2 R ⟨2560 + C.val, by omega⟩)))) (Ideal.ofBits FTy.f32 0x7F800000#32) := by
    pointwise [fn]
    rfl
  exact real_of_lt (e.symm.trans h')

theorem sinks (h : (fn (F := Ideal) z g q k).2.2.1 = fun _ => 1#1) (a : Fin 8) : Real' (g (ix1 a)) := by
  have h' := congrFun h (ix1 a)
  have e : (fn (F := Ideal) z g q k).2.2.1 (ix1 a) = Ideal.cmp .olt (max (g (ix1 a)) (-(g (ix1 a)))) (Ideal.ofBits FTy.f32 0x7F800000#32) := by
    pointwise [fn]
    rfl
  exact real_of_lt (e.symm.trans h')

theorem gains_q (h : (fn (F := Ideal) z g q k).2.2.2.1 = fun _ => 1#1) (a : Fin 128) : Real' (q (ix1 a)) := by
  have h' := congrFun h (ix1 a)
  have e : (fn (F := Ideal) z g q k).2.2.2.1 (ix1 a) = Ideal.cmp .olt (max (q (ix1 a)) (-(q (ix1 a)))) (Ideal.ofBits FTy.f32 0x7F800000#32) := by
    pointwise [fn]
    rfl
  exact real_of_lt (e.symm.trans h')

theorem gains_k (h : (fn (F := Ideal) z g q k).2.2.2.2 = fun _ => 1#1) (a : Fin 128) : Real' (k (ix1 a)) := by
  have h' := congrFun h (ix1 a)
  have e : (fn (F := Ideal) z g q k).2.2.2.2 (ix1 a) = Ideal.cmp .olt (max (k (ix1 a)) (-(k (ix1 a)))) (Ideal.ofBits FTy.f32 0x7F800000#32) := by
    pointwise [fn]
    rfl
  exact real_of_lt (e.symm.trans h')

end Cert.Pre_scores_finite.Own
-- ==== Proof.CtxAttnValue.lean ====
/- The context attention: every block of the six results is the reference's. -/
module

public import proofs.«01_k».proof.Proof.CtxBridge
public import proofs.«01_k».proof.Proof.CtxPre
public import proofs.«01_k».proof.Proof.Gen.CtxAttnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.CtxMath

namespace Cert.CtxAttnIdeal.Own

open Cert.CtxAttnIdeal Cert.CtxAttnIdeal.Gen
open Cert.CtxRefIdeal.Own (REF0 REF1 REF2 REF3 REF4 REF5)

variable (m : (ℓ : Loc nD τ sig) → Buf (Elt Ideal) ℓ)

/-- Which block each window reads or writes at a grid point, and the head group the point is of. -/
theorem idx : ∀ t : Fin cfg0.N,
    win0_0.index t = ![0] ∧ win0_1.index t = ![t.val / 2, 2 + t.val % 2] ∧ win0_2.index t = ![t.val / 2, 16 + t.val % 2]
      ∧ win0_3.index t = ![t.val / 2, 18 + t.val % 2] ∧ win0_4.index t = ![t.val / 2, 5 + t.val % 2] ∧ win0_5.index t = ![t.val / 2, 28 + t.val % 2]
      ∧ win0_6.index t = ![t.val / 2, 30 + t.val % 2] ∧ win0_7.index t = ![0, 0] ∧ win0_8.index t = ![0, 0]
      ∧ win0_9.index t = ![t.val / 2, t.val % 2] ∧ win0_10.index t = ![t.val / 2, t.val % 2] ∧ win0_11.index t = ![t.val / 2, t.val % 2]
      ∧ win0_12.index t = ![t.val / 2, t.val % 2] ∧ win0_13.index t = ![t.val / 2, t.val % 2] ∧ win0_14.index t = ![t.val / 2, t.val % 2] :=
  (by decide +kernel : ∀ t : Fin grid0.N, _)

theorem group : ∀ t : Fin cfg0.N, (grid0.coords t 1).val = t.val % 2 :=
  (by decide +kernel : ∀ t : Fin grid0.N, _)

theorem lt64 (t : Fin cfg0.N) : t.val < 64 := lt_of_lt_of_eq t.isLt N_0

/-- The cache entry and the head group of a grid point. -/
def bOf (t : Fin cfg0.N) : Fin 32 := ⟨t.val / 2, by have := lt64 t; omega⟩
def uOf (t : Fin cfg0.N) : Fin 2 := ⟨t.val % 2, by omega⟩

/-- The array of a device. -/
abbrev zArr (c : Dev nD) : FVec Ideal S8192x22528 .f32 := m ((c : Thread nD τ).loc main_arg0)
abbrev gArr (c : Dev nD) : FVec Ideal S8 .f32 := m ((c : Thread nD τ).loc main_arg1)
abbrev qArr (c : Dev nD) : FVec Ideal S128 .f32 := m ((c : Thread nD τ).loc main_arg2)
abbrev kArr (c : Dev nD) : FVec Ideal S128 .f32 := m ((c : Thread nD τ).loc main_arg3)

theorem read1 (c : Dev nD) (t : Fin cfg0.N) : Wide (zArr m c) (bOf t) (uOf t) 1024 (iblk m c 1 t) := by
  intro r l C hC
  have hC' : C.val = 1024 + t.val % 2 * 512 + l.val := hC
  have e := (idx t).2.1
  unfold bOf
  blk_point [iblk, V, e]

theorem read2 (c : Dev nD) (t : Fin cfg0.N) : Narrow (zArr m c) (bOf t) (uOf t) 2048 (iblk m c 2 t) := by
  intro r l C hC
  have hC' : C.val = 2048 + t.val % 2 * 128 + l.val := hC
  have e := (idx t).2.2.1
  unfold bOf
  blk_point [iblk, V, e]

theorem read3 (c : Dev nD) (t : Fin cfg0.N) : Narrow (zArr m c) (bOf t) (uOf t) 2304 (iblk m c 3 t) := by
  intro r l C hC
  have hC' : C.val = 2304 + t.val % 2 * 128 + l.val := hC
  have e := (idx t).2.2.2.1
  unfold bOf
  blk_point [iblk, V, e]

theorem read4 (c : Dev nD) (t : Fin cfg0.N) : Wide (zArr m c) (bOf t) (uOf t) 2560 (iblk m c 4 t) := by
  intro r l C hC
  have hC' : C.val = 2560 + t.val % 2 * 512 + l.val := hC
  have e := (idx t).2.2.2.2.1
  unfold bOf
  blk_point [iblk, V, e]

theorem read5 (c : Dev nD) (t : Fin cfg0.N) : Narrow (zArr m c) (bOf t) (uOf t) 3584 (iblk m c 5 t) := by
  intro r l C hC
  have hC' : C.val = 3584 + t.val % 2 * 128 + l.val := hC
  have e := (idx t).2.2.2.2.2.1
  unfold bOf
  blk_point [iblk, V, e]

theorem read6 (c : Dev nD) (t : Fin cfg0.N) : Narrow (zArr m c) (bOf t) (uOf t) 3840 (iblk m c 6 t) := by
  intro r l C hC
  have hC' : C.val = 3840 + t.val % 2 * 128 + l.val := hC
  have e := (idx t).2.2.2.2.2.2.1
  unfold bOf
  blk_point [iblk, V, e]

theorem read0 (c : Dev nD) (t : Fin cfg0.N) : ∀ a, (show Vec Ideal S8 .f32 from iblk m c 0 t) (ix1 a) = gArr m c (ix1 a) := by
  intro a
  have e := (idx t).1
  blk_point [iblk, V, e]

theorem read7 (c : Dev nD) (t : Fin cfg0.N) : ∀ a, (show Vec Ideal S1x128 .f32 from iblk m c 7 t) (ix2 0 a) = qArr m c (ix1 a) := by
  intro a
  have e := (idx t).2.2.2.2.2.2.2.1
  blk_point [iblk, V, e]

theorem read8 (c : Dev nD) (t : Fin cfg0.N) : ∀ a, (show Vec Ideal S1x128 .f32 from iblk m c 8 t) (ix2 0 a) = kArr m c (ix1 a) := by
  intro a
  have e := (idx t).2.2.2.2.2.2.2.2.1
  blk_point [iblk, V, e]

/-- The results without a sink: the whole array. -/
theorem final9 (c : Dev nD)
    (hz : ∀ (R : Fin 8192) (C : Fin 22528), 1024 ≤ C.val → C.val < 2304 → Real' (zArr m c (ix2 R C)))
    (hq : ∀ a, Real' (qArr m c (ix1 a))) (hk : ∀ a, Real' (kArr m c (ix1 a))) :
    (dats m 0 c).arrAt 9 (cfgs 0).N = REF0 (zArr m c) (qArr m c) (kArr m c) := by
  refine (dats m 0 c).arrAt_eq_of_covers 9 _ (by decide +kernel) fun t hf y => ?_
  have ht := lt64 t
  have e := (idx t).2.2.2.2.2.2.2.2.2.1
  obtain ⟨r, l, rfl⟩ : ∃ (r : Fin 256) (l : Fin 512), y = ix2 r l := by idx_vars y; exact ⟨_, _, rfl⟩
  blk_simp
  rw [after0_9]
  simp only [outsAt0]
  refine (out9 _ _ _ _ _ _ _ _ _ _ _ _ _ _ _ _ _ _ _ _ _ _ _ _ _ _ _ _ _ _ _ _ _ _ _ _ _ _ _ _ _ (ix2 r l) r ⟨l.val / 128, by omega⟩ ⟨l.val % 128, by omega⟩ rfl (by show l.val = l.val / 128 * 128 + l.val % 128; omega)).trans ?_
  refine (bridge9 (zArr m c) (qArr m c) (kArr m c) (bOf t) (uOf t) _ _ _ _ _ (read1 m c t) (read2 m c t) (read3 m c t) (read7 m c t) (read8 m c t)
    hz hq hk r _ _ ⟨t.val / 2 * 256 + r.val, by omega⟩ ⟨t.val % 2 * 512 + l.val, by omega⟩ rfl (by show t.val % 2 * 512 + l.val = t.val % 2 * 512 + l.val / 128 * 128 + l.val % 128; omega)).trans ?_
  blk_point [iblk, V, e]

/-- The results with a sink: the whole array. -/
theorem final10 (c : Dev nD)
    (hz : ∀ (R : Fin 8192) (C : Fin 22528), 2560 ≤ C.val → C.val < 3840 → Real' (zArr m c (ix2 R C)))
    (hg : ∀ a, Real' (gArr m c (ix1 a))) :
    (dats m 0 c).arrAt 10 (cfgs 0).N = REF1 (zArr m c) (gArr m c) := by
  refine (dats m 0 c).arrAt_eq_of_covers 10 _ (by decide +kernel) fun t hf y => ?_
  have ht := lt64 t
  have e := (idx t).2.2.2.2.2.2.2.2.2.2.1
  obtain ⟨r, l, rfl⟩ : ∃ (r : Fin 256) (l : Fin 512), y = ix2 r l := by idx_vars y; exact ⟨_, _, rfl⟩
  blk_simp
  rw [after0_10]
  simp only [outsAt0]
  have hu : (grid0.coords t 1).val * 4 + l.val / 128 < 8 := by rw [group t]; omega
  refine (out10 _ _ _ _ _ _ _ _ _ _ _ _ _ _ _ _ _ _ _ _ _ _ _ _ _ _ _ _ _ _ _ _ _ _ _ _ _ _ _ _ _ (ix2 r l) r ⟨l.val / 128, by omega⟩ ⟨l.val % 128, by omega⟩ hu rfl (by show l.val = l.val / 128 * 128 + l.val % 128; omega)).trans ?_
  refine (bridge10 (zArr m c) (gArr m c) (bOf t) (uOf t) _ _ _ _ (read4 m c t) (read5 m c t) (read6 m c t) (read0 m c t)
    hz hg r _ _ _ (by show (grid0.coords t 1).val * 4 + l.val / 128 = t.val % 2 * 4 + l.val / 128; rw [group t]) ⟨t.val / 2 * 256 + r.val, by omega⟩ ⟨t.val % 2 * 512 + l.val, by omega⟩ rfl
    (by show t.val % 2 * 512 + l.val = t.val % 2 * 512 + l.val / 128 * 128 + l.val % 128; omega)).trans ?_
  blk_point [iblk, V, e]

/-- The normalised keys: the whole array. -/
theorem final11 (c : Dev nD) :
    (dats m 0 c).arrAt 11 (cfgs 0).N = REF2 (zArr m c) (kArr m c) := by
  refine (dats m 0 c).arrAt_eq_of_covers 11 _ (by decide +kernel) fun t hf y => ?_
  have ht := lt64 t
  have e := (idx t).2.2.2.2.2.2.2.2.2.2.2.1
  obtain ⟨r, l, rfl⟩ : ∃ (r : Fin 256) (l : Fin 128), y = ix2 r l := by idx_vars y; exact ⟨_, _, rfl⟩
  blk_simp
  rw [after0_11]
  simp only [outsAt0]
  refine (out11 _ _ _ _ _ _ _ _ _ _ _ _ _ _ _ _ _ _ _ _ _ _ _ _ _ _ _ _ _ _ _ _ _ _ _ _ _ _ _ _ _ r l).trans ?_
  refine (bridge11 (zArr m c) (kArr m c) (bOf t) (uOf t) _ _ (read2 m c t) (read8 m c t) r l ⟨t.val / 2 * 256 + r.val, by omega⟩ ⟨t.val % 2 * 128 + l.val, by omega⟩ rfl rfl).trans ?_
  blk_point [iblk, V, e]

/-- The values without a sink: the whole array. -/
theorem final12 (c : Dev nD) :
    (dats m 0 c).arrAt 12 (cfgs 0).N = REF3 (zArr m c) := by
  refine (dats m 0 c).arrAt_eq_of_covers 12 _ (by decide +kernel) fun t hf y => ?_
  have ht := lt64 t
  have e := (idx t).2.2.2.2.2.2.2.2.2.2.2.2.1
  obtain ⟨r, l, rfl⟩ : ∃ (r : Fin 256) (l : Fin 128), y = ix2 r l := by idx_vars y; exact ⟨_, _, rfl⟩
  blk_simp
  rw [after0_12]
  simp only [outsAt0]
  refine (congrFun (out12 _ _ _ _ _ _ _ _ _ _ _ _ _ _ _ _ _ _ _ _ _ _ _ _ _ _ _ _ _ _ _ _ _ _ _ _ _ _ _ _ _) (ix2 r l)).trans ?_
  refine (bridge12 (zArr m c) (bOf t) (uOf t) _ (read3 m c t) r l ⟨t.val / 2 * 256 + r.val, by omega⟩ ⟨t.val % 2 * 128 + l.val, by omega⟩ rfl rfl).trans ?_
  blk_point [iblk, V, e]

/-- The keys with a sink: the whole array. -/
theorem final13 (c : Dev nD) :
    (dats m 0 c).arrAt 13 (cfgs 0).N = REF4 (zArr m c) := by
  refine (dats m 0 c).arrAt_eq_of_covers 13 _ (by decide +kernel) fun t hf y => ?_
  have ht := lt64 t
  have e := (idx t).2.2.2.2.2.2.2.2.2.2.2.2.2.1
  obtain ⟨r, l, rfl⟩ : ∃ (r : Fin 256) (l : Fin 128), y = ix2 r l := by idx_vars y; exact ⟨_, _, rfl⟩
  blk_simp
  rw [after0_13]
  simp only [outsAt0]
  refine (congrFun (out13 _ _ _ _ _ _ _ _ _ _ _ _ _ _ _ _ _ _ _ _ _ _ _ _ _ _ _ _ _ _ _ _ _ _ _ _ _ _ _ _ _) (ix2 r l)).trans ?_
  refine (bridge13 (zArr m c) (bOf t) (uOf t) _ (read5 m c t) r l ⟨t.val / 2 * 256 + r.val, by omega⟩ ⟨t.val % 2 * 128 + l.val, by omega⟩ rfl rfl).trans ?_
  blk_point [iblk, V, e]

/-- The values with a sink: the whole array. -/
theorem final14 (c : Dev nD) :
    (dats m 0 c).arrAt 14 (cfgs 0).N = REF5 (zArr m c) := by
  refine (dats m 0 c).arrAt_eq_of_covers 14 _ (by decide +kernel) fun t hf y => ?_
  have ht := lt64 t
  have e := (idx t).2.2.2.2.2.2.2.2.2.2.2.2.2.2
  obtain ⟨r, l, rfl⟩ : ∃ (r : Fin 256) (l : Fin 128), y = ix2 r l := by idx_vars y; exact ⟨_, _, rfl⟩
  blk_simp
  rw [after0_14]
  simp only [outsAt0]
  refine (congrFun (out14 _ _ _ _ _ _ _ _ _ _ _ _ _ _ _ _ _ _ _ _ _ _ _ _ _ _ _ _ _ _ _ _ _ _ _ _ _ _ _ _ _) (ix2 r l)).trans ?_
  refine (bridge14 (zArr m c) (bOf t) (uOf t) _ (read6 m c t) r l ⟨t.val / 2 * 256 + r.val, by omega⟩ ⟨t.val % 2 * 128 + l.val, by omega⟩ rfl rfl).trans ?_
  blk_point [iblk, V, e]

end Cert.CtxAttnIdeal.Own
-- ==== Proof.MergeValue.lean ====
/- The four gated branch products summed: the tiled kernel's array is the reference's. -/
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeRefIdeal.Gates

open Cert.MergeRefIdeal Cert.MergeRefIdeal.Gen

/-- The sigmoid of every gate channel, by branch. -/
def gates (z : FVec Ideal S8192x22528 .f32) : FVec Ideal S8192x4x4096 .f32 :=
  shapeCast _ (Host.divf (broadcastInDim S8192x16384 ![] bcast_S_S8192x16384 (constant S_ .f32 0x3F800000#32)) (addf (broadcastInDim S8192x16384 ![] bcast_S_S8192x16384 (constant S_ .f32 0x3F800000#32)) (Host.exp (Host.negf (extractStridedSlice S8192x16384 ![0, 6144] z slices_S8192x22528_S8192x16384_0_6144))))) shapeCasts_S8192x16384_S8192x4x4096

theorem gates_apply (z : FVec Ideal S8192x22528 .f32) (r : Fin 8192) (n : Fin 4) (d : Fin 4096) :
    gates z (ix3 r n d) = Ideal.logistic (z (ix2 r ⟨6144 + (n.val * 4096 + d.val), by omega⟩)) := by
  pointwise [gates, Ideal.logistic]

/-- Branch 0: its gate by its product. -/
def branch0 (G : FVec Ideal S8192x4x4096 .f32) (b : FVec Ideal S8192x1024 .bf16) (w : FVec Ideal S4x1024x4096 .bf16) : FVec Ideal S8192x4096 .f32 :=
  mulf (shapeCast _ (extractStridedSlice S8192x1x4096 ![0, 0, 0] G slices_S8192x4x4096_S8192x1x4096_0_0_0) shapeCasts_S8192x1x4096_S8192x4096)
    (Host.dotGeneral dot_S8192x1024_S1024x4096_S8192x4096_1_0_0_1_n_n none (extf .f32 b bitsLt_bf16_f32) (shapeCast _ (extractStridedSlice S1x1024x4096 ![0, 0, 0] (extf .f32 w bitsLt_bf16_f32) slices_S4x1024x4096_S1x1024x4096_0_0_0) shapeCasts_S1x1024x4096_S1024x4096))

theorem branch0_apply (G : FVec Ideal S8192x4x4096 .f32) (b : FVec Ideal S8192x1024 .bf16) (w : FVec Ideal S4x1024x4096 .bf16) (r : Fin 8192) (d : Fin 4096) :
    branch0 G b w (ix2 r d) = G (ix3 r 0 d) * ∑ k : Fin 1024, b (ix2 r k) * w (ix3 0 k d) := by
  pointwise [branch0]

/-- Branch 1: its gate by its product. -/
def branch1 (G : FVec Ideal S8192x4x4096 .f32) (b : FVec Ideal S8192x1024 .bf16) (w : FVec Ideal S4x1024x4096 .bf16) : FVec Ideal S8192x4096 .f32 :=
  mulf (shapeCast _ (extractStridedSlice S8192x1x4096 ![0, 1, 0] G slices_S8192x4x4096_S8192x1x4096_0_1_0) shapeCasts_S8192x1x4096_S8192x4096)
    (Host.dotGeneral dot_S8192x1024_S1024x4096_S8192x4096_1_0_0_1_n_n none (extf .f32 b bitsLt_bf16_f32) (shapeCast _ (extractStridedSlice S1x1024x4096 ![1, 0, 0] (extf .f32 w bitsLt_bf16_f32) slices_S4x1024x4096_S1x1024x4096_1_0_0) shapeCasts_S1x1024x4096_S1024x4096))

theorem branch1_apply (G : FVec Ideal S8192x4x4096 .f32) (b : FVec Ideal S8192x1024 .bf16) (w : FVec Ideal S4x1024x4096 .bf16) (r : Fin 8192) (d : Fin 4096) :
    branch1 G b w (ix2 r d) = G (ix3 r 1 d) * ∑ k : Fin 1024, b (ix2 r k) * w (ix3 1 k d) := by
  pointwise [branch1]

/-- Branch 2: its gate by its product. -/
def branch2 (G : FVec Ideal S8192x4x4096 .f32) (b : FVec Ideal S8192x1024 .bf16) (w : FVec Ideal S4x1024x4096 .bf16) : FVec Ideal S8192x4096 .f32 :=
  mulf (shapeCast _ (extractStridedSlice S8192x1x4096 ![0, 2, 0] G slices_S8192x4x4096_S8192x1x4096_0_2_0) shapeCasts_S8192x1x4096_S8192x4096)
    (Host.dotGeneral dot_S8192x1024_S1024x4096_S8192x4096_1_0_0_1_n_n none (extf .f32 b bitsLt_bf16_f32) (shapeCast _ (extractStridedSlice S1x1024x4096 ![2, 0, 0] (extf .f32 w bitsLt_bf16_f32) slices_S4x1024x4096_S1x1024x4096_2_0_0) shapeCasts_S1x1024x4096_S1024x4096))

theorem branch2_apply (G : FVec Ideal S8192x4x4096 .f32) (b : FVec Ideal S8192x1024 .bf16) (w : FVec Ideal S4x1024x4096 .bf16) (r : Fin 8192) (d : Fin 4096) :
    branch2 G b w (ix2 r d) = G (ix3 r 2 d) * ∑ k : Fin 1024, b (ix2 r k) * w (ix3 2 k d) := by
  pointwise [branch2]

/-- Branch 3: its gate by its product. -/
def branch3 (G : FVec Ideal S8192x4x4096 .f32) (b : FVec Ideal S8192x1024 .bf16) (w : FVec Ideal S4x1024x4096 .bf16) : FVec Ideal S8192x4096 .f32 :=
  mulf (shapeCast _ (extractStridedSlice S8192x1x4096 ![0, 3, 0] G slices_S8192x4x4096_S8192x1x4096_0_3_0) shapeCasts_S8192x1x4096_S8192x4096)
    (Host.dotGeneral dot_S8192x1024_S1024x4096_S8192x4096_1_0_0_1_n_n none (extf .f32 b bitsLt_bf16_f32) (shapeCast _ (extractStridedSlice S1x1024x4096 ![3, 0, 0] (extf .f32 w bitsLt_bf16_f32) slices_S4x1024x4096_S1x1024x4096_3_0_0) shapeCasts_S1x1024x4096_S1024x4096))

theorem branch3_apply (G : FVec Ideal S8192x4x4096 .f32) (b : FVec Ideal S8192x1024 .bf16) (w : FVec Ideal S4x1024x4096 .bf16) (r : Fin 8192) (d : Fin 4096) :
    branch3 G b w (ix2 r d) = G (ix3 r 3 d) * ∑ k : Fin 1024, b (ix2 r k) * w (ix3 3 k d) := by
  pointwise [branch3]

/-- The reference's sum of the four gated branches. -/
def REF (b0 b1 b2 b3 : FVec Ideal S8192x1024 .bf16) (w : FVec Ideal S4x1024x4096 .bf16) (z : FVec Ideal S8192x22528 .f32) : FVec Ideal S8192x4096 .bf16 :=
  truncf .bf16 (addf (addf (addf (branch0 (gates z) b0 w) (branch1 (gates z) b1 w)) (branch2 (gates z) b2 w)) (branch3 (gates z) b3 w)) bitsLt_bf16_f32

/-- One gated product of the reference, at a row and a channel. -/
def prod (b : FVec Ideal S8192x1024 .bf16) (w : FVec Ideal S4x1024x4096 .bf16) (z : FVec Ideal S8192x22528 .f32) (n : Fin 4) (r : Fin 8192) (d : Fin 4096) : EReal :=
  Ideal.logistic (z (ix2 r ⟨6144 + (n.val * 4096 + d.val), by omega⟩)) * ∑ k : Fin 1024, b (ix2 r k) * w (ix3 n k d)

theorem REF_apply (b0 b1 b2 b3 : FVec Ideal S8192x1024 .bf16) (w : FVec Ideal S4x1024x4096 .bf16) (z : FVec Ideal S8192x22528 .f32) (r : Fin 8192) (d : Fin 4096) :
    REF b0 b1 b2 b3 w z (ix2 r d) = prod b0 w z 0 r d + prod b1 w z 1 r d + prod b2 w z 2 r d + prod b3 w z 3 r d := by
  have e : REF b0 b1 b2 b3 w z (ix2 r d)
      = branch0 (gates z) b0 w (ix2 r d) + branch1 (gates z) b1 w (ix2 r d) + branch2 (gates z) b2 w (ix2 r d) + branch3 (gates z) b3 w (ix2 r d) := rfl
  rw [e, branch0_apply, branch1_apply, branch2_apply, branch3_apply]
  simp only [gates_apply]
  rfl

end Cert.MergeRefIdeal.Gates

namespace Cert.MergeIdeal.Gates

open Cert.MergeIdeal Cert.MergeIdeal.Gen
open Cert.MergeRefIdeal.Gates (REF REF_apply prod)

/-- One gated product of a chunk of rows. -/
def branch (g : Vec Ideal S128x256 .f32) (b : Vec Ideal S128x1024 .bf16) (w : Vec Ideal S1x1024x256 .bf16) : FVec Ideal S128x256 .f32 :=
  mulf (logistic g) (matmul (F := Ideal) (φ₁ := .bf16) (φ₂ := .bf16) dot_S128x1024_S1024x256_S128x256_1_0_0_1_n_n none b (shapeCast (α := Ideal .bf16) S1024x256 w shapeCasts_S1x1024x256_S1024x256) (constant S128x256 .f32 0x00000000#32))

theorem branch_apply (g : Vec Ideal S128x256 .f32) (b : Vec Ideal S128x1024 .bf16) (w : Vec Ideal S1x1024x256 .bf16) (r : Fin 128) (l : Fin 256) :
    branch g b w (ix2 r l) = Ideal.logistic (g (ix2 r l)) * ∑ k : Fin 1024, b (ix2 r k) * w (ix3 0 k l) := by
  pointwise [branch]

/-- The four gated products of a chunk of rows, summed. -/
def chunk (g0 : Vec Ideal S128x256 .f32) (b0 : Vec Ideal S128x1024 .bf16) (w0 : Vec Ideal S1x1024x256 .bf16) (g1 : Vec Ideal S128x256 .f32) (b1 : Vec Ideal S128x1024 .bf16) (w1 : Vec Ideal S1x1024x256 .bf16)
    (g2 : Vec Ideal S128x256 .f32) (b2 : Vec Ideal S128x1024 .bf16) (w2 : Vec Ideal S1x1024x256 .bf16) (g3 : Vec Ideal S128x256 .f32) (b3 : Vec Ideal S128x1024 .bf16) (w3 : Vec Ideal S1x1024x256 .bf16) : FVec Ideal S128x256 .bf16 :=
  truncf .bf16 (addf (addf (addf (branch g0 b0 w0) (branch g1 b1 w1)) (branch g2 b2 w2)) (branch g3 b3 w3)) bitsLt_bf16_f32

section Chunks

variable (g0 g1 g2 g3 : Vec Ideal S128x256 .f32) (b0 b1 b2 b3 : Vec Ideal S128x1024 .bf16) (w0 w1 w2 w3 : Vec Ideal S1x1024x256 .bf16)

theorem stored0 : k0_pay1 (k0_pay42 g0 b0 w0 g1 b1 w1 g2 b2 w2) (k0_pay43 g3) b3 w3 = chunk g0 b0 w0 g1 b1 w1 g2 b2 w2 g3 b3 w3 := rfl
theorem stored1 : k0_pay41 (k0_pay40 g0) b0 w0 g1 b1 w1 g2 b2 w2 g3 b3 w3 = chunk g0 b0 w0 g1 b1 w1 g2 b2 w2 g3 b3 w3 := rfl
theorem stored2 : k0_pay39 (k0_pay37 g0) (k0_pay38 b0 w0) g1 b1 w1 g2 b2 w2 g3 b3 w3 = chunk g0 b0 w0 g1 b1 w1 g2 b2 w2 g3 b3 w3 := rfl
theorem stored3 : k0_pay36 (k0_pay34 g0 b0 w0) (k0_pay35 g1) b1 w1 g2 b2 w2 g3 b3 w3 = chunk g0 b0 w0 g1 b1 w1 g2 b2 w2 g3 b3 w3 := rfl
theorem stored4 : k0_pay33 (k0_pay31 g0 b0 w0) (k0_pay32 g1 b1 w1) g2 b2 w2 g3 b3 w3 = chunk g0 b0 w0 g1 b1 w1 g2 b2 w2 g3 b3 w3 := rfl
theorem stored5 : k0_pay30 (k0_pay28 g0 b0 w0 g1 b1 w1) (k0_pay29 g2) b2 w2 g3 b3 w3 = chunk g0 b0 w0 g1 b1 w1 g2 b2 w2 g3 b3 w3 := rfl
theorem stored6 : k0_pay27 (k0_pay25 g0 b0 w0 g1 b1 w1) (k0_pay26 g2 b2 w2) g3 b3 w3 = chunk g0 b0 w0 g1 b1 w1 g2 b2 w2 g3 b3 w3 := rfl
theorem stored7 : k0_pay24 (k0_pay22 g0 b0 w0 g1 b1 w1 g2 b2 w2) (k0_pay23 g3) b3 w3 = chunk g0 b0 w0 g1 b1 w1 g2 b2 w2 g3 b3 w3 := rfl
theorem stored8 : k0_pay21 (k0_pay19 g0 b0 w0 g1 b1 w1 g2 b2 w2) (k0_pay20 g3 b3 w3) = chunk g0 b0 w0 g1 b1 w1 g2 b2 w2 g3 b3 w3 := rfl
theorem stored9 : k0_pay18 (k0_pay17 g0) b0 w0 g1 b1 w1 g2 b2 w2 g3 b3 w3 = chunk g0 b0 w0 g1 b1 w1 g2 b2 w2 g3 b3 w3 := rfl
theorem stored10 : k0_pay16 (k0_pay15 g0 b0 w0) g1 b1 w1 g2 b2 w2 g3 b3 w3 = chunk g0 b0 w0 g1 b1 w1 g2 b2 w2 g3 b3 w3 := rfl
theorem stored11 : k0_pay14 (k0_pay12 g0 b0 w0) (k0_pay13 g1) b1 w1 g2 b2 w2 g3 b3 w3 = chunk g0 b0 w0 g1 b1 w1 g2 b2 w2 g3 b3 w3 := rfl
theorem stored12 : k0_pay11 (k0_pay10 g0 b0 w0 g1 b1 w1) g2 b2 w2 g3 b3 w3 = chunk g0 b0 w0 g1 b1 w1 g2 b2 w2 g3 b3 w3 := rfl
theorem stored13 : k0_pay9 (k0_pay7 g0 b0 w0 g1 b1 w1) (k0_pay8 g2) b2 w2 g3 b3 w3 = chunk g0 b0 w0 g1 b1 w1 g2 b2 w2 g3 b3 w3 := rfl
theorem stored14 : k0_pay6 (k0_pay5 g0 b0 w0 g1 b1 w1 g2 b2 w2) g3 b3 w3 = chunk g0 b0 w0 g1 b1 w1 g2 b2 w2 g3 b3 w3 := rfl
theorem stored15 : k0_pay4 (k0_pay2 g0 b0 w0 g1 b1 w1 g2 b2 w2) (k0_pay3 g3) b3 w3 = chunk g0 b0 w0 g1 b1 w1 g2 b2 w2 g3 b3 w3 := rfl

end Chunks

/-- One gated product of a whole tile. -/
def term (g : Vec Ideal S2048x256 .f32) (b : Vec Ideal S2048x1024 .bf16) (w : Vec Ideal S4x1024x256 .bf16) (n : Fin 4) (r : Fin 2048) (l : Fin 256) : EReal :=
  Ideal.logistic (g (ix2 r l)) * ∑ k : Fin 1024, b (ix2 r k) * w (ix3 n k l)

theorem ld_gate (g : Vec Ideal S2048x256 .f32) (o : ℕ) (ho : o + 128 ≤ 2048) (hb) (r : Fin 128) (l : Fin 256) :
    View.ld g (Rect.unit (s := S2048x256) ![o, 0] S128x256.size hb) (ix2 r l) = g (ix2 ⟨o + r.val, by omega⟩ l) := by
  refine View.ld_unit_apply_of g _ _ _ _ _ fun ax => ?_
  fin_cases ax
  · rfl
  · exact (Nat.zero_add _).symm

theorem ld_rows (b : Vec Ideal S2048x1024 .bf16) (o : ℕ) (ho : o + 128 ≤ 2048) (hb) (r : Fin 128) (k : Fin 1024) :
    View.ld b (Rect.unit (s := S2048x1024) ![o, 0] S128x1024.size hb) (ix2 r k) = b (ix2 ⟨o + r.val, by omega⟩ k) := by
  refine View.ld_unit_apply_of b _ _ _ _ _ fun ax => ?_
  fin_cases ax
  · rfl
  · exact (Nat.zero_add _).symm

theorem ld_plane (w : Vec Ideal S4x1024x256 .bf16) (n : Fin 4) (hb) (k : Fin 1024) (l : Fin 256) :
    View.ld w (Rect.unit (s := S4x1024x256) ![n.val, 0, 0] S1x1024x256.size hb) (ix3 0 k l) = w (ix3 n k l) := by
  refine View.ld_unit_apply_of w _ _ _ _ _ fun ax => ?_
  fin_cases ax
  · exact (Nat.add_zero _).symm
  · exact (Nat.zero_add _).symm
  · exact (Nat.zero_add _).symm

theorem branch_ld (g : Vec Ideal S2048x256 .f32) (b : Vec Ideal S2048x1024 .bf16) (w : Vec Ideal S4x1024x256 .bf16) (n : Fin 4) (o : ℕ) (ho : o + 128 ≤ 2048) (hg) (hr) (hw) (r : Fin 128) (l : Fin 256) :
    branch (View.ld g (Rect.unit (s := S2048x256) ![o, 0] S128x256.size hg)) (View.ld b (Rect.unit (s := S2048x1024) ![o, 0] S128x1024.size hr))
      (View.ld w (Rect.unit (s := S4x1024x256) ![n.val, 0, 0] S1x1024x256.size hw)) (ix2 r l) = term g b w n ⟨o + r.val, by omega⟩ l := by
  refine (branch_apply _ _ _ r l).trans ?_
  unfold term
  refine congrArg₂ (fun a s => Ideal.logistic a * s) (ld_gate g o ho hg r l) (Finset.sum_congr rfl fun k _ => ?_)
  exact congrArg₂ (fun a s : EReal => a * s) (ld_rows b o ho hr r k) (ld_plane w n hw k l)

/-- The tile a grid point leaves, at a row and a channel. -/
def tile (w : Vec Ideal S4x1024x256 .bf16) (b0 b1 b2 b3 : Vec Ideal S2048x1024 .bf16) (g0 g1 g2 g3 : Vec Ideal S2048x256 .f32) (r : Fin 2048) (l : Fin 256) : EReal :=
  term g0 b0 w 0 r l + term g1 b1 w 1 r l + term g2 b2 w 2 r l + term g3 b3 w 3 r l

theorem chunk_at (w : Vec Ideal S4x1024x256 .bf16) (b0 b1 b2 b3 : Vec Ideal S2048x1024 .bf16) (g0 g1 g2 g3 : Vec Ideal S2048x256 .f32) (o : ℕ) (ho : o + 128 ≤ 2048) (hg) (hr) (h0) (h1) (h2) (h3)
    (x : S128x256.Idx) (r : Fin 2048) (l : Fin 256) (hy0 : r.val = o + (x 0).val) (hy1 : l.val = (x 1).val) :
    chunk (View.ld g0 (Rect.unit (s := S2048x256) ![o, 0] S128x256.size hg)) (View.ld b0 (Rect.unit (s := S2048x1024) ![o, 0] S128x1024.size hr)) (View.ld w (Rect.unit (s := S4x1024x256) ![(0 : Fin 4).val, 0, 0] S1x1024x256.size h0))
      (View.ld g1 (Rect.unit (s := S2048x256) ![o, 0] S128x256.size hg)) (View.ld b1 (Rect.unit (s := S2048x1024) ![o, 0] S128x1024.size hr)) (View.ld w (Rect.unit (s := S4x1024x256) ![(1 : Fin 4).val, 0, 0] S1x1024x256.size h1))
      (View.ld g2 (Rect.unit (s := S2048x256) ![o, 0] S128x256.size hg)) (View.ld b2 (Rect.unit (s := S2048x1024) ![o, 0] S128x1024.size hr)) (View.ld w (Rect.unit (s := S4x1024x256) ![(2 : Fin 4).val, 0, 0] S1x1024x256.size h2))
      (View.ld g3 (Rect.unit (s := S2048x256) ![o, 0] S128x256.size hg)) (View.ld b3 (Rect.unit (s := S2048x1024) ![o, 0] S128x1024.size hr)) (View.ld w (Rect.unit (s := S4x1024x256) ![(3 : Fin 4).val, 0, 0] S1x1024x256.size h3)) x
      = tile w b0 b1 b2 b3 g0 g1 g2 g3 r l := by
  obtain ⟨a, q, rfl⟩ : ∃ (a : Fin 128) (q : Fin 256), x = ix2 a q := by idx_vars x; exact ⟨_, _, rfl⟩
  obtain rfl : l = q := Fin.ext hy1
  have hr0 : r = ⟨o + a.val, by have := a.isLt; omega⟩ := Fin.ext hy0
  rw [hr0]
  unfold tile
  exact congrArg₂ (fun s t : EReal => s + t) (congrArg₂ (fun s t : EReal => s + t) (congrArg₂ (fun s t : EReal => s + t)
    (branch_ld g0 b0 w 0 o ho hg hr h0 a l) (branch_ld g1 b1 w 1 o ho hg hr h1 a l)) (branch_ld g2 b2 w 2 o ho hg hr h2 a l)) (branch_ld g3 b3 w 3 o ho hg hr h3 a l)

/-- What a grid point leaves in its output block is that tile. -/
theorem out_apply (x0 : Vec Ideal S4x1024x256 .bf16) (x1 x2 x3 x4 : Vec Ideal S2048x1024 .bf16) (x5 x6 x7 x8 : Vec Ideal S2048x256 .f32) (y : S2048x256.Idx) :
    out0_9 x0 x1 x2 x3 x4 x5 x6 x7 x8 y = tile x0 x1 x2 x3 x4 x5 x6 x7 x8 (y 0) (y 1) := by
  unfold out0_9
  canon_tiles x e
  case piece0 =>
    refine (congrFun (stored0 _ _ _ _ _ _ _ _ _ _ _ _) x).trans ?_
    exact chunk_at x0 x1 x2 x3 x4 x5 x6 x7 x8 1920 (by omega) inb_S2048x256_S128x256_1920_0 inb_S2048x1024_S128x1024_1920_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece1 =>
    refine (congrFun (stored1 _ _ _ _ _ _ _ _ _ _ _ _) x).trans ?_
    exact chunk_at x0 x1 x2 x3 x4 x5 x6 x7 x8 1792 (by omega) inb_S2048x256_S128x256_1792_0 inb_S2048x1024_S128x1024_1792_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece2 =>
    refine (congrFun (stored2 _ _ _ _ _ _ _ _ _ _ _ _) x).trans ?_
    exact chunk_at x0 x1 x2 x3 x4 x5 x6 x7 x8 1664 (by omega) inb_S2048x256_S128x256_1664_0 inb_S2048x1024_S128x1024_1664_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece3 =>
    refine (congrFun (stored3 _ _ _ _ _ _ _ _ _ _ _ _) x).trans ?_
    exact chunk_at x0 x1 x2 x3 x4 x5 x6 x7 x8 1536 (by omega) inb_S2048x256_S128x256_1536_0 inb_S2048x1024_S128x1024_1536_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece4 =>
    refine (congrFun (stored4 _ _ _ _ _ _ _ _ _ _ _ _) x).trans ?_
    exact chunk_at x0 x1 x2 x3 x4 x5 x6 x7 x8 1408 (by omega) inb_S2048x256_S128x256_1408_0 inb_S2048x1024_S128x1024_1408_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece5 =>
    refine (congrFun (stored5 _ _ _ _ _ _ _ _ _ _ _ _) x).trans ?_
    exact chunk_at x0 x1 x2 x3 x4 x5 x6 x7 x8 1280 (by omega) inb_S2048x256_S128x256_1280_0 inb_S2048x1024_S128x1024_1280_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece6 =>
    refine (congrFun (stored6 _ _ _ _ _ _ _ _ _ _ _ _) x).trans ?_
    exact chunk_at x0 x1 x2 x3 x4 x5 x6 x7 x8 1152 (by omega) inb_S2048x256_S128x256_1152_0 inb_S2048x1024_S128x1024_1152_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece7 =>
    refine (congrFun (stored7 _ _ _ _ _ _ _ _ _ _ _ _) x).trans ?_
    exact chunk_at x0 x1 x2 x3 x4 x5 x6 x7 x8 1024 (by omega) inb_S2048x256_S128x256_1024_0 inb_S2048x1024_S128x1024_1024_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece8 =>
    refine (congrFun (stored8 _ _ _ _ _ _ _ _ _ _ _ _) x).trans ?_
    exact chunk_at x0 x1 x2 x3 x4 x5 x6 x7 x8 896 (by omega) inb_S2048x256_S128x256_896_0 inb_S2048x1024_S128x1024_896_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece9 =>
    refine (congrFun (stored9 _ _ _ _ _ _ _ _ _ _ _ _) x).trans ?_
    exact chunk_at x0 x1 x2 x3 x4 x5 x6 x7 x8 768 (by omega) inb_S2048x256_S128x256_768_0 inb_S2048x1024_S128x1024_768_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece10 =>
    refine (congrFun (stored10 _ _ _ _ _ _ _ _ _ _ _ _) x).trans ?_
    exact chunk_at x0 x1 x2 x3 x4 x5 x6 x7 x8 640 (by omega) inb_S2048x256_S128x256_640_0 inb_S2048x1024_S128x1024_640_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece11 =>
    refine (congrFun (stored11 _ _ _ _ _ _ _ _ _ _ _ _) x).trans ?_
    exact chunk_at x0 x1 x2 x3 x4 x5 x6 x7 x8 512 (by omega) inb_S2048x256_S128x256_512_0 inb_S2048x1024_S128x1024_512_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece12 =>
    refine (congrFun (stored12 _ _ _ _ _ _ _ _ _ _ _ _) x).trans ?_
    exact chunk_at x0 x1 x2 x3 x4 x5 x6 x7 x8 384 (by omega) inb_S2048x256_S128x256_384_0 inb_S2048x1024_S128x1024_384_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece13 =>
    refine (congrFun (stored13 _ _ _ _ _ _ _ _ _ _ _ _) x).trans ?_
    exact chunk_at x0 x1 x2 x3 x4 x5 x6 x7 x8 256 (by omega) inb_S2048x256_S128x256_256_0 inb_S2048x1024_S128x1024_256_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece14 =>
    refine (congrFun (stored14 _ _ _ _ _ _ _ _ _ _ _ _) x).trans ?_
    exact chunk_at x0 x1 x2 x3 x4 x5 x6 x7 x8 128 (by omega) inb_S2048x256_S128x256_128_0 inb_S2048x1024_S128x1024_128_0 inb_S4x1024x256_S1x1024x256_0_0_0 inb_S4x1024x256_S1x1024x256_1_0_0 inb_S4x1024x256_S1x1024x256_2_0_0 inb_S4x1024x256_S1x1024x256_3_0_0 x (y 0) (y 1) (by omega) (by omega)
  case piece15 =>
    refine (congrFun (stored15 _ _ _ _ _ _ _ _ _ _ _ _) x).trans ?_
    exact chunk_at x0 x1 x2 x3 x4 x5 x6 x7 x8 0 (by omega) inb_S2048x256_S128x256_0_0 inb_S2048x1024_S128x1024_0_0 inb_S4x1024x256_S1x1024x256_0_0_0 inb_S4x1024x256_S1x1024x256_1_0_0 inb_S4x1024x256_S1x1024x256_2_0_0 inb_S4x1024x256_S1x1024x256_3_0_0 x (y 0) (y 1) (by omega) (by omega)

variable (m : (ℓ : Loc nD τ sig) → Buf (Elt Ideal) ℓ)

/-- Where each block stands, at every grid point. -/
theorem idx : ∀ t : Fin cfg0.N, win0_9.index t 0 < 4 ∧ win0_9.index t 1 < 16 ∧ win0_0.index t = ![0, 0, win0_9.index t 1]
    ∧ win0_1.index t = ![win0_9.index t 0, 0] ∧ win0_2.index t = ![win0_9.index t 0, 0] ∧ win0_3.index t = ![win0_9.index t 0, 0] ∧ win0_4.index t = ![win0_9.index t 0, 0]
    ∧ win0_5.index t = ![win0_9.index t 0, 24 + win0_9.index t 1] ∧ win0_6.index t = ![win0_9.index t 0, 40 + win0_9.index t 1]
    ∧ win0_7.index t = ![win0_9.index t 0, 56 + win0_9.index t 1] ∧ win0_8.index t = ![win0_9.index t 0, 72 + win0_9.index t 1] :=
  (by decide +kernel : ∀ t : Fin grid0.N, _)

/-- One gated product of a tile is the reference's. -/
theorem term_eq (b : FVec Ideal S8192x1024 .bf16) (w : FVec Ideal S4x1024x4096 .bf16) (z : FVec Ideal S8192x22528 .f32)
    (xw : Vec Ideal S4x1024x256 .bf16) (xb : Vec Ideal S2048x1024 .bf16) (xg : Vec Ideal S2048x256 .f32) (n : Fin 4) (i j : ℕ) (hi : i < 4) (hj : j < 16)
    (hw : ∀ (n : Fin 4) (k : Fin 1024) (l : Fin 256), xw (ix3 n k l) = w (ix3 n k ⟨j * 256 + l, by omega⟩))
    (hb : ∀ (r : Fin 2048) (k : Fin 1024), xb (ix2 r k) = b (ix2 ⟨i * 2048 + r, by omega⟩ k))
    (hg : ∀ (r : Fin 2048) (l : Fin 256), xg (ix2 r l) = z (ix2 ⟨i * 2048 + r, by omega⟩ ⟨6144 + (n.val * 4096 + (j * 256 + l)), by omega⟩))
    (r : Fin 2048) (l : Fin 256) :
    term xg xb xw n r l = prod b w z n ⟨i * 2048 + r, by omega⟩ ⟨j * 256 + l, by omega⟩ := by
  unfold term prod
  rw [hg]
  exact congrArg (fun s => _ * s) (Finset.sum_congr rfl fun k _ => by rw [hb, hw])

/-- One tile of the kernel is that tile of the reference. -/
theorem point (c : Dev nD) (t : Fin cfg0.N) (y : S2048x256.Idx) :
    tile (iblk m c 0 t) (iblk m c 1 t) (iblk m c 2 t) (iblk m c 3 t) (iblk m c 4 t) (iblk m c 5 t) (iblk m c 6 t) (iblk m c 7 t) (iblk m c 8 t) (y 0) (y 1)
      = REF (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (((cfg0.win 9).blk t).view.emb y) := by
  obtain ⟨hi, hj, e0, e1, e2, e3, e4, e5, e6, e7, e8⟩ := idx t
  have hw : ∀ (n : Fin 4) (k : Fin 1024) (l : Fin 256), (show Vec Ideal S4x1024x256 .bf16 from iblk m c 0 t) (ix3 n k l)
      = (show FVec Ideal S4x1024x4096 .bf16 from m ((c.tc : Thread nD τ).loc main_arg4)) (ix3 n k ⟨win0_9.index t 1 * 256 + l, by omega⟩) := by
    intro n k l; blk_point [iblk, V, e0]
  have t0 := term_eq (m ((c.tc : Thread nD τ).loc main_arg0)) (m ((c.tc : Thread nD τ).loc main_arg4)) (m ((c.tc : Thread nD τ).loc main_arg5)) (iblk m c 0 t) (iblk m c 1 t) (iblk m c 5 t) 0
    (win0_9.index t 0) (win0_9.index t 1) hi hj hw (by intro r k; blk_point [iblk, V, e1]) (by intro r l; blk_point [iblk, V, e5]) (y 0) (y 1)
  have t1 := term_eq (m ((c.tc : Thread nD τ).loc main_arg1)) (m ((c.tc : Thread nD τ).loc main_arg4)) (m ((c.tc : Thread nD τ).loc main_arg5)) (iblk m c 0 t) (iblk m c 2 t) (iblk m c 6 t) 1
    (win0_9.index t 0) (win0_9.index t 1) hi hj hw (by intro r k; blk_point [iblk, V, e2]) (by intro r l; blk_point [iblk, V, e6]) (y 0) (y 1)
  have t2 := term_eq (m ((c.tc : Thread nD τ).loc main_arg2)) (m ((c.tc : Thread nD τ).loc main_arg4)) (m ((c.tc : Thread nD τ).loc main_arg5)) (iblk m c 0 t) (iblk m c 3 t) (iblk m c 7 t) 2
    (win0_9.index t 0) (win0_9.index t 1) hi hj hw (by intro r k; blk_point [iblk, V, e3]) (by intro r l; blk_point [iblk, V, e7]) (y 0) (y 1)
  have t3 := term_eq (m ((c.tc : Thread nD τ).loc main_arg3)) (m ((c.tc : Thread nD τ).loc main_arg4)) (m ((c.tc : Thread nD τ).loc main_arg5)) (iblk m c 0 t) (iblk m c 4 t) (iblk m c 8 t) 3
    (win0_9.index t 0) (win0_9.index t 1) hi hj hw (by intro r k; blk_point [iblk, V, e4]) (by intro r l; blk_point [iblk, V, e8]) (y 0) (y 1)
  unfold tile
  rw [t0, t1, t2, t3, ← REF_apply]
  blk_point [iblk, V]

/-- The result array is the reference's term at the argument arrays. -/
theorem final (c : Dev nD) : (dats m 0 c).arrAt 9 cfg0.N
    = REF (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := by
  refine (dats m 0 c).arrAt_eq_of_covers 9 _ (by decide +kernel) fun t _ y => ?_
  blk_simp
  rw [after0_9]
  exact (out_apply _ _ _ _ _ _ _ _ _ y).trans (point m c t y)

end Cert.MergeIdeal.Gates
-- ==== Proof.NormMath.lean ====
/- A row normalised to mean zero and variance one, over the extended reals. -/
module

public import Idealize.ShloMosaic.Lib.Pipeline.ValueKit
public import Idealize.ShloMosaic.Lib.IdealHost

@[expose] public section

noncomputable section

open Idealize.ShloMosaic

namespace Cert.NormMath

/-- The mean of a row. -/
def mean (v : Fin 4096 → EReal) : EReal := Ideal.div (∑ k, v k) (Ideal.ofBits FTy.f32 0x45800000#32)

/-- A row less its mean. -/
def cent (v : Fin 4096 → EReal) (d : Fin 4096) : EReal := v d - mean v

/-- A row less its mean, over the root of its guarded variance. -/
def normed (v : Fin 4096 → EReal) (d : Fin 4096) : EReal :=
  cent v d * Ideal.rsqrt (mean (fun k => cent v k * cent v k) + Ideal.ofBits FTy.f32 0x358637BD#32)

/-- The residual's scale times the row, plus a gate times the branch. -/
def mixed (x g y : EReal) : EReal := Ideal.ofBits FTy.f32 0x3FB504F3#32 * x + g * y

/-- A row normalised, with gain and shift. -/
def affine (v g b : Fin 4096 → EReal) (d : Fin 4096) : EReal := normed v d * g d + b d

/-- A row normalised, scaled by one plus a factor, and shifted. -/
def modulated (v s h : Fin 4096 → EReal) (d : Fin 4096) : EReal := normed v d * (Ideal.ofBits FTy.f32 0x3F800000#32 + s d) + h d

end Cert.NormMath
-- ==== Proof.LastPromptValue.lean ====
/- The closing normalisation of the last layer, context batch: every block of the kernel's result is the reference's. -/
module

public import proofs.«01_k».proof.Proof.NormMath
public import proofs.«01_k».proof.Proof.Gen.LastPromptIdeal.Value
public import proofs.«01_k».proof.Proof.Gen.LastPromptRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.LastPromptRefIdeal.Norm

open Cert.LastPromptRefIdeal Cert.LastPromptRefIdeal.Gen

variable (x y : FVec Ideal S8192x4096 .f32) (a : FVec Ideal S2x16x24576 .f32) (lg lb : FVec Ideal S2x4096 .f32)

/-- The gate of each sequence: the sixth part of its modulation row. -/
def gateR : FVec Ideal S32x256x4096 .f32 :=
  broadcastInDim S32x256x4096 ![0, 1, 2] bcast_S1x1x4096_S32x256x4096_0_1_2 (broadcastInDim S1x1x4096 ![0, 2] bcast_S1x4096_S1x1x4096_0_2 (extractStridedSlice S1x4096 ![0, 0] (extractStridedSlice S16x4096 ![0, 20480] (shapeCast _ (extractStridedSlice S1x16x24576 ![1, 0, 0] a slices_S2x16x24576_S1x16x24576_1_0_0) shapeCasts_S1x16x24576_S16x24576) slices_S16x24576_S16x4096_0_20480) slices_S16x4096_S1x4096_0_0))

theorem gateR_apply (b : Fin 32) (p : Fin 256) (d : Fin 4096) :
    gateR a (ix3 b p d) = a (ix3 1 0 ⟨20480 + d.val, by omega⟩) := by
  pointwise [gateR]

/-- The residual with its gated branch, token by token. -/
def mixR : FVec Ideal S32x256x4096 .f32 :=
  addf (mulf (broadcastInDim S32x256x4096 ![] bcast_S_S32x256x4096 (constant S_ .f32 0x3FB504F3#32)) (shapeCast _ x shapeCasts_S8192x4096_S32x256x4096))
    (mulf (gateR a) (shapeCast _ (transpose S32x8x32x4096 [0, 2, 1, 3] (shapeCast _ y shapeCasts_S8192x4096_S32x32x8x4096) transposes_S32x32x8x4096_S32x8x32x4096_0_2_1_3) shapeCasts_S32x8x32x4096_S32x256x4096))

theorem mixR_apply (b : Fin 32) (p : Fin 256) (d : Fin 4096) :
    mixR x y a (ix3 b p d) = mixed (x (ix2 ⟨b.val * 256 + p.val, by omega⟩ d)) (gateR a (ix3 b p d))
      (y (ix2 ⟨b.val * 256 + p.val % 32 * 8 + p.val / 32, by omega⟩ d)) := by
  unfold mixed
  pointwise [mixR]

variable (v : FVec Ideal S32x256x4096 .f32)

/-- The mean of each token's row. -/
def meanR : FVec Ideal S32x256x1 .f32 :=
  Host.divf (broadcastInDim S32x256x1 ![0, 1] bcast_S32x256_S32x256x1_0_1 (Host.reduceAdd v (constant S_ .f32 0x00000000#32) reducesTo_S32x256x4096_S32x256_d2 h_S_)) (broadcastInDim S32x256x1 ![] bcast_S_S32x256x1 (constant S_ .f32 0x45800000#32))

theorem meanR_apply (b : Fin 32) (p : Fin 256) (u : Fin 1) : meanR v (ix3 b p u) = mean fun k => v (ix3 b p k) := by
  unfold mean
  pointwise [meanR]

/-- Each row less its mean. -/
def centR : FVec Ideal S32x256x4096 .f32 := subf v (broadcastInDim S32x256x4096 ![0, 1, 2] bcast_S32x256x1_S32x256x4096_0_1_2 (meanR v))

theorem centR_apply (b : Fin 32) (p : Fin 256) (d : Fin 4096) : centR v (ix3 b p d) = cent (fun k => v (ix3 b p k)) d := by
  unfold cent
  rw [← meanR_apply v b p 0]
  pointwise [centR]

/-- One over the root of a guarded variance. -/
def rootR (w : FVec Ideal S32x256x1 .f32) : FVec Ideal S32x256x1 .f32 :=
  Host.rsqrt (addf w (broadcastInDim S32x256x1 ![] bcast_S_S32x256x1 (constant S_ .f32 0x358637BD#32)))

theorem rootR_apply (w : FVec Ideal S32x256x1 .f32) (b : Fin 32) (p : Fin 256) (u : Fin 1) :
    rootR w (ix3 b p u) = Ideal.rsqrt (w (ix3 b p u) + Ideal.ofBits FTy.f32 0x358637BD#32) := by
  pointwise [rootR]

/-- The normalised rows with gain and shift. -/
def closeR (c : FVec Ideal S32x256x4096 .f32) (q : FVec Ideal S32x256x1 .f32) : FVec Ideal S32x8x32x4096 .f32 :=
  shapeCast _ (addf (mulf (mulf c (broadcastInDim S32x256x4096 ![0, 1, 2] bcast_S32x256x1_S32x256x4096_0_1_2 q))
    (broadcastInDim S32x256x4096 ![0, 1, 2] bcast_S1x1x4096_S32x256x4096_0_1_2 (broadcastInDim S1x1x4096 ![2] bcast_S4096_S1x1x4096_2 (shapeCast _ (extractStridedSlice S1x4096 ![1, 0] lg slices_S2x4096_S1x4096_1_0) shapeCasts_S1x4096_S4096))))
    (broadcastInDim S32x256x4096 ![0, 1, 2] bcast_S1x1x4096_S32x256x4096_0_1_2 (broadcastInDim S1x1x4096 ![2] bcast_S4096_S1x1x4096_2 (shapeCast _ (extractStridedSlice S1x4096 ![1, 0] lb slices_S2x4096_S1x4096_1_0) shapeCasts_S1x4096_S4096)))) shapeCasts_S32x256x4096_S32x8x32x4096

theorem closeR_apply (c : FVec Ideal S32x256x4096 .f32) (q : FVec Ideal S32x256x1 .f32) (b : Fin 32) (s : Fin 8) (j : Fin 32) (d : Fin 4096) :
    closeR lg lb c q (ix4 b s j d) = c (ix3 b ⟨s.val * 32 + j.val, by omega⟩ d) * q (ix3 b ⟨s.val * 32 + j.val, by omega⟩ 0) * lg (ix2 1 d) + lb (ix2 1 d) := by
  pointwise [closeR]

/-- The reference's result. -/
def REF : FVec Ideal S32x8x32x4096 .f32 :=
  closeR lg lb (centR (mixR x y a)) (rootR (meanR (mulf (centR (mixR x y a)) (centR (mixR x y a)))))

/-- The reference's result at a token and a channel. -/
theorem REF_apply (b : Fin 32) (s : Fin 8) (j : Fin 32) (d : Fin 4096) :
    REF x y a lg lb (ix4 b s j d) = normed (fun k => mixed (x (ix2 ⟨b.val * 256 + (s.val * 32 + j.val), by omega⟩ k))
      (a (ix3 1 0 ⟨20480 + k.val, by omega⟩)) (y (ix2 ⟨b.val * 256 + j.val * 8 + s.val, by omega⟩ k))) d * lg (ix2 1 d) + lb (ix2 1 d) := by
  have hm : (fun k => mixR x y a (ix3 b ⟨s.val * 32 + j.val, by omega⟩ k)) = fun k => mixed (x (ix2 ⟨b.val * 256 + (s.val * 32 + j.val), by omega⟩ k))
      (a (ix3 1 0 ⟨20480 + k.val, by omega⟩)) (y (ix2 ⟨b.val * 256 + j.val * 8 + s.val, by omega⟩ k)) := by
    funext k
    rw [mixR_apply, gateR_apply]
    exact congrArg (mixed _ _) (congrArg (fun q => y (ix2 q k)) (Fin.ext (by show b.val * 256 + (s.val * 32 + j.val) % 32 * 8 + (s.val * 32 + j.val) / 32 = b.val * 256 + j.val * 8 + s.val; omega)))
  have hs : (fun k => mulf (centR (mixR x y a)) (centR (mixR x y a)) (ix3 b ⟨s.val * 32 + j.val, by omega⟩ k))
      = fun k => cent (fun k => mixR x y a (ix3 b ⟨s.val * 32 + j.val, by omega⟩ k)) k * cent (fun k => mixR x y a (ix3 b ⟨s.val * 32 + j.val, by omega⟩ k)) k := by
    funext k
    rw [← centR_apply]
    rfl
  unfold REF normed
  rw [closeR_apply, rootR_apply, meanR_apply, hs, centR_apply, hm]

set_option maxRecDepth 65536 in
/-- The reference's run, its result named. -/
theorem run_named (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.LastPromptRefIdeal.Norm

namespace Cert.LastPromptIdeal.Norm

open Cert.LastPromptIdeal Cert.LastPromptIdeal.Gen
open Cert.LastPromptRefIdeal.Norm (REF REF_apply)

/-- The residual with its gated branch, on a block. -/
def mixK (y : Vec Ideal S1x32x8x4096 .f32) (x : Vec Ideal S1x8x32x4096 .f32) (g : Vec Ideal S1x1x4096 .f32) : FVec Ideal S8x32x4096 .f32 :=
  addf (mulf (broadcast S8x32x4096 (Scalar.ofBits .f32 0x3FB504F3#32)) (shapeCast S8x32x4096 x shapeCasts_S1x8x32x4096_S8x32x4096))
    (mulf (broadcastTo S8x32x4096 (shapeCast S1x1x4096 (shapeCast S1x4096 g shapeCasts_S1x1x4096_S1x4096) shapeCasts_S1x4096_S1x1x4096) broadcasts_S1x1x4096_S8x32x4096)
      (transpose S8x32x4096 [1, 0, 2] (shapeCast S32x8x4096 y shapeCasts_S1x32x8x4096_S32x8x4096) transposes_S32x8x4096_p1_0_2_S8x32x4096))

theorem mixK_apply (y : Vec Ideal S1x32x8x4096 .f32) (x : Vec Ideal S1x8x32x4096 .f32) (g : Vec Ideal S1x1x4096 .f32) (s : Fin 8) (j : Fin 32) (d : Fin 4096) :
    mixK y x g (ix3 s j d) = mixed (x (ix4 0 s j d)) (g (ix3 0 0 d)) (y (ix4 0 j s d)) := by
  unfold mixed
  pointwise [mixK]

variable (v : FVec Ideal S8x32x4096 .f32)

/-- The mean of each row of a block. -/
def meanK : FVec Ideal S8x32x1 .f32 :=
  divf (shapeCast S8x32x1 (multiReduction .add [2] S8x32 v 0x00000000#32 reduces_S8x32x4096_S8x32 (.inl rfl) rfl) shapeCasts_S8x32_S8x32x1) (broadcast S8x32x1 (Scalar.ofBits .f32 0x45800000#32))

theorem meanK_apply (s : Fin 8) (j : Fin 32) (u : Fin 1) : meanK v (ix3 s j u) = mean fun k => v (ix3 s j k) := by
  unfold mean
  pointwise [meanK]

/-- Each row of a block less its mean. -/
def centK : FVec Ideal S8x32x4096 .f32 := subf v (broadcastTo S8x32x4096 (meanK v) broadcasts_S8x32x1_S8x32x4096)

theorem centK_apply (s : Fin 8) (j : Fin 32) (d : Fin 4096) : centK v (ix3 s j d) = cent (fun k => v (ix3 s j k)) d := by
  unfold cent
  rw [← meanK_apply v s j 0]
  pointwise [centK]

/-- One over the root of a guarded variance. -/
def rootK (w : FVec Ideal S8x32x1 .f32) : FVec Ideal S8x32x1 .f32 := rsqrt (addf w (broadcast S8x32x1 (Scalar.ofBits .f32 0x358637BD#32)))

theorem rootK_apply (w : FVec Ideal S8x32x1 .f32) (s : Fin 8) (j : Fin 32) (u : Fin 1) :
    rootK w (ix3 s j u) = Ideal.rsqrt (w (ix3 s j u) + Ideal.ofBits FTy.f32 0x358637BD#32) := by
  pointwise [rootK]

/-- The normalised rows with gain and shift. -/
def closeK (c : FVec Ideal S8x32x4096 .f32) (q : FVec Ideal S8x32x1 .f32) (g b : Vec Ideal S1x4096 .f32) : FVec Ideal S1x8x32x4096 .f32 :=
  k0_pay1 (mulf (mulf c (broadcastTo S8x32x4096 q broadcasts_S8x32x1_S8x32x4096))
    (broadcastTo S8x32x4096 (shapeCast S1x1x4096 (shapeCast S1x4096 g shapeCasts_S1x4096_S1x4096) shapeCasts_S1x4096_S1x1x4096) broadcasts_S1x1x4096_S8x32x4096)) (k0_pay3 b)

theorem closeK_apply (c : FVec Ideal S8x32x4096 .f32) (q : FVec Ideal S8x32x1 .f32) (g b : Vec Ideal S1x4096 .f32) (z : Fin 1) (s : Fin 8) (j : Fin 32) (d : Fin 4096) :
    closeK c q g b (ix4 z s j d) = c (ix3 s j d) * q (ix3 s j 0) * g (ix2 0 d) + b (ix2 0 d) := by
  pointwise [closeK, k0_pay1, k0_pay3]

/-- The block the kernel stores, at an index. -/
theorem pay_apply (y : Vec Ideal S1x32x8x4096 .f32) (x : Vec Ideal S1x8x32x4096 .f32) (g : Vec Ideal S1x1x4096 .f32) (lg lb : Vec Ideal S1x4096 .f32)
    (z : Fin 1) (s : Fin 8) (j : Fin 32) (d : Fin 4096) :
    k0_pay1 (k0_pay2 y x g lg) (k0_pay3 lb) (ix4 z s j d)
      = normed (fun k => mixed (x (ix4 0 s j k)) (g (ix3 0 0 k)) (y (ix4 0 j s k))) d * lg (ix2 0 d) + lb (ix2 0 d) := by
  have e : k0_pay1 (F := Ideal) (k0_pay2 y x g lg) (k0_pay3 lb)
      = closeK (centK (mixK y x g)) (rootK (meanK (mulf (centK (mixK y x g)) (centK (mixK y x g))))) lg lb := rfl
  have hs : (fun k => mulf (centK (mixK y x g)) (centK (mixK y x g)) (ix3 s j k))
      = fun k => cent (fun k => mixK y x g (ix3 s j k)) k * cent (fun k => mixK y x g (ix3 s j k)) k := by
    funext k
    rw [← centK_apply]
    rfl
  unfold normed
  rw [e, closeK_apply, rootK_apply, meanK_apply, hs, centK_apply]
  simp only [mixK_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val, 0, 0, 0] ∧ win0_1.index t = ![t.val, 0, 0, 0] ∧ win0_2.index t = ![5, 0, 0]
    ∧ win0_3.index t = ![0, 0] ∧ win0_4.index t = ![0, 0] ∧ win0_5.index t = ![t.val, 0, 0, 0] :=
  (by decide +kernel : ∀ t : Fin grid0.N, _)

/-- The sequence of a grid point. -/
def bOf (t : Fin cfg0.N) : Fin 32 := ⟨t.val, by have := lt32 t; omega⟩

abbrev xArr (c : Dev nD) : FVec Ideal S8192x4096 .f32 := m ((c : Thread nD τ).loc main_arg0)
abbrev yArr (c : Dev nD) : FVec Ideal S8192x4096 .f32 := m ((c : Thread nD τ).loc main_arg1)
abbrev aArr (c : Dev nD) : FVec Ideal S2x16x24576 .f32 := m ((c : Thread nD τ).loc main_arg2)
abbrev gArr (c : Dev nD) : FVec Ideal S2x4096 .f32 := m ((c : Thread nD τ).loc main_arg3)
abbrev bArr (c : Dev nD) : FVec Ideal S2x4096 .f32 := m ((c : Thread nD τ).loc main_arg4)

theorem read0 (c : Dev nD) (t : Fin cfg0.N) (s : Fin 8) (j : Fin 32) (k : Fin 4096) :
    (show Vec Ideal S1x8x32x4096 .f32 from iblk m c 0 t) (ix4 0 s j k) = xArr m c (ix2 ⟨(bOf t).val * 256 + (s.val * 32 + (0 + j.val)), by have := lt32 t; unfold bOf; dsimp only; omega⟩ k) := by
  have ht := lt32 t
  have e := (idx t).1
  unfold bOf
  blk_point [iblk, V, e]

theorem read1 (c : Dev nD) (t : Fin cfg0.N) (s : Fin 8) (j : Fin 32) (k : Fin 4096) :
    (show Vec Ideal S1x32x8x4096 .f32 from iblk m c 1 t) (ix4 0 j s k) = yArr m c (ix2 ⟨(bOf t).val * 256 + (0 + j.val) * 8 + s.val, by have := lt32 t; unfold bOf; dsimp only; omega⟩ k) := by
  have ht := lt32 t
  have e := (idx t).2.1
  unfold bOf
  blk_point [iblk, V, e]

theorem read2 (c : Dev nD) (t : Fin cfg0.N) (k : Fin 4096) :
    (show Vec Ideal S1x1x4096 .f32 from iblk m c 2 t) (ix3 0 0 k) = aArr m c (ix3 1 0 ⟨20480 + k.val, by omega⟩) := by
  have ht := lt32 t
  have e := (idx t).2.2.1
  blk_point [iblk, V, e]

theorem read3 (c : Dev nD) (t : Fin cfg0.N) (k : Fin 4096) :
    (show Vec Ideal S1x4096 .f32 from iblk m c 3 t) (ix2 0 k) = gArr m c (ix2 1 k) := by
  have e := (idx t).2.2.2.1
  blk_point [iblk, V, e]

theorem read4 (c : Dev nD) (t : Fin cfg0.N) (k : Fin 4096) :
    (show Vec Ideal S1x4096 .f32 from iblk m c 4 t) (ix2 0 k) = bArr m c (ix2 1 k) := by
  have e := (idx t).2.2.2.2.1
  blk_point [iblk, V, e]

/-- The result array is the reference's term at the argument arrays. -/
theorem final (c : Dev nD) : (dats m 0 c).arrAt 5 (cfgs 0).N = REF (xArr m c) (yArr m c) (aArr m c) (gArr m c) (bArr m c) := by
  refine (dats m 0 c).arrAt_eq_of_covers 5 _ (by decide +kernel) fun t hf q => ?_
  have ht := lt32 t
  have e := (idx t).2.2.2.2.2
  obtain ⟨z, s, j, d, rfl⟩ : ∃ (z : Fin 1) (s : Fin 8) (j : Fin 32) (d : Fin 4096), q = ix4 z s j d := by idx_vars q; exact ⟨_, _, _, _, rfl⟩
  blk_simp
  rw [after0_5]
  frame_out
  refine (pay_apply _ _ _ _ _ z s j d).trans ?_
  simp only [read0 m c t, read1 m c t, read2 m c t, read3 m c t, read4 m c t]
  refine (REF_apply _ _ _ _ _ (bOf t) s ⟨0 + j.val, by omega⟩ d).symm.trans ?_
  unfold bOf
  blk_point [iblk, V, e]

end Cert.LastPromptIdeal.Norm
-- ==== Proof.LastSampleValue.lean ====
/- The closing normalisation of the last layer, sample batch: every block of the kernel's result is the reference's. -/
module

public import proofs.«01_k».proof.Proof.NormMath
public import proofs.«01_k».proof.Proof.Gen.LastSampleIdeal.Value
public import proofs.«01_k».proof.Proof.Gen.LastSampleRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.LastSampleRefIdeal.Norm

open Cert.LastSampleRefIdeal Cert.LastSampleRefIdeal.Gen

variable (x y : FVec Ideal S8192x4096 .f32) (a : FVec Ideal S2x16x24576 .f32) (lg lb : FVec Ideal S2x4096 .f32)

/-- The gate of each sequence: the sixth part of its modulation row. -/
def gateR : FVec Ideal S8x1024x4096 .f32 :=
  broadcastInDim S8x1024x4096 ![0, 1, 2] bcast_S8x1x4096_S8x1024x4096_0_1_2 (broadcastInDim S8x1x4096 ![0, 2] bcast_S8x4096_S8x1x4096_0_2 (extractStridedSlice S8x4096 ![1, 0] (extractStridedSlice S16x4096 ![0, 20480] (shapeCast _ (extractStridedSlice S1x16x24576 ![1, 0, 0] a slices_S2x16x24576_S1x16x24576_1_0_0) shapeCasts_S1x16x24576_S16x24576) slices_S16x24576_S16x4096_0_20480) slices_S16x4096_S8x4096_1_0))

theorem gateR_apply (b : Fin 8) (p : Fin 1024) (d : Fin 4096) :
    gateR a (ix3 b p d) = a (ix3 1 ⟨1 + b.val, by omega⟩ ⟨20480 + d.val, by omega⟩) := by
  pointwise [gateR]

/-- The residual with its gated branch, token by token. -/
def mixR : FVec Ideal S8x1024x4096 .f32 :=
  addf (mulf (broadcastInDim S8x1024x4096 ![] bcast_S_S8x1024x4096 (constant S_ .f32 0x3FB504F3#32)) (shapeCast _ x shapeCasts_S8192x4096_S8x1024x4096))
    (mulf (gateR a) (shapeCast _ (transpose S8x8x128x4096 [0, 2, 1, 3] (shapeCast _ y shapeCasts_S8192x4096_S8x128x8x4096) transposes_S8x128x8x4096_S8x8x128x4096_0_2_1_3) shapeCasts_S8x8x128x4096_S8x1024x4096))

theorem mixR_apply (b : Fin 8) (p : Fin 1024) (d : Fin 4096) :
    mixR x y a (ix3 b p d) = mixed (x (ix2 ⟨b.val * 1024 + p.val, by omega⟩ d)) (gateR a (ix3 b p d))
      (y (ix2 ⟨b.val * 1024 + p.val % 128 * 8 + p.val / 128, by omega⟩ d)) := by
  unfold mixed
  pointwise [mixR]

variable (v : FVec Ideal S8x1024x4096 .f32)

/-- The mean of each token's row. -/
def meanR : FVec Ideal S8x1024x1 .f32 :=
  Host.divf (broadcastInDim S8x1024x1 ![0, 1] bcast_S8x1024_S8x1024x1_0_1 (Host.reduceAdd v (constant S_ .f32 0x00000000#32) reducesTo_S8x1024x4096_S8x1024_d2 h_S_)) (broadcastInDim S8x1024x1 ![] bcast_S_S8x1024x1 (constant S_ .f32 0x45800000#32))

theorem meanR_apply (b : Fin 8) (p : Fin 1024) (u : Fin 1) : meanR v (ix3 b p u) = mean fun k => v (ix3 b p k) := by
  unfold mean
  pointwise [meanR]

/-- Each row less its mean. -/
def centR : FVec Ideal S8x1024x4096 .f32 := subf v (broadcastInDim S8x1024x4096 ![0, 1, 2] bcast_S8x1024x1_S8x1024x4096_0_1_2 (meanR v))

theorem centR_apply (b : Fin 8) (p : Fin 1024) (d : Fin 4096) : centR v (ix3 b p d) = cent (fun k => v (ix3 b p k)) d := by
  unfold cent
  rw [← meanR_apply v b p 0]
  pointwise [centR]

/-- One over the root of a guarded variance. -/
def rootR (w : FVec Ideal S8x1024x1 .f32) : FVec Ideal S8x1024x1 .f32 :=
  Host.rsqrt (addf w (broadcastInDim S8x1024x1 ![] bcast_S_S8x1024x1 (constant S_ .f32 0x358637BD#32)))

theorem rootR_apply (w : FVec Ideal S8x1024x1 .f32) (b : Fin 8) (p : Fin 1024) (u : Fin 1) :
    rootR w (ix3 b p u) = Ideal.rsqrt (w (ix3 b p u) + Ideal.ofBits FTy.f32 0x358637BD#32) := by
  pointwise [rootR]

/-- The normalised rows with gain and shift. -/
def closeR (c : FVec Ideal S8x1024x4096 .f32) (q : FVec Ideal S8x1024x1 .f32) : FVec Ideal S8x8x128x4096 .f32 :=
  shapeCast _ (addf (mulf (mulf c (broadcastInDim S8x1024x4096 ![0, 1, 2] bcast_S8x1024x1_S8x1024x4096_0_1_2 q))
    (broadcastInDim S8x1024x4096 ![0, 1, 2] bcast_S1x1x4096_S8x1024x4096_0_1_2 (broadcastInDim S1x1x4096 ![2] bcast_S4096_S1x1x4096_2 (shapeCast _ (extractStridedSlice S1x4096 ![1, 0] lg slices_S2x4096_S1x4096_1_0) shapeCasts_S1x4096_S4096))))
    (broadcastInDim S8x1024x4096 ![0, 1, 2] bcast_S1x1x4096_S8x1024x4096_0_1_2 (broadcastInDim S1x1x4096 ![2] bcast_S4096_S1x1x4096_2 (shapeCast _ (extractStridedSlice S1x4096 ![1, 0] lb slices_S2x4096_S1x4096_1_0) shapeCasts_S1x4096_S4096)))) shapeCasts_S8x1024x4096_S8x8x128x4096

theorem closeR_apply (c : FVec Ideal S8x1024x4096 .f32) (q : FVec Ideal S8x1024x1 .f32) (b : Fin 8) (s : Fin 8) (j : Fin 128) (d : Fin 4096) :
    closeR lg lb c q (ix4 b s j d) = c (ix3 b ⟨s.val * 128 + j.val, by omega⟩ d) * q (ix3 b ⟨s.val * 128 + j.val, by omega⟩ 0) * lg (ix2 1 d) + lb (ix2 1 d) := by
  pointwise [closeR]

/-- The reference's result. -/
def REF : FVec Ideal S8x8x128x4096 .f32 :=
  closeR lg lb (centR (mixR x y a)) (rootR (meanR (mulf (centR (mixR x y a)) (centR (mixR x y a)))))

/-- The reference's result at a token and a channel. -/
theorem REF_apply (b : Fin 8) (s : Fin 8) (j : Fin 128) (d : Fin 4096) :
    REF x y a lg lb (ix4 b s j d) = normed (fun k => mixed (x (ix2 ⟨b.val * 1024 + (s.val * 128 + j.val), by omega⟩ k))
      (a (ix3 1 ⟨1 + b.val, by omega⟩ ⟨20480 + k.val, by omega⟩)) (y (ix2 ⟨b.val * 1024 + j.val * 8 + s.val, by omega⟩ k))) d * lg (ix2 1 d) + lb (ix2 1 d) := by
  have hm : (fun k => mixR x y a (ix3 b ⟨s.val * 128 + j.val, by omega⟩ k)) = fun k => mixed (x (ix2 ⟨b.val * 1024 + (s.val * 128 + j.val), by omega⟩ k))
      (a (ix3 1 ⟨1 + b.val, by omega⟩ ⟨20480 + k.val, by omega⟩)) (y (ix2 ⟨b.val * 1024 + j.val * 8 + s.val, by omega⟩ k)) := by
    funext k
    rw [mixR_apply, gateR_apply]
    exact congrArg (mixed _ _) (congrArg (fun q => y (ix2 q k)) (Fin.ext (by show b.val * 1024 + (s.val * 128 + j.val) % 128 * 8 + (s.val * 128 + j.val) / 128 = b.val * 1024 + j.val * 8 + s.val; omega)))
  have hs : (fun k => mulf (centR (mixR x y a)) (centR (mixR x y a)) (ix3 b ⟨s.val * 128 + j.val, by omega⟩ k))
      = fun k => cent (fun k => mixR x y a (ix3 b ⟨s.val * 128 + j.val, by omega⟩ k)) k * cent (fun k => mixR x y a (ix3 b ⟨s.val * 128 + j.val, by omega⟩ k)) k := by
    funext k
    rw [← centR_apply]
    rfl
  unfold REF normed
  rw [closeR_apply, rootR_apply, meanR_apply, hs, centR_apply, hm]

set_option maxRecDepth 65536 in
/-- The reference's run, its result named. -/
theorem run_named (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.LastSampleRefIdeal.Norm

namespace Cert.LastSampleIdeal.Norm

open Cert.LastSampleIdeal Cert.LastSampleIdeal.Gen
open Cert.LastSampleRefIdeal.Norm (REF REF_apply)

/-- The residual with its gated branch, on a block. -/
def mixK (y : Vec Ideal S1x32x8x4096 .f32) (x : Vec Ideal S1x8x32x4096 .f32) (g : Vec Ideal S1x1x4096 .f32) : FVec Ideal S8x32x4096 .f32 :=
  addf (mulf (broadcast S8x32x4096 (Scalar.ofBits .f32 0x3FB504F3#32)) (shapeCast S8x32x4096 x shapeCasts_S1x8x32x4096_S8x32x4096))
    (mulf (broadcastTo S8x32x4096 (shapeCast S1x1x4096 (shapeCast S1x4096 g shapeCasts_S1x1x4096_S1x4096) shapeCasts_S1x4096_S1x1x4096) broadcasts_S1x1x4096_S8x32x4096)
      (transpose S8x32x4096 [1, 0, 2] (shapeCast S32x8x4096 y shapeCasts_S1x32x8x4096_S32x8x4096) transposes_S32x8x4096_p1_0_2_S8x32x4096))

theorem mixK_apply (y : Vec Ideal S1x32x8x4096 .f32) (x : Vec Ideal S1x8x32x4096 .f32) (g : Vec Ideal S1x1x4096 .f32) (s : Fin 8) (j : Fin 32) (d : Fin 4096) :
    mixK y x g (ix3 s j d) = mixed (x (ix4 0 s j d)) (g (ix3 0 0 d)) (y (ix4 0 j s d)) := by
  unfold mixed
  pointwise [mixK]

variable (v : FVec Ideal S8x32x4096 .f32)

/-- The mean of each row of a block. -/
def meanK : FVec Ideal S8x32x1 .f32 :=
  divf (shapeCast S8x32x1 (multiReduction .add [2] S8x32 v 0x00000000#32 reduces_S8x32x4096_S8x32 (.inl rfl) rfl) shapeCasts_S8x32_S8x32x1) (broadcast S8x32x1 (Scalar.ofBits .f32 0x45800000#32))

theorem meanK_apply (s : Fin 8) (j : Fin 32) (u : Fin 1) : meanK v (ix3 s j u) = mean fun k => v (ix3 s j k) := by
  unfold mean
  pointwise [meanK]

/-- Each row of a block less its mean. -/
def centK : FVec Ideal S8x32x4096 .f32 := subf v (broadcastTo S8x32x4096 (meanK v) broadcasts_S8x32x1_S8x32x4096)

theorem centK_apply (s : Fin 8) (j : Fin 32) (d : Fin 4096) : centK v (ix3 s j d) = cent (fun k => v (ix3 s j k)) d := by
  unfold cent
  rw [← meanK_apply v s j 0]
  pointwise [centK]

/-- One over the root of a guarded variance. -/
def rootK (w : FVec Ideal S8x32x1 .f32) : FVec Ideal S8x32x1 .f32 := rsqrt (addf w (broadcast S8x32x1 (Scalar.ofBits .f32 0x358637BD#32)))

theorem rootK_apply (w : FVec Ideal S8x32x1 .f32) (s : Fin 8) (j : Fin 32) (u : Fin 1) :
    rootK w (ix3 s j u) = Ideal.rsqrt (w (ix3 s j u) + Ideal.ofBits FTy.f32 0x358637BD#32) := by
  pointwise [rootK]

/-- The normalised rows with gain and shift. -/
def closeK (c : FVec Ideal S8x32x4096 .f32) (q : FVec Ideal S8x32x1 .f32) (g b : Vec Ideal S1x4096 .f32) : FVec Ideal S1x8x32x4096 .f32 :=
  k0_pay1 (mulf (mulf c (broadcastTo S8x32x4096 q broadcasts_S8x32x1_S8x32x4096))
    (broadcastTo S8x32x4096 (shapeCast S1x1x4096 (shapeCast S1x4096 g shapeCasts_S1x4096_S1x4096) shapeCasts_S1x4096_S1x1x4096) broadcasts_S1x1x4096_S8x32x4096)) (k0_pay3 b)

theorem closeK_apply (c : FVec Ideal S8x32x4096 .f32) (q : FVec Ideal S8x32x1 .f32) (g b : Vec Ideal S1x4096 .f32) (z : Fin 1) (s : Fin 8) (j : Fin 32) (d : Fin 4096) :
    closeK c q g b (ix4 z s j d) = c (ix3 s j d) * q (ix3 s j 0) * g (ix2 0 d) + b (ix2 0 d) := by
  pointwise [closeK, k0_pay1, k0_pay3]

/-- The block the kernel stores, at an index. -/
theorem pay_apply (y : Vec Ideal S1x32x8x4096 .f32) (x : Vec Ideal S1x8x32x4096 .f32) (g : Vec Ideal S1x1x4096 .f32) (lg lb : Vec Ideal S1x4096 .f32)
    (z : Fin 1) (s : Fin 8) (j : Fin 32) (d : Fin 4096) :
    k0_pay1 (k0_pay2 y x g lg) (k0_pay3 lb) (ix4 z s j d)
      = normed (fun k => mixed (x (ix4 0 s j k)) (g (ix3 0 0 k)) (y (ix4 0 j s k))) d * lg (ix2 0 d) + lb (ix2 0 d) := by
  have e : k0_pay1 (F := Ideal) (k0_pay2 y x g lg) (k0_pay3 lb)
      = closeK (centK (mixK y x g)) (rootK (meanK (mulf (centK (mixK y x g)) (centK (mixK y x g))))) lg lb := rfl
  have hs : (fun k => mulf (centK (mixK y x g)) (centK (mixK y x g)) (ix3 s j k))
      = fun k => cent (fun k => mixK y x g (ix3 s j k)) k * cent (fun k => mixK y x g (ix3 s j k)) k := by
    funext k
    rw [← centK_apply]
    rfl
  unfold normed
  rw [e, closeK_apply, rootK_apply, meanK_apply, hs, centK_apply]
  simp only [mixK_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val / 4, 0, t.val % 4, 0] ∧ win0_1.index t = ![t.val / 4, t.val % 4, 0, 0] ∧ win0_2.index t = ![(1 + t.val / 4) * 6 + 5, 0, 0]
    ∧ win0_3.index t = ![0, 0] ∧ win0_4.index t = ![0, 0] ∧ win0_5.index t = ![t.val / 4, 0, t.val % 4, 0] :=
  (by decide +kernel : ∀ t : Fin grid0.N, _)

/-- The sequence of a grid point. -/
def bOf (t : Fin cfg0.N) : Fin 8 := ⟨t.val / 4, by have := lt32 t; omega⟩

abbrev xArr (c : Dev nD) : FVec Ideal S8192x4096 .f32 := m ((c : Thread nD τ).loc main_arg0)
abbrev yArr (c : Dev nD) : FVec Ideal S8192x4096 .f32 := m ((c : Thread nD τ).loc main_arg1)
abbrev aArr (c : Dev nD) : FVec Ideal S2x16x24576 .f32 := m ((c : Thread nD τ).loc main_arg2)
abbrev gArr (c : Dev nD) : FVec Ideal S2x4096 .f32 := m ((c : Thread nD τ).loc main_arg3)
abbrev bArr (c : Dev nD) : FVec Ideal S2x4096 .f32 := m ((c : Thread nD τ).loc main_arg4)

theorem read0 (c : Dev nD) (t : Fin cfg0.N) (s : Fin 8) (j : Fin 32) (k : Fin 4096) :
    (show Vec Ideal S1x8x32x4096 .f32 from iblk m c 0 t) (ix4 0 s j k) = xArr m c (ix2 ⟨(bOf t).val * 1024 + (s.val * 128 + (t.val % 4 * 32 + j.val)), by have := lt32 t; unfold bOf; dsimp only; omega⟩ k) := by
  have ht := lt32 t
  have e := (idx t).1
  unfold bOf
  blk_point [iblk, V, e]

theorem read1 (c : Dev nD) (t : Fin cfg0.N) (s : Fin 8) (j : Fin 32) (k : Fin 4096) :
    (show Vec Ideal S1x32x8x4096 .f32 from iblk m c 1 t) (ix4 0 j s k) = yArr m c (ix2 ⟨(bOf t).val * 1024 + (t.val % 4 * 32 + j.val) * 8 + s.val, by have := lt32 t; unfold bOf; dsimp only; omega⟩ k) := by
  have ht := lt32 t
  have e := (idx t).2.1
  unfold bOf
  blk_point [iblk, V, e]

theorem read2 (c : Dev nD) (t : Fin cfg0.N) (k : Fin 4096) :
    (show Vec Ideal S1x1x4096 .f32 from iblk m c 2 t) (ix3 0 0 k) = aArr m c (ix3 1 ⟨1 + (bOf t).val, by omega⟩ ⟨20480 + k.val, by omega⟩) := by
  have ht := lt32 t
  have e := (idx t).2.2.1
  unfold bOf
  blk_point [iblk, V, e]

theorem read3 (c : Dev nD) (t : Fin cfg0.N) (k : Fin 4096) :
    (show Vec Ideal S1x4096 .f32 from iblk m c 3 t) (ix2 0 k) = gArr m c (ix2 1 k) := by
  have e := (idx t).2.2.2.1
  blk_point [iblk, V, e]

theorem read4 (c : Dev nD) (t : Fin cfg0.N) (k : Fin 4096) :
    (show Vec Ideal S1x4096 .f32 from iblk m c 4 t) (ix2 0 k) = bArr m c (ix2 1 k) := by
  have e := (idx t).2.2.2.2.1
  blk_point [iblk, V, e]

/-- The result array is the reference's term at the argument arrays. -/
theorem final (c : Dev nD) : (dats m 0 c).arrAt 5 (cfgs 0).N = REF (xArr m c) (yArr m c) (aArr m c) (gArr m c) (bArr m c) := by
  refine (dats m 0 c).arrAt_eq_of_covers 5 _ (by decide +kernel) fun t hf q => ?_
  have ht := lt32 t
  have e := (idx t).2.2.2.2.2
  obtain ⟨z, s, j, d, rfl⟩ : ∃ (z : Fin 1) (s : Fin 8) (j : Fin 32) (d : Fin 4096), q = ix4 z s j d := by idx_vars q; exact ⟨_, _, _, _, rfl⟩
  blk_simp
  rw [after0_5]
  frame_out
  refine (pay_apply _ _ _ _ _ z s j d).trans ?_
  simp only [read0 m c t, read1 m c t, read2 m c t, read3 m c t, read4 m c t]
  refine (REF_apply _ _ _ _ _ (bOf t) s ⟨t.val % 4 * 32 + j.val, by omega⟩ d).symm.trans ?_
  unfold bOf
  blk_point [iblk, V, e]

end Cert.LastSampleIdeal.Norm
-- ==== Proof.AdaValue.lean ====
/- The modulation: the tiled products with their biases are the whole products with their biases, tile by tile. -/
module

public import proofs.«01_k».proof.Proof.Gen.AdaIdeal.Value
public import proofs.«01_k».proof.Proof.Gen.AdaRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaRefIdeal.Product

open Cert.AdaRefIdeal Cert.AdaRefIdeal.Gen

/-- The conditions through the sigmoid-weighted gate. -/
def gated (x : FVec Ideal S16x4096 .f32) : FVec Ideal S16x4096 .f32 :=
  mulf x (Host.divf (broadcastInDim S16x4096 ![] bcast_S_S16x4096 (constant S_ .f32 0x3F800000#32))
    (addf (broadcastInDim S16x4096 ![] bcast_S_S16x4096 (constant S_ .f32 0x3F800000#32)) (Host.exp (Host.negf x))))

/-- The reference's products of the gated conditions by both layers' matrices, and their biases. -/
def REF (x : FVec Ideal S16x4096 .f32) (w : FVec Ideal S2x4096x24576 .f32) (b : FVec Ideal S2x24576 .f32) : FVec Ideal S2x16x24576 .f32 :=
  addf (transpose S2x16x24576 [0, 2, 1] (Host.dotGeneral dot_S2x4096x24576_S16x4096_S2x24576x16_1_1_02_0_n_n none w (gated x)) transposes_S2x24576x16_S2x16x24576_0_2_1)
    (broadcastInDim S2x16x24576 ![0, 1, 2] bcast_S2x1x24576_S2x16x24576_0_1_2 (broadcastInDim S2x1x24576 ![0, 2] bcast_S2x24576_S2x1x24576_0_2 b))

end Cert.AdaRefIdeal.Product

namespace Cert.AdaIdeal.Product

open Cert.AdaIdeal Cert.AdaIdeal.Gen Cert.AdaRefIdeal.Product

variable (m : (ℓ : Loc nD τ sig) → Buf (Elt Ideal) ℓ)

/-- Where each block stands, at every grid point. -/
theorem idx : ∀ t : Fin cfg0.N, win0_0.index t = ![0, 0] ∧ win0_1.index t = ![win0_3.index t 0, 0, win0_3.index t 2] ∧ win0_2.index t = ![win0_3.index t 0, 0, win0_3.index t 2] ∧ win0_3.index t 1 = 0 :=
  (by decide +kernel : ∀ t : Fin grid0.N, _)

/-- One tile of the kernel's products is that tile of the whole products. -/
theorem point (c : Dev nD) (t : Fin cfg0.N) (y : S1x16x512.Idx) :
    k0_pay1 (iblk m c 0 t) (iblk m c 1 t) (iblk m c 2 t) y
      = REF (m ((c.tc : Thread nD τ).loc main_arg0)) (m ((c.tc : Thread nD τ).loc main_arg1)) (m ((c.tc : Thread nD τ).loc main_arg2)) (((cfg0.win 3).blk t).view.emb y) := by
  pointwise [k0_pay1, REF, gated, Ideal.logistic]
  blk_point [iblk, V, idx t]

/-- The result array is the reference's term at the argument arrays. -/
theorem final (c : Dev nD) : (dats m 0 c).arrAt 3 cfg0.N
    = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  exact point m c t y

end Cert.AdaIdeal.Product
-- ==== Proof.CastBrValue.lean ====
/- The first layer's matrix in the narrower format, block by block. -/
module

public import proofs.«01_k».proof.Proof.Gen.CastBrIdeal.Value
public import proofs.«01_k».proof.Proof.Gen.CastBrRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CastBrRefIdeal.Product

open Cert.CastBrRefIdeal Cert.CastBrRefIdeal.Gen

/-- The first layer's matrix in the narrower format. -/
def REF (w : FVec Ideal S2x4x1024x4096 .f32) : FVec Ideal S4096x4096 .bf16 :=
  truncf .bf16 (shapeCast S4096x4096 (shapeCast S4x1024x4096 (extractStridedSlice S1x4x1024x4096 ![0, 0, 0, 0] w slices_S2x4x1024x4096_S1x4x1024x4096_0_0_0_0) shapeCasts_S1x4x1024x4096_S4x1024x4096) shapeCasts_S4x1024x4096_S4096x4096) bitsLt_bf16_f32

end Cert.CastBrRefIdeal.Product

namespace Cert.CastBrIdeal.Product

open Cert.CastBrIdeal Cert.CastBrIdeal.Gen Cert.CastBrRefIdeal.Product

variable (m : (ℓ : Loc nD τ sig) → Buf (Elt Ideal) ℓ)

/-- Where each block stands, at every grid point. -/
theorem idx : ∀ t : Fin cfg0.N, win0_0.index t = ![0, win0_1.index t 0, 0] ∧ win0_1.index t 1 = 0 :=
  (by decide +kernel : ∀ t : Fin grid0.N, _)

/-- One block the kernel stores is that block of the matrix. -/
theorem point (c : Dev nD) (t : Fin cfg0.N) (y : S512x4096.Idx) :
    k0_pay1 (iblk m c 0 t) y
      = REF (m ((c.tc : Thread nD τ).loc main_arg0)) (((cfg0.win 1).blk t).view.emb y) := by
  pointwise [k0_pay1, REF]
  blk_point [iblk, V, idx t]

/-- The result array is the reference's term at the argument arrays. -/
theorem final (c : Dev nD) : (dats m 0 c).arrAt 1 cfg0.N
    = REF (m ((c.tc : Thread nD τ).loc main_arg0)) := by
  refine (dats m 0 c).arrAt_eq_of_covers 1 _ (by decide +kernel) fun t _ y => ?_
  blk_simp
  rw [after0_1]
  frame_out
  exact point m c t y

end Cert.CastBrIdeal.Product
-- ==== Proof.CastDownValue.lean ====
/- The first layer's matrix in the narrower format, block by block. -/
module

public import proofs.«01_k».proof.Proof.Gen.CastDownIdeal.Value
public import proofs.«01_k».proof.Proof.Gen.CastDownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CastDownRefIdeal.Product

open Cert.CastDownRefIdeal Cert.CastDownRefIdeal.Gen

/-- The first layer's matrix in the narrower format. -/
def REF (w : FVec Ideal S2x11008x4096 .f32) : FVec Ideal S11008x4096 .bf16 :=
  truncf .bf16 (shapeCast S11008x4096 (extractStridedSlice S1x11008x4096 ![0, 0, 0] w slices_S2x11008x4096_S1x11008x4096_0_0_0) shapeCasts_S1x11008x4096_S11008x4096) bitsLt_bf16_f32

end Cert.CastDownRefIdeal.Product

namespace Cert.CastDownIdeal.Product

open Cert.CastDownIdeal Cert.CastDownIdeal.Gen Cert.CastDownRefIdeal.Product

variable (m : (ℓ : Loc nD τ sig) → Buf (Elt Ideal) ℓ)

/-- Where each block stands, at every grid point. -/
theorem idx : ∀ t : Fin cfg0.N, win0_0.index t = ![0, win0_1.index t 0, 0] ∧ win0_1.index t 1 = 0 :=
  (by decide +kernel : ∀ t : Fin grid0.N, _)

/-- One block the kernel stores is that block of the matrix. -/
theorem point (c : Dev nD) (t : Fin cfg0.N) (y : S688x4096.Idx) :
    k0_pay1 (iblk m c 0 t) y
      = REF (m ((c.tc : Thread nD τ).loc main_arg0)) (((cfg0.win 1).blk t).view.emb y) := by
  pointwise [k0_pay1, REF]
  blk_point [iblk, V, idx t]

/-- The result array is the reference's term at the argument arrays. -/
theorem final (c : Dev nD) : (dats m 0 c).arrAt 1 cfg0.N
    = REF (m ((c.tc : Thread nD τ).loc main_arg0)) := by
  refine (dats m 0 c).arrAt_eq_of_covers 1 _ (by decide +kernel) fun t _ y => ?_
  blk_simp
  rw [after0_1]
  frame_out
  exact point m c t y

end Cert.CastDownIdeal.Product
-- ==== Proof.OpenPromptValue.lean ====
/- The opening normalisation, prompt batch: every block of the kernel's result is the reference's. -/
module

public import proofs.«01_k».proof.Proof.NormMath
public import proofs.«01_k».proof.Proof.Gen.OpenPromptIdeal.Value
public import proofs.«01_k».proof.Proof.Gen.OpenPromptRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.OpenPromptRefIdeal.Norm

open Cert.OpenPromptRefIdeal Cert.OpenPromptRefIdeal.Gen

/-- The shift of each sequence: the first part of its modulation row. -/
def shR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 0] (shapeCast _ (extractStridedSlice S1x16x24576 ![0, 0, 0] a slices_S2x16x24576_S1x16x24576_0_0_0) shapeCasts_S1x16x24576_S16x24576) slices_S16x24576_S16x4096_0_0) slices_S16x4096_S1x4096_0_0)

theorem shR_apply (a : FVec Ideal S2x16x24576 .f32) (b : Fin 1) (u : Fin 1) (d : Fin 4096) :
    shR a (ix3 b u d) = a (ix3 0 0 ⟨0 + d.val, by omega⟩) := by
  pointwise [shR]

/-- The scale of each sequence: the second part of its modulation row. -/
def scR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 4096] (shapeCast _ (extractStridedSlice S1x16x24576 ![0, 0, 0] a slices_S2x16x24576_S1x16x24576_0_0_0) shapeCasts_S1x16x24576_S16x24576) slices_S16x24576_S16x4096_0_4096) slices_S16x4096_S1x4096_0_0)

theorem scR_apply (a : FVec Ideal S2x16x24576 .f32) (b : Fin 1) (u : Fin 1) (d : Fin 4096) :
    scR a (ix3 b u d) = a (ix3 0 0 ⟨4096 + d.val, by omega⟩) := by
  pointwise [scR]

variable (v : FVec Ideal S32x256x4096 .f32)

/-- The mean of each token's row. -/
def meanR : FVec Ideal S32x256x1 .f32 :=
  Host.divf (broadcastInDim S32x256x1 ![0, 1] bcast_S32x256_S32x256x1_0_1 (Host.reduceAdd v (constant S_ .f32 0x00000000#32) reducesTo_S32x256x4096_S32x256_d2 h_S_)) (broadcastInDim S32x256x1 ![] bcast_S_S32x256x1 (constant S_ .f32 0x45800000#32))

theorem meanR_apply (b : Fin 32) (p : Fin 256) (u : Fin 1) : meanR v (ix3 b p u) = mean fun k => v (ix3 b p k) := by
  unfold mean
  pointwise [meanR]

/-- Each row less its mean. -/
def centR : FVec Ideal S32x256x4096 .f32 := subf v (broadcastInDim S32x256x4096 ![0, 1, 2] bcast_S32x256x1_S32x256x4096_0_1_2 (meanR v))

theorem centR_apply (b : Fin 32) (p : Fin 256) (d : Fin 4096) : centR v (ix3 b p d) = cent (fun k => v (ix3 b p k)) d := by
  unfold cent
  rw [← meanR_apply v b p 0]
  pointwise [centR]

/-- Each row over the root of a guarded variance. -/
def scaleR (w : FVec Ideal S32x256x1 .f32) : FVec Ideal S32x256x4096 .f32 :=
  mulf v (broadcastInDim S32x256x4096 ![0, 1, 2] bcast_S32x256x1_S32x256x4096_0_1_2 (Host.rsqrt (addf w (broadcastInDim S32x256x1 ![] bcast_S_S32x256x1 (constant S_ .f32 0x358637BD#32)))))

theorem scaleR_apply (w : FVec Ideal S32x256x1 .f32) (b : Fin 32) (p : Fin 256) (d : Fin 4096) :
    scaleR v w (ix3 b p d) = v (ix3 b p d) * Ideal.rsqrt (w (ix3 b p 0) + Ideal.ofBits FTy.f32 0x358637BD#32) := by
  pointwise [scaleR]

/-- Each row normalised. -/
def normR : FVec Ideal S32x256x4096 .f32 := scaleR (centR v) (meanR (mulf (centR v) (centR v)))

theorem normR_apply (b : Fin 32) (p : Fin 256) (d : Fin 4096) : normR v (ix3 b p d) = normed (fun k => v (ix3 b p k)) d := by
  have hs : (fun k => mulf (centR v) (centR v) (ix3 b p k)) = fun k => cent (fun k => v (ix3 b p k)) k * cent (fun k => v (ix3 b p k)) k := by
    funext k
    rw [← centR_apply]
    rfl
  unfold normR normed
  rw [scaleR_apply, meanR_apply, hs, centR_apply]

/-- Rows scaled by one plus a factor and shifted. -/
def modR (sc sh : FVec Ideal S1x1x4096 .f32) : FVec Ideal S32x256x4096 .f32 :=
  addf (mulf v (broadcastInDim S32x256x4096 ![0, 1, 2] bcast_S1x1x4096_S32x256x4096_0_1_2 (addf (broadcastInDim S1x1x4096 ![] bcast_S_S1x1x4096 (constant S_ .f32 0x3F800000#32)) sc)))
    (broadcastInDim S32x256x4096 ![0, 1, 2] bcast_S1x1x4096_S32x256x4096_0_1_2 sh)

theorem modR_apply (sc sh : FVec Ideal S1x1x4096 .f32) (b : Fin 32) (p : Fin 256) (d : Fin 4096) :
    modR v sc sh (ix3 b p d) = v (ix3 b p d) * (Ideal.ofBits FTy.f32 0x3F800000#32 + sc (ix3 0 0 d)) + sh (ix3 0 0 d) := by
  pointwise [modR]

/-- The rows, sequence by sequence. -/
def rowsR (x : FVec Ideal S8192x4096 .f32) : FVec Ideal S32x256x4096 .f32 := shapeCast S32x256x4096 x shapeCasts_S8192x4096_S32x256x4096

theorem rowsR_apply (x : FVec Ideal S8192x4096 .f32) (b : Fin 32) (p : Fin 256) (d : Fin 4096) :
    rowsR x (ix3 b p d) = x (ix2 ⟨b.val * 256 + p.val, by omega⟩ d) := by
  pointwise [rowsR]

/-- The rows of all sequences, in the narrower format. -/
def flatR : FVec Ideal S8192x4096 .bf16 := truncf .bf16 (shapeCast S8192x4096 v shapeCasts_S32x256x4096_S8192x4096) bitsLt_bf16_f32

theorem flatR_apply (r : Fin 8192) (d : Fin 4096) :
    flatR v (ix2 r d) = v (ix3 ⟨r.val / 256, by omega⟩ ⟨r.val % 256, by omega⟩ d) := by
  pointwise [flatR]

/-- The reference's result. -/
def REF (x : FVec Ideal S8192x4096 .f32) (a : FVec Ideal S2x16x24576 .f32) : FVec Ideal S8192x4096 .bf16 :=
  flatR (modR (normR (rowsR x)) (scR a) (shR a))

/-- The reference's result at a token and a channel. -/
theorem REF_apply (x : FVec Ideal S8192x4096 .f32) (a : FVec Ideal S2x16x24576 .f32) (r : Fin 8192) (d : Fin 4096) :
    REF x a (ix2 r d) = normed (fun k => x (ix2 r k)) d * (Ideal.ofBits FTy.f32 0x3F800000#32 + a (ix3 0 0 ⟨4096 + d.val, by omega⟩))
      + a (ix3 0 0 ⟨0 + d.val, by omega⟩) := by
  have hr : (fun k => rowsR x (ix3 ⟨r.val / 256, by omega⟩ ⟨r.val % 256, by omega⟩ k)) = fun k => x (ix2 r k) := by
    funext k
    rw [rowsR_apply]
    exact congrArg (fun q => x (ix2 q k)) (Fin.ext (by show r.val / 256 * 256 + r.val % 256 = r.val; omega))
  unfold REF
  rw [flatR_apply, modR_apply, normR_apply, hr, scR_apply, shR_apply]

end Cert.OpenPromptRefIdeal.Norm

namespace Cert.OpenPromptIdeal.Norm

open Cert.OpenPromptIdeal Cert.OpenPromptIdeal.Gen
open Cert.OpenPromptRefIdeal.Norm (REF REF_apply)

variable (v : FVec Ideal S256x4096 .f32)

/-- The mean of each row of a block. -/
def meanK : FVec Ideal S256x1 .f32 :=
  divf (shapeCast S256x1 (multiReduction .add [1] S256 v 0x00000000#32 reduces_S256x4096_S256 (.inl rfl) rfl) shapeCasts_S256_S256x1) (broadcast S256x1 (Scalar.ofBits .f32 0x45800000#32))

theorem meanK_apply (r : Fin 256) (u : Fin 1) : meanK v (ix2 r u) = mean fun k => v (ix2 r k) := by
  unfold mean
  pointwise [meanK]

/-- Each row of a block less its mean. -/
def centK : FVec Ideal S256x4096 .f32 := subf v (broadcastTo S256x4096 (meanK v) broadcasts_S256x1_S256x4096)

theorem centK_apply (r : Fin 256) (d : Fin 4096) : centK v (ix2 r d) = cent (fun k => v (ix2 r k)) d := by
  unfold cent
  rw [← meanK_apply v r 0]
  pointwise [centK]

/-- Each row of a block over the root of a guarded variance. -/
def scaleK (w : FVec Ideal S256x1 .f32) : FVec Ideal S256x4096 .f32 :=
  mulf v (broadcastTo S256x4096 (rsqrt (addf w (broadcast S256x1 (Scalar.ofBits .f32 0x358637BD#32)))) broadcasts_S256x1_S256x4096)

theorem scaleK_apply (w : FVec Ideal S256x1 .f32) (r : Fin 256) (d : Fin 4096) :
    scaleK v w (ix2 r d) = v (ix2 r d) * Ideal.rsqrt (w (ix2 r 0) + Ideal.ofBits FTy.f32 0x358637BD#32) := by
  pointwise [scaleK]

/-- Each row of a block normalised. -/
def normK : FVec Ideal S256x4096 .f32 := scaleK (centK v) (meanK (mulf (centK v) (centK v)))

theorem normK_apply (r : Fin 256) (d : Fin 4096) : normK v (ix2 r d) = normed (fun k => v (ix2 r k)) d := by
  have hs : (fun k => mulf (centK v) (centK v) (ix2 r k)) = fun k => cent (fun k => v (ix2 r k)) k * cent (fun k => v (ix2 r k)) k := by
    funext k
    rw [← centK_apply]
    rfl
  unfold normK normed
  rw [scaleK_apply, meanK_apply, hs, centK_apply]

/-- Rows scaled by one plus a factor and shifted, on a block, in the narrower format. -/
def modK (sc sh : Vec Ideal S1x1x4096 .f32) : FVec Ideal S256x4096 .bf16 :=
  truncf .bf16 (addf (mulf v (broadcastTo S256x4096 (addf (broadcast S1x4096 (Scalar.ofBits .f32 0x3F800000#32)) (shapeCast S1x4096 sc shapeCasts_S1x1x4096_S1x4096)) broadcasts_S1x4096_S256x4096))
    (broadcastTo S256x4096 (shapeCast S1x4096 sh shapeCasts_S1x1x4096_S1x4096) broadcasts_S1x4096_S256x4096)) bitsLt_bf16_f32

theorem modK_apply (sc sh : Vec Ideal S1x1x4096 .f32) (r : Fin 256) (d : Fin 4096) :
    modK v sc sh (ix2 r d) = v (ix2 r d) * (Ideal.ofBits FTy.f32 0x3F800000#32 + sc (ix3 0 0 d)) + sh (ix3 0 0 d) := by
  pointwise [modK]

/-- The block the kernel stores, at an index. -/
theorem pay_apply (x : Vec Ideal S256x4096 .f32) (sc sh : Vec Ideal S1x1x4096 .f32) (r : Fin 256) (d : Fin 4096) :
    k0_pay1 x sc sh (ix2 r d)
      = normed (fun k => x (ix2 r k)) d * (Ideal.ofBits FTy.f32 0x3F800000#32 + sc (ix3 0 0 d)) + sh (ix3 0 0 d) := by
  have e : k0_pay1 (F := Ideal) x sc sh = modK (normK x) sc sh := rfl
  rw [e, modK_apply, normK_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val, 0] ∧ win0_1.index t = ![0, 0, 0] ∧ win0_2.index t = ![1, 0, 0] ∧ win0_3.index t = ![t.val, 0] :=
  (by decide +kernel : ∀ t : Fin grid0.N, _)

abbrev xArr (c : Dev nD) : FVec Ideal S8192x4096 .f32 := m ((c : Thread nD τ).loc main_arg0)
abbrev aArr (c : Dev nD) : FVec Ideal S2x16x24576 .f32 := m ((c : Thread nD τ).loc main_arg1)

theorem read0 (c : Dev nD) (t : Fin cfg0.N) (r : Fin 256) (k : Fin 4096) :
    (show Vec Ideal S256x4096 .f32 from iblk m c 0 t) (ix2 r k) = xArr m c (ix2 ⟨t.val * 256 + r.val, by have := lt32 t; omega⟩ k) := by
  have ht := lt32 t
  have e := (idx t).1
  blk_point [iblk, V, e]

theorem read1 (c : Dev nD) (t : Fin cfg0.N) (k : Fin 4096) :
    (show Vec Ideal S1x1x4096 .f32 from iblk m c 1 t) (ix3 0 0 k) = aArr m c (ix3 0 0 ⟨0 + k.val, by omega⟩) := by
  have ht := lt32 t
  have e := (idx t).2.1
  blk_point [iblk, V, e]

theorem read2 (c : Dev nD) (t : Fin cfg0.N) (k : Fin 4096) :
    (show Vec Ideal S1x1x4096 .f32 from iblk m c 2 t) (ix3 0 0 k) = aArr m c (ix3 0 0 ⟨4096 + k.val, by omega⟩) := by
  have ht := lt32 t
  have e := (idx t).2.2.1
  blk_point [iblk, V, e]

/-- The result array is the reference's term at the argument arrays. -/
theorem final (c : Dev nD) : (dats m 0 c).arrAt 3 (cfgs 0).N = REF (xArr m c) (aArr m c) := by
  refine (dats m 0 c).arrAt_eq_of_covers 3 _ (by decide +kernel) fun t hf q => ?_
  have ht := lt32 t
  have e := (idx t).2.2.2
  obtain ⟨r, d, rfl⟩ : ∃ (r : Fin 256) (d : Fin 4096), q = ix2 r d := by idx_vars q; exact ⟨_, _, rfl⟩
  blk_simp
  rw [after0_3]
  frame_out
  refine (pay_apply _ _ _ r d).trans ?_
  simp only [read0 m c t, read1 m c t, read2 m c t]
  have hR := REF_apply (xArr m c) (aArr m c) ⟨t.val * 256 + r.val, by omega⟩ d
  refine hR.symm.trans ?_
  blk_point [iblk, V, e]

end Cert.OpenPromptIdeal.Norm
-- ==== Proof.OpenSampleValue.lean ====
/- The opening normalisation, sample batch: every block of the kernel's result is the reference's. -/
module

public import proofs.«01_k».proof.Proof.NormMath
public import proofs.«01_k».proof.Proof.Gen.OpenSampleIdeal.Value
public import proofs.«01_k».proof.Proof.Gen.OpenSampleRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.OpenSampleRefIdeal.Norm

open Cert.OpenSampleRefIdeal Cert.OpenSampleRefIdeal.Gen

/-- The shift of each sequence: the first part of its modulation row. -/
def shR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 0] (shapeCast _ (extractStridedSlice S1x16x24576 ![0, 0, 0] a slices_S2x16x24576_S1x16x24576_0_0_0) shapeCasts_S1x16x24576_S16x24576) slices_S16x24576_S16x4096_0_0) slices_S16x4096_S8x4096_1_0)

theorem shR_apply (a : FVec Ideal S2x16x24576 .f32) (b : Fin 8) (u : Fin 1) (d : Fin 4096) :
    shR a (ix3 b u d) = a (ix3 0 ⟨1 + b.val, by omega⟩ ⟨0 + d.val, by omega⟩) := by
  pointwise [shR]

/-- The scale of each sequence: the second part of its modulation row. -/
def scR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 4096] (shapeCast _ (extractStridedSlice S1x16x24576 ![0, 0, 0] a slices_S2x16x24576_S1x16x24576_0_0_0) shapeCasts_S1x16x24576_S16x24576) slices_S16x24576_S16x4096_0_4096) slices_S16x4096_S8x4096_1_0)

theorem scR_apply (a : FVec Ideal S2x16x24576 .f32) (b : Fin 8) (u : Fin 1) (d : Fin 4096) :
    scR a (ix3 b u d) = a (ix3 0 ⟨1 + b.val, by omega⟩ ⟨4096 + d.val, by omega⟩) := by
  pointwise [scR]

variable (v : FVec Ideal S8x1024x4096 .f32)

/-- The mean of each token's row. -/
def meanR : FVec Ideal S8x1024x1 .f32 :=
  Host.divf (broadcastInDim S8x1024x1 ![0, 1] bcast_S8x1024_S8x1024x1_0_1 (Host.reduceAdd v (constant S_ .f32 0x00000000#32) reducesTo_S8x1024x4096_S8x1024_d2 h_S_)) (broadcastInDim S8x1024x1 ![] bcast_S_S8x1024x1 (constant S_ .f32 0x45800000#32))

theorem meanR_apply (b : Fin 8) (p : Fin 1024) (u : Fin 1) : meanR v (ix3 b p u) = mean fun k => v (ix3 b p k) := by
  unfold mean
  pointwise [meanR]

/-- Each row less its mean. -/
def centR : FVec Ideal S8x1024x4096 .f32 := subf v (broadcastInDim S8x1024x4096 ![0, 1, 2] bcast_S8x1024x1_S8x1024x4096_0_1_2 (meanR v))

theorem centR_apply (b : Fin 8) (p : Fin 1024) (d : Fin 4096) : centR v (ix3 b p d) = cent (fun k => v (ix3 b p k)) d := by
  unfold cent
  rw [← meanR_apply v b p 0]
  pointwise [centR]

/-- Each row over the root of a guarded variance. -/
def scaleR (w : FVec Ideal S8x1024x1 .f32) : FVec Ideal S8x1024x4096 .f32 :=
  mulf v (broadcastInDim S8x1024x4096 ![0, 1, 2] bcast_S8x1024x1_S8x1024x4096_0_1_2 (Host.rsqrt (addf w (broadcastInDim S8x1024x1 ![] bcast_S_S8x1024x1 (constant S_ .f32 0x358637BD#32)))))

theorem scaleR_apply (w : FVec Ideal S8x1024x1 .f32) (b : Fin 8) (p : Fin 1024) (d : Fin 4096) :
    scaleR v w (ix3 b p d) = v (ix3 b p d) * Ideal.rsqrt (w (ix3 b p 0) + Ideal.ofBits FTy.f32 0x358637BD#32) := by
  pointwise [scaleR]

/-- Each row normalised. -/
def normR : FVec Ideal S8x1024x4096 .f32 := scaleR (centR v) (meanR (mulf (centR v) (centR v)))

theorem normR_apply (b : Fin 8) (p : Fin 1024) (d : Fin 4096) : normR v (ix3 b p d) = normed (fun k => v (ix3 b p k)) d := by
  have hs : (fun k => mulf (centR v) (centR v) (ix3 b p k)) = fun k => cent (fun k => v (ix3 b p k)) k * cent (fun k => v (ix3 b p k)) k := by
    funext k
    rw [← centR_apply]
    rfl
  unfold normR normed
  rw [scaleR_apply, meanR_apply, hs, centR_apply]

/-- Rows scaled by one plus a factor and shifted. -/
def modR (sc sh : FVec Ideal S8x1x4096 .f32) : FVec Ideal S8x1024x4096 .f32 :=
  addf (mulf v (broadcastInDim S8x1024x4096 ![0, 1, 2] bcast_S8x1x4096_S8x1024x4096_0_1_2 (addf (broadcastInDim S8x1x4096 ![] bcast_S_S8x1x4096 (constant S_ .f32 0x3F800000#32)) sc)))
    (broadcastInDim S8x1024x4096 ![0, 1, 2] bcast_S8x1x4096_S8x1024x4096_0_1_2 sh)

theorem modR_apply (sc sh : FVec Ideal S8x1x4096 .f32) (b : Fin 8) (p : Fin 1024) (d : Fin 4096) :
    modR v sc sh (ix3 b p d) = v (ix3 b p d) * (Ideal.ofBits FTy.f32 0x3F800000#32 + sc (ix3 b 0 d)) + sh (ix3 b 0 d) := by
  pointwise [modR]

/-- The rows, sequence by sequence. -/
def rowsR (x : FVec Ideal S8192x4096 .f32) : FVec Ideal S8x1024x4096 .f32 := shapeCast S8x1024x4096 x shapeCasts_S8192x4096_S8x1024x4096

theorem rowsR_apply (x : FVec Ideal S8192x4096 .f32) (b : Fin 8) (p : Fin 1024) (d : Fin 4096) :
    rowsR x (ix3 b p d) = x (ix2 ⟨b.val * 1024 + p.val, by omega⟩ d) := by
  pointwise [rowsR]

/-- The rows of all sequences, in the narrower format. -/
def flatR : FVec Ideal S8192x4096 .bf16 := truncf .bf16 (shapeCast S8192x4096 v shapeCasts_S8x1024x4096_S8192x4096) bitsLt_bf16_f32

theorem flatR_apply (r : Fin 8192) (d : Fin 4096) :
    flatR v (ix2 r d) = v (ix3 ⟨r.val / 1024, by omega⟩ ⟨r.val % 1024, by omega⟩ d) := by
  pointwise [flatR]

/-- The reference's result. -/
def REF (x : FVec Ideal S8192x4096 .f32) (a : FVec Ideal S2x16x24576 .f32) : FVec Ideal S8192x4096 .bf16 :=
  flatR (modR (normR (rowsR x)) (scR a) (shR a))

/-- The reference's result at a token and a channel. -/
theorem REF_apply (x : FVec Ideal S8192x4096 .f32) (a : FVec Ideal S2x16x24576 .f32) (r : Fin 8192) (d : Fin 4096) :
    REF x a (ix2 r d) = normed (fun k => x (ix2 r k)) d * (Ideal.ofBits FTy.f32 0x3F800000#32 + a (ix3 0 ⟨1 + r.val / 1024, by omega⟩ ⟨4096 + d.val, by omega⟩))
      + a (ix3 0 ⟨1 + r.val / 1024, by omega⟩ ⟨0 + d.val, by omega⟩) := by
  have hr : (fun k => rowsR x (ix3 ⟨r.val / 1024, by omega⟩ ⟨r.val % 1024, by omega⟩ k)) = fun k => x (ix2 r k) := by
    funext k
    rw [rowsR_apply]
    exact congrArg (fun q => x (ix2 q k)) (Fin.ext (by show r.val / 1024 * 1024 + r.val % 1024 = r.val; omega))
  unfold REF
  rw [flatR_apply, modR_apply, normR_apply, hr, scR_apply, shR_apply]

end Cert.OpenSampleRefIdeal.Norm

namespace Cert.OpenSampleIdeal.Norm

open Cert.OpenSampleIdeal Cert.OpenSampleIdeal.Gen
open Cert.OpenSampleRefIdeal.Norm (REF REF_apply)

variable (v : FVec Ideal S256x4096 .f32)

/-- The mean of each row of a block. -/
def meanK : FVec Ideal S256x1 .f32 :=
  divf (shapeCast S256x1 (multiReduction .add [1] S256 v 0x00000000#32 reduces_S256x4096_S256 (.inl rfl) rfl) shapeCasts_S256_S256x1) (broadcast S256x1 (Scalar.ofBits .f32 0x45800000#32))

theorem meanK_apply (r : Fin 256) (u : Fin 1) : meanK v (ix2 r u) = mean fun k => v (ix2 r k) := by
  unfold mean
  pointwise [meanK]

/-- Each row of a block less its mean. -/
def centK : FVec Ideal S256x4096 .f32 := subf v (broadcastTo S256x4096 (meanK v) broadcasts_S256x1_S256x4096)

theorem centK_apply (r : Fin 256) (d : Fin 4096) : centK v (ix2 r d) = cent (fun k => v (ix2 r k)) d := by
  unfold cent
  rw [← meanK_apply v r 0]
  pointwise [centK]

/-- Each row of a block over the root of a guarded variance. -/
def scaleK (w : FVec Ideal S256x1 .f32) : FVec Ideal S256x4096 .f32 :=
  mulf v (broadcastTo S256x4096 (rsqrt (addf w (broadcast S256x1 (Scalar.ofBits .f32 0x358637BD#32)))) broadcasts_S256x1_S256x4096)

theorem scaleK_apply (w : FVec Ideal S256x1 .f32) (r : Fin 256) (d : Fin 4096) :
    scaleK v w (ix2 r d) = v (ix2 r d) * Ideal.rsqrt (w (ix2 r 0) + Ideal.ofBits FTy.f32 0x358637BD#32) := by
  pointwise [scaleK]

/-- Each row of a block normalised. -/
def normK : FVec Ideal S256x4096 .f32 := scaleK (centK v) (meanK (mulf (centK v) (centK v)))

theorem normK_apply (r : Fin 256) (d : Fin 4096) : normK v (ix2 r d) = normed (fun k => v (ix2 r k)) d := by
  have hs : (fun k => mulf (centK v) (centK v) (ix2 r k)) = fun k => cent (fun k => v (ix2 r k)) k * cent (fun k => v (ix2 r k)) k := by
    funext k
    rw [← centK_apply]
    rfl
  unfold normK normed
  rw [scaleK_apply, meanK_apply, hs, centK_apply]

/-- Rows scaled by one plus a factor and shifted, on a block, in the narrower format. -/
def modK (sc sh : Vec Ideal S1x1x4096 .f32) : FVec Ideal S256x4096 .bf16 :=
  truncf .bf16 (addf (mulf v (broadcastTo S256x4096 (addf (broadcast S1x4096 (Scalar.ofBits .f32 0x3F800000#32)) (shapeCast S1x4096 sc shapeCasts_S1x1x4096_S1x4096)) broadcasts_S1x4096_S256x4096))
    (broadcastTo S256x4096 (shapeCast S1x4096 sh shapeCasts_S1x1x4096_S1x4096) broadcasts_S1x4096_S256x4096)) bitsLt_bf16_f32

theorem modK_apply (sc sh : Vec Ideal S1x1x4096 .f32) (r : Fin 256) (d : Fin 4096) :
    modK v sc sh (ix2 r d) = v (ix2 r d) * (Ideal.ofBits FTy.f32 0x3F800000#32 + sc (ix3 0 0 d)) + sh (ix3 0 0 d) := by
  pointwise [modK]

/-- The block the kernel stores, at an index. -/
theorem pay_apply (x : Vec Ideal S256x4096 .f32) (sc sh : Vec Ideal S1x1x4096 .f32) (r : Fin 256) (d : Fin 4096) :
    k0_pay1 x sc sh (ix2 r d)
      = normed (fun k => x (ix2 r k)) d * (Ideal.ofBits FTy.f32 0x3F800000#32 + sc (ix3 0 0 d)) + sh (ix3 0 0 d) := by
  have e : k0_pay1 (F := Ideal) x sc sh = modK (normK x) sc sh := rfl
  rw [e, modK_apply, normK_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val, 0] ∧ win0_1.index t = ![(1 + t.val / 4) * 6, 0, 0] ∧ win0_2.index t = ![(1 + t.val / 4) * 6 + 1, 0, 0] ∧ win0_3.index t = ![t.val, 0] :=
  (by decide +kernel : ∀ t : Fin grid0.N, _)

abbrev xArr (c : Dev nD) : FVec Ideal S8192x4096 .f32 := m ((c : Thread nD τ).loc main_arg0)
abbrev aArr (c : Dev nD) : FVec Ideal S2x16x24576 .f32 := m ((c : Thread nD τ).loc main_arg1)

theorem read0 (c : Dev nD) (t : Fin cfg0.N) (r : Fin 256) (k : Fin 4096) :
    (show Vec Ideal S256x4096 .f32 from iblk m c 0 t) (ix2 r k) = xArr m c (ix2 ⟨t.val * 256 + r.val, by have := lt32 t; omega⟩ k) := by
  have ht := lt32 t
  have e := (idx t).1
  blk_point [iblk, V, e]

theorem read1 (c : Dev nD) (t : Fin cfg0.N) (k : Fin 4096) :
    (show Vec Ideal S1x1x4096 .f32 from iblk m c 1 t) (ix3 0 0 k) = aArr m c (ix3 0 ⟨1 + t.val / 4, by have := lt32 t; omega⟩ ⟨0 + k.val, by omega⟩) := by
  have ht := lt32 t
  have e := (idx t).2.1
  blk_point [iblk, V, e]

theorem read2 (c : Dev nD) (t : Fin cfg0.N) (k : Fin 4096) :
    (show Vec Ideal S1x1x4096 .f32 from iblk m c 2 t) (ix3 0 0 k) = aArr m c (ix3 0 ⟨1 + t.val / 4, by have := lt32 t; omega⟩ ⟨4096 + k.val, by omega⟩) := by
  have ht := lt32 t
  have e := (idx t).2.2.1
  blk_point [iblk, V, e]

/-- The result array is the reference's term at the argument arrays. -/
theorem final (c : Dev nD) : (dats m 0 c).arrAt 3 (cfgs 0).N = REF (xArr m c) (aArr m c) := by
  refine (dats m 0 c).arrAt_eq_of_covers 3 _ (by decide +kernel) fun t hf q => ?_
  have ht := lt32 t
  have e := (idx t).2.2.2
  obtain ⟨r, d, rfl⟩ : ∃ (r : Fin 256) (d : Fin 4096), q = ix2 r d := by idx_vars q; exact ⟨_, _, rfl⟩
  blk_simp
  rw [after0_3]
  frame_out
  refine (pay_apply _ _ _ r d).trans ?_
  simp only [read0 m c t, read1 m c t, read2 m c t]
  have hR := REF_apply (xArr m c) (aArr m c) ⟨t.val * 256 + r.val, by omega⟩ d
  have hrow : (⟨1 + (t.val * 256 + r.val) / 1024, by omega⟩ : Fin 16) = ⟨1 + t.val / 4, by omega⟩ := Fin.ext (by show 1 + (t.val * 256 + r.val) / 1024 = 1 + t.val / 4; omega)
  rw [hrow] at hR
  refine hR.symm.trans ?_
  blk_point [iblk, V, e]

end Cert.OpenSampleIdeal.Norm
-- ==== Proof.MidPromptValue.lean ====
/- The normalisation after the mixer, with the modulated rows for what follows, prompt batch: every block of the kernel's results is the reference's. -/
module

public import proofs.«01_k».proof.Proof.NormMath
public import proofs.«01_k».proof.Proof.Gen.MidPromptIdeal.Frame
public import Idealize.ShloMosaic.Lib.Pipeline.Value
public import proofs.«01_k».proof.Proof.Gen.MidPromptRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.MidPromptRefIdeal.Norm

open Cert.MidPromptRefIdeal Cert.MidPromptRefIdeal.Gen

/-- The gate of each sequence. -/
def gR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 8192] (shapeCast _ (extractStridedSlice S1x16x24576 ![0, 0, 0] a slices_S2x16x24576_S1x16x24576_0_0_0) shapeCasts_S1x16x24576_S16x24576) slices_S16x24576_S16x4096_0_8192) slices_S16x4096_S1x4096_0_0)

theorem gR_apply (a : FVec Ideal S2x16x24576 .f32) (b : Fin 1) (u : Fin 1) (d : Fin 4096) :
    gR a (ix3 b u d) = a (ix3 0 0 ⟨8192 + d.val, by omega⟩) := by
  pointwise [gR]

/-- The shift of each sequence. -/
def shR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 12288] (shapeCast _ (extractStridedSlice S1x16x24576 ![0, 0, 0] a slices_S2x16x24576_S1x16x24576_0_0_0) shapeCasts_S1x16x24576_S16x24576) slices_S16x24576_S16x4096_0_12288) slices_S16x4096_S1x4096_0_0)

theorem shR_apply (a : FVec Ideal S2x16x24576 .f32) (b : Fin 1) (u : Fin 1) (d : Fin 4096) :
    shR a (ix3 b u d) = a (ix3 0 0 ⟨12288 + d.val, by omega⟩) := by
  pointwise [shR]

/-- The scale of each sequence. -/
def scR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 16384] (shapeCast _ (extractStridedSlice S1x16x24576 ![0, 0, 0] a slices_S2x16x24576_S1x16x24576_0_0_0) shapeCasts_S1x16x24576_S16x24576) slices_S16x24576_S16x4096_0_16384) slices_S16x4096_S1x4096_0_0)

theorem scR_apply (a : FVec Ideal S2x16x24576 .f32) (b : Fin 1) (u : Fin 1) (d : Fin 4096) :
    scR a (ix3 b u d) = a (ix3 0 0 ⟨16384 + d.val, by omega⟩) := by
  pointwise [scR]

/-- The residual with its gated branch, token by token. -/
def mixR (x y : FVec Ideal S8192x4096 .f32) (a : FVec Ideal S1x1x4096 .f32) : FVec Ideal S32x256x4096 .f32 :=
  addf (mulf (broadcastInDim S32x256x4096 ![] bcast_S_S32x256x4096 (constant S_ .f32 0x3FB504F3#32)) (shapeCast S32x256x4096 x shapeCasts_S8192x4096_S32x256x4096))
    (mulf (broadcastInDim S32x256x4096 ![0, 1, 2] bcast_S1x1x4096_S32x256x4096_0_1_2 a) (shapeCast S32x256x4096 y shapeCasts_S8192x4096_S32x256x4096))

theorem mixR_apply (x y : FVec Ideal S8192x4096 .f32) (a : FVec Ideal S1x1x4096 .f32) (b : Fin 32) (p : Fin 256) (d : Fin 4096) :
    mixR x y a (ix3 b p d) = mixed (x (ix2 ⟨b.val * 256 + p.val, by omega⟩ d)) (a (ix3 0 0 d))
      (y (ix2 ⟨b.val * 256 + p.val, by omega⟩ d)) := by
  unfold mixed
  pointwise [mixR]

variable (v : FVec Ideal S32x256x4096 .f32)

/-- The mean of each token's row. -/
def meanR : FVec Ideal S32x256x1 .f32 :=
  Host.divf (broadcastInDim S32x256x1 ![0, 1] bcast_S32x256_S32x256x1_0_1 (Host.reduceAdd v (constant S_ .f32 0x00000000#32) reducesTo_S32x256x4096_S32x256_d2 h_S_)) (broadcastInDim S32x256x1 ![] bcast_S_S32x256x1 (constant S_ .f32 0x45800000#32))

theorem meanR_apply (b : Fin 32) (p : Fin 256) (u : Fin 1) : meanR v (ix3 b p u) = mean fun k => v (ix3 b p k) := by
  unfold mean
  pointwise [meanR]

/-- Each row less its mean. -/
def centR : FVec Ideal S32x256x4096 .f32 := subf v (broadcastInDim S32x256x4096 ![0, 1, 2] bcast_S32x256x1_S32x256x4096_0_1_2 (meanR v))

theorem centR_apply (b : Fin 32) (p : Fin 256) (d : Fin 4096) : centR v (ix3 b p d) = cent (fun k => v (ix3 b p k)) d := by
  unfold cent
  rw [← meanR_apply v b p 0]
  pointwise [centR]

/-- Each row over the root of a guarded variance. -/
def scaleR (w : FVec Ideal S32x256x1 .f32) : FVec Ideal S32x256x4096 .f32 :=
  mulf v (broadcastInDim S32x256x4096 ![0, 1, 2] bcast_S32x256x1_S32x256x4096_0_1_2 (Host.rsqrt (addf w (broadcastInDim S32x256x1 ![] bcast_S_S32x256x1 (constant S_ .f32 0x358637BD#32)))))

theorem scaleR_apply (w : FVec Ideal S32x256x1 .f32) (b : Fin 32) (p : Fin 256) (d : Fin 4096) :
    scaleR v w (ix3 b p d) = v (ix3 b p d) * Ideal.rsqrt (w (ix3 b p 0) + Ideal.ofBits FTy.f32 0x358637BD#32) := by
  pointwise [scaleR]

/-- Each row normalised. -/
def normR : FVec Ideal S32x256x4096 .f32 := scaleR (centR v) (meanR (mulf (centR v) (centR v)))

theorem normR_apply (b : Fin 32) (p : Fin 256) (d : Fin 4096) : normR v (ix3 b p d) = normed (fun k => v (ix3 b p k)) d := by
  have hs : (fun k => mulf (centR v) (centR v) (ix3 b p k)) = fun k => cent (fun k => v (ix3 b p k)) k * cent (fun k => v (ix3 b p k)) k := by
    funext k
    rw [← centR_apply]
    rfl
  unfold normR normed
  rw [scaleR_apply, meanR_apply, hs, centR_apply]

/-- Rows with gain and shift. -/
def affR (lg lb : FVec Ideal S2x4096 .f32) : FVec Ideal S32x256x4096 .f32 :=
  addf (mulf v (broadcastInDim S32x256x4096 ![0, 1, 2] bcast_S1x1x4096_S32x256x4096_0_1_2 (broadcastInDim S1x1x4096 ![2] bcast_S4096_S1x1x4096_2 (shapeCast S4096 (extractStridedSlice S1x4096 ![0, 0] lg slices_S2x4096_S1x4096_0_0) shapeCasts_S1x4096_S4096))))
    (broadcastInDim S32x256x4096 ![0, 1, 2] bcast_S1x1x4096_S32x256x4096_0_1_2 (broadcastInDim S1x1x4096 ![2] bcast_S4096_S1x1x4096_2 (shapeCast S4096 (extractStridedSlice S1x4096 ![0, 0] lb slices_S2x4096_S1x4096_0_0) shapeCasts_S1x4096_S4096)))

theorem affR_apply (lg lb : FVec Ideal S2x4096 .f32) (b : Fin 32) (p : Fin 256) (d : Fin 4096) :
    affR v lg lb (ix3 b p d) = v (ix3 b p d) * lg (ix2 0 d) + lb (ix2 0 d) := by
  pointwise [affR]

/-- Rows scaled by one plus a factor and shifted. -/
def modR (sc sh : FVec Ideal S1x1x4096 .f32) : FVec Ideal S32x256x4096 .f32 :=
  addf (mulf v (broadcastInDim S32x256x4096 ![0, 1, 2] bcast_S1x1x4096_S32x256x4096_0_1_2 (addf (broadcastInDim S1x1x4096 ![] bcast_S_S1x1x4096 (constant S_ .f32 0x3F800000#32)) sc)))
    (broadcastInDim S32x256x4096 ![0, 1, 2] bcast_S1x1x4096_S32x256x4096_0_1_2 sh)

theorem modR_apply (sc sh : FVec Ideal S1x1x4096 .f32) (b : Fin 32) (p : Fin 256) (d : Fin 4096) :
    modR v sc sh (ix3 b p d) = v (ix3 b p d) * (Ideal.ofBits FTy.f32 0x3F800000#32 + sc (ix3 0 0 d)) + sh (ix3 0 0 d) := by
  pointwise [modR]

/-- The rows with each sequence in eight stretches. -/
def splitR : FVec Ideal S32x8x32x4096 .f32 := shapeCast S32x8x32x4096 v shapeCasts_S32x256x4096_S32x8x32x4096

theorem splitR_apply (b : Fin 32) (s : Fin 8) (j : Fin 32) (d : Fin 4096) :
    splitR v (ix4 b s j d) = v (ix3 b ⟨s.val * 32 + j.val, by omega⟩ d) := by
  pointwise [splitR]

/-- The modulated rows as they are handed on. -/
def handR : FVec Ideal S32x32x8x4096 .bf16 := truncf .bf16 (transpose S32x32x8x4096 [0, 2, 1, 3] (shapeCast S32x8x32x4096 v shapeCasts_S32x256x4096_S32x8x32x4096) transposes_S32x8x32x4096_S32x32x8x4096_0_2_1_3) bitsLt_bf16_f32

theorem handR_apply (b : Fin 32) (s : Fin 8) (j : Fin 32) (d : Fin 4096) :
    handR v (ix4 b j s d) = v (ix3 b ⟨s.val * 32 + j.val, by omega⟩ d) := by
  pointwise [handR]

variable (x y : FVec Ideal S8192x4096 .f32) (a : FVec Ideal S2x16x24576 .f32) (lg lb : FVec Ideal S2x4096 .f32)

/-- The normalised residual. -/
def nextR : FVec Ideal S32x256x4096 .f32 := affR (normR (mixR x y (gR a))) lg lb

/-- The normalised residual at a token and a channel. -/
theorem nextR_apply (b : Fin 32) (s : Fin 8) (j : Fin 32) (d : Fin 4096) :
    nextR x y a lg lb (ix3 b ⟨s.val * 32 + j.val, by omega⟩ d) = affine (fun k => mixed (x (ix2 ⟨b.val * 256 + (s.val * 32 + j.val), by omega⟩ k)) (a (ix3 0 0 ⟨8192 + k.val, by omega⟩)) (y (ix2 ⟨b.val * 256 + (s.val * 32 + j.val), by omega⟩ k))) (fun k => lg (ix2 0 k)) (fun k => lb (ix2 0 k)) d := by
  have hm : (fun k => mixR x y (gR a) (ix3 b ⟨s.val * 32 + j.val, by omega⟩ k)) = (fun k => mixed (x (ix2 ⟨b.val * 256 + (s.val * 32 + j.val), by omega⟩ k)) (a (ix3 0 0 ⟨8192 + k.val, by omega⟩)) (y (ix2 ⟨b.val * 256 + (s.val * 32 + j.val), by omega⟩ k))) := by
    funext k
    rw [mixR_apply, gR_apply]

  unfold nextR affine
  rw [affR_apply, normR_apply, hm]

/-- The reference's first result: the normalised residual. -/
def REF0 : FVec Ideal S32x8x32x4096 .f32 := splitR (nextR x y a lg lb)

/-- The reference's second result: its rows normalised again and modulated. -/
def REF1 : FVec Ideal S32x32x8x4096 .bf16 := handR (modR (normR (nextR x y a lg lb)) (scR a) (shR a))

theorem REF0_apply (b : Fin 32) (s : Fin 8) (j : Fin 32) (d : Fin 4096) :
    REF0 x y a lg lb (ix4 b s j d) = affine (fun k => mixed (x (ix2 ⟨b.val * 256 + (s.val * 32 + j.val), by omega⟩ k)) (a (ix3 0 0 ⟨8192 + k.val, by omega⟩)) (y (ix2 ⟨b.val * 256 + (s.val * 32 + j.val), by omega⟩ k))) (fun k => lg (ix2 0 k)) (fun k => lb (ix2 0 k)) d := by
  unfold REF0
  rw [splitR_apply, nextR_apply]

theorem REF1_apply (b : Fin 32) (s : Fin 8) (j : Fin 32) (d : Fin 4096) :
    REF1 x y a lg lb (ix4 b j s d) = modulated (affine (fun k => mixed (x (ix2 ⟨b.val * 256 + (s.val * 32 + j.val), by omega⟩ k)) (a (ix3 0 0 ⟨8192 + k.val, by omega⟩)) (y (ix2 ⟨b.val * 256 + (s.val * 32 + j.val), by omega⟩ k))) (fun k => lg (ix2 0 k)) (fun k => lb (ix2 0 k))) (fun k => a (ix3 0 0 ⟨16384 + k.val, by omega⟩)) (fun k => a (ix3 0 0 ⟨12288 + k.val, by omega⟩)) d := by
  unfold REF1 modulated
  rw [handR_apply, modR_apply, normR_apply, scR_apply, shR_apply]
  simp only [nextR_apply]

set_option maxRecDepth 65536 in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v76) = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.MidPromptRefIdeal.Norm

namespace Cert.MidPromptIdeal.Norm

open Cert.MidPromptIdeal Cert.MidPromptIdeal.Gen
open Cert.MidPromptRefIdeal.Norm (REF0 REF1 REF0_apply REF1_apply)

/-- The residual with its gated branch, on a block. -/
def mixK (y : Vec Ideal S1x8x32x4096 .f32) (x : Vec Ideal S1x8x32x4096 .f32) (g : Vec Ideal S1x1x4096 .f32) : FVec Ideal S8x32x4096 .f32 :=
  addf (mulf (broadcast S8x32x4096 (Scalar.ofBits .f32 0x3FB504F3#32)) (shapeCast S8x32x4096 x shapeCasts_S1x8x32x4096_S8x32x4096))
    (mulf (broadcastTo S8x32x4096 (shapeCast S1x1x4096 (shapeCast S1x4096 g shapeCasts_S1x1x4096_S1x4096) shapeCasts_S1x4096_S1x1x4096) broadcasts_S1x1x4096_S8x32x4096)
      (shapeCast S8x32x4096 y shapeCasts_S1x8x32x4096_S8x32x4096))

theorem mixK_apply (y : Vec Ideal S1x8x32x4096 .f32) (x : Vec Ideal S1x8x32x4096 .f32) (g : Vec Ideal S1x1x4096 .f32) (s : Fin 8) (j : Fin 32) (d : Fin 4096) :
    mixK y x g (ix3 s j d) = mixed (x (ix4 0 s j d)) (g (ix3 0 0 d)) (y (ix4 0 s j d)) := by
  unfold mixed
  pointwise [mixK]

variable (v : FVec Ideal S8x32x4096 .f32)

/-- The mean of each row of a block. -/
def meanK : FVec Ideal S8x32x1 .f32 :=
  divf (shapeCast S8x32x1 (multiReduction .add [2] S8x32 v 0x00000000#32 reduces_S8x32x4096_S8x32 (.inl rfl) rfl) shapeCasts_S8x32_S8x32x1) (broadcast S8x32x1 (Scalar.ofBits .f32 0x45800000#32))

theorem meanK_apply (s : Fin 8) (j : Fin 32) (u : Fin 1) : meanK v (ix3 s j u) = mean fun k => v (ix3 s j k) := by
  unfold mean
  pointwise [meanK]

/-- Each row of a block less its mean. -/
def centK : FVec Ideal S8x32x4096 .f32 := subf v (broadcastTo S8x32x4096 (meanK v) broadcasts_S8x32x1_S8x32x4096)

theorem centK_apply (s : Fin 8) (j : Fin 32) (d : Fin 4096) : centK v (ix3 s j d) = cent (fun k => v (ix3 s j k)) d := by
  unfold cent
  rw [← meanK_apply v s j 0]
  pointwise [centK]

/-- Each row of a block over the root of a guarded variance. -/
def scaleK (w : FVec Ideal S8x32x1 .f32) : FVec Ideal S8x32x4096 .f32 :=
  mulf v (broadcastTo S8x32x4096 (rsqrt (addf w (broadcast S8x32x1 (Scalar.ofBits .f32 0x358637BD#32)))) broadcasts_S8x32x1_S8x32x4096)

theorem scaleK_apply (w : FVec Ideal S8x32x1 .f32) (s : Fin 8) (j : Fin 32) (d : Fin 4096) :
    scaleK v w (ix3 s j d) = v (ix3 s j d) * Ideal.rsqrt (w (ix3 s j 0) + Ideal.ofBits FTy.f32 0x358637BD#32) := by
  pointwise [scaleK]

/-- Each row of a block normalised. -/
def normK : FVec Ideal S8x32x4096 .f32 := scaleK (centK v) (meanK (mulf (centK v) (centK v)))

theorem normK_apply (s : Fin 8) (j : Fin 32) (d : Fin 4096) : normK v (ix3 s j d) = normed (fun k => v (ix3 s j k)) d := by
  have hs : (fun k => mulf (centK v) (centK v) (ix3 s j k)) = fun k => cent (fun k => v (ix3 s j k)) k * cent (fun k => v (ix3 s j k)) k := by
    funext k
    rw [← centK_apply]
    rfl
  unfold normK normed
  rw [scaleK_apply, meanK_apply, hs, centK_apply]

/-- Rows of a block with their gain. -/
def gainK (g : Vec Ideal S1x4096 .f32) : FVec Ideal S8x32x4096 .f32 :=
  mulf v (broadcastTo S8x32x4096 (shapeCast S1x1x4096 (shapeCast S1x4096 g shapeCasts_S1x4096_S1x4096) shapeCasts_S1x4096_S1x1x4096) broadcasts_S1x1x4096_S8x32x4096)

theorem gainK_apply (g : Vec Ideal S1x4096 .f32) (s : Fin 8) (j : Fin 32) (d : Fin 4096) : gainK v g (ix3 s j d) = v (ix3 s j d) * g (ix2 0 d) := by
  pointwise [gainK]

theorem shift_apply (b : Vec Ideal S1x4096 .f32) (s : Fin 8) (j : Fin 32) (d : Fin 4096) : k0_pay3 v (k0_pay2 b) (ix3 s j d) = v (ix3 s j d) + b (ix2 0 d) := by
  pointwise [k0_pay3, k0_pay2]

/-- The normalised residual of a block, at an index. -/
theorem next_apply (y : Vec Ideal S1x8x32x4096 .f32) (x : Vec Ideal S1x8x32x4096 .f32) (g : Vec Ideal S1x1x4096 .f32) (lg lb : Vec Ideal S1x4096 .f32)
    (s : Fin 8) (j : Fin 32) (d : Fin 4096) :
    k0_pay3 (k0_pay1 y x g lg) (k0_pay2 lb) (ix3 s j d)
      = affine (fun k => mixed (x (ix4 0 s j k)) (g (ix3 0 0 k)) (y (ix4 0 s j k))) (fun k => lg (ix2 0 k)) (fun k => lb (ix2 0 k)) d := by
  have e : k0_pay1 (F := Ideal) y x g lg = gainK (normK (mixK y x g)) lg := rfl
  unfold affine
  rw [shift_apply, e, gainK_apply, normK_apply]
  simp only [mixK_apply]

theorem split_apply (w : FVec Ideal S8x32x4096 .f32) (z : Fin 1) (s : Fin 8) (j : Fin 32) (d : Fin 4096) : k0_pay4 v w (ix4 z s j d) = k0_pay3 v w (ix3 s j d) := by
  pointwise [k0_pay4]

/-- Rows scaled by one plus a factor and shifted, on a block, as they are handed on. -/
def handK (c : FVec Ideal S8x32x4096 .f32) (sc sh : Vec Ideal S1x1x4096 .f32) : FVec Ideal S1x32x8x4096 .bf16 :=
  shapeCast S1x32x8x4096 (truncf .bf16 (transpose S32x8x4096 [1, 0, 2] (addf (mulf c (broadcastTo S8x32x4096 (shapeCast S1x1x4096 (addf (broadcast S1x4096 (Scalar.ofBits .f32 0x3F800000#32)) (shapeCast S1x4096 sc shapeCasts_S1x1x4096_S1x4096)) shapeCasts_S1x4096_S1x1x4096) broadcasts_S1x1x4096_S8x32x4096))
      (broadcastTo S8x32x4096 (shapeCast S1x1x4096 (shapeCast S1x4096 sh shapeCasts_S1x1x4096_S1x4096) shapeCasts_S1x4096_S1x1x4096) broadcasts_S1x1x4096_S8x32x4096)) transposes_S8x32x4096_p1_0_2_S32x8x4096) bitsLt_bf16_f32) shapeCasts_S32x8x4096_S1x32x8x4096

theorem handK_apply (c : FVec Ideal S8x32x4096 .f32) (sc sh : Vec Ideal S1x1x4096 .f32) (z : Fin 1) (s : Fin 8) (j : Fin 32) (d : Fin 4096) :
    handK c sc sh (ix4 z j s d) = c (ix3 s j d) * (Ideal.ofBits FTy.f32 0x3F800000#32 + sc (ix3 0 0 d)) + sh (ix3 0 0 d) := by
  pointwise [handK]

theorem hand_eq (w : FVec Ideal S8x32x4096 .f32) (sc sh : Vec Ideal S1x1x4096 .f32) : k0_pay5 (F := Ideal) v w sc sh = handK (normK (k0_pay3 v w)) sc sh := rfl

variable (x0 : Vec Ideal S1x8x32x4096 .f32) (x1 : Vec Ideal S1x8x32x4096 .f32) (x2 : Vec Ideal S1x1x4096 .f32) (x3 x4 : Vec Ideal S1x4096 .f32) (x5 x6 : Vec Ideal S1x1x4096 .f32)

/-- What a grid point leaves in its first output block. -/
theorem out7_apply (z : Fin 1) (s : Fin 8) (j : Fin 32) (d : Fin 4096) :
    out0_7 x0 x1 x2 x3 x4 x5 x6 (ix4 z s j d)
      = affine (fun k => mixed (x0 (ix4 0 s j k)) (x2 (ix3 0 0 k)) (x1 (ix4 0 s j k))) (fun k => x3 (ix2 0 k)) (fun k => x4 (ix2 0 k)) d := by
  unfold_out out0_7
  frame_out
  rw [split_apply]
  exact next_apply x1 x0 x2 x3 x4 s j d

/-- What a grid point leaves in its second output block. -/
theorem out8_apply (z : Fin 1) (s : Fin 8) (j : Fin 32) (d : Fin 4096) :
    out0_8 x0 x1 x2 x3 x4 x5 x6 (ix4 z j s d)
      = modulated (affine (fun k => mixed (x0 (ix4 0 s j k)) (x2 (ix3 0 0 k)) (x1 (ix4 0 s j k))) (fun k => x3 (ix2 0 k)) (fun k => x4 (ix2 0 k)))
          (fun k => x6 (ix3 0 0 k)) (fun k => x5 (ix3 0 0 k)) d := by
  unfold_out out0_8
  frame_out
  unfold modulated
  rw [hand_eq, handK_apply, normK_apply]
  simp only [next_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val, 0, 0, 0] ∧ win0_1.index t = ![t.val, 0, 0, 0] ∧ win0_2.index t = ![2, 0, 0]
    ∧ win0_3.index t = ![0, 0] ∧ win0_4.index t = ![0, 0] ∧ win0_5.index t = ![3, 0, 0] ∧ win0_6.index t = ![4, 0, 0]
    ∧ win0_7.index t = ![t.val, 0, 0, 0] ∧ win0_8.index t = ![t.val, 0, 0, 0] :=
  (by decide +kernel : ∀ t : Fin grid0.N, _)

/-- The sequence of a grid point. -/
def bOf (t : Fin cfg0.N) : Fin 32 := ⟨t.val, by have := lt32 t; omega⟩

abbrev xArr (c : Dev nD) : FVec Ideal S8192x4096 .f32 := m ((c : Thread nD τ).loc main_arg0)
abbrev yArr (c : Dev nD) : FVec Ideal S8192x4096 .f32 := m ((c : Thread nD τ).loc main_arg1)
abbrev aArr (c : Dev nD) : FVec Ideal S2x16x24576 .f32 := m ((c : Thread nD τ).loc main_arg2)
abbrev gArr (c : Dev nD) : FVec Ideal S2x4096 .f32 := m ((c : Thread nD τ).loc main_arg3)
abbrev bArr (c : Dev nD) : FVec Ideal S2x4096 .f32 := m ((c : Thread nD τ).loc main_arg4)

theorem read0 (c : Dev nD) (t : Fin cfg0.N) (s : Fin 8) (j : Fin 32) (k : Fin 4096) :
    (show Vec Ideal S1x8x32x4096 .f32 from iblk m c 0 t) (ix4 0 s j k) = xArr m c (ix2 ⟨(bOf t).val * 256 + (s.val * 32 + (j.val)), by have := lt32 t; unfold bOf; dsimp only; omega⟩ k) := by
  have ht := lt32 t
  have e := (idx t).1
  unfold bOf
  blk_point [iblk, V, e]

theorem read1 (c : Dev nD) (t : Fin cfg0.N) (s : Fin 8) (j : Fin 32) (k : Fin 4096) :
    (show Vec Ideal S1x8x32x4096 .f32 from iblk m c 1 t) (ix4 0 s j k) = yArr m c (ix2 ⟨(bOf t).val * 256 + (s.val * 32 + (j.val)), by have := lt32 t; unfold bOf; dsimp only; omega⟩ k) := by
  have ht := lt32 t
  have e := (idx t).2.1
  unfold bOf
  blk_point [iblk, V, e]

theorem read2 (c : Dev nD) (t : Fin cfg0.N) (k : Fin 4096) :
    (show Vec Ideal S1x1x4096 .f32 from iblk m c 2 t) (ix3 0 0 k) = aArr m c (ix3 0 0 ⟨8192 + k.val, by omega⟩) := by
  have ht := lt32 t
  have e := (idx t).2.2.1
  blk_point [iblk, V, e]

theorem read3 (c : Dev nD) (t : Fin cfg0.N) (k : Fin 4096) :
    (show Vec Ideal S1x4096 .f32 from iblk m c 3 t) (ix2 0 k) = gArr m c (ix2 0 k) := by
  have e := (idx t).2.2.2.1
  blk_point [iblk, V, e]

theorem read4 (c : Dev nD) (t : Fin cfg0.N) (k : Fin 4096) :
    (show Vec Ideal S1x4096 .f32 from iblk m c 4 t) (ix2 0 k) = bArr m c (ix2 0 k) := by
  have e := (idx t).2.2.2.2.1
  blk_point [iblk, V, e]

theorem read5 (c : Dev nD) (t : Fin cfg0.N) (k : Fin 4096) :
    (show Vec Ideal S1x1x4096 .f32 from iblk m c 5 t) (ix3 0 0 k) = aArr m c (ix3 0 0 ⟨12288 + k.val, by omega⟩) := by
  have ht := lt32 t
  have e := (idx t).2.2.2.2.2.1
  blk_point [iblk, V, e]

theorem read6 (c : Dev nD) (t : Fin cfg0.N) (k : Fin 4096) :
    (show Vec Ideal S1x1x4096 .f32 from iblk m c 6 t) (ix3 0 0 k) = aArr m c (ix3 0 0 ⟨16384 + k.val, by omega⟩) := by
  have ht := lt32 t
  have e := (idx t).2.2.2.2.2.2.1
  blk_point [iblk, V, e]

/-- The first result array is the reference's term at the argument arrays. -/
theorem final7 (c : Dev nD) : (dats m 0 c).arrAt 7 cfg0.N = REF0 (xArr m c) (yArr m c) (aArr m c) (gArr m c) (bArr m c) := by
  refine (dats m 0 c).arrAt_eq_of_covers 7 _ (by decide +kernel) fun t hf q => ?_
  have ht := lt32 t
  have e := (idx t).2.2.2.2.2.2.2.1
  obtain ⟨z, s, j, d, rfl⟩ : ∃ (z : Fin 1) (s : Fin 8) (j : Fin 32) (d : Fin 4096), q = ix4 z s j d := by idx_vars q; exact ⟨_, _, _, _, rfl⟩
  blk_simp
  rw [after0_7]
  refine (out7_apply _ _ _ _ _ _ _ z s j d).trans ?_
  simp only [read0 m c t, read1 m c t, read2 m c t, read3 m c t, read4 m c t]
  refine (REF0_apply _ _ _ _ _ (bOf t) s ⟨j.val, by omega⟩ d).symm.trans ?_
  unfold bOf
  blk_point [iblk, V, e]

/-- The second result array is the reference's term at the argument arrays. -/
theorem final8 (c : Dev nD) : (dats m 0 c).arrAt 8 cfg0.N = REF1 (xArr m c) (yArr m c) (aArr m c) (gArr m c) (bArr m c) := by
  refine (dats m 0 c).arrAt_eq_of_covers 8 _ (by decide +kernel) fun t hf q => ?_
  have ht := lt32 t
  have e := (idx t).2.2.2.2.2.2.2.2
  obtain ⟨z, j, s, d, rfl⟩ : ∃ (z : Fin 1) (j : Fin 32) (s : Fin 8) (d : Fin 4096), q = ix4 z j s d := by idx_vars q; exact ⟨_, _, _, _, rfl⟩
  blk_simp
  rw [after0_8]
  refine (out8_apply _ _ _ _ _ _ _ z s j d).trans ?_
  simp only [read0 m c t, read1 m c t, read2 m c t, read3 m c t, read4 m c t, read5 m c t, read6 m c t]
  refine (REF1_apply _ _ _ _ _ (bOf t) s ⟨j.val, by omega⟩ d).symm.trans ?_
  unfold bOf
  blk_point [iblk, V, e]

/-- The kernel's run, its results named. -/
theorem run_named (ρ : Dev nD → PrngReg) :
    θ_run defs (onTc (τ := τ) (main (F := Ideal))) ⟨m, fun _ => 0, ρ⟩ fun r => ∀ c : Dev nD,
      r.2.mem ((c : Thread nD τ).loc main_v11_0) = REF0 (xArr m c) (yArr m c) (aArr m c) (gArr m c) (bArr m c)
      ∧ r.2.mem ((c : Thread nD τ).loc main_v11_1) = REF1 (xArr m c) (yArr m c) (aArr m c) (gArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  exact (θ_run defs _ _).mono (fun r h c => ⟨((h c).1 7).trans (final7 m c), ((h c).1 8).trans (final8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.MidPromptIdeal.Norm
-- ==== Proof.MidSampleValue.lean ====
/- The normalisation after the mixer, with the modulated rows for what follows, sample batch: every block of the kernel's results is the reference's. -/
module

public import proofs.«01_k».proof.Proof.NormMath
public import proofs.«01_k».proof.Proof.Gen.MidSampleIdeal.Frame
public import Idealize.ShloMosaic.Lib.Pipeline.Value
public import proofs.«01_k».proof.Proof.Gen.MidSampleRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.MidSampleRefIdeal.Norm

open Cert.MidSampleRefIdeal Cert.MidSampleRefIdeal.Gen

/-- The gate of each sequence. -/
def gR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 8192] (shapeCast _ (extractStridedSlice S1x16x24576 ![0, 0, 0] a slices_S2x16x24576_S1x16x24576_0_0_0) shapeCasts_S1x16x24576_S16x24576) slices_S16x24576_S16x4096_0_8192) slices_S16x4096_S8x4096_1_0)

theorem gR_apply (a : FVec Ideal S2x16x24576 .f32) (b : Fin 8) (u : Fin 1) (d : Fin 4096) :
    gR a (ix3 b u d) = a (ix3 0 ⟨1 + b.val, by omega⟩ ⟨8192 + d.val, by omega⟩) := by
  pointwise [gR]

/-- The shift of each sequence. -/
def shR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 12288] (shapeCast _ (extractStridedSlice S1x16x24576 ![0, 0, 0] a slices_S2x16x24576_S1x16x24576_0_0_0) shapeCasts_S1x16x24576_S16x24576) slices_S16x24576_S16x4096_0_12288) slices_S16x4096_S8x4096_1_0)

theorem shR_apply (a : FVec Ideal S2x16x24576 .f32) (b : Fin 8) (u : Fin 1) (d : Fin 4096) :
    shR a (ix3 b u d) = a (ix3 0 ⟨1 + b.val, by omega⟩ ⟨12288 + d.val, by omega⟩) := by
  pointwise [shR]

/-- The scale of each sequence. -/
def scR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 16384] (shapeCast _ (extractStridedSlice S1x16x24576 ![0, 0, 0] a slices_S2x16x24576_S1x16x24576_0_0_0) shapeCasts_S1x16x24576_S16x24576) slices_S16x24576_S16x4096_0_16384) slices_S16x4096_S8x4096_1_0)

theorem scR_apply (a : FVec Ideal S2x16x24576 .f32) (b : Fin 8) (u : Fin 1) (d : Fin 4096) :
    scR a (ix3 b u d) = a (ix3 0 ⟨1 + b.val, by omega⟩ ⟨16384 + d.val, by omega⟩) := by
  pointwise [scR]

/-- The residual with its gated branch, token by token. -/
def mixR (x y : FVec Ideal S8192x4096 .f32) (a : FVec Ideal S8x1x4096 .f32) : FVec Ideal S8x1024x4096 .f32 :=
  addf (mulf (broadcastInDim S8x1024x4096 ![] bcast_S_S8x1024x4096 (constant S_ .f32 0x3FB504F3#32)) (shapeCast S8x1024x4096 x shapeCasts_S8192x4096_S8x1024x4096))
    (mulf (broadcastInDim S8x1024x4096 ![0, 1, 2] bcast_S8x1x4096_S8x1024x4096_0_1_2 a) (shapeCast S8x1024x4096 y shapeCasts_S8192x4096_S8x1024x4096))

theorem mixR_apply (x y : FVec Ideal S8192x4096 .f32) (a : FVec Ideal S8x1x4096 .f32) (b : Fin 8) (p : Fin 1024) (d : Fin 4096) :
    mixR x y a (ix3 b p d) = mixed (x (ix2 ⟨b.val * 1024 + p.val, by omega⟩ d)) (a (ix3 b 0 d))
      (y (ix2 ⟨b.val * 1024 + p.val, by omega⟩ d)) := by
  unfold mixed
  pointwise [mixR]

variable (v : FVec Ideal S8x1024x4096 .f32)

/-- The mean of each token's row. -/
def meanR : FVec Ideal S8x1024x1 .f32 :=
  Host.divf (broadcastInDim S8x1024x1 ![0, 1] bcast_S8x1024_S8x1024x1_0_1 (Host.reduceAdd v (constant S_ .f32 0x00000000#32) reducesTo_S8x1024x4096_S8x1024_d2 h_S_)) (broadcastInDim S8x1024x1 ![] bcast_S_S8x1024x1 (constant S_ .f32 0x45800000#32))

theorem meanR_apply (b : Fin 8) (p : Fin 1024) (u : Fin 1) : meanR v (ix3 b p u) = mean fun k => v (ix3 b p k) := by
  unfold mean
  pointwise [meanR]

/-- Each row less its mean. -/
def centR : FVec Ideal S8x1024x4096 .f32 := subf v (broadcastInDim S8x1024x4096 ![0, 1, 2] bcast_S8x1024x1_S8x1024x4096_0_1_2 (meanR v))

theorem centR_apply (b : Fin 8) (p : Fin 1024) (d : Fin 4096) : centR v (ix3 b p d) = cent (fun k => v (ix3 b p k)) d := by
  unfold cent
  rw [← meanR_apply v b p 0]
  pointwise [centR]

/-- Each row over the root of a guarded variance. -/
def scaleR (w : FVec Ideal S8x1024x1 .f32) : FVec Ideal S8x1024x4096 .f32 :=
  mulf v (broadcastInDim S8x1024x4096 ![0, 1, 2] bcast_S8x1024x1_S8x1024x4096_0_1_2 (Host.rsqrt (addf w (broadcastInDim S8x1024x1 ![] bcast_S_S8x1024x1 (constant S_ .f32 0x358637BD#32)))))

theorem scaleR_apply (w : FVec Ideal S8x1024x1 .f32) (b : Fin 8) (p : Fin 1024) (d : Fin 4096) :
    scaleR v w (ix3 b p d) = v (ix3 b p d) * Ideal.rsqrt (w (ix3 b p 0) + Ideal.ofBits FTy.f32 0x358637BD#32) := by
  pointwise [scaleR]

/-- Each row normalised. -/
def normR : FVec Ideal S8x1024x4096 .f32 := scaleR (centR v) (meanR (mulf (centR v) (centR v)))

theorem normR_apply (b : Fin 8) (p : Fin 1024) (d : Fin 4096) : normR v (ix3 b p d) = normed (fun k => v (ix3 b p k)) d := by
  have hs : (fun k => mulf (centR v) (centR v) (ix3 b p k)) = fun k => cent (fun k => v (ix3 b p k)) k * cent (fun k => v (ix3 b p k)) k := by
    funext k
    rw [← centR_apply]
    rfl
  unfold normR normed
  rw [scaleR_apply, meanR_apply, hs, centR_apply]

/-- Rows with gain and shift. -/
def affR (lg lb : FVec Ideal S2x4096 .f32) : FVec Ideal S8x1024x4096 .f32 :=
  addf (mulf v (broadcastInDim S8x1024x4096 ![0, 1, 2] bcast_S1x1x4096_S8x1024x4096_0_1_2 (broadcastInDim S1x1x4096 ![2] bcast_S4096_S1x1x4096_2 (shapeCast S4096 (extractStridedSlice S1x4096 ![0, 0] lg slices_S2x4096_S1x4096_0_0) shapeCasts_S1x4096_S4096))))
    (broadcastInDim S8x1024x4096 ![0, 1, 2] bcast_S1x1x4096_S8x1024x4096_0_1_2 (broadcastInDim S1x1x4096 ![2] bcast_S4096_S1x1x4096_2 (shapeCast S4096 (extractStridedSlice S1x4096 ![0, 0] lb slices_S2x4096_S1x4096_0_0) shapeCasts_S1x4096_S4096)))

theorem affR_apply (lg lb : FVec Ideal S2x4096 .f32) (b : Fin 8) (p : Fin 1024) (d : Fin 4096) :
    affR v lg lb (ix3 b p d) = v (ix3 b p d) * lg (ix2 0 d) + lb (ix2 0 d) := by
  pointwise [affR]

/-- Rows scaled by one plus a factor and shifted. -/
def modR (sc sh : FVec Ideal S8x1x4096 .f32) : FVec Ideal S8x1024x4096 .f32 :=
  addf (mulf v (broadcastInDim S8x1024x4096 ![0, 1, 2] bcast_S8x1x4096_S8x1024x4096_0_1_2 (addf (broadcastInDim S8x1x4096 ![] bcast_S_S8x1x4096 (constant S_ .f32 0x3F800000#32)) sc)))
    (broadcastInDim S8x1024x4096 ![0, 1, 2] bcast_S8x1x4096_S8x1024x4096_0_1_2 sh)

theorem modR_apply (sc sh : FVec Ideal S8x1x4096 .f32) (b : Fin 8) (p : Fin 1024) (d : Fin 4096) :
    modR v sc sh (ix3 b p d) = v (ix3 b p d) * (Ideal.ofBits FTy.f32 0x3F800000#32 + sc (ix3 b 0 d)) + sh (ix3 b 0 d) := by
  pointwise [modR]

/-- The rows with each sequence in eight stretches. -/
def splitR : FVec Ideal S8x8x128x4096 .f32 := shapeCast S8x8x128x4096 v shapeCasts_S8x1024x4096_S8x8x128x4096

theorem splitR_apply (b : Fin 8) (s : Fin 8) (j : Fin 128) (d : Fin 4096) :
    splitR v (ix4 b s j d) = v (ix3 b ⟨s.val * 128 + j.val, by omega⟩ d) := by
  pointwise [splitR]

/-- The modulated rows as they are handed on. -/
def handR : FVec Ideal S8x128x8x4096 .bf16 := truncf .bf16 (transpose S8x128x8x4096 [0, 2, 1, 3] (shapeCast S8x8x128x4096 v shapeCasts_S8x1024x4096_S8x8x128x4096) transposes_S8x8x128x4096_S8x128x8x4096_0_2_1_3) bitsLt_bf16_f32

theorem handR_apply (b : Fin 8) (s : Fin 8) (j : Fin 128) (d : Fin 4096) :
    handR v (ix4 b j s d) = v (ix3 b ⟨s.val * 128 + j.val, by omega⟩ d) := by
  pointwise [handR]

variable (x y : FVec Ideal S8192x4096 .f32) (a : FVec Ideal S2x16x24576 .f32) (lg lb : FVec Ideal S2x4096 .f32)

/-- The normalised residual. -/
def nextR : FVec Ideal S8x1024x4096 .f32 := affR (normR (mixR x y (gR a))) lg lb

/-- The normalised residual at a token and a channel. -/
theorem nextR_apply (b : Fin 8) (s : Fin 8) (j : Fin 128) (d : Fin 4096) :
    nextR x y a lg lb (ix3 b ⟨s.val * 128 + j.val, by omega⟩ d) = affine (fun k => mixed (x (ix2 ⟨b.val * 1024 + (s.val * 128 + j.val), by omega⟩ k)) (a (ix3 0 ⟨1 + b.val, by omega⟩ ⟨8192 + k.val, by omega⟩)) (y (ix2 ⟨b.val * 1024 + (s.val * 128 + j.val), by omega⟩ k))) (fun k => lg (ix2 0 k)) (fun k => lb (ix2 0 k)) d := by
  have hm : (fun k => mixR x y (gR a) (ix3 b ⟨s.val * 128 + j.val, by omega⟩ k)) = (fun k => mixed (x (ix2 ⟨b.val * 1024 + (s.val * 128 + j.val), by omega⟩ k)) (a (ix3 0 ⟨1 + b.val, by omega⟩ ⟨8192 + k.val, by omega⟩)) (y (ix2 ⟨b.val * 1024 + (s.val * 128 + j.val), by omega⟩ k))) := by
    funext k
    rw [mixR_apply, gR_apply]

  unfold nextR affine
  rw [affR_apply, normR_apply, hm]

/-- The reference's first result: the normalised residual. -/
def REF0 : FVec Ideal S8x8x128x4096 .f32 := splitR (nextR x y a lg lb)

/-- The reference's second result: its rows normalised again and modulated. -/
def REF1 : FVec Ideal S8x128x8x4096 .bf16 := handR (modR (normR (nextR x y a lg lb)) (scR a) (shR a))

theorem REF0_apply (b : Fin 8) (s : Fin 8) (j : Fin 128) (d : Fin 4096) :
    REF0 x y a lg lb (ix4 b s j d) = affine (fun k => mixed (x (ix2 ⟨b.val * 1024 + (s.val * 128 + j.val), by omega⟩ k)) (a (ix3 0 ⟨1 + b.val, by omega⟩ ⟨8192 + k.val, by omega⟩)) (y (ix2 ⟨b.val * 1024 + (s.val * 128 + j.val), by omega⟩ k))) (fun k => lg (ix2 0 k)) (fun k => lb (ix2 0 k)) d := by
  unfold REF0
  rw [splitR_apply, nextR_apply]

theorem REF1_apply (b : Fin 8) (s : Fin 8) (j : Fin 128) (d : Fin 4096) :
    REF1 x y a lg lb (ix4 b j s d) = modulated (affine (fun k => mixed (x (ix2 ⟨b.val * 1024 + (s.val * 128 + j.val), by omega⟩ k)) (a (ix3 0 ⟨1 + b.val, by omega⟩ ⟨8192 + k.val, by omega⟩)) (y (ix2 ⟨b.val * 1024 + (s.val * 128 + j.val), by omega⟩ k))) (fun k => lg (ix2 0 k)) (fun k => lb (ix2 0 k))) (fun k => a (ix3 0 ⟨1 + b.val, by omega⟩ ⟨16384 + k.val, by omega⟩)) (fun k => a (ix3 0 ⟨1 + b.val, by omega⟩ ⟨12288 + k.val, by omega⟩)) d := by
  unfold REF1 modulated
  rw [handR_apply, modR_apply, normR_apply, scR_apply, shR_apply]
  simp only [nextR_apply]

set_option maxRecDepth 65536 in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v76) = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.MidSampleRefIdeal.Norm

namespace Cert.MidSampleIdeal.Norm

open Cert.MidSampleIdeal Cert.MidSampleIdeal.Gen
open Cert.MidSampleRefIdeal.Norm (REF0 REF1 REF0_apply REF1_apply)

/-- The residual with its gated branch, on a block. -/
def mixK (y : Vec Ideal S1x8x32x4096 .f32) (x : Vec Ideal S1x8x32x4096 .f32) (g : Vec Ideal S1x1x4096 .f32) : FVec Ideal S8x32x4096 .f32 :=
  addf (mulf (broadcast S8x32x4096 (Scalar.ofBits .f32 0x3FB504F3#32)) (shapeCast S8x32x4096 x shapeCasts_S1x8x32x4096_S8x32x4096))
    (mulf (broadcastTo S8x32x4096 (shapeCast S1x1x4096 (shapeCast S1x4096 g shapeCasts_S1x1x4096_S1x4096) shapeCasts_S1x4096_S1x1x4096) broadcasts_S1x1x4096_S8x32x4096)
      (shapeCast S8x32x4096 y shapeCasts_S1x8x32x4096_S8x32x4096))

theorem mixK_apply (y : Vec Ideal S1x8x32x4096 .f32) (x : Vec Ideal S1x8x32x4096 .f32) (g : Vec Ideal S1x1x4096 .f32) (s : Fin 8) (j : Fin 32) (d : Fin 4096) :
    mixK y x g (ix3 s j d) = mixed (x (ix4 0 s j d)) (g (ix3 0 0 d)) (y (ix4 0 s j d)) := by
  unfold mixed
  pointwise [mixK]

variable (v : FVec Ideal S8x32x4096 .f32)

/-- The mean of each row of a block. -/
def meanK : FVec Ideal S8x32x1 .f32 :=
  divf (shapeCast S8x32x1 (multiReduction .add [2] S8x32 v 0x00000000#32 reduces_S8x32x4096_S8x32 (.inl rfl) rfl) shapeCasts_S8x32_S8x32x1) (broadcast S8x32x1 (Scalar.ofBits .f32 0x45800000#32))

theorem meanK_apply (s : Fin 8) (j : Fin 32) (u : Fin 1) : meanK v (ix3 s j u) = mean fun k => v (ix3 s j k) := by
  unfold mean
  pointwise [meanK]

/-- Each row of a block less its mean. -/
def centK : FVec Ideal S8x32x4096 .f32 := subf v (broadcastTo S8x32x4096 (meanK v) broadcasts_S8x32x1_S8x32x4096)

theorem centK_apply (s : Fin 8) (j : Fin 32) (d : Fin 4096) : centK v (ix3 s j d) = cent (fun k => v (ix3 s j k)) d := by
  unfold cent
  rw [← meanK_apply v s j 0]
  pointwise [centK]

/-- Each row of a block over the root of a guarded variance. -/
def scaleK (w : FVec Ideal S8x32x1 .f32) : FVec Ideal S8x32x4096 .f32 :=
  mulf v (broadcastTo S8x32x4096 (rsqrt (addf w (broadcast S8x32x1 (Scalar.ofBits .f32 0x358637BD#32)))) broadcasts_S8x32x1_S8x32x4096)

theorem scaleK_apply (w : FVec Ideal S8x32x1 .f32) (s : Fin 8) (j : Fin 32) (d : Fin 4096) :
    scaleK v w (ix3 s j d) = v (ix3 s j d) * Ideal.rsqrt (w (ix3 s j 0) + Ideal.ofBits FTy.f32 0x358637BD#32) := by
  pointwise [scaleK]

/-- Each row of a block normalised. -/
def normK : FVec Ideal S8x32x4096 .f32 := scaleK (centK v) (meanK (mulf (centK v) (centK v)))

theorem normK_apply (s : Fin 8) (j : Fin 32) (d : Fin 4096) : normK v (ix3 s j d) = normed (fun k => v (ix3 s j k)) d := by
  have hs : (fun k => mulf (centK v) (centK v) (ix3 s j k)) = fun k => cent (fun k => v (ix3 s j k)) k * cent (fun k => v (ix3 s j k)) k := by
    funext k
    rw [← centK_apply]
    rfl
  unfold normK normed
  rw [scaleK_apply, meanK_apply, hs, centK_apply]

/-- Rows of a block with their gain. -/
def gainK (g : Vec Ideal S1x4096 .f32) : FVec Ideal S8x32x4096 .f32 :=
  mulf v (broadcastTo S8x32x4096 (shapeCast S1x1x4096 (shapeCast S1x4096 g shapeCasts_S1x4096_S1x4096) shapeCasts_S1x4096_S1x1x4096) broadcasts_S1x1x4096_S8x32x4096)

theorem gainK_apply (g : Vec Ideal S1x4096 .f32) (s : Fin 8) (j : Fin 32) (d : Fin 4096) : gainK v g (ix3 s j d) = v (ix3 s j d) * g (ix2 0 d) := by
  pointwise [gainK]

theorem shift_apply (b : Vec Ideal S1x4096 .f32) (s : Fin 8) (j : Fin 32) (d : Fin 4096) : k0_pay3 v (k0_pay2 b) (ix3 s j d) = v (ix3 s j d) + b (ix2 0 d) := by
  pointwise [k0_pay3, k0_pay2]

/-- The normalised residual of a block, at an index. -/
theorem next_apply (y : Vec Ideal S1x8x32x4096 .f32) (x : Vec Ideal S1x8x32x4096 .f32) (g : Vec Ideal S1x1x4096 .f32) (lg lb : Vec Ideal S1x4096 .f32)
    (s : Fin 8) (j : Fin 32) (d : Fin 4096) :
    k0_pay3 (k0_pay1 y x g lg) (k0_pay2 lb) (ix3 s j d)
      = affine (fun k => mixed (x (ix4 0 s j k)) (g (ix3 0 0 k)) (y (ix4 0 s j k))) (fun k => lg (ix2 0 k)) (fun k => lb (ix2 0 k)) d := by
  have e : k0_pay1 (F := Ideal) y x g lg = gainK (normK (mixK y x g)) lg := rfl
  unfold affine
  rw [shift_apply, e, gainK_apply, normK_apply]
  simp only [mixK_apply]

theorem split_apply (w : FVec Ideal S8x32x4096 .f32) (z : Fin 1) (s : Fin 8) (j : Fin 32) (d : Fin 4096) : k0_pay4 v w (ix4 z s j d) = k0_pay3 v w (ix3 s j d) := by
  pointwise [k0_pay4]

/-- Rows scaled by one plus a factor and shifted, on a block, as they are handed on. -/
def handK (c : FVec Ideal S8x32x4096 .f32) (sc sh : Vec Ideal S1x1x4096 .f32) : FVec Ideal S1x32x8x4096 .bf16 :=
  shapeCast S1x32x8x4096 (truncf .bf16 (transpose S32x8x4096 [1, 0, 2] (addf (mulf c (broadcastTo S8x32x4096 (shapeCast S1x1x4096 (addf (broadcast S1x4096 (Scalar.ofBits .f32 0x3F800000#32)) (shapeCast S1x4096 sc shapeCasts_S1x1x4096_S1x4096)) shapeCasts_S1x4096_S1x1x4096) broadcasts_S1x1x4096_S8x32x4096))
      (broadcastTo S8x32x4096 (shapeCast S1x1x4096 (shapeCast S1x4096 sh shapeCasts_S1x1x4096_S1x4096) shapeCasts_S1x4096_S1x1x4096) broadcasts_S1x1x4096_S8x32x4096)) transposes_S8x32x4096_p1_0_2_S32x8x4096) bitsLt_bf16_f32) shapeCasts_S32x8x4096_S1x32x8x4096

theorem handK_apply (c : FVec Ideal S8x32x4096 .f32) (sc sh : Vec Ideal S1x1x4096 .f32) (z : Fin 1) (s : Fin 8) (j : Fin 32) (d : Fin 4096) :
    handK c sc sh (ix4 z j s d) = c (ix3 s j d) * (Ideal.ofBits FTy.f32 0x3F800000#32 + sc (ix3 0 0 d)) + sh (ix3 0 0 d) := by
  pointwise [handK]

theorem hand_eq (w : FVec Ideal S8x32x4096 .f32) (sc sh : Vec Ideal S1x1x4096 .f32) : k0_pay5 (F := Ideal) v w sc sh = handK (normK (k0_pay3 v w)) sc sh := rfl

variable (x0 : Vec Ideal S1x8x32x4096 .f32) (x1 : Vec Ideal S1x8x32x4096 .f32) (x2 : Vec Ideal S1x1x4096 .f32) (x3 x4 : Vec Ideal S1x4096 .f32) (x5 x6 : Vec Ideal S1x1x4096 .f32)

/-- What a grid point leaves in its first output block. -/
theorem out7_apply (z : Fin 1) (s : Fin 8) (j : Fin 32) (d : Fin 4096) :
    out0_7 x0 x1 x2 x3 x4 x5 x6 (ix4 z s j d)
      = affine (fun k => mixed (x0 (ix4 0 s j k)) (x2 (ix3 0 0 k)) (x1 (ix4 0 s j k))) (fun k => x3 (ix2 0 k)) (fun k => x4 (ix2 0 k)) d := by
  unfold_out out0_7
  frame_out
  rw [split_apply]
  exact next_apply x1 x0 x2 x3 x4 s j d

/-- What a grid point leaves in its second output block. -/
theorem out8_apply (z : Fin 1) (s : Fin 8) (j : Fin 32) (d : Fin 4096) :
    out0_8 x0 x1 x2 x3 x4 x5 x6 (ix4 z j s d)
      = modulated (affine (fun k => mixed (x0 (ix4 0 s j k)) (x2 (ix3 0 0 k)) (x1 (ix4 0 s j k))) (fun k => x3 (ix2 0 k)) (fun k => x4 (ix2 0 k)))
          (fun k => x6 (ix3 0 0 k)) (fun k => x5 (ix3 0 0 k)) d := by
  unfold_out out0_8
  frame_out
  unfold modulated
  rw [hand_eq, handK_apply, normK_apply]
  simp only [next_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val / 4, 0, t.val % 4, 0] ∧ win0_1.index t = ![t.val / 4, 0, t.val % 4, 0] ∧ win0_2.index t = ![(1 + t.val / 4) * 6 + 2, 0, 0]
    ∧ win0_3.index t = ![0, 0] ∧ win0_4.index t = ![0, 0] ∧ win0_5.index t = ![(1 + t.val / 4) * 6 + 3, 0, 0] ∧ win0_6.index t = ![(1 + t.val / 4) * 6 + 4, 0, 0]
    ∧ win0_7.index t = ![t.val / 4, 0, t.val % 4, 0] ∧ win0_8.index t = ![t.val / 4, t.val % 4, 0, 0] :=
  (by decide +kernel : ∀ t : Fin grid0.N, _)

/-- The sequence of a grid point. -/
def bOf (t : Fin cfg0.N) : Fin 8 := ⟨t.val / 4, by have := lt32 t; omega⟩

abbrev xArr (c : Dev nD) : FVec Ideal S8192x4096 .f32 := m ((c : Thread nD τ).loc main_arg0)
abbrev yArr (c : Dev nD) : FVec Ideal S8192x4096 .f32 := m ((c : Thread nD τ).loc main_arg1)
abbrev aArr (c : Dev nD) : FVec Ideal S2x16x24576 .f32 := m ((c : Thread nD τ).loc main_arg2)
abbrev gArr (c : Dev nD) : FVec Ideal S2x4096 .f32 := m ((c : Thread nD τ).loc main_arg3)
abbrev bArr (c : Dev nD) : FVec Ideal S2x4096 .f32 := m ((c : Thread nD τ).loc main_arg4)

theorem read0 (c : Dev nD) (t : Fin cfg0.N) (s : Fin 8) (j : Fin 32) (k : Fin 4096) :
    (show Vec Ideal S1x8x32x4096 .f32 from iblk m c 0 t) (ix4 0 s j k) = xArr m c (ix2 ⟨(bOf t).val * 1024 + (s.val * 128 + (t.val % 4 * 32 + j.val)), by have := lt32 t; unfold bOf; dsimp only; omega⟩ k) := by
  have ht := lt32 t
  have e := (idx t).1
  unfold bOf
  blk_point [iblk, V, e]

theorem read1 (c : Dev nD) (t : Fin cfg0.N) (s : Fin 8) (j : Fin 32) (k : Fin 4096) :
    (show Vec Ideal S1x8x32x4096 .f32 from iblk m c 1 t) (ix4 0 s j k) = yArr m c (ix2 ⟨(bOf t).val * 1024 + (s.val * 128 + (t.val % 4 * 32 + j.val)), by have := lt32 t; unfold bOf; dsimp only; omega⟩ k) := by
  have ht := lt32 t
  have e := (idx t).2.1
  unfold bOf
  blk_point [iblk, V, e]

theorem read2 (c : Dev nD) (t : Fin cfg0.N) (k : Fin 4096) :
    (show Vec Ideal S1x1x4096 .f32 from iblk m c 2 t) (ix3 0 0 k) = aArr m c (ix3 0 ⟨1 + (bOf t).val, by omega⟩ ⟨8192 + k.val, by omega⟩) := by
  have ht := lt32 t
  have e := (idx t).2.2.1
  unfold bOf
  blk_point [iblk, V, e]

theorem read3 (c : Dev nD) (t : Fin cfg0.N) (k : Fin 4096) :
    (show Vec Ideal S1x4096 .f32 from iblk m c 3 t) (ix2 0 k) = gArr m c (ix2 0 k) := by
  have e := (idx t).2.2.2.1
  blk_point [iblk, V, e]

theorem read4 (c : Dev nD) (t : Fin cfg0.N) (k : Fin 4096) :
    (show Vec Ideal S1x4096 .f32 from iblk m c 4 t) (ix2 0 k) = bArr m c (ix2 0 k) := by
  have e := (idx t).2.2.2.2.1
  blk_point [iblk, V, e]

theorem read5 (c : Dev nD) (t : Fin cfg0.N) (k : Fin 4096) :
    (show Vec Ideal S1x1x4096 .f32 from iblk m c 5 t) (ix3 0 0 k) = aArr m c (ix3 0 ⟨1 + (bOf t).val, by omega⟩ ⟨12288 + k.val, by omega⟩) := by
  have ht := lt32 t
  have e := (idx t).2.2.2.2.2.1
  unfold bOf
  blk_point [iblk, V, e]

theorem read6 (c : Dev nD) (t : Fin cfg0.N) (k : Fin 4096) :
    (show Vec Ideal S1x1x4096 .f32 from iblk m c 6 t) (ix3 0 0 k) = aArr m c (ix3 0 ⟨1 + (bOf t).val, by omega⟩ ⟨16384 + k.val, by omega⟩) := by
  have ht := lt32 t
  have e := (idx t).2.2.2.2.2.2.1
  unfold bOf
  blk_point [iblk, V, e]

/-- The first result array is the reference's term at the argument arrays. -/
theorem final7 (c : Dev nD) : (dats m 0 c).arrAt 7 cfg0.N = REF0 (xArr m c) (yArr m c) (aArr m c) (gArr m c) (bArr m c) := by
  refine (dats m 0 c).arrAt_eq_of_covers 7 _ (by decide +kernel) fun t hf q => ?_
  have ht := lt32 t
  have e := (idx t).2.2.2.2.2.2.2.1
  obtain ⟨z, s, j, d, rfl⟩ : ∃ (z : Fin 1) (s : Fin 8) (j : Fin 32) (d : Fin 4096), q = ix4 z s j d := by idx_vars q; exact ⟨_, _, _, _, rfl⟩
  blk_simp
  rw [after0_7]
  refine (out7_apply _ _ _ _ _ _ _ z s j d).trans ?_
  simp only [read0 m c t, read1 m c t, read2 m c t, read3 m c t, read4 m c t]
  refine (REF0_apply _ _ _ _ _ (bOf t) s ⟨t.val % 4 * 32 + j.val, by omega⟩ d).symm.trans ?_
  unfold bOf
  blk_point [iblk, V, e]

/-- The second result array is the reference's term at the argument arrays. -/
theorem final8 (c : Dev nD) : (dats m 0 c).arrAt 8 cfg0.N = REF1 (xArr m c) (yArr m c) (aArr m c) (gArr m c) (bArr m c) := by
  refine (dats m 0 c).arrAt_eq_of_covers 8 _ (by decide +kernel) fun t hf q => ?_
  have ht := lt32 t
  have e := (idx t).2.2.2.2.2.2.2.2
  obtain ⟨z, j, s, d, rfl⟩ : ∃ (z : Fin 1) (j : Fin 32) (s : Fin 8) (d : Fin 4096), q = ix4 z j s d := by idx_vars q; exact ⟨_, _, _, _, rfl⟩
  blk_simp
  rw [after0_8]
  refine (out8_apply _ _ _ _ _ _ _ z s j d).trans ?_
  simp only [read0 m c t, read1 m c t, read2 m c t, read3 m c t, read4 m c t, read5 m c t, read6 m c t]
  refine (REF1_apply _ _ _ _ _ (bOf t) s ⟨t.val % 4 * 32 + j.val, by omega⟩ d).symm.trans ?_
  unfold bOf
  blk_point [iblk, V, e]

/-- The kernel's run, its results named. -/
theorem run_named (ρ : Dev nD → PrngReg) :
    θ_run defs (onTc (τ := τ) (main (F := Ideal))) ⟨m, fun _ => 0, ρ⟩ fun r => ∀ c : Dev nD,
      r.2.mem ((c : Thread nD τ).loc main_v11_0) = REF0 (xArr m c) (yArr m c) (aArr m c) (gArr m c) (bArr m c)
      ∧ r.2.mem ((c : Thread nD τ).loc main_v11_1) = REF1 (xArr m c) (yArr m c) (aArr m c) (gArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  exact (θ_run defs _ _).mono (fun r h c => ⟨((h c).1 7).trans (final7 m c), ((h c).1 8).trans (final8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.MidSampleIdeal.Norm
-- ==== Proof.NextPromptValue.lean ====
/- The normalisation after the feed-forward of the first layer, with the modulated rows for what follows, prompt batch: every block of the kernel's results is the reference's. -/
module

public import proofs.«01_k».proof.Proof.NormMath
public import proofs.«01_k».proof.Proof.Gen.NextPromptIdeal.Frame
public import Idealize.ShloMosaic.Lib.Pipeline.Value
public import proofs.«01_k».proof.Proof.Gen.NextPromptRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.NextPromptRefIdeal.Norm

open Cert.NextPromptRefIdeal Cert.NextPromptRefIdeal.Gen

/-- The gate of each sequence. -/
def gR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 20480] (shapeCast _ (extractStridedSlice S1x16x24576 ![0, 0, 0] a slices_S2x16x24576_S1x16x24576_0_0_0) shapeCasts_S1x16x24576_S16x24576) slices_S16x24576_S16x4096_0_20480) slices_S16x4096_S1x4096_0_0)

theorem gR_apply (a : FVec Ideal S2x16x24576 .f32) (b : Fin 1) (u : Fin 1) (d : Fin 4096) :
    gR a (ix3 b u d) = a (ix3 0 0 ⟨20480 + d.val, by omega⟩) := by
  pointwise [gR]

/-- The shift of each sequence. -/
def shR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 0] (shapeCast _ (extractStridedSlice S1x16x24576 ![1, 0, 0] a slices_S2x16x24576_S1x16x24576_1_0_0) shapeCasts_S1x16x24576_S16x24576) slices_S16x24576_S16x4096_0_0) slices_S16x4096_S1x4096_0_0)

theorem shR_apply (a : FVec Ideal S2x16x24576 .f32) (b : Fin 1) (u : Fin 1) (d : Fin 4096) :
    shR a (ix3 b u d) = a (ix3 1 0 ⟨0 + d.val, by omega⟩) := by
  pointwise [shR]

/-- The scale of each sequence. -/
def scR (a : FVec Ideal S2x16x24576 .f32) : FVec Ideal S1x1x4096 .f32 :=
  broadcastInDim S1x1x4096 ![0, 2] bcast_S1x4096_S1x1x4096_0_2 (extractStridedSlice S1x4096 ![0, 0] (extractStridedSlice S16x4096 ![0, 4096] (shapeCast _ (extractStridedSlice S1x16x24576 ![1, 0, 0] a slices_S2x16x24576_S1x16x24576_1_0_0) shapeCasts_S1x16x24576_S16x24576) slices_S16x24576_S16x4096_0_4096) slices_S16x4096_S1x4096_0_0)

theorem scR_apply (a : FVec Ideal S2x16x24576 .f32) (b : Fin 1) (u : Fin 1) (d : Fin 4096) :
    scR a (ix3 b u d) = a (ix3 1 0 ⟨4096 + d.val, by omega⟩) := by
  pointwise [scR]

/-- The residual with its gated branch, token by token. -/
def mixR (x y : FVec Ideal S8192x4096 .f32) (a : FVec Ideal S1x1x4096 .f32) : FVec Ideal S32x256x4096 .f32 :=
  addf (mulf (broadcastInDim S32x256x4096 ![] bcast_S_S32x256x4096 (constant S_ .f32 0x3FB504F3#32)) (shapeCast S32x256x4096 x shapeCasts_S8192x4096_S32x256x4096))
    (mulf (broadcastInDim S32x256x4096 ![0, 1, 2] bcast_S1x1x4096_S32x256x4096_0_1_2 a) (shapeCast S32x256x4096 (transpose S32x8x32x4096 [0, 2, 1, 3] (shapeCast S32x32x8x4096 y shapeCasts_S8192x4096_S32x32x8x4096) transposes_S32x32x8x4096_S32x8x32x4096_0_2_1_3) shapeCasts_S32x8x32x4096_S32x256x4096))

theorem mixR_apply (x y : FVec Ideal S8192x4096 .f32) (a : FVec Ideal S1x1x4096 .f32) (b : Fin 32) (p : Fin 256) (d : Fin 4096) :
    mixR x y a (ix3 b p d) = mixed (x (ix2 ⟨b.val * 256 + p.val, by omega⟩ d)) (a (ix3 0 0 d))
      (y (ix2 ⟨b.val * 256 + p.val % 32 * 8 + p.val / 32, by omega⟩ d)) := by
  unfold mixed
  pointwise [mixR]

variable (v : FVec Ideal S32x256x4096 .f32)

/-- The mean of each token's row. -/
def meanR : FVec Ideal S32x256x1 .f32 :=
  Host.divf (broadcastInDim S32x256x1 ![0, 1] bcast_S32x256_S32x256x1_0_1 (Host.reduceAdd v (constant S_ .f32 0x00000000#32) reducesTo_S32x256x4096_S32x256_d2 h_S_)) (broadcastInDim S32x256x1 ![] bcast_S_S32x256x1 (constant S_ .f32 0x45800000#32))

theorem meanR_apply (b : Fin 32) (p : Fin 256) (u : Fin 1) : meanR v (ix3 b p u) = mean fun k => v (ix3 b p k) := by
  unfold mean
  pointwise [meanR]

/-- Each row less its mean. -/
def centR : FVec Ideal S32x256x4096 .f32 := subf v (broadcastInDim S32x256x4096 ![0, 1, 2] bcast_S32x256x1_S32x256x4096_0_1_2 (meanR v))

theorem centR_apply (b : Fin 32) (p : Fin 256) (d : Fin 4096) : centR v (ix3 b p d) = cent (fun k => v (ix3 b p k)) d := by
  unfold cent
  rw [← meanR_apply v b p 0]
  pointwise [centR]

/-- Each row over the root of a guarded variance. -/
def scaleR (w : FVec Ideal S32x256x1 .f32) : FVec Ideal S32x256x4096 .f32 :=
  mulf v (broadcastInDim S32x256x4096 ![0, 1, 2] bcast_S32x256x1_S32x256x4096_0_1_2 (Host.rsqrt (addf w (broadcastInDim S32x256x1 ![] bcast_S_S32x256x1 (constant S_ .f32 0x358637BD#32)))))

theorem scaleR_apply (w : FVec Ideal S32x256x1 .f32) (b : Fin 32) (p : Fin 256) (d : Fin 4096) :
    scaleR v w (ix3 b p d) = v (ix3 b p d) * Ideal.rsqrt (w (ix3 b p 0) + Ideal.ofBits FTy.f32 0x358637BD#32) := by
  pointwise [scaleR]

/-- Each row normalised. -/
def normR : FVec Ideal S32x256x4096 .f32 := scaleR (centR v) (meanR (mulf (centR v) (centR v)))

theorem normR_apply (b : Fin 32) (p : Fin 256) (d : Fin 4096) : normR v (ix3 b p d) = normed (fun k => v (ix3 b p k)) d := by
  have hs : (fun k => mulf (centR v) (centR v) (ix3 b p k)) = fun k => cent (fun k => v (ix3 b p k)) k * cent (fun k => v (ix3 b p k)) k := by
    funext k
    rw [← centR_apply]
    rfl
  unfold normR normed
  rw [scaleR_apply, meanR_apply, hs, centR_apply]

/-- Rows with gain and shift. -/
def affR (lg lb : FVec Ideal S2x4096 .f32) : FVec Ideal S32x256x4096 .f32 :=
  addf (mulf v (broadcastInDim S32x256x4096 ![0, 1, 2] bcast_S1x1x4096_S32x256x4096_0_1_2 (broadcastInDim S1x1x4096 ![2] bcast_S4096_S1x1x4096_2 (shapeCast S4096 (extractStridedSlice S1x4096 ![0, 0] lg slices_S2x4096_S1x4096_0_0) shapeCasts_S1x4096_S4096))))
    (broadcastInDim S32x256x4096 ![0, 1, 2] bcast_S1x1x4096_S32x256x4096_0_1_2 (broadcastInDim S1x1x4096 ![2] bcast_S4096_S1x1x4096_2 (shapeCast S4096 (extractStridedSlice S1x4096 ![0, 0] lb slices_S2x4096_S1x4096_0_0) shapeCasts_S1x4096_S4096)))

theorem affR_apply (lg lb : FVec Ideal S2x4096 .f32) (b : Fin 32) (p : Fin 256) (d : Fin 4096) :
    affR v lg lb (ix3 b p d) = v (ix3 b p d) * lg (ix2 0 d) + lb (ix2 0 d) := by
  pointwise [affR]

/-- Rows scaled by one plus a factor and shifted. -/
def modR (sc sh : FVec Ideal S1x1x4096 .f32) : FVec Ideal S32x256x4096 .f32 :=
  addf (mulf v (broadcastInDim S32x256x4096 ![0, 1, 2] bcast_S1x1x4096_S32x256x4096_0_1_2 (addf (broadcastInDim S1x1x4096 ![] bcast_S_S1x1x4096 (constant S_ .f32 0x3F800000#32)) sc)))
    (broadcastInDim S32x256x4096 ![0, 1, 2] bcast_S1x1x4096_S32x256x4096_0_1_2 sh)

theorem modR_apply (sc sh : FVec Ideal S1x1x4096 .f32) (b : Fin 32) (p : Fin 256) (d : Fin 4096) :
    modR v sc sh (ix3 b p d) = v (ix3 b p d) * (Ideal.ofBits FTy.f32 0x3F800000#32 + sc (ix3 0 0 d)) + sh (ix3 0 0 d) := by
  pointwise [modR]

/-- The rows with each sequence in eight stretches. -/
def splitR : FVec Ideal S32x8x32x4096 .f32 := shapeCast S32x8x32x4096 v shapeCasts_S32x256x4096_S32x8x32x4096

theorem splitR_apply (b : Fin 32) (s : Fin 8) (j : Fin 32) (d : Fin 4096) :
    splitR v (ix4 b s j d) = v (ix3 b ⟨s.val * 32 + j.val, by omega⟩ d) := by
  pointwise [splitR]

/-- The modulated rows as they are handed on. -/
def handR : FVec Ideal S32x8x32x4096 .bf16 := truncf .bf16 (shapeCast S32x8x32x4096 v shapeCasts_S32x256x4096_S32x8x32x4096) bitsLt_bf16_f32

theorem handR_apply (b : Fin 32) (s : Fin 8) (j : Fin 32) (d : Fin 4096) :
    handR v (ix4 b s j d) = v (ix3 b ⟨s.val * 32 + j.val, by omega⟩ d) := by
  pointwise [handR]

variable (x y : FVec Ideal S8192x4096 .f32) (a : FVec Ideal S2x16x24576 .f32) (lg lb : FVec Ideal S2x4096 .f32)

/-- The normalised residual. -/
def nextR : FVec Ideal S32x256x4096 .f32 := affR (normR (mixR x y (gR a))) lg lb

/-- The normalised residual at a token and a channel. -/
theorem nextR_apply (b : Fin 32) (s : Fin 8) (j : Fin 32) (d : Fin 4096) :
    nextR x y a lg lb (ix3 b ⟨s.val * 32 + j.val, by omega⟩ d) = affine (fun k => mixed (x (ix2 ⟨b.val * 256 + (s.val * 32 + j.val), by omega⟩ k)) (a (ix3 0 0 ⟨20480 + k.val, by omega⟩)) (y (ix2 ⟨b.val * 256 + j.val * 8 + s.val, by omega⟩ k))) (fun k => lg (ix2 0 k)) (fun k => lb (ix2 0 k)) d := by
  have hm : (fun k => mixR x y (gR a) (ix3 b ⟨s.val * 32 + j.val, by omega⟩ k)) = (fun k => mixed (x (ix2 ⟨b.val * 256 + (s.val * 32 + j.val), by omega⟩ k)) (a (ix3 0 0 ⟨20480 + k.val, by omega⟩)) (y (ix2 ⟨b.val * 256 + j.val * 8 + s.val, by omega⟩ k))) := by
    funext k
    rw [mixR_apply, gR_apply]
    exact congrArg (mixed _ _) (congrArg (fun q => y (ix2 q k)) (Fin.ext (by show b.val * 256 + (s.val * 32 + j.val) % 32 * 8 + (s.val * 32 + j.val) / 32 = b.val * 256 + j.val * 8 + s.val; omega)))
  unfold nextR affine
  rw [affR_apply, normR_apply, hm]

/-- The reference's first result: the normalised residual. -/
def REF0 : FVec Ideal S32x8x32x4096 .f32 := splitR (nextR x y a lg lb)

/-- The reference's second result: its rows normalised again and modulated. -/
def REF1 : FVec Ideal S32x8x32x4096 .bf16 := handR (modR (normR (nextR x y a lg lb)) (scR a) (shR a))

theorem REF0_apply (b : Fin 32) (s : Fin 8) (j : Fin 32) (d : Fin 4096) :
    REF0 x y a lg lb (ix4 b s j d) = affine (fun k => mixed (x (ix2 ⟨b.val * 256 + (s.val * 32 + j.val), by omega⟩ k)) (a (ix3 0 0 ⟨20480 + k.val, by omega⟩)) (y (ix2 ⟨b.val * 256 + j.val * 8 + s.val, by omega⟩ k))) (fun k => lg (ix2 0 k)) (fun k => lb (ix2 0 k)) d := by
  unfold REF0
  rw [splitR_apply, nextR_apply]

theorem REF1_apply (b : Fin 32) (s : Fin 8) (j : Fin 32) (d : Fin 4096) :
    REF1 x y a lg lb (ix4 b s j d) = modulated (affine (fun k => mixed (x (ix2 ⟨b.val * 256 + (s.val * 32 + j.val), by omega⟩ k)) (a (ix3 0 0 ⟨20480 + k.val, by omega⟩)) (y (ix2 ⟨b.val * 256 + j.val * 8 + s.val, by omega⟩ k))) (fun k => lg (ix2 0 k)) (fun k => lb (ix2 0 k))) (fun k => a (ix3 1 0 ⟨4096 + k.val, by omega⟩)) (fun k => a (ix3 1 0 ⟨0 + k.val, by omega⟩)) d := by
  unfold REF1 modulated
  rw [handR_apply, modR_apply, normR_apply, scR_apply, shR_apply]
  simp only [nextR_apply]

set_option maxRecDepth 65536 in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v85) = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.NextPromptRefIdeal.Norm

namespace Cert.NextPromptIdeal.Norm

open Cert.NextPromptIdeal Cert.NextPromptIdeal.Gen
open Cert.NextPromptRefIdeal.Norm (REF0 REF1 REF0_apply REF1_apply)

/-- The residual with its gated branch, on a block. -/
def mixK (y : Vec Ideal S1x32x8x4096 .f32) (x : Vec Ideal S1x8x32x4096 .f32) (g : Vec Ideal S1x1x4096 .f32) : FVec Ideal S8x32x4096 .f32 :=
  addf (mulf (broadcast S8x32x4096 (Scalar.ofBits .f32 0x3FB504F3#32)) (shapeCast S8x32x4096 x shapeCasts_S1x8x32x4096_S8x32x4096))
    (mulf (broadcastTo S8x32x4096 (shapeCast S1x1x4096 (shapeCast S1x4096 g shapeCasts_S1x1x4096_S1x4096) shapeCasts_S1x4096_S1x1x4096) broadcasts_S1x1x4096_S8x32x4096)
      (transpose S8x32x4096 [1, 0, 2] (shapeCast S32x8x4096 y shapeCasts_S1x32x8x4096_S32x8x4096) transposes_S32x8x4096_p1_0_2_S8x32x4096))

theorem mixK_apply (y : Vec Ideal S1x32x8x4096 .f32) (x : Vec Ideal S1x8x32x4096 .f32) (g : Vec Ideal S1x1x4096 .f32) (s : Fin 8) (j : Fin 32) (d : Fin 4096) :
    mixK y x g (ix3 s j d) = mixed (x (ix4 0 s j d)) (g (ix3 0 0 d)) (y (ix4 0 j s d)) := by
  unfold mixed
  pointwise [mixK]

variable (v : FVec Ideal S8x32x4096 .f32)

/-- The mean of each row of a block. -/
def meanK : FVec Ideal S8x32x1 .f32 :=
  divf (shapeCast S8x32x1 (multiReduction .add [2] S8x32 v 0x00000000#32 reduces_S8x32x4096_S8x32 (.inl rfl) rfl) shapeCasts_S8x32_S8x32x1) (broadcast S8x32x1 (Scalar.ofBits .f32 0x45800000#32))

theorem meanK_apply (s : Fin 8) (j : Fin 32) (u : Fin 1) : meanK v (ix3 s j u) = mean fun k => v (ix3 s j k) := by
  unfold mean
  pointwise [meanK]

/-- Each row of a block less its mean. -/
def centK : FVec Ideal S8x32x4096 .f32 := subf v (broadcastTo S8x32x4096 (meanK v) broadcasts_S8x32x1_S8x32x4096)

theorem centK_apply (s : Fin 8) (j : Fin 32) (d : Fin 4096) : centK v (ix3 s j d) = cent (fun k => v (ix3 s j k)) d := by
  unfold cent
  rw [← meanK_apply v s j 0]
  pointwise [centK]

/-- Each row of a block over the root of a guarded variance. -/
def scaleK (w : FVec Ideal S8x32x1 .f32) : FVec Ideal S8x32x4096 .f32 :=
  mulf v (broadcastTo S8x32x4096 (rsqrt (addf w (broadcast S8x32x1 (Scalar.ofBits .f32 0x358637BD#32)))) broadcasts_S8x32x1_S8x32x4096)

theorem scaleK_apply (w : FVec Ideal S8x32x1 .f32) (s : Fin 8) (j : Fin 32) (d : Fin 4096) :
    scaleK v w (ix3 s j d) = v (ix3 s j d) * Ideal.rsqrt (w (ix3 s j 0) + Ideal.ofBits FTy.f32 0x358637BD#32) := by
  pointwise [scaleK]

/-- Each row of a block normalised. -/
def normK : FVec Ideal S8x32x4096 .f32 := scaleK (centK v) (meanK (mulf (centK v) (centK v)))

theorem normK_apply (s : Fin 8) (j : Fin 32) (d : Fin 4096) : normK v (ix3 s j d) = normed (fun k => v (ix3 s j k)) d := by
  have hs : (fun k => mulf (centK v) (centK v) (ix3 s j k)) = fun k => cent (fun k => v (ix3 s j k)) k * cent (fun k => v (ix3 s j k)) k := by
    funext k
    rw [← centK_apply]
    rfl
  unfold normK normed
  rw [scaleK_apply, meanK_apply, hs, centK_apply]

/-- Rows of a block with their gain. -/
def gainK (g : Vec Ideal S1x4096 .f32) : FVec Ideal S8x32x4096 .f32 :=
  mulf v (broadcastTo S8x32x4096 (shapeCast S1x1x4096 (shapeCast S1x4096 g shapeCasts_S1x4096_S1x4096) shapeCasts_S1x4096_S1x1x4096) broadcasts_S1x1x4096_S8x32x4096)

theorem gainK_apply (g : Vec Ideal S1x4096 .f32) (s : Fin 8) (j : Fin 32) (d : Fin 4096) : gainK v g (ix3 s j d) = v (ix3 s j d) * g (ix2 0 d) := by
  pointwise [gainK]

theorem shift_apply (b : Vec Ideal S1x4096 .f32) (s : Fin 8) (j : Fin 32) (d : Fin 4096) : k0_pay3 v (k0_pay2 b) (ix3 s j d) = v (ix3 s j d) + b (ix2 0 d) := by
  pointwise [k0_pay3, k0_pay2]

/-- The normalised residual of a block, at an index. -/
theorem next_apply (y : Vec Ideal S1x32x8x4096 .f32) (x : Vec Ideal S1x8x32x4096 .f32) (g : Vec Ideal S1x1x4096 .f32) (lg lb : Vec Ideal S1x4096 .f32)
    (s : Fin 8) (j : Fin 32) (d : Fin 4096) :
    k0_pay3 (k0_pay1 y x g lg) (k0_pay2 lb) (ix3 s j d)
      = affine (fun k => mixed (x (ix4 0 s j k)) (g (ix3 0 0 k)) (y (ix4 0 j s k))) (fun k => lg (ix2 0 k)) (fun k => lb (ix2 0 k)) d := by
  have e : k0_pay1 (F := Ideal) y x g lg = gainK (normK (mixK y x g)) lg := rfl
  unfold affine
  rw [shift_apply, e, gainK_apply, normK_apply]
  simp only [mixK_apply]

theorem split_apply (w : FVec Ideal S1x1x4096 .f32) (z : Fin 1) (s : Fin 8) (j : Fin 32) (d : Fin 4096) : k0_pay4 v w (ix4 z s j d) = k0_pay3 v w (ix3 s j d) := by
  pointwise [k0_pay4]

/-- Rows scaled by one plus a factor and shifted, on a block, as they are handed on. -/
def handK (c : FVec Ideal S8x32x4096 .f32) (sc sh : Vec Ideal S1x1x4096 .f32) : FVec Ideal S1x8x32x4096 .bf16 :=
  shapeCast S1x8x32x4096 (truncf .bf16 (addf (mulf c (broadcastTo S8x32x4096 (shapeCast S1x1x4096 (addf (broadcast S1x4096 (Scalar.ofBits .f32 0x3F800000#32)) (shapeCast S1x4096 sc shapeCasts_S1x1x4096_S1x4096)) shapeCasts_S1x4096_S1x1x4096) broadcasts_S1x1x4096_S8x32x4096))
      (broadcastTo S8x32x4096 (shapeCast S1x1x4096 (shapeCast S1x4096 sh shapeCasts_S1x1x4096_S1x4096) shapeCasts_S1x4096_S1x1x4096) broadcasts_S1x1x4096_S8x32x4096)) bitsLt_bf16_f32) shapeCasts_S8x32x4096_S1x8x32x4096

theorem handK_apply (c : FVec Ideal S8x32x4096 .f32) (sc sh : Vec Ideal S1x1x4096 .f32) (z : Fin 1) (s : Fin 8) (j : Fin 32) (d : Fin 4096) :
    handK c sc sh (ix4 z s j d) = c (ix3 s j d) * (Ideal.ofBits FTy.f32 0x3F800000#32 + sc (ix3 0 0 d)) + sh (ix3 0 0 d) := by
  pointwise [handK]

theorem hand_eq (w : FVec Ideal S1x1x4096 .f32) (sc sh : Vec Ideal S1x1x4096 .f32) : k0_pay5 (F := Ideal) v w sc sh = handK (normK (k0_pay3 v w)) sc sh := rfl

variable (x0 : Vec Ideal S1x8x32x4096 .f32) (x1 : Vec Ideal S1x32x8x4096 .f32) (x2 : Vec Ideal S1x1x4096 .f32) (x3 x4 : Vec Ideal S1x4096 .f32) (x5 x6 : Vec Ideal S1x1x4096 .f32)

/-- What a grid point leaves in its first output block. -/
theorem out7_apply (z : Fin 1) (s : Fin 8) (j : Fin 32) (d : Fin 4096) :
    out0_7 x0 x1 x2 x3 x4 x5 x6 (ix4 z s j d)
      = affine (fun k => mixed (x0 (ix4 0 s j k)) (x2 (ix3 0 0 k)) (x1 (ix4 0 j s k))) (fun k => x3 (ix2 0 k)) (fun k => x4 (ix2 0 k)) d := by
  unfold_out out0_7
  frame_out
  rw [split_apply]
  exact next_apply x1 x0 x2 x3 x4 s j d

/-- What a grid point leaves in its second output block. -/
theorem out8_apply (z : Fin 1) (s : Fin 8) (j : Fin 32) (d : Fin 4096) :
    out0_8 x0 x1 x2 x3 x4 x5 x6 (ix4 z s j d)
      = modulated (affine (fun k => mixed (x0 (ix4 0 s j k)) (x2 (ix3 0 0 k)) (x1 (ix4 0 j s k))) (fun k => x3 (ix2 0 k)) (fun k => x4 (ix2 0 k)))
          (fun k => x6 (ix3 0 0 k)) (fun k => x5 (ix3 0 0 k)) d := by
  unfold_out out0_8
  frame_out
  unfold modulated
  rw [hand_eq, handK_apply, normK_apply]
  simp only [next_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val, 0, 0, 0] ∧ win0_1.index t = ![t.val, 0, 0, 0] ∧ win0_2.index t = ![5, 0, 0]
    ∧ win0_3.index t = ![0, 0] ∧ win0_4.index t = ![0, 0] ∧ win0_5.index t = ![0, 0, 0] ∧ win0_6.index t = ![1, 0, 0]
    ∧ win0_7.index t = ![t.val, 0, 0, 0] ∧ win0_8.index t = ![t.val, 0, 0, 0] :=
  (by decide +kernel : ∀ t : Fin grid0.N, _)

/-- The sequence of a grid point. -/
def bOf (t : Fin cfg0.N) : Fin 32 := ⟨t.val, by have := lt32 t; omega⟩

abbrev xArr (c : Dev nD) : FVec Ideal S8192x4096 .f32 := m ((c : Thread nD τ).loc main_arg0)
abbrev yArr (c : Dev nD) : FVec Ideal S8192x4096 .f32 := m ((c : Thread nD τ).loc main_arg1)
abbrev aArr (c : Dev nD) : FVec Ideal S2x16x24576 .f32 := m ((c : Thread nD τ).loc main_arg2)
abbrev gArr (c : Dev nD) : FVec Ideal S2x4096 .f32 := m ((c : Thread nD τ).loc main_arg3)
abbrev bArr (c : Dev nD) : FVec Ideal S2x4096 .f32 := m ((c : Thread nD τ).loc main_arg4)

theorem read0 (c : Dev nD) (t : Fin cfg0.N) (s : Fin 8) (j : Fin 32) (k : Fin 4096) :
    (show Vec Ideal S1x8x32x4096 .f32 from iblk m c 0 t) (ix4 0 s j k) = xArr m c (ix2 ⟨(bOf t).val * 256 + (s.val * 32 + (j.val)), by have := lt32 t; unfold bOf; dsimp only; omega⟩ k) := by
  have ht := lt32 t
  have e := (idx t).1
  unfold bOf
  blk_point [iblk, V, e]

theorem read1 (c : Dev nD) (t : Fin cfg0.N) (s : Fin 8) (j : Fin 32) (k : Fin 4096) :
    (show Vec Ideal S1x32x8x4096 .f32 from iblk m c 1 t) (ix4 0 j s k) = yArr m c (ix2 ⟨(bOf t).val * 256 + (j.val) * 8 + s.val, by have := lt32 t; unfold bOf; dsimp only; omega⟩ k) := by
  have ht := lt32 t
  have e := (idx t).2.1
  unfold bOf
  blk_point [iblk, V, e]

theorem read2 (c : Dev nD) (t : Fin cfg0.N) (k : Fin 4096) :
    (show Vec Ideal S1x1x4096 .f32 from iblk m c 2 t) (ix3 0 0 k) = aArr m c (ix3 0 0 ⟨20480 + k.val, by omega⟩) := by
  have ht := lt32 t
  have e := (idx t).2.2.1
  blk_point [iblk, V, e]

theorem read3 (c : Dev nD) (t : Fin cfg0.N) (k : Fin 4096) :
    (show Vec Ideal S1x4096 .f32 from iblk m c 3 t) (ix2 0 k) = gArr m c (ix2 0 k) := by
  have e := (idx t).2.2.2.1
  blk_point [iblk, V, e]

theorem read4 (c : Dev nD) (t : Fin cfg0.N) (k : Fin 4096) :
    (show Vec Ideal S1x4096 .f32 from iblk m c 4 t) (ix2 0 k) = bArr m c (ix2 0 k) := by
  have e := (idx t).2.2.2.2.1
  blk_point [iblk, V, e]

theorem read5 (c : Dev nD) (t : Fin cfg0.N) (k : Fin 4096) :
    (show Vec Ideal S1x1x4096 .f32 from iblk m c 5 t) (ix3 0 0 k) = aArr m c (ix3 1 0 ⟨0 + k.val, by omega⟩) := by
  have ht := lt32 t
  have e := (idx t).2.2.2.2.2.1
  blk_point [iblk, V, e]

theorem read6 (c : Dev nD) (t : Fin cfg0.N) (k : Fin 4096) :
    (show Vec Ideal S1x1x4096 .f32 from iblk m c 6 t) (ix3 0 0 k) = aArr m c (ix3 1 0 ⟨4096 + k.val, by omega⟩) := by
  have ht := lt32 t
  have e := (idx t).2.2.2.2.2.2.1
  blk_point [iblk, V, e]

/-- The first result array is the reference's term at the argument arrays. -/
theorem final7 (c : Dev nD) : (dats m 0 c).arrAt 7 cfg0.N = REF0 (xArr m c) (yArr m c) (aArr m c) (gArr m c) (bArr m c) := by
  refine (dats m 0 c).arrAt_eq_of_covers 7 _ (by decide +kernel) fun t hf q => ?_
  have ht := lt32 t
  have e := (idx t).2.2.2.2.2.2.2.1
  obtain ⟨z, s, j, d, rfl⟩ : ∃ (z : Fin 1) (s : Fin 8) (j : Fin 32) (d : Fin 4096), q = ix4 z s j d := by idx_vars q; exact ⟨_, _, _, _, rfl⟩
  blk_simp
  rw [after0_7]
  refine (out7_apply _ _ _ _ _ _ _ z s j d).trans ?_
  simp only [read0 m c t, read1 m c t, read2 m c t, read3 m c t, read4 m c t]
  refine (REF0_apply _ _ _ _ _ (bOf t) s ⟨j.val, by omega⟩ d).symm.trans ?_
  unfold bOf
  blk_point [iblk, V, e]

/-- The second result array is the reference's term at the argument arrays. -/
theorem final8 (c : Dev nD) : (dats m 0 c).arrAt 8 cfg0.N = REF1 (xArr m c) (yArr m c) (aArr m c) (gArr m c) (bArr m c) := by
  refine (dats m 0 c).arrAt_eq_of_covers 8 _ (by decide +kernel) fun t hf q => ?_
  have ht := lt32 t
  have e := (idx t).2.2.2.2.2.2.2.2
  obtain ⟨z, s, j, d, rfl⟩ : ∃ (z : Fin 1) (s : Fin 8) (j : Fin 32) (d : Fin 4096), q = ix4 z s j d := by idx_vars q; exact ⟨_, _, _, _, rfl⟩
  blk_simp
  rw [after0_8]
  refine (out8_apply _ _ _ _ _ _ _ z s j d).trans ?_
  simp only [read0 m c t, read1 m c t, read2 m c t, read3 m c t, read4 m c t, read5 m c t, read6 m c t]
  refine (REF1_apply _ _ _ _ _ (bOf t) s ⟨j.val, by omega⟩ d).symm.trans ?_
  unfold bOf
  blk_point [iblk, V, e]

/-- The kernel's run, its results named. -/
theorem run_named (ρ : Dev nD → PrngReg) :
    θ_run defs (onTc (τ := τ) (main (F := Ideal))) ⟨m, fun _ => 0, ρ⟩ fun r => ∀ c : Dev nD,
      r.2.mem ((c : Thread nD τ).loc main_v14_0) = REF0 (xArr m c) (yArr m c) (aArr m c) (gArr m c) (bArr m c)
      ∧ r.2.mem ((c : Thread nD τ).loc main_v14_1) = REF1 (xArr m c) (yArr m c) (aArr m c) (gArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  exact (θ_run defs _ _).mono (fun r h c => ⟨((h c).1 7).trans (final7 m c), ((h c).1 8).trans (final8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.NextPromptIdeal.Norm
-- ==== Proof.NextSampleValue.lean ====
/- The normalisation after the feed-forward of the first layer, with the modulated rows for what follows, sample batch: every block of the kernel's results is the reference's. -/
module

public import proofs.«01_k».proof.Proof.NormMath
public import proofs.«01_k».proof.Proof.Gen.NextSampleIdeal.Frame
public import Idealize.ShloMosaic.Lib.Pipeline.Value
public import proofs.«01_k».proof.Proof.Gen.NextSampleRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.NormMath

namespace Cert.NextSampleRefIdeal.Norm

open Cert.NextSampleRefIdeal Cert.NextSampleRefIdeal.Gen

/-- The gate of each sequence. -/
def gR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 20480] (shapeCast _ (extractStridedSlice S1x16x24576 ![0, 0, 0] a slices_S2x16x24576_S1x16x24576_0_0_0) shapeCasts_S1x16x24576_S16x24576) slices_S16x24576_S16x4096_0_20480) slices_S16x4096_S8x4096_1_0)

theorem gR_apply (a : FVec Ideal S2x16x24576 .f32) (b : Fin 8) (u : Fin 1) (d : Fin 4096) :
    gR a (ix3 b u d) = a (ix3 0 ⟨1 + b.val, by omega⟩ ⟨20480 + d.val, by omega⟩) := by
  pointwise [gR]

/-- The shift of each sequence. -/
def shR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 0] (shapeCast _ (extractStridedSlice S1x16x24576 ![1, 0, 0] a slices_S2x16x24576_S1x16x24576_1_0_0) shapeCasts_S1x16x24576_S16x24576) slices_S16x24576_S16x4096_0_0) slices_S16x4096_S8x4096_1_0)

theorem shR_apply (a : FVec Ideal S2x16x24576 .f32) (b : Fin 8) (u : Fin 1) (d : Fin 4096) :
    shR a (ix3 b u d) = a (ix3 1 ⟨1 + b.val, by omega⟩ ⟨0 + d.val, by omega⟩) := by
  pointwise [shR]

/-- The scale of each sequence. -/
def scR (a : FVec Ideal S2x16x24576 .f32) : FVec Ideal S8x1x4096 .f32 :=
  broadcastInDim S8x1x4096 ![0, 2] bcast_S8x4096_S8x1x4096_0_2 (extractStridedSlice S8x4096 ![1, 0] (extractStridedSlice S16x4096 ![0, 4096] (shapeCast _ (extractStridedSlice S1x16x24576 ![1, 0, 0] a slices_S2x16x24576_S1x16x24576_1_0_0) shapeCasts_S1x16x24576_S16x24576) slices_S16x24576_S16x4096_0_4096) slices_S16x4096_S8x4096_1_0)

theorem scR_apply (a : FVec Ideal S2x16x24576 .f32) (b : Fin 8) (u : Fin 1) (d : Fin 4096) :
    scR a (ix3 b u d) = a (ix3 1 ⟨1 + b.val, by omega⟩ ⟨4096 + d.val, by omega⟩) := by
  pointwise [scR]

/-- The residual with its gated branch, token by token. -/
def mixR (x y : FVec Ideal S8192x4096 .f32) (a : FVec Ideal S8x1x4096 .f32) : FVec Ideal S8x1024x4096 .f32 :=
  addf (mulf (broadcastInDim S8x1024x4096 ![] bcast_S_S8x1024x4096 (constant S_ .f32 0x3FB504F3#32)) (shapeCast S8x1024x4096 x shapeCasts_S8192x4096_S8x1024x4096))
    (mulf (broadcastInDim S8x1024x4096 ![0, 1, 2] bcast_S8x1x4096_S8x1024x4096_0_1_2 a) (shapeCast S8x1024x4096 (transpose S8x8x128x4096 [0, 2, 1, 3] (shapeCast S8x128x8x4096 y shapeCasts_S8192x4096_S8x128x8x4096) transposes_S8x128x8x4096_S8x8x128x4096_0_2_1_3) shapeCasts_S8x8x128x4096_S8x1024x4096))

theorem mixR_apply (x y : FVec Ideal S8192x4096 .f32) (a : FVec Ideal S8x1x4096 .f32) (b : Fin 8) (p : Fin 1024) (d : Fin 4096) :
    mixR x y a (ix3 b p d) = mixed (x (ix2 ⟨b.val * 1024 + p.val, by omega⟩ d)) (a (ix3 b 0 d))
      (y (ix2 ⟨b.val * 1024 + p.val % 128 * 8 + p.val / 128, by omega⟩ d)) := by
  unfold mixed
  pointwise [mixR]

variable (v : FVec Ideal S8x1024x4096 .f32)

/-- The mean of each token's row. -/
def meanR : FVec Ideal S8x1024x1 .f32 :=
  Host.divf (broadcastInDim S8x1024x1 ![0, 1] bcast_S8x1024_S8x1024x1_0_1 (Host.reduceAdd v (constant S_ .f32 0x00000000#32) reducesTo_S8x1024x4096_S8x1024_d2 h_S_)) (broadcastInDim S8x1024x1 ![] bcast_S_S8x1024x1 (constant S_ .f32 0x45800000#32))

theorem meanR_apply (b : Fin 8) (p : Fin 1024) (u : Fin 1) : meanR v (ix3 b p u) = mean fun k => v (ix3 b p k) := by
  unfold mean
  pointwise [meanR]

/-- Each row less its mean. -/
def centR : FVec Ideal S8x1024x4096 .f32 := subf v (broadcastInDim S8x1024x4096 ![0, 1, 2] bcast_S8x1024x1_S8x1024x4096_0_1_2 (meanR v))

theorem centR_apply (b : Fin 8) (p : Fin 1024) (d : Fin 4096) : centR v (ix3 b p d) = cent (fun k => v (ix3 b p k)) d := by
  unfold cent
  rw [← meanR_apply v b p 0]
  pointwise [centR]

/-- Each row over the root of a guarded variance. -/
def scaleR (w : FVec Ideal S8x1024x1 .f32) : FVec Ideal S8x1024x4096 .f32 :=
  mulf v (broadcastInDim S8x1024x4096 ![0, 1, 2] bcast_S8x1024x1_S8x1024x4096_0_1_2 (Host.rsqrt (addf w (broadcastInDim S8x1024x1 ![] bcast_S_S8x1024x1 (constant S_ .f32 0x358637BD#32)))))

theorem scaleR_apply (w : FVec Ideal S8x1024x1 .f32) (b : Fin 8) (p : Fin 1024) (d : Fin 4096) :
    scaleR v w (ix3 b p d) = v (ix3 b p d) * Ideal.rsqrt (w (ix3 b p 0) + Ideal.ofBits FTy.f32 0x358637BD#32) := by
  pointwise [scaleR]

/-- Each row normalised. -/
def normR : FVec Ideal S8x1024x4096 .f32 := scaleR (centR v) (meanR (mulf (centR v) (centR v)))

theorem normR_apply (b : Fin 8) (p : Fin 1024) (d : Fin 4096) : normR v (ix3 b p d) = normed (fun k => v (ix3 b p k)) d := by
  have hs : (fun k => mulf (centR v) (centR v) (ix3 b p k)) = fun k => cent (fun k => v (ix3 b p k)) k * cent (fun k => v (ix3 b p k)) k := by
    funext k
    rw [← centR_apply]
    rfl
  unfold normR normed
  rw [scaleR_apply, meanR_apply, hs, centR_apply]

/-- Rows with gain and shift. -/
def affR (lg lb : FVec Ideal S2x4096 .f32) : FVec Ideal S8x1024x4096 .f32 :=
  addf (mulf v (broadcastInDim S8x1024x4096 ![0, 1, 2] bcast_S1x1x4096_S8x1024x4096_0_1_2 (broadcastInDim S1x1x4096 ![2] bcast_S4096_S1x1x4096_2 (shapeCast S4096 (extractStridedSlice S1x4096 ![0, 0] lg slices_S2x4096_S1x4096_0_0) shapeCasts_S1x4096_S4096))))
    (broadcastInDim S8x1024x4096 ![0, 1, 2] bcast_S1x1x4096_S8x1024x4096_0_1_2 (broadcastInDim S1x1x4096 ![2] bcast_S4096_S1x1x4096_2 (shapeCast S4096 (extractStridedSlice S1x4096 ![0, 0] lb slices_S2x4096_S1x4096_0_0) shapeCasts_S1x4096_S4096)))

theorem affR_apply (lg lb : FVec Ideal S2x4096 .f32) (b : Fin 8) (p : Fin 1024) (d : Fin 4096) :
    affR v lg lb (ix3 b p d) = v (ix3 b p d) * lg (ix2 0 d) + lb (ix2 0 d) := by
  pointwise [affR]

/-- Rows scaled by one plus a factor and shifted. -/
def modR (sc sh : FVec Ideal S8x1x4096 .f32) : FVec Ideal S8x1024x4096 .f32 :=
  addf (mulf v (broadcastInDim S8x1024x4096 ![0, 1, 2] bcast_S8x1x4096_S8x1024x4096_0_1_2 (addf (broadcastInDim S8x1x4096 ![] bcast_S_S8x1x4096 (constant S_ .f32 0x3F800000#32)) sc)))
    (broadcastInDim S8x1024x4096 ![0, 1, 2] bcast_S8x1x4096_S8x1024x4096_0_1_2 sh)

theorem modR_apply (sc sh : FVec Ideal S8x1x4096 .f32) (b : Fin 8) (p : Fin 1024) (d : Fin 4096) :
    modR v sc sh (ix3 b p d) = v (ix3 b p d) * (Ideal.ofBits FTy.f32 0x3F800000#32 + sc (ix3 b 0 d)) + sh (ix3 b 0 d) := by
  pointwise [modR]

/-- The rows with each sequence in eight stretches. -/
def splitR : FVec Ideal S8x8x128x4096 .f32 := shapeCast S8x8x128x4096 v shapeCasts_S8x1024x4096_S8x8x128x4096

theorem splitR_apply (b : Fin 8) (s : Fin 8) (j : Fin 128) (d : Fin 4096) :
    splitR v (ix4 b s j d) = v (ix3 b ⟨s.val * 128 + j.val, by omega⟩ d) := by
  pointwise [splitR]

/-- The modulated rows as they are handed on. -/
def handR : FVec Ideal S8x8x128x4096 .bf16 := truncf .bf16 (shapeCast S8x8x128x4096 v shapeCasts_S8x1024x4096_S8x8x128x4096) bitsLt_bf16_f32

theorem handR_apply (b : Fin 8) (s : Fin 8) (j : Fin 128) (d : Fin 4096) :
    handR v (ix4 b s j d) = v (ix3 b ⟨s.val * 128 + j.val, by omega⟩ d) := by
  pointwise [handR]

variable (x y : FVec Ideal S8192x4096 .f32) (a : FVec Ideal S2x16x24576 .f32) (lg lb : FVec Ideal S2x4096 .f32)

/-- The normalised residual. -/
def nextR : FVec Ideal S8x1024x4096 .f32 := affR (normR (mixR x y (gR a))) lg lb

/-- The normalised residual at a token and a channel. -/
theorem nextR_apply (b : Fin 8) (s : Fin 8) (j : Fin 128) (d : Fin 4096) :
    nextR x y a lg lb (ix3 b ⟨s.val * 128 + j.val, by omega⟩ d) = affine (fun k => mixed (x (ix2 ⟨b.val * 1024 + (s.val * 128 + j.val), by omega⟩ k)) (a (ix3 0 ⟨1 + b.val, by omega⟩ ⟨20480 + k.val, by omega⟩)) (y (ix2 ⟨b.val * 1024 + j.val * 8 + s.val, by omega⟩ k))) (fun k => lg (ix2 0 k)) (fun k => lb (ix2 0 k)) d := by
  have hm : (fun k => mixR x y (gR a) (ix3 b ⟨s.val * 128 + j.val, by omega⟩ k)) = (fun k => mixed (x (ix2 ⟨b.val * 1024 + (s.val * 128 + j.val), by omega⟩ k)) (a (ix3 0 ⟨1 + b.val, by omega⟩ ⟨20480 + k.val, by omega⟩)) (y (ix2 ⟨b.val * 1024 + j.val * 8 + s.val, by omega⟩ k))) := by
    funext k
    rw [mixR_apply, gR_apply]
    exact congrArg (mixed _ _) (congrArg (fun q => y (ix2 q k)) (Fin.ext (by show b.val * 1024 + (s.val * 128 + j.val) % 128 * 8 + (s.val * 128 + j.val) / 128 = b.val * 1024 + j.val * 8 + s.val; omega)))
  unfold nextR affine
  rw [affR_apply, normR_apply, hm]

/-- The reference's first result: the normalised residual. -/
def REF0 : FVec Ideal S8x8x128x4096 .f32 := splitR (nextR x y a lg lb)

/-- The reference's second result: its rows normalised again and modulated. -/
def REF1 : FVec Ideal S8x8x128x4096 .bf16 := handR (modR (normR (nextR x y a lg lb)) (scR a) (shR a))

theorem REF0_apply (b : Fin 8) (s : Fin 8) (j : Fin 128) (d : Fin 4096) :
    REF0 x y a lg lb (ix4 b s j d) = affine (fun k => mixed (x (ix2 ⟨b.val * 1024 + (s.val * 128 + j.val), by omega⟩ k)) (a (ix3 0 ⟨1 + b.val, by omega⟩ ⟨20480 + k.val, by omega⟩)) (y (ix2 ⟨b.val * 1024 + j.val * 8 + s.val, by omega⟩ k))) (fun k => lg (ix2 0 k)) (fun k => lb (ix2 0 k)) d := by
  unfold REF0
  rw [splitR_apply, nextR_apply]

theorem REF1_apply (b : Fin 8) (s : Fin 8) (j : Fin 128) (d : Fin 4096) :
    REF1 x y a lg lb (ix4 b s j d) = modulated (affine (fun k => mixed (x (ix2 ⟨b.val * 1024 + (s.val * 128 + j.val), by omega⟩ k)) (a (ix3 0 ⟨1 + b.val, by omega⟩ ⟨20480 + k.val, by omega⟩)) (y (ix2 ⟨b.val * 1024 + j.val * 8 + s.val, by omega⟩ k))) (fun k => lg (ix2 0 k)) (fun k => lb (ix2 0 k))) (fun k => a (ix3 1 ⟨1 + b.val, by omega⟩ ⟨4096 + k.val, by omega⟩)) (fun k => a (ix3 1 ⟨1 + b.val, by omega⟩ ⟨0 + k.val, by omega⟩)) d := by
  unfold REF1 modulated
  rw [handR_apply, modR_apply, normR_apply, scR_apply, shR_apply]
  simp only [nextR_apply]

set_option maxRecDepth 65536 in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v85) = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.NextSampleRefIdeal.Norm

namespace Cert.NextSampleIdeal.Norm

open Cert.NextSampleIdeal Cert.NextSampleIdeal.Gen
open Cert.NextSampleRefIdeal.Norm (REF0 REF1 REF0_apply REF1_apply)

/-- The residual with its gated branch, on a block. -/
def mixK (y : Vec Ideal S1x32x8x4096 .f32) (x : Vec Ideal S1x8x32x4096 .f32) (g : Vec Ideal S1x1x4096 .f32) : FVec Ideal S8x32x4096 .f32 :=
  addf (mulf (broadcast S8x32x4096 (Scalar.ofBits .f32 0x3FB504F3#32)) (shapeCast S8x32x4096 x shapeCasts_S1x8x32x4096_S8x32x4096))
    (mulf (broadcastTo S8x32x4096 (shapeCast S1x1x4096 (shapeCast S1x4096 g shapeCasts_S1x1x4096_S1x4096) shapeCasts_S1x4096_S1x1x4096) broadcasts_S1x1x4096_S8x32x4096)
      (transpose S8x32x4096 [1, 0, 2] (shapeCast S32x8x4096 y shapeCasts_S1x32x8x4096_S32x8x4096) transposes_S32x8x4096_p1_0_2_S8x32x4096))

theorem mixK_apply (y : Vec Ideal S1x32x8x4096 .f32) (x : Vec Ideal S1x8x32x4096 .f32) (g : Vec Ideal S1x1x4096 .f32) (s : Fin 8) (j : Fin 32) (d : Fin 4096) :
    mixK y x g (ix3 s j d) = mixed (x (ix4 0 s j d)) (g (ix3 0 0 d)) (y (ix4 0 j s d)) := by
  unfold mixed
  pointwise [mixK]

variable (v : FVec Ideal S8x32x4096 .f32)

/-- The mean of each row of a block. -/
def meanK : FVec Ideal S8x32x1 .f32 :=
  divf (shapeCast S8x32x1 (multiReduction .add [2] S8x32 v 0x00000000#32 reduces_S8x32x4096_S8x32 (.inl rfl) rfl) shapeCasts_S8x32_S8x32x1) (broadcast S8x32x1 (Scalar.ofBits .f32 0x45800000#32))

theorem meanK_apply (s : Fin 8) (j : Fin 32) (u : Fin 1) : meanK v (ix3 s j u) = mean fun k => v (ix3 s j k) := by
  unfold mean
  pointwise [meanK]

/-- Each row of a block less its mean. -/
def centK : FVec Ideal S8x32x4096 .f32 := subf v (broadcastTo S8x32x4096 (meanK v) broadcasts_S8x32x1_S8x32x4096)

theorem centK_apply (s : Fin 8) (j : Fin 32) (d : Fin 4096) : centK v (ix3 s j d) = cent (fun k => v (ix3 s j k)) d := by
  unfold cent
  rw [← meanK_apply v s j 0]
  pointwise [centK]

/-- Each row of a block over the root of a guarded variance. -/
def scaleK (w : FVec Ideal S8x32x1 .f32) : FVec Ideal S8x32x4096 .f32 :=
  mulf v (broadcastTo S8x32x4096 (rsqrt (addf w (broadcast S8x32x1 (Scalar.ofBits .f32 0x358637BD#32)))) broadcasts_S8x32x1_S8x32x4096)

theorem scaleK_apply (w : FVec Ideal S8x32x1 .f32) (s : Fin 8) (j : Fin 32) (d : Fin 4096) :
    scaleK v w (ix3 s j d) = v (ix3 s j d) * Ideal.rsqrt (w (ix3 s j 0) + Ideal.ofBits FTy.f32 0x358637BD#32) := by
  pointwise [scaleK]

/-- Each row of a block normalised. -/
def normK : FVec Ideal S8x32x4096 .f32 := scaleK (centK v) (meanK (mulf (centK v) (centK v)))

theorem normK_apply (s : Fin 8) (j : Fin 32) (d : Fin 4096) : normK v (ix3 s j d) = normed (fun k => v (ix3 s j k)) d := by
  have hs : (fun k => mulf (centK v) (centK v) (ix3 s j k)) = fun k => cent (fun k => v (ix3 s j k)) k * cent (fun k => v (ix3 s j k)) k := by
    funext k
    rw [← centK_apply]
    rfl
  unfold normK normed
  rw [scaleK_apply, meanK_apply, hs, centK_apply]

/-- Rows of a block with their gain. -/
def gainK (g : Vec Ideal S1x4096 .f32) : FVec Ideal S8x32x4096 .f32 :=
  mulf v (broadcastTo S8x32x4096 (shapeCast S1x1x4096 (shapeCast S1x4096 g shapeCasts_S1x4096_S1x4096) shapeCasts_S1x4096_S1x1x4096) broadcasts_S1x1x4096_S8x32x4096)

theorem gainK_apply (g : Vec Ideal S1x4096 .f32) (s : Fin 8) (j : Fin 32) (d : Fin 4096) : gainK v g (ix3 s j d) = v (ix3 s j d) * g (ix2 0 d) := by
  pointwise [gainK]

theorem shift_apply (b : Vec Ideal S1x4096 .f32) (s : Fin 8) (j : Fin 32) (d : Fin 4096) : k0_pay3 v (k0_pay2 b) (ix3 s j d) = v (ix3 s j d) + b (ix2 0 d) := by
  pointwise [k0_pay3, k0_pay2]

/-- The normalised residual of a block, at an index. -/
theorem next_apply (y : Vec Ideal S1x32x8x4096 .f32) (x : Vec Ideal S1x8x32x4096 .f32) (g : Vec Ideal S1x1x4096 .f32) (lg lb : Vec Ideal S1x4096 .f32)
    (s : Fin 8) (j : Fin 32) (d : Fin 4096) :
    k0_pay3 (k0_pay1 y x g lg) (k0_pay2 lb) (ix3 s j d)
      = affine (fun k => mixed (x (ix4 0 s j k)) (g (ix3 0 0 k)) (y (ix4 0 j s k))) (fun k => lg (ix2 0 k)) (fun k => lb (ix2 0 k)) d := by
  have e : k0_pay1 (F := Ideal) y x g lg = gainK (normK (mixK y x g)) lg := rfl
  unfold affine
  rw [shift_apply, e, gainK_apply, normK_apply]
  simp only [mixK_apply]

theorem split_apply (w : FVec Ideal S1x1x4096 .f32) (z : Fin 1) (s : Fin 8) (j : Fin 32) (d : Fin 4096) : k0_pay4 v w (ix4 z s j d) = k0_pay3 v w (ix3 s j d) := by
  pointwise [k0_pay4]

/-- Rows scaled by one plus a factor and shifted, on a block, as they are handed on. -/
def handK (c : FVec Ideal S8x32x4096 .f32) (sc sh : Vec Ideal S1x1x4096 .f32) : FVec Ideal S1x8x32x4096 .bf16 :=
  shapeCast S1x8x32x4096 (truncf .bf16 (addf (mulf c (broadcastTo S8x32x4096 (shapeCast S1x1x4096 (addf (broadcast S1x4096 (Scalar.ofBits .f32 0x3F800000#32)) (shapeCast S1x4096 sc shapeCasts_S1x1x4096_S1x4096)) shapeCasts_S1x4096_S1x1x4096) broadcasts_S1x1x4096_S8x32x4096))
      (broadcastTo S8x32x4096 (shapeCast S1x1x4096 (shapeCast S1x4096 sh shapeCasts_S1x1x4096_S1x4096) shapeCasts_S1x4096_S1x1x4096) broadcasts_S1x1x4096_S8x32x4096)) bitsLt_bf16_f32) shapeCasts_S8x32x4096_S1x8x32x4096

theorem handK_apply (c : FVec Ideal S8x32x4096 .f32) (sc sh : Vec Ideal S1x1x4096 .f32) (z : Fin 1) (s : Fin 8) (j : Fin 32) (d : Fin 4096) :
    handK c sc sh (ix4 z s j d) = c (ix3 s j d) * (Ideal.ofBits FTy.f32 0x3F800000#32 + sc (ix3 0 0 d)) + sh (ix3 0 0 d) := by
  pointwise [handK]

theorem hand_eq (w : FVec Ideal S1x1x4096 .f32) (sc sh : Vec Ideal S1x1x4096 .f32) : k0_pay5 (F := Ideal) v w sc sh = handK (normK (k0_pay3 v w)) sc sh := rfl

variable (x0 : Vec Ideal S1x8x32x4096 .f32) (x1 : Vec Ideal S1x32x8x4096 .f32) (x2 : Vec Ideal S1x1x4096 .f32) (x3 x4 : Vec Ideal S1x4096 .f32) (x5 x6 : Vec Ideal S1x1x4096 .f32)

/-- What a grid point leaves in its first output block. -/
theorem out7_apply (z : Fin 1) (s : Fin 8) (j : Fin 32) (d : Fin 4096) :
    out0_7 x0 x1 x2 x3 x4 x5 x6 (ix4 z s j d)
      = affine (fun k => mixed (x0 (ix4 0 s j k)) (x2 (ix3 0 0 k)) (x1 (ix4 0 j s k))) (fun k => x3 (ix2 0 k)) (fun k => x4 (ix2 0 k)) d := by
  unfold_out out0_7
  frame_out
  rw [split_apply]
  exact next_apply x1 x0 x2 x3 x4 s j d

/-- What a grid point leaves in its second output block. -/
theorem out8_apply (z : Fin 1) (s : Fin 8) (j : Fin 32) (d : Fin 4096) :
    out0_8 x0 x1 x2 x3 x4 x5 x6 (ix4 z s j d)
      = modulated (affine (fun k => mixed (x0 (ix4 0 s j k)) (x2 (ix3 0 0 k)) (x1 (ix4 0 j s k))) (fun k => x3 (ix2 0 k)) (fun k => x4 (ix2 0 k)))
          (fun k => x6 (ix3 0 0 k)) (fun k => x5 (ix3 0 0 k)) d := by
  unfold_out out0_8
  frame_out
  unfold modulated
  rw [hand_eq, handK_apply, normK_apply]
  simp only [next_apply]

variable (m : (ℓ : Loc nD τ sig) → Buf (Elt Ideal) ℓ)

theorem lt32 (t : Fin cfg0.N) : t.val < 32 := lt_of_lt_of_eq t.isLt N_0

/-- Which block each window reads or writes at a grid point. -/
theorem idx : ∀ t : Fin cfg0.N, win0_0.index t = ![t.val / 4, 0, t.val % 4, 0] ∧ win0_1.index t = ![t.val / 4, t.val % 4, 0, 0] ∧ win0_2.index t = ![(1 + t.val / 4) * 6 + 5, 0, 0]
    ∧ win0_3.index t = ![0, 0] ∧ win0_4.index t = ![0, 0] ∧ win0_5.index t = ![(1 + t.val / 4) * 6, 0, 0] ∧ win0_6.index t = ![(1 + t.val / 4) * 6 + 1, 0, 0]
    ∧ win0_7.index t = ![t.val / 4, 0, t.val % 4, 0] ∧ win0_8.index t = ![t.val / 4, 0, t.val % 4, 0] :=
  (by decide +kernel : ∀ t : Fin grid0.N, _)

/-- The sequence of a grid point. -/
def bOf (t : Fin cfg0.N) : Fin 8 := ⟨t.val / 4, by have := lt32 t; omega⟩

abbrev xArr (c : Dev nD) : FVec Ideal S8192x4096 .f32 := m ((c : Thread nD τ).loc main_arg0)
abbrev yArr (c : Dev nD) : FVec Ideal S8192x4096 .f32 := m ((c : Thread nD τ).loc main_arg1)
abbrev aArr (c : Dev nD) : FVec Ideal S2x16x24576 .f32 := m ((c : Thread nD τ).loc main_arg2)
abbrev gArr (c : Dev nD) : FVec Ideal S2x4096 .f32 := m ((c : Thread nD τ).loc main_arg3)
abbrev bArr (c : Dev nD) : FVec Ideal S2x4096 .f32 := m ((c : Thread nD τ).loc main_arg4)

theorem read0 (c : Dev nD) (t : Fin cfg0.N) (s : Fin 8) (j : Fin 32) (k : Fin 4096) :
    (show Vec Ideal S1x8x32x4096 .f32 from iblk m c 0 t) (ix4 0 s j k) = xArr m c (ix2 ⟨(bOf t).val * 1024 + (s.val * 128 + (t.val % 4 * 32 + j.val)), by have := lt32 t; unfold bOf; dsimp only; omega⟩ k) := by
  have ht := lt32 t
  have e := (idx t).1
  unfold bOf
  blk_point [iblk, V, e]

theorem read1 (c : Dev nD) (t : Fin cfg0.N) (s : Fin 8) (j : Fin 32) (k : Fin 4096) :
    (show Vec Ideal S1x32x8x4096 .f32 from iblk m c 1 t) (ix4 0 j s k) = yArr m c (ix2 ⟨(bOf t).val * 1024 + (t.val % 4 * 32 + j.val) * 8 + s.val, by have := lt32 t; unfold bOf; dsimp only; omega⟩ k) := by
  have ht := lt32 t
  have e := (idx t).2.1
  unfold bOf
  blk_point [iblk, V, e]

theorem read2 (c : Dev nD) (t : Fin cfg0.N) (k : Fin 4096) :
    (show Vec Ideal S1x1x4096 .f32 from iblk m c 2 t) (ix3 0 0 k) = aArr m c (ix3 0 ⟨1 + (bOf t).val, by omega⟩ ⟨20480 + k.val, by omega⟩) := by
  have ht := lt32 t
  have e := (idx t).2.2.1
  unfold bOf
  blk_point [iblk, V, e]

theorem read3 (c : Dev nD) (t : Fin cfg0.N) (k : Fin 4096) :
    (show Vec Ideal S1x4096 .f32 from iblk m c 3 t) (ix2 0 k) = gArr m c (ix2 0 k) := by
  have e := (idx t).2.2.2.1
  blk_point [iblk, V, e]

theorem read4 (c : Dev nD) (t : Fin cfg0.N) (k : Fin 4096) :
    (show Vec Ideal S1x4096 .f32 from iblk m c 4 t) (ix2 0 k) = bArr m c (ix2 0 k) := by
  have e := (idx t).2.2.2.2.1
  blk_point [iblk, V, e]

theorem read5 (c : Dev nD) (t : Fin cfg0.N) (k : Fin 4096) :
    (show Vec Ideal S1x1x4096 .f32 from iblk m c 5 t) (ix3 0 0 k) = aArr m c (ix3 1 ⟨1 + (bOf t).val, by omega⟩ ⟨0 + k.val, by omega⟩) := by
  have ht := lt32 t
  have e := (idx t).2.2.2.2.2.1
  unfold bOf
  blk_point [iblk, V, e]

theorem read6 (c : Dev nD) (t : Fin cfg0.N) (k : Fin 4096) :
    (show Vec Ideal S1x1x4096 .f32 from iblk m c 6 t) (ix3 0 0 k) = aArr m c (ix3 1 ⟨1 + (bOf t).val, by omega⟩ ⟨4096 + k.val, by omega⟩) := by
  have ht := lt32 t
  have e := (idx t).2.2.2.2.2.2.1
  unfold bOf
  blk_point [iblk, V, e]

/-- The first result array is the reference's term at the argument arrays. -/
theorem final7 (c : Dev nD) : (dats m 0 c).arrAt 7 cfg0.N = REF0 (xArr m c) (yArr m c) (aArr m c) (gArr m c) (bArr m c) := by
  refine (dats m 0 c).arrAt_eq_of_covers 7 _ (by decide +kernel) fun t hf q => ?_
  have ht := lt32 t
  have e := (idx t).2.2.2.2.2.2.2.1
  obtain ⟨z, s, j, d, rfl⟩ : ∃ (z : Fin 1) (s : Fin 8) (j : Fin 32) (d : Fin 4096), q = ix4 z s j d := by idx_vars q; exact ⟨_, _, _, _, rfl⟩
  blk_simp
  rw [after0_7]
  refine (out7_apply _ _ _ _ _ _ _ z s j d).trans ?_
  simp only [read0 m c t, read1 m c t, read2 m c t, read3 m c t, read4 m c t]
  refine (REF0_apply _ _ _ _ _ (bOf t) s ⟨t.val % 4 * 32 + j.val, by omega⟩ d).symm.trans ?_
  unfold bOf
  blk_point [iblk, V, e]

/-- The second result array is the reference's term at the argument arrays. -/
theorem final8 (c : Dev nD) : (dats m 0 c).arrAt 8 cfg0.N = REF1 (xArr m c) (yArr m c) (aArr m c) (gArr m c) (bArr m c) := by
  refine (dats m 0 c).arrAt_eq_of_covers 8 _ (by decide +kernel) fun t hf q => ?_
  have ht := lt32 t
  have e := (idx t).2.2.2.2.2.2.2.2
  obtain ⟨z, s, j, d, rfl⟩ : ∃ (z : Fin 1) (s : Fin 8) (j : Fin 32) (d : Fin 4096), q = ix4 z s j d := by idx_vars q; exact ⟨_, _, _, _, rfl⟩
  blk_simp
  rw [after0_8]
  refine (out8_apply _ _ _ _ _ _ _ z s j d).trans ?_
  simp only [read0 m c t, read1 m c t, read2 m c t, read3 m c t, read4 m c t, read5 m c t, read6 m c t]
  refine (REF1_apply _ _ _ _ _ (bOf t) s ⟨t.val % 4 * 32 + j.val, by omega⟩ d).symm.trans ?_
  unfold bOf
  blk_point [iblk, V, e]

/-- The kernel's run, its results named. -/
theorem run_named (ρ : Dev nD → PrngReg) :
    θ_run defs (onTc (τ := τ) (main (F := Ideal))) ⟨m, fun _ => 0, ρ⟩ fun r => ∀ c : Dev nD,
      r.2.mem ((c : Thread nD τ).loc main_v14_0) = REF0 (xArr m c) (yArr m c) (aArr m c) (gArr m c) (bArr m c)
      ∧ r.2.mem ((c : Thread nD τ).loc main_v14_1) = REF1 (xArr m c) (yArr m c) (aArr m c) (gArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  exact (θ_run defs _ _).mono (fun r h c => ⟨((h c).1 7).trans (final7 m c), ((h c).1 8).trans (final8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.NextSampleIdeal.Norm
-- ==== Proof.lean ====
module

public import proofs.«01_k».proof.Proof.InProjValue
public import proofs.«01_k».proof.Proof.OutProjValue
public import proofs.«01_k».proof.Proof.FfnDownValue
public import proofs.«01_k».proof.Proof.FfnUpValue
public import proofs.«01_k».proof.Proof.FfnUpCtxValue
public import proofs.«01_k».proof.Proof.CtxAttnValue
public import proofs.«01_k».proof.Proof.MergeValue
public import proofs.«01_k».proof.Proof.LastPromptValue
public import proofs.«01_k».proof.Proof.LastSampleValue
public import proofs.«01_k».proof.Proof.AdaValue
public import proofs.«01_k».proof.Proof.CastBrValue
public import proofs.«01_k».proof.Proof.CastDownValue
public import proofs.«01_k».proof.Proof.OpenPromptValue
public import proofs.«01_k».proof.Proof.OpenSampleValue
public import proofs.«01_k».proof.Proof.MidPromptValue
public import proofs.«01_k».proof.Proof.MidSampleValue
public import proofs.«01_k».proof.Proof.NextPromptValue
public import proofs.«01_k».proof.Proof.NextSampleValue
public import proofs.«01_k».proof.Defs
public import proofs.«01_k».proof.Proof.Gen.CtxAttn
public import proofs.«01_k».proof.Proof.Gen.CtxAttn.Skeleton
public import proofs.«01_k».proof.Proof.Gen.CtxAttn.Launch
public import proofs.«01_k».proof.Proof.Gen.CtxAttn.Points
public import proofs.«01_k».proof.Proof.Gen.CtxAttn.Frame
public import proofs.«01_k».proof.Proof.Gen.CtxAttnIdeal
public import proofs.«01_k».proof.Proof.Gen.CtxAttnIdeal.Skeleton
public import proofs.«01_k».proof.Proof.Gen.CtxAttnIdeal.Launch
public import proofs.«01_k».proof.Proof.Gen.CtxAttnIdeal.Points
public import proofs.«01_k».proof.Proof.Gen.CtxAttnIdeal.Frame
public import proofs.«01_k».proof.Proof.Gen.CtxRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.DownRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.UpRefIdeal
public import proofs.«01_k».proof.Proof.Gen.FfnUpCtx
public import proofs.«01_k».proof.Proof.Gen.FfnUpCtx.Skeleton
public import proofs.«01_k».proof.Proof.Gen.FfnUpCtx.Launch
public import proofs.«01_k».proof.Proof.Gen.FfnUpCtx.Points
public import proofs.«01_k».proof.Proof.Gen.FfnUpCtx.Frame
public import proofs.«01_k».proof.Proof.Gen.FfnUpCtxIdeal
public import proofs.«01_k».proof.Proof.Gen.FfnUpCtxIdeal.Skeleton
public import proofs.«01_k».proof.Proof.Gen.FfnUpCtxIdeal.Launch
public import proofs.«01_k».proof.Proof.Gen.FfnUpCtxIdeal.Points
public import proofs.«01_k».proof.Proof.Gen.FfnUpCtxIdeal.Frame
public import proofs.«01_k».proof.Proof.Gen.UpCtxRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.LastPrompt
public import proofs.«01_k».proof.Proof.Gen.LastPrompt.Skeleton
public import proofs.«01_k».proof.Proof.Gen.LastPrompt.Launch
public import proofs.«01_k».proof.Proof.Gen.LastPrompt.Points
public import proofs.«01_k».proof.Proof.Gen.LastPrompt.Frame
public import proofs.«01_k».proof.Proof.Gen.LastPromptIdeal
public import proofs.«01_k».proof.Proof.Gen.LastPromptIdeal.Skeleton
public import proofs.«01_k».proof.Proof.Gen.LastPromptIdeal.Launch
public import proofs.«01_k».proof.Proof.Gen.LastPromptIdeal.Points
public import proofs.«01_k».proof.Proof.Gen.LastPromptIdeal.Frame
public import proofs.«01_k».proof.Proof.Gen.LastPromptRefIdeal
public import proofs.«01_k».proof.Proof.Gen.LastSample
public import proofs.«01_k».proof.Proof.Gen.LastSample.Skeleton
public import proofs.«01_k».proof.Proof.Gen.LastSample.Launch
public import proofs.«01_k».proof.Proof.Gen.LastSample.Points
public import proofs.«01_k».proof.Proof.Gen.LastSample.Frame
public import proofs.«01_k».proof.Proof.Gen.LastSampleIdeal
public import proofs.«01_k».proof.Proof.Gen.LastSampleIdeal.Skeleton
public import proofs.«01_k».proof.Proof.Gen.LastSampleIdeal.Launch
public import proofs.«01_k».proof.Proof.Gen.LastSampleIdeal.Points
public import proofs.«01_k».proof.Proof.Gen.LastSampleIdeal.Frame
public import proofs.«01_k».proof.Proof.Gen.LastSampleRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.CastBr
public import proofs.«01_k».proof.Proof.Gen.CastBr.Skeleton
public import proofs.«01_k».proof.Proof.Gen.CastBr.Launch
public import proofs.«01_k».proof.Proof.Gen.CastBr.Points
public import proofs.«01_k».proof.Proof.Gen.CastBr.Frame
public import proofs.«01_k».proof.Proof.Gen.CastBrIdeal
public import proofs.«01_k».proof.Proof.Gen.CastBrIdeal.Skeleton
public import proofs.«01_k».proof.Proof.Gen.CastBrIdeal.Launch
public import proofs.«01_k».proof.Proof.Gen.CastBrIdeal.Points
public import proofs.«01_k».proof.Proof.Gen.CastBrIdeal.Frame
public import proofs.«01_k».proof.Proof.Gen.CastBrRefIdeal
public import proofs.«01_k».proof.Proof.Gen.CastDown
public import proofs.«01_k».proof.Proof.Gen.CastDown.Skeleton
public import proofs.«01_k».proof.Proof.Gen.CastDown.Launch
public import proofs.«01_k».proof.Proof.Gen.CastDown.Points
public import proofs.«01_k».proof.Proof.Gen.CastDown.Frame
public import proofs.«01_k».proof.Proof.Gen.CastDownIdeal
public import proofs.«01_k».proof.Proof.Gen.CastDownIdeal.Skeleton
public import proofs.«01_k».proof.Proof.Gen.CastDownIdeal.Launch
public import proofs.«01_k».proof.Proof.Gen.CastDownIdeal.Points
public import proofs.«01_k».proof.Proof.Gen.CastDownIdeal.Frame
public import proofs.«01_k».proof.Proof.Gen.CastDownRefIdeal
public import proofs.«01_k».proof.Proof.Gen.OpenPrompt
public import proofs.«01_k».proof.Proof.Gen.OpenPrompt.Skeleton
public import proofs.«01_k».proof.Proof.Gen.OpenPrompt.Launch
public import proofs.«01_k».proof.Proof.Gen.OpenPrompt.Points
public import proofs.«01_k».proof.Proof.Gen.OpenPrompt.Frame
public import proofs.«01_k».proof.Proof.Gen.OpenPromptIdeal
public import proofs.«01_k».proof.Proof.Gen.OpenPromptIdeal.Skeleton
public import proofs.«01_k».proof.Proof.Gen.OpenPromptIdeal.Launch
public import proofs.«01_k».proof.Proof.Gen.OpenPromptIdeal.Points
public import proofs.«01_k».proof.Proof.Gen.OpenPromptIdeal.Frame
public import proofs.«01_k».proof.Proof.Gen.OpenPromptRefIdeal
public import proofs.«01_k».proof.Proof.Gen.OpenSample
public import proofs.«01_k».proof.Proof.Gen.OpenSample.Skeleton
public import proofs.«01_k».proof.Proof.Gen.OpenSample.Launch
public import proofs.«01_k».proof.Proof.Gen.OpenSample.Points
public import proofs.«01_k».proof.Proof.Gen.OpenSample.Frame
public import proofs.«01_k».proof.Proof.Gen.OpenSampleIdeal
public import proofs.«01_k».proof.Proof.Gen.OpenSampleIdeal.Skeleton
public import proofs.«01_k».proof.Proof.Gen.OpenSampleIdeal.Launch
public import proofs.«01_k».proof.Proof.Gen.OpenSampleIdeal.Points
public import proofs.«01_k».proof.Proof.Gen.OpenSampleIdeal.Frame
public import proofs.«01_k».proof.Proof.Gen.OpenSampleRefIdeal
public import proofs.«01_k».proof.Proof.Gen.MidPrompt
public import proofs.«01_k».proof.Proof.Gen.MidPrompt.Skeleton
public import proofs.«01_k».proof.Proof.Gen.MidPrompt.Launch
public import proofs.«01_k».proof.Proof.Gen.MidPrompt.Points
public import proofs.«01_k».proof.Proof.Gen.MidPrompt.Frame
public import proofs.«01_k».proof.Proof.Gen.MidPromptIdeal
public import proofs.«01_k».proof.Proof.Gen.MidPromptIdeal.Skeleton
public import proofs.«01_k».proof.Proof.Gen.MidPromptIdeal.Launch
public import proofs.«01_k».proof.Proof.Gen.MidPromptIdeal.Points
public import proofs.«01_k».proof.Proof.Gen.MidPromptIdeal.Frame
public import proofs.«01_k».proof.Proof.Gen.MidPromptRefIdeal
public import proofs.«01_k».proof.Proof.Gen.MidSample
public import proofs.«01_k».proof.Proof.Gen.MidSample.Skeleton
public import proofs.«01_k».proof.Proof.Gen.MidSample.Launch
public import proofs.«01_k».proof.Proof.Gen.MidSample.Points
public import proofs.«01_k».proof.Proof.Gen.MidSample.Frame
public import proofs.«01_k».proof.Proof.Gen.MidSampleIdeal
public import proofs.«01_k».proof.Proof.Gen.MidSampleIdeal.Skeleton
public import proofs.«01_k».proof.Proof.Gen.MidSampleIdeal.Launch
public import proofs.«01_k».proof.Proof.Gen.MidSampleIdeal.Points
public import proofs.«01_k».proof.Proof.Gen.MidSampleIdeal.Frame
public import proofs.«01_k».proof.Proof.Gen.MidSampleRefIdeal
public import proofs.«01_k».proof.Proof.Gen.NextPrompt
public import proofs.«01_k».proof.Proof.Gen.NextPrompt.Skeleton
public import proofs.«01_k».proof.Proof.Gen.NextPrompt.Launch
public import proofs.«01_k».proof.Proof.Gen.NextPrompt.Points
public import proofs.«01_k».proof.Proof.Gen.NextPrompt.Frame
public import proofs.«01_k».proof.Proof.Gen.NextPromptIdeal
public import proofs.«01_k».proof.Proof.Gen.NextPromptIdeal.Skeleton
public import proofs.«01_k».proof.Proof.Gen.NextPromptIdeal.Launch
public import proofs.«01_k».proof.Proof.Gen.NextPromptIdeal.Points
public import proofs.«01_k».proof.Proof.Gen.NextPromptIdeal.Frame
public import proofs.«01_k».proof.Proof.Gen.NextPromptRefIdeal
public import proofs.«01_k».proof.Proof.Gen.NextSample
public import proofs.«01_k».proof.Proof.Gen.NextSample.Skeleton
public import proofs.«01_k».proof.Proof.Gen.NextSample.Launch
public import proofs.«01_k».proof.Proof.Gen.NextSample.Points
public import proofs.«01_k».proof.Proof.Gen.NextSample.Frame
public import proofs.«01_k».proof.Proof.Gen.NextSampleIdeal
public import proofs.«01_k».proof.Proof.Gen.NextSampleIdeal.Skeleton
public import proofs.«01_k».proof.Proof.Gen.NextSampleIdeal.Launch
public import proofs.«01_k».proof.Proof.Gen.NextSampleIdeal.Points
public import proofs.«01_k».proof.Proof.Gen.NextSampleIdeal.Frame
public import proofs.«01_k».proof.Proof.Gen.NextSampleRefIdeal
public import proofs.«01_k».proof.Proof.Gen.Pre_scores_finite
public import Idealize.ShloMosaic.Adequacy
public import Idealize.ShloMosaic.Init

@[expose] public section

set_option maxRecDepth 16384

noncomputable section

namespace Cert.Proof

open Idealize.ShloMosaic Idealize.SL.Sem

/-- The reference ends, its arguments as they were and every counter at zero. -/
theorem frame_CtxRefIdeal : Cert.quiescent_CtxRefIdeal := fun m ρ _ =>
  (θ_run Cert.CtxRefIdeal.defs _ _).mono (fun r h => ⟨fun c => (h c).2.2.2.2.2.2, sem_eq_zero_of_no_sems (by decide) r.2⟩)
    (Cert.CtxRefIdeal.Value.run (F := Ideal) m ρ)

/-- The reference ends, its arguments as they were and every counter at zero. -/
theorem frame_CtxRefIdeal_pre : Cert.quiescent_CtxRefIdeal_pre_scores_finite := fun m ρ _ =>
  (θ_run Cert.CtxRefIdeal.defs _ _).mono (fun r h => ⟨fun c => (h c).2.2.2.2.2.2, sem_eq_zero_of_no_sems (by decide) r.2⟩)
    (Cert.CtxRefIdeal.Value.run (F := Ideal) m ρ)

/-- The context attention's six results are the reference's, as extended reals, where the scores are finite. -/
theorem algebraic_CtxAttn : Cert.algebraic_CtxAttnIdeal_CtxRefIdeal_pre_scores_finite := by
  intro m g m' g' hpre harg
  refine ⟨fun c => Cert.CtxRefIdeal.Own.REF0 (Cert.CtxAttnIdeal.Own.zArr m c) (Cert.CtxAttnIdeal.Own.qArr m c) (Cert.CtxAttnIdeal.Own.kArr m c), fun c => Cert.CtxRefIdeal.Own.REF1 (Cert.CtxAttnIdeal.Own.zArr m c) (Cert.CtxAttnIdeal.Own.gArr m c), fun c => Cert.CtxRefIdeal.Own.REF2 (Cert.CtxAttnIdeal.Own.zArr m c) (Cert.CtxAttnIdeal.Own.kArr m c), fun c => Cert.CtxRefIdeal.Own.REF3 (Cert.CtxAttnIdeal.Own.zArr m c), fun c => Cert.CtxRefIdeal.Own.REF4 (Cert.CtxAttnIdeal.Own.zArr m c), fun c => Cert.CtxRefIdeal.Own.REF5 (Cert.CtxAttnIdeal.Own.zArr m c), ?_, ?_⟩
  · refine (θ_run Cert.CtxAttnIdeal.defs _ _).mono (fun r h c => ?_) (Cert.CtxAttnIdeal.Value.run_blocks (F := Ideal) m g)
    obtain ⟨h9, h10, h11, h12, h13, h14, hrest⟩ := h c
    obtain ⟨p1, p2, p3, p4, p5⟩ := hpre c
    refine ⟨h9.trans (Cert.CtxAttnIdeal.Own.final9 m c (fun R C h1 h2 => Cert.Pre_scores_finite.Own.cols_global _ _ _ _ p1 R ⟨C.val - 1024, by omega⟩ C (by dsimp only; omega)) (Cert.Pre_scores_finite.Own.gains_q _ _ _ _ p4) (Cert.Pre_scores_finite.Own.gains_k _ _ _ _ p5)),
      h10.trans (Cert.CtxAttnIdeal.Own.final10 m c (fun R C h1 h2 => Cert.Pre_scores_finite.Own.cols_window _ _ _ _ p2 R ⟨C.val - 2560, by omega⟩ C (by dsimp only; omega)) (Cert.Pre_scores_finite.Own.sinks _ _ _ _ p3)),
      h11.trans (Cert.CtxAttnIdeal.Own.final11 m c), h12.trans (Cert.CtxAttnIdeal.Own.final12 m c), h13.trans (Cert.CtxAttnIdeal.Own.final13 m c), h14.trans (Cert.CtxAttnIdeal.Own.final14 m c), hrest⟩
  · refine (θ_run Cert.CtxRefIdeal.defs _ _).mono (fun r h c => ?_) (Cert.CtxRefIdeal.Own.run_named m' g')
    obtain ⟨a0, a1, a2, a3⟩ := harg c
    have hc := h c
    obtain ⟨h0, h1, h2, h3, h4, h5, hrest⟩ := hc
    rw [a0, a2, a3] at h0
    rw [a0, a1] at h1
    rw [a0, a3] at h2
    rw [a0] at h3 h4 h5
    exact ⟨h0, h1, h2, h3, h4, h5, hrest⟩

/-- The reference ends, its arguments as they were and every counter at zero. -/
theorem frame_InRefIdeal : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The kernel's result is the reference's, as extended reals. -/
theorem algebraic_InProj : Cert.algebraic_InProjIdeal_InRefIdeal := by
  pair_intro
  · run_from Cert.InProjIdeal.Gen.run_main m g
  · hlo_run
    exact (Cert.InProjIdeal.Product.final m c).symm

/-- The reference ends, its arguments as they were and every counter at zero. -/
theorem frame_OutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel's result is the reference's, as extended reals. -/
theorem algebraic_OutProj : Cert.algebraic_OutProjIdeal_OutRefIdeal := by
  pair_intro
  · run_from Cert.OutProjIdeal.Gen.run_main m g
  · hlo_run
    exact (Cert.OutProjIdeal.Product.final m c).symm

/-- The reference ends, its arguments as they were and every counter at zero. -/
theorem frame_DownRefIdeal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The kernel's result is the reference's, as extended reals. -/
theorem algebraic_FfnDown : Cert.algebraic_FfnDownIdeal_DownRefIdeal := by
  pair_intro
  · run_from Cert.FfnDownIdeal.Gen.run_main m g
  · hlo_run
    exact (Cert.FfnDownIdeal.Product.final m c).symm

/-- The reference ends, its arguments as they were and every counter at zero. -/
theorem frame_UpRefIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The kernel's result is the reference's, as extended reals. -/
theorem algebraic_FfnUp : Cert.algebraic_FfnUpIdeal_UpRefIdeal := by
  pair_intro
  · run_from Cert.FfnUpIdeal.Gen.run_main m g
  · hlo_run
    exact (Cert.FfnUpIdeal.Conv.final m c).symm

/-- The reference ends, its arguments as they were and every counter at zero. -/
theorem frame_UpCtxRefIdeal : Cert.quiescent_UpCtxRefIdeal := fun m ρ _ =>
  (θ_run Cert.UpCtxRefIdeal.defs _ _).mono (fun r h => ⟨fun c => (h c).2, sem_eq_zero_of_no_sems (by decide) r.2⟩)
    (Cert.UpCtxRefIdeal.Value.run (F := Ideal) m ρ)

/-- The kernel's result is the reference's, as extended reals. -/
theorem algebraic_FfnUpCtx : Cert.algebraic_FfnUpCtxIdeal_UpCtxRefIdeal := by
  pair_intro
  · run_from Cert.FfnUpCtxIdeal.Gen.run_main m g
  · hlo_run
    exact (Cert.FfnUpCtxIdeal.Conv.final m c).symm

/-- The reference ends, its arguments as they were and every counter at zero. -/
theorem frame_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's result is the reference's, as extended reals. -/
theorem algebraic_Merge : Cert.algebraic_MergeIdeal_MergeRefIdeal := by
  pair_intro
  · run_from Cert.MergeIdeal.Gen.run_main m g
  · hlo_run
    exact (Cert.MergeIdeal.Gates.final m c).symm

/-- The reference ends, its arguments as they were and every counter at zero. -/
theorem frame_LastPromptRefIdeal : Cert.quiescent_LastPromptRefIdeal := fun m ρ _ =>
  (θ_run Cert.LastPromptRefIdeal.defs _ _).mono (fun r h => ⟨fun c => (h c).2, sem_eq_zero_of_no_sems (by decide) r.2⟩)
    (Cert.LastPromptRefIdeal.Value.run (F := Ideal) m ρ)

/-- The kernel's result is the reference's, as extended reals. -/
theorem algebraic_LastPrompt : Cert.algebraic_LastPromptIdeal_LastPromptRefIdeal := by
  pair_intro
  · run_from Cert.LastPromptIdeal.Gen.run_main m g
  · hlo_run
    exact (Cert.LastPromptIdeal.Norm.final m c).symm

/-- The reference ends, its arguments as they were and every counter at zero. -/
theorem frame_LastSampleRefIdeal : Cert.quiescent_LastSampleRefIdeal := fun m ρ _ =>
  (θ_run Cert.LastSampleRefIdeal.defs _ _).mono (fun r h => ⟨fun c => (h c).2, sem_eq_zero_of_no_sems (by decide) r.2⟩)
    (Cert.LastSampleRefIdeal.Value.run (F := Ideal) m ρ)

/-- The kernel's result is the reference's, as extended reals. -/
theorem algebraic_LastSample : Cert.algebraic_LastSampleIdeal_LastSampleRefIdeal := by
  pair_intro
  · run_from Cert.LastSampleIdeal.Gen.run_main m g
  · hlo_run
    exact (Cert.LastSampleIdeal.Norm.final m c).symm

/-- The reference ends, its arguments as they were and every counter at zero. -/
theorem frame_AdaRefIdeal : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The kernel's result is the reference's, as extended reals. -/
theorem algebraic_Ada : Cert.algebraic_AdaIdeal_AdaRefIdeal := by
  pair_intro
  · run_from Cert.AdaIdeal.Gen.run_main m g
  · hlo_run
    exact (Cert.AdaIdeal.Product.final m c).symm

/-- The reference ends, its arguments as they were and every counter at zero. -/
theorem frame_CastBrRefIdeal : Cert.quiescent_CastBrRefIdeal := fun m ρ _ =>
  (θ_run Cert.CastBrRefIdeal.defs _ _).mono (fun r h => ⟨fun c => (h c).2, sem_eq_zero_of_no_sems (by decide) r.2⟩)
    (Cert.CastBrRefIdeal.Value.run (F := Ideal) m ρ)

/-- The kernel's result is the reference's, as extended reals. -/
theorem algebraic_CastBr : Cert.algebraic_CastBrIdeal_CastBrRefIdeal := by
  pair_intro
  · run_from Cert.CastBrIdeal.Gen.run_main m g
  · hlo_run
    exact (Cert.CastBrIdeal.Product.final m c).symm

/-- The reference ends, its arguments as they were and every counter at zero. -/
theorem frame_CastDownRefIdeal : Cert.quiescent_CastDownRefIdeal := fun m ρ _ =>
  (θ_run Cert.CastDownRefIdeal.defs _ _).mono (fun r h => ⟨fun c => (h c).2, sem_eq_zero_of_no_sems (by decide) r.2⟩)
    (Cert.CastDownRefIdeal.Value.run (F := Ideal) m ρ)

/-- The kernel's result is the reference's, as extended reals. -/
theorem algebraic_CastDown : Cert.algebraic_CastDownIdeal_CastDownRefIdeal := by
  pair_intro
  · run_from Cert.CastDownIdeal.Gen.run_main m g
  · hlo_run
    exact (Cert.CastDownIdeal.Product.final m c).symm

/-- The reference ends, its arguments as they were and every counter at zero. -/
theorem frame_OpenPromptRefIdeal : Cert.quiescent_OpenPromptRefIdeal := fun m ρ _ =>
  (θ_run Cert.OpenPromptRefIdeal.defs _ _).mono (fun r h => ⟨fun c => (h c).2, sem_eq_zero_of_no_sems (by decide) r.2⟩)
    (Cert.OpenPromptRefIdeal.Value.run (F := Ideal) m ρ)

/-- The kernel's result is the reference's, as extended reals. -/
theorem algebraic_OpenPrompt : Cert.algebraic_OpenPromptIdeal_OpenPromptRefIdeal := by
  pair_intro
  · run_from Cert.OpenPromptIdeal.Gen.run_main m g
  · hlo_run
    exact (Cert.OpenPromptIdeal.Norm.final m c).symm

/-- The reference ends, its arguments as they were and every counter at zero. -/
theorem frame_OpenSampleRefIdeal : Cert.quiescent_OpenSampleRefIdeal := fun m ρ _ =>
  (θ_run Cert.OpenSampleRefIdeal.defs _ _).mono (fun r h => ⟨fun c => (h c).2, sem_eq_zero_of_no_sems (by decide) r.2⟩)
    (Cert.OpenSampleRefIdeal.Value.run (F := Ideal) m ρ)

/-- The kernel's result is the reference's, as extended reals. -/
theorem algebraic_OpenSample : Cert.algebraic_OpenSampleIdeal_OpenSampleRefIdeal := by
  pair_intro
  · run_from Cert.OpenSampleIdeal.Gen.run_main m g
  · hlo_run
    exact (Cert.OpenSampleIdeal.Norm.final m c).symm

/-- The reference ends, its arguments as they were and every counter at zero. -/
theorem frame_MidPromptRefIdeal : Cert.quiescent_MidPromptRefIdeal := fun m ρ _ =>
  (θ_run Cert.MidPromptRefIdeal.defs _ _).mono (fun r h => ⟨fun c => (h c).2.2, sem_eq_zero_of_no_sems (by decide) r.2⟩)
    (Cert.MidPromptRefIdeal.Value.run (F := Ideal) m ρ)

/-- The kernel's two results are the reference's, as extended reals. -/
theorem algebraic_MidPrompt : Cert.algebraic_MidPromptIdeal_MidPromptRefIdeal := by
  intro m g m' g' _ harg
  refine ⟨fun c => Cert.MidPromptRefIdeal.Norm.REF0 (Cert.MidPromptIdeal.Norm.xArr m c) (Cert.MidPromptIdeal.Norm.yArr m c) (Cert.MidPromptIdeal.Norm.aArr m c) (Cert.MidPromptIdeal.Norm.gArr m c) (Cert.MidPromptIdeal.Norm.bArr m c), fun c => Cert.MidPromptRefIdeal.Norm.REF1 (Cert.MidPromptIdeal.Norm.xArr m c) (Cert.MidPromptIdeal.Norm.yArr m c) (Cert.MidPromptIdeal.Norm.aArr m c) (Cert.MidPromptIdeal.Norm.gArr m c) (Cert.MidPromptIdeal.Norm.bArr m c), ?_, ?_⟩
  · exact Cert.MidPromptIdeal.Norm.run_named m g
  · refine (θ_run Cert.MidPromptRefIdeal.defs _ _).mono (fun r h c => ?_) (Cert.MidPromptRefIdeal.Norm.run_named m' g')
    obtain ⟨a0, a1, a2, a3, a4⟩ := harg c
    obtain ⟨h0, h1, hrest⟩ := h c
    rw [a0, a1, a2, a3, a4] at h0 h1
    exact ⟨h0, h1, hrest⟩

/-- The reference ends, its arguments as they were and every counter at zero. -/
theorem frame_MidSampleRefIdeal : Cert.quiescent_MidSampleRefIdeal := fun m ρ _ =>
  (θ_run Cert.MidSampleRefIdeal.defs _ _).mono (fun r h => ⟨fun c => (h c).2.2, sem_eq_zero_of_no_sems (by decide) r.2⟩)
    (Cert.MidSampleRefIdeal.Value.run (F := Ideal) m ρ)

/-- The kernel's two results are the reference's, as extended reals. -/
theorem algebraic_MidSample : Cert.algebraic_MidSampleIdeal_MidSampleRefIdeal := by
  intro m g m' g' _ harg
  refine ⟨fun c => Cert.MidSampleRefIdeal.Norm.REF0 (Cert.MidSampleIdeal.Norm.xArr m c) (Cert.MidSampleIdeal.Norm.yArr m c) (Cert.MidSampleIdeal.Norm.aArr m c) (Cert.MidSampleIdeal.Norm.gArr m c) (Cert.MidSampleIdeal.Norm.bArr m c), fun c => Cert.MidSampleRefIdeal.Norm.REF1 (Cert.MidSampleIdeal.Norm.xArr m c) (Cert.MidSampleIdeal.Norm.yArr m c) (Cert.MidSampleIdeal.Norm.aArr m c) (Cert.MidSampleIdeal.Norm.gArr m c) (Cert.MidSampleIdeal.Norm.bArr m c), ?_, ?_⟩
  · exact Cert.MidSampleIdeal.Norm.run_named m g
  · refine (θ_run Cert.MidSampleRefIdeal.defs _ _).mono (fun r h c => ?_) (Cert.MidSampleRefIdeal.Norm.run_named m' g')
    obtain ⟨a0, a1, a2, a3, a4⟩ := harg c
    obtain ⟨h0, h1, hrest⟩ := h c
    rw [a0, a1, a2, a3, a4] at h0 h1
    exact ⟨h0, h1, hrest⟩

/-- The reference ends, its arguments as they were and every counter at zero. -/
theorem frame_NextPromptRefIdeal : Cert.quiescent_NextPromptRefIdeal := fun m ρ _ =>
  (θ_run Cert.NextPromptRefIdeal.defs _ _).mono (fun r h => ⟨fun c => (h c).2.2, sem_eq_zero_of_no_sems (by decide) r.2⟩)
    (Cert.NextPromptRefIdeal.Value.run (F := Ideal) m ρ)

/-- The kernel's two results are the reference's, as extended reals. -/
theorem algebraic_NextPrompt : Cert.algebraic_NextPromptIdeal_NextPromptRefIdeal := by
  intro m g m' g' _ harg
  refine ⟨fun c => Cert.NextPromptRefIdeal.Norm.REF0 (Cert.NextPromptIdeal.Norm.xArr m c) (Cert.NextPromptIdeal.Norm.yArr m c) (Cert.NextPromptIdeal.Norm.aArr m c) (Cert.NextPromptIdeal.Norm.gArr m c) (Cert.NextPromptIdeal.Norm.bArr m c), fun c => Cert.NextPromptRefIdeal.Norm.REF1 (Cert.NextPromptIdeal.Norm.xArr m c) (Cert.NextPromptIdeal.Norm.yArr m c) (Cert.NextPromptIdeal.Norm.aArr m c) (Cert.NextPromptIdeal.Norm.gArr m c) (Cert.NextPromptIdeal.Norm.bArr m c), ?_, ?_⟩
  · exact Cert.NextPromptIdeal.Norm.run_named m g
  · refine (θ_run Cert.NextPromptRefIdeal.defs _ _).mono (fun r h c => ?_) (Cert.NextPromptRefIdeal.Norm.run_named m' g')
    obtain ⟨a0, a1, a2, a3, a4⟩ := harg c
    obtain ⟨h0, h1, hrest⟩ := h c
    rw [a0, a1, a2, a3, a4] at h0 h1
    exact ⟨h0, h1, hrest⟩

/-- The reference ends, its arguments as they were and every counter at zero. -/
theorem frame_NextSampleRefIdeal : Cert.quiescent_NextSampleRefIdeal := fun m ρ _ =>
  (θ_run Cert.NextSampleRefIdeal.defs _ _).mono (fun r h => ⟨fun c => (h c).2.2, sem_eq_zero_of_no_sems (by decide) r.2⟩)
    (Cert.NextSampleRefIdeal.Value.run (F := Ideal) m ρ)

/-- The kernel's two results are the reference's, as extended reals. -/
theorem algebraic_NextSample : Cert.algebraic_NextSampleIdeal_NextSampleRefIdeal := by
  intro m g m' g' _ harg
  refine ⟨fun c => Cert.NextSampleRefIdeal.Norm.REF0 (Cert.NextSampleIdeal.Norm.xArr m c) (Cert.NextSampleIdeal.Norm.yArr m c) (Cert.NextSampleIdeal.Norm.aArr m c) (Cert.NextSampleIdeal.Norm.gArr m c) (Cert.NextSampleIdeal.Norm.bArr m c), fun c => Cert.NextSampleRefIdeal.Norm.REF1 (Cert.NextSampleIdeal.Norm.xArr m c) (Cert.NextSampleIdeal.Norm.yArr m c) (Cert.NextSampleIdeal.Norm.aArr m c) (Cert.NextSampleIdeal.Norm.gArr m c) (Cert.NextSampleIdeal.Norm.bArr m c), ?_, ?_⟩
  · exact Cert.NextSampleIdeal.Norm.run_named m g
  · refine (θ_run Cert.NextSampleRefIdeal.defs _ _).mono (fun r h c => ?_) (Cert.NextSampleRefIdeal.Norm.run_named m' g')
    obtain ⟨a0, a1, a2, a3, a4⟩ := harg c
    obtain ⟨h0, h1, hrest⟩ := h c
    rw [a0, a1, a2, a3, a4] at h0 h1
    exact ⟨h0, h1, hrest⟩

/-- Every claim: the frames, the (empty) rewrites, and the values. -/
theorem claim : Cert.Claim :=
  ⟨Cert.CtxAttn.Gen.facts,
    Cert.CtxAttnIdeal.Gen.facts,
    Cert.CtxRefIdeal.Gen.facts,
    Cert.InProj.Gen.facts,
    Cert.InProjIdeal.Gen.facts,
    Cert.InRefIdeal.Gen.facts,
    Cert.OutProj.Gen.facts,
    Cert.OutProjIdeal.Gen.facts,
    Cert.OutRefIdeal.Gen.facts,
    Cert.FfnDown.Gen.facts,
    Cert.FfnDownIdeal.Gen.facts,
    Cert.DownRefIdeal.Gen.facts,
    Cert.FfnUp.Gen.facts,
    Cert.FfnUpIdeal.Gen.facts,
    Cert.UpRefIdeal.Gen.facts,
    Cert.FfnUpCtx.Gen.facts,
    Cert.FfnUpCtxIdeal.Gen.facts,
    Cert.UpCtxRefIdeal.Gen.facts,
    Cert.Merge.Gen.facts,
    Cert.MergeIdeal.Gen.facts,
    Cert.MergeRefIdeal.Gen.facts,
    Cert.LastPrompt.Gen.facts,
    Cert.LastPromptIdeal.Gen.facts,
    Cert.LastPromptRefIdeal.Gen.facts,
    Cert.LastSample.Gen.facts,
    Cert.LastSampleIdeal.Gen.facts,
    Cert.LastSampleRefIdeal.Gen.facts,
    Cert.Ada.Gen.facts,
    Cert.AdaIdeal.Gen.facts,
    Cert.AdaRefIdeal.Gen.facts,
    Cert.CastBr.Gen.facts,
    Cert.CastBrIdeal.Gen.facts,
    Cert.CastBrRefIdeal.Gen.facts,
    Cert.CastDown.Gen.facts,
    Cert.CastDownIdeal.Gen.facts,
    Cert.CastDownRefIdeal.Gen.facts,
    Cert.OpenPrompt.Gen.facts,
    Cert.OpenPromptIdeal.Gen.facts,
    Cert.OpenPromptRefIdeal.Gen.facts,
    Cert.OpenSample.Gen.facts,
    Cert.OpenSampleIdeal.Gen.facts,
    Cert.OpenSampleRefIdeal.Gen.facts,
    Cert.MidPrompt.Gen.facts,
    Cert.MidPromptIdeal.Gen.facts,
    Cert.MidPromptRefIdeal.Gen.facts,
    Cert.MidSample.Gen.facts,
    Cert.MidSampleIdeal.Gen.facts,
    Cert.MidSampleRefIdeal.Gen.facts,
    Cert.NextPrompt.Gen.facts,
    Cert.NextPromptIdeal.Gen.facts,
    Cert.NextPromptRefIdeal.Gen.facts,
    Cert.NextSample.Gen.facts,
    Cert.NextSampleIdeal.Gen.facts,
    Cert.NextSampleRefIdeal.Gen.facts,
    Cert.Pre_scores_finite.Own.facts,
    fun m ρ _ => Cert.CtxAttn.Gen.frame m ρ,
    fun m ρ _ => Cert.CtxAttnIdeal.Gen.frame m ρ,
    fun m ρ _ => Cert.CtxAttnIdeal.Gen.frame m ρ,
    frame_CtxRefIdeal,
    frame_CtxRefIdeal_pre,
    fun m ρ _ => Cert.InProj.Gen.frame m ρ,
    fun m ρ _ => Cert.InProjIdeal.Gen.frame m ρ,
    frame_InRefIdeal,
    fun m ρ _ => Cert.OutProj.Gen.frame m ρ,
    fun m ρ _ => Cert.OutProjIdeal.Gen.frame m ρ,
    frame_OutRefIdeal,
    fun m ρ _ => Cert.FfnDown.Gen.frame m ρ,
    fun m ρ _ => Cert.FfnDownIdeal.Gen.frame m ρ,
    frame_DownRefIdeal,
    fun m ρ _ => Cert.FfnUp.Gen.frame m ρ,
    fun m ρ _ => Cert.FfnUpIdeal.Gen.frame m ρ,
    frame_UpRefIdeal,
    fun m ρ _ => Cert.FfnUpCtx.Gen.frame m ρ,
    fun m ρ _ => Cert.FfnUpCtxIdeal.Gen.frame m ρ,
    frame_UpCtxRefIdeal,
    fun m ρ _ => Cert.Merge.Gen.frame m ρ,
    fun m ρ _ => Cert.MergeIdeal.Gen.frame m ρ,
    frame_MergeRefIdeal,
    fun m ρ _ => Cert.LastPrompt.Gen.frame m ρ,
    fun m ρ _ => Cert.LastPromptIdeal.Gen.frame m ρ,
    frame_LastPromptRefIdeal,
    fun m ρ _ => Cert.LastSample.Gen.frame m ρ,
    fun m ρ _ => Cert.LastSampleIdeal.Gen.frame m ρ,
    frame_LastSampleRefIdeal,
    fun m ρ _ => Cert.Ada.Gen.frame m ρ,
    fun m ρ _ => Cert.AdaIdeal.Gen.frame m ρ,
    frame_AdaRefIdeal,
    fun m ρ _ => Cert.CastBr.Gen.frame m ρ,
    fun m ρ _ => Cert.CastBrIdeal.Gen.frame m ρ,
    frame_CastBrRefIdeal,
    fun m ρ _ => Cert.CastDown.Gen.frame m ρ,
    fun m ρ _ => Cert.CastDownIdeal.Gen.frame m ρ,
    frame_CastDownRefIdeal,
    fun m ρ _ => Cert.OpenPrompt.Gen.frame m ρ,
    fun m ρ _ => Cert.OpenPromptIdeal.Gen.frame m ρ,
    frame_OpenPromptRefIdeal,
    fun m ρ _ => Cert.OpenSample.Gen.frame m ρ,
    fun m ρ _ => Cert.OpenSampleIdeal.Gen.frame m ρ,
    frame_OpenSampleRefIdeal,
    fun m ρ _ => Cert.MidPrompt.Gen.frame m ρ,
    fun m ρ _ => Cert.MidPromptIdeal.Gen.frame m ρ,
    frame_MidPromptRefIdeal,
    fun m ρ _ => Cert.MidSample.Gen.frame m ρ,
    fun m ρ _ => Cert.MidSampleIdeal.Gen.frame m ρ,
    frame_MidSampleRefIdeal,
    fun m ρ _ => Cert.NextPrompt.Gen.frame m ρ,
    fun m ρ _ => Cert.NextPromptIdeal.Gen.frame m ρ,
    frame_NextPromptRefIdeal,
    fun m ρ _ => Cert.NextSample.Gen.frame m ρ,
    fun m ρ _ => Cert.NextSampleIdeal.Gen.frame m ρ,
    frame_NextSampleRefIdeal,
    trivial,
    algebraic_CtxAttn,
    trivial,
    algebraic_InProj,
    trivial,
    algebraic_OutProj,
    trivial,
    algebraic_FfnDown,
    trivial,
    algebraic_FfnUp,
    trivial,
    algebraic_FfnUpCtx,
    trivial,
    algebraic_Merge,
    trivial,
    algebraic_LastPrompt,
    trivial,
    algebraic_LastSample,
    trivial,
    algebraic_Ada,
    trivial,
    algebraic_CastBr,
    trivial,
    algebraic_CastDown,
    trivial,
    algebraic_OpenPrompt,
    trivial,
    algebraic_OpenSample,
    trivial,
    algebraic_MidPrompt,
    trivial,
    algebraic_MidSample,
    trivial,
    algebraic_NextPrompt,
    trivial,
    algebraic_NextSample⟩

end Cert.Proof

end
